-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38_0)) (v1 : (c : Dev Cert.KernelIdeal.nD) → Buf (Elt Ideal) ((c.tc : Thread Cert.KernelIdeal.nD Cert.KernelIdeal.τ).loc Cert.KernelIdeal.main_v38_1)) (v2 : (c : Dev Cert.KernelIdeal.nD) → Buf (Elt Ideal) ((c.tc : Thread Cert.KernelIdeal.nD Cert.KernelIdeal.τ).loc Cert.KernelIdeal.main_v38_2)) (v3 : (c : Dev Cert.KernelIdeal.nD) → Buf (Elt Ideal) ((c.tc : Thread Cert.KernelIdeal.nD Cert.KernelIdeal.τ).loc Cert.KernelIdeal.main_v38_3)) (v4 : (c : Dev Cert.KernelIdeal.nD) → Buf (Elt Ideal) ((c.tc : Thread Cert.KernelIdeal.nD Cert.KernelIdeal.τ).loc Cert.KernelIdeal.main_v38_4)) (v5 : (c : Dev Cert.KernelIdeal.nD) → Buf (Elt Ideal) ((c.tc : Thread Cert.KernelIdeal.nD Cert.KernelIdeal.τ).loc Cert.KernelIdeal.main_v38_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38_0) = v0 c
          ∧ r.2.mem ((c.tc : Thread Cert.KernelIdeal.nD Cert.KernelIdeal.τ).loc Cert.KernelIdeal.main_v38_1) = v1 c
          ∧ r.2.mem ((c.tc : Thread Cert.KernelIdeal.nD Cert.KernelIdeal.τ).loc Cert.KernelIdeal.main_v38_2) = v2 c
          ∧ r.2.mem ((c.tc : Thread Cert.KernelIdeal.nD Cert.KernelIdeal.τ).loc Cert.KernelIdeal.main_v38_3) = v3 c
          ∧ r.2.mem ((c.tc : Thread Cert.KernelIdeal.nD Cert.KernelIdeal.τ).loc Cert.KernelIdeal.main_v38_4) = v4 c
          ∧ r.2.mem ((c.tc : Thread Cert.KernelIdeal.nD Cert.KernelIdeal.τ).loc Cert.KernelIdeal.main_v38_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_v66) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v143) = v0 c
          ∧ r.2.mem ((c.tc : Thread Cert.Reference2Ideal.nD Cert.Reference2Ideal.τ).loc Cert.Reference2Ideal.main_v145) = v1 c
          ∧ r.2.mem ((c.tc : Thread Cert.Reference2Ideal.nD Cert.Reference2Ideal.τ).loc Cert.Reference2Ideal.main_v147) = v2 c
          ∧ r.2.mem ((c.tc : Thread Cert.Reference2Ideal.nD Cert.Reference2Ideal.τ).loc Cert.Reference2Ideal.main_v149) = v3 c
          ∧ r.2.mem ((c.tc : Thread Cert.Reference2Ideal.nD Cert.Reference2Ideal.τ).loc Cert.Reference2Ideal.main_v151) = v4 c
          ∧ r.2.mem ((c.tc : Thread Cert.Reference2Ideal.nD Cert.Reference2Ideal.τ).loc Cert.Reference2Ideal.main_v153) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)) (v4 : (c : Dev Cert.Kernel5Ideal.nD) → Buf (Elt Ideal) ((c.tc : Thread Cert.Kernel5Ideal.nD Cert.Kernel5Ideal.τ).loc Cert.Kernel5Ideal.main_v5_4)) (v5 : (c : Dev Cert.Kernel5Ideal.nD) → Buf (Elt Ideal) ((c.tc : Thread Cert.Kernel5Ideal.nD Cert.Kernel5Ideal.τ).loc Cert.Kernel5Ideal.main_v5_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_v5_4) = v4 c
          ∧ r.2.mem ((c.tc : Thread Cert.Kernel5Ideal.nD Cert.Kernel5Ideal.τ).loc Cert.Kernel5Ideal.main_v5_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v68) = v0 c
          ∧ r.2.mem ((c.tc : Thread Cert.Reference5Ideal.nD Cert.Reference5Ideal.τ).loc Cert.Reference5Ideal.main_v69) = v1 c
          ∧ r.2.mem ((c.tc : Thread Cert.Reference5Ideal.nD Cert.Reference5Ideal.τ).loc Cert.Reference5Ideal.main_v43) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_v46) = v4 c
          ∧ r.2.mem ((c.tc : Thread Cert.Reference5Ideal.nD Cert.Reference5Ideal.τ).loc Cert.Reference5Ideal.main_v71) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)) (v2 : (c : Dev Cert.Kernel12Ideal.nD) → Buf (Elt Ideal) ((c.tc : Thread Cert.Kernel12Ideal.nD Cert.Kernel12Ideal.τ).loc Cert.Kernel12Ideal.main_v5_2)) (v3 : (c : Dev Cert.Kernel12Ideal.nD) → Buf (Elt Ideal) ((c.tc : Thread Cert.Kernel12Ideal.nD Cert.Kernel12Ideal.τ).loc Cert.Kernel12Ideal.main_v5_3)) (v4 : (c : Dev Cert.Kernel12Ideal.nD) → Buf (Elt Ideal) ((c.tc : Thread Cert.Kernel12Ideal.nD Cert.Kernel12Ideal.τ).loc Cert.Kernel12Ideal.main_v5_4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_v5_2) = v2 c
          ∧ r.2.mem ((c.tc : Thread Cert.Kernel12Ideal.nD Cert.Kernel12Ideal.τ).loc Cert.Kernel12Ideal.main_v5_3) = v3 c
          ∧ r.2.mem ((c.tc : Thread Cert.Kernel12Ideal.nD Cert.Kernel12Ideal.τ).loc Cert.Kernel12Ideal.main_v5_4) = v4 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v36) = v0 c
          ∧ r.2.mem ((c.tc : Thread Cert.Reference12Ideal.nD Cert.Reference12Ideal.τ).loc Cert.Reference12Ideal.main_v71) = v1 c
          ∧ r.2.mem ((c.tc : Thread Cert.Reference12Ideal.nD Cert.Reference12Ideal.τ).loc Cert.Reference12Ideal.main_v19) = v2 c
          ∧ r.2.mem ((c.tc : Thread Cert.Reference12Ideal.nD Cert.Reference12Ideal.τ).loc Cert.Reference12Ideal.main_v54) = v3 c
          ∧ r.2.mem ((c.tc : Thread Cert.Reference12Ideal.nD Cert.Reference12Ideal.τ).loc Cert.Reference12Ideal.main_v73) = v4 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v36) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v15) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v29) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  IdealRules.named_const.Statement Cert.Kernel16Ideal.κ "mask" .f32 0xF149F2CA#32 ⊥

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v7)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v7) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v67) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite2 : Cert.Pre_finite2.Facts) (hPre_finite5 : Cert.Pre_finite5.Facts) (hPre_finite6 : Cert.Pre_finite6.Facts) (hPre_finite12 : Cert.Pre_finite12.Facts) (hPre_finite13 : Cert.Pre_finite13.Facts) (hPre_finite16 : Cert.Pre_finite16.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
-- ==== Pre_finite.lean ====
abbrev S4096x1024 : Shape := ⟨2, ![4096, 1024]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S4096x1024 .f32) (main_arg5 : FVec F S1x1024 .f32) (main_arg6 : FVec F S4096x1024 .f32) (main_arg7 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S2816x1024 .f32) (main_arg2 : FVec F S1024x5632 .f32) (main_arg3 : FVec F S4096x1024 .f32) (main_arg4 : FVec F S4096x1024 .f32) (main_arg5 : FVec F S1x1024 .f32) (main_arg6 : FVec F S4096x1024 .f32) (main_arg7 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S1024x5632 .f32 := Host.absf main_arg2
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_c_3 : IVec S_ 1 := constantI S_ 1 1#1
  let main_v12 : IVec S_ 1 := (fun x v => Host.reduce IntOp.andi x v reducesTo_S1024x5632_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Pre_finite12.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_arg6 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  main_v33

def fn {F : FTy → Type} [FloatOps F] (main_arg0 : FVec F S4096x2048 .f32) (main_arg1 : FVec F S1024x2048 .f32) (main_arg2 : FVec F S4096x1024 .f32) (main_arg3 : FVec F S4096x1024 .f32) (main_arg4 : FVec F S1x1024 .f32) (main_arg5 : FVec F S4096x1024 .f32) (main_arg6 : FVec F S1x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Pre_finite13.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩

class Facts : Prop where
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S1024x1536 : S_.BroadcastsInDim S1024x1536 (![] : Fin 0 → Fin S1024x1536.rank)
  reducesTo_S1024x1536_S_d0_1 : S1024x1536.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  main_v23

def fn {F : FTy → Type} [FloatOps F] (main_arg0 : FVec F S4096x1536 .f32) (main_arg1 : FVec F S1024x1536 .f32) (main_arg2 : FVec F S4096x1024 .f32) (main_arg3 : FVec F S4096x1024 .f32) (main_arg4 : FVec F S1x1024 .f32) : IVec S_ 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_c : IVec S_ 1 := constantI S_ 1 1#1
  let main_v3 : IVec S_ 1 := (fun x v => Host.reduce IntOp.andi x v reducesTo_S4096x1536_S_d0_1 h_S_) main_v2 main_c
  let main_v4 : FVec F S1024x1536 .f32 := Host.absf main_arg1
  let main_cst_0 : FVec F S_ .f32 := constant S_ .f32 0x7F800000#32
  let main_v5 : FVec F S1024x1536 .f32 := broadcastInDim S1024x1536 ![] bcast_S_S1024x1536 main_cst_0
  let main_v6 : IVec S1024x1536 1 := cmpf .olt main_v4 main_v5
  let main_c_1 : IVec S_ 1 := constantI S_ 1 1#1
  let main_v7 : IVec S_ 1 := (fun x v => Host.reduce IntOp.andi x v reducesTo_S1024x1536_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Pre_finite16.lean ====
abbrev S4096x1024 : Shape := ⟨2, ![4096, 1024]⟩
abbrev S4096x256 : Shape := ⟨2, ![4096, 256]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S4096x1024 .f32) (main_arg1 : FVec F S4096x256 .f32) (main_arg2 : FVec F S4096x256 .f32) (main_arg3 : FVec F S16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Pre_finite2.lean ====
abbrev S4096x1024 : Shape := ⟨2, ![4096, 1024]⟩
abbrev S4096x256 : Shape := ⟨2, ![4096, 256]⟩
abbrev S16 : Shape := ⟨1, ![16]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S4096x1024 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x256 .f32) (main_arg2 : FVec F S4096x256 .f32) (main_arg3 : FVec F S16 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_finite5.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024x5632 .f32) (main_arg2 : FVec F S2816x1024 .f32) (main_arg3 : FVec F S4096x1024 .f32) (main_arg4 : FVec F S1x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite6.lean ====
abbrev S4096x1024 : Shape := ⟨2, ![4096, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1024x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== Kernel.lean ====
abbrev S4096x1024 : Shape := ⟨2, ![4096, 1024]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S512x1024 : Shape := ⟨2, ![512, 1024]⟩
abbrev S2x512x2816 : Shape := ⟨3, ![2, 512, 2816]⟩
abbrev S1x1024x1408 : Shape := ⟨3, ![1, 1024, 1408]⟩
abbrev S256x1024 : Shape := ⟨2, ![256, 1024]⟩
abbrev S1408x1024 : Shape := ⟨2, ![1408, 1024]⟩
abbrev S256x1408 : Shape := ⟨2, ![256, 1408]⟩
abbrev S1x256x1408 : Shape := ⟨3, ![1, 256, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 58
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S1024x5632, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x5632, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S1x4096x2816, .f32⟩
  | .hbm, ⟨43, _⟩ => ⟨S1x4096x2816, .f32⟩
  | .hbm, ⟨44, _⟩ => ⟨S2x4096x2816, .f32⟩
  | .hbm, ⟨45, _⟩ => ⟨S2x4096x2816, .bf16⟩
  | .hbm, ⟨46, _⟩ => ⟨S1024x4x1408, .f32⟩
  | .hbm, ⟨47, _⟩ => ⟨S4x1024x1408, .f32⟩
  | .hbm, ⟨48, _⟩ => ⟨S4x1024x1408, .bf16⟩
  | .hbm, ⟨49, _⟩ => ⟨S4096x1024, .bf16⟩
  | .hbm, ⟨50, _⟩ => ⟨S2816x1024, .bf16⟩
  | .hbm, ⟨51, _⟩ => ⟨S4096x1024, .bf16⟩
  | .hbm, ⟨52, _⟩ => ⟨S2x4096x2816, .bf16⟩
  | .hbm, ⟨53, _⟩ => ⟨S4096x1024, .f32⟩
  | .hbm, ⟨54, _⟩ => ⟨S4096x1024, .bf16⟩
  | .hbm, ⟨55, _⟩ => ⟨S1x1024, .f32⟩
  | .hbm, ⟨56, _⟩ => ⟨S1x1024, .f32⟩
  | .hbm, ⟨57, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2x512x2816, .bf16⟩
  | .local _ .vmem, ⟨4, _⟩ => ⟨S2x512x2816, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S2x512x2816, .bf16⟩
  | .local _ .vmem, ⟨18, _⟩ => ⟨S2x512x2816, .bf16⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v38_5 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v240 : BitVec 32 := Scalar.extui v0
  let c0_i32_145 : BitVec 32 := 0#32
  let v241 : BitVec 1 := Scalar.cmpi .ne v240 c0_i32_145
  v241

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v242 : BitVec 1 := Scalar.xori v0 v_true
  let v243 : BitVec 32 := Scalar.extui v242
  let c0_i32_146 : BitVec 32 := 0#32
  let v244 : BitVec 1 := Scalar.cmpi .ne v243 c0_i32_146
  v244

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v245 : BitVec 32 := Scalar.extui v0
  let c0_i32_147 : BitVec 32 := 0#32
  let v246 : BitVec 1 := Scalar.cmpi .ne v245 c0_i32_147
  v246

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_148 : BitVec 1 := 1#1
  let v247 : BitVec 1 := Scalar.xori v0 true_148
  let v248 : BitVec 32 := Scalar.extui v247
  let c0_i32_149 : BitVec 32 := 0#32
  let v249 : BitVec 1 := Scalar.cmpi .ne v248 c0_i32_149
  v249

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v250 : BitVec 32 := Scalar.extui v0
  let c0_i32_150 : BitVec 32 := 0#32
  let v251 : BitVec 1 := Scalar.cmpi .ne v250 c0_i32_150
  v251

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_151 : BitVec 1 := 1#1
  let v252 : BitVec 1 := Scalar.xori v0 true_151
  let v253 : BitVec 32 := Scalar.extui v252
  let c0_i32_152 : BitVec 32 := 0#32
  let v254 : BitVec 1 := Scalar.cmpi .ne v253 c0_i32_152
  v254

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1408 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x512x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x1024 : Shape := ⟨2, ![4096, 1024]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1x4096x2816 : Shape := ⟨3, ![1, 4096, 2816]⟩
abbrev S2x4096x2816 : Shape := ⟨3, ![2, 4096, 2816]⟩

abbrev nBuf : Space → Nat
  | .hbm => 134
  | .vmem => 0
  | .smem => 0
  | _ => 0

abbrev hbmTy0_0 (i : Nat) : BufTy := match i % 128 with
  | 0 => ⟨S4096x1024, .f32⟩
  | 1 => ⟨S2816x1024, .f32⟩
  | 2 => ⟨S1024x5632, .f32⟩
  | 3 => ⟨S4096x1024, .f32⟩
  | 4 => ⟨S4096x1024, .f32⟩
  | 5 => ⟨S1x1024, .f32⟩
  | 6 => ⟨S4096x1024, .f32⟩
  | 7 => ⟨S1x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x5632, .f32⟩
  | 28 => ⟨S4096x2816, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S_, .f32⟩
  | 38 => ⟨S4096x2816, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x1024, .f32⟩
  | 45 => ⟨S4096x2816, .f32⟩
  | 46 => ⟨S4096x2816, .f32⟩
  | 47 => ⟨S4096x2816, .f32⟩
  | 48 => ⟨S_, .f32⟩
  | 49 => ⟨S4096x5632, .f32⟩
  | 50 => ⟨S4096x2816, .f32⟩
  | 51 => ⟨S4096x2816, .f32⟩
  | 52 => ⟨S4096x2816, .f32⟩
  | 53 => ⟨S4096x2816, .f32⟩
  | 54 => ⟨S_, .f32⟩
  | 55 => ⟨S4096x5632, .f32⟩
  | 56 => ⟨S4096x5632, .f32⟩
  | 57 => ⟨S4096x1024, .f32⟩
  | 58 => ⟨S4096x1024, .f32⟩
  | 59 => ⟨S_, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S_, .f32⟩
  | 66 => ⟨S4096, .f32⟩
  | 67 => ⟨S4096x1, .f32⟩
  | 68 => ⟨S4096x1024, .f32⟩
  | 69 => ⟨S4096x1024, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S_, .f32⟩
  | 90 => ⟨S4096x1, .f32⟩
  | 91 => ⟨S4096x1, .f32⟩
  | 92 => ⟨S4096x1, .f32⟩
  | 93 => ⟨S4096x1, .f32⟩
  | 94 => ⟨S_, .f32⟩
  | 95 => ⟨S4096x1, .f32⟩
  | 96 => ⟨S4096x1, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S1024, .f32⟩
  | 104 => ⟨S1x1024, .f32⟩
  | 105 => ⟨S4096x1024, .f32⟩
  | 106 => ⟨S4096x1024, .f32⟩
  | 107 => ⟨S4096x1024, .f32⟩
  | 108 => ⟨S_, .f32⟩
  | 109 => ⟨S4096, .f32⟩
  | 110 => ⟨S4096x1, .f32⟩
  | 111 => ⟨S4096x1024, .f32⟩
  | 112 => ⟨S4096x1024, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x2816, .f32⟩
  | 125 => ⟨S4096x2816, .f32⟩
  | 126 => ⟨S1x4096x2816, .f32⟩
  | 127 => ⟨S1x4096x2816, .f32⟩
  | _ => ⟨S4096x1024, .f32⟩

abbrev hbmTy0_1 (i : Nat) : BufTy := match i % 128 with
  | 0 => ⟨S2x4096x2816, .f32⟩
  | 1 => ⟨S2x4096x2816, .bf16⟩
  | 2 => ⟨S4096x1024, .bf16⟩
  | 3 => ⟨S_, .f32⟩
  | 4 => ⟨S1024, .f32⟩
  | 5 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v17_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v17_1 : Ref sig .tc := ⟨.hbm, 40, rfl⟩
abbrev main_v17_0 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_3 : Ref sig .tc := ⟨.hbm, 48, rfl⟩
abbrev main_v24 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_6 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_7 : Ref sig .tc := ⟨.hbm, 71, rfl⟩
abbrev main_v40 : Ref sig .tc := ⟨.hbm, 72, rfl⟩
abbrev main_v41 : Ref sig .tc := ⟨.hbm, 73, rfl⟩
abbrev main_cst_8 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_9 : Ref sig .tc := ⟨.hbm, 83, rfl⟩
abbrev main_v50 : Ref sig .tc := ⟨.hbm, 84, rfl⟩
abbrev main_v51 : Ref sig .tc := ⟨.hbm, 85, rfl⟩
abbrev main_cst_10 : Ref sig .tc := ⟨.hbm, 86, rfl⟩
abbrev main_v52 : Ref sig .tc := ⟨.hbm, 87, rfl⟩
abbrev main_v53 : Ref sig .tc := ⟨.hbm, 88, rfl⟩
abbrev main_cst_11 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_15 : Ref sig .tc := ⟨.hbm, 114, rfl⟩
abbrev main_v75 : Ref sig .tc := ⟨.hbm, 115, rfl⟩
abbrev main_v76 : Ref sig .tc := ⟨.hbm, 116, rfl⟩
abbrev main_cst_16 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_17 : Ref sig .tc := ⟨.hbm, 131, rfl⟩
abbrev main_v90 : Ref sig .tc := ⟨.hbm, 132, rfl⟩
abbrev main_v91 : Ref sig .tc := ⟨.hbm, 133, rfl⟩

abbrev nD : Nat := 1
abbrev τ : Topo := Topo.v7x

variable {F : FTy → Type} [FloatOps F]
-- ==== Kernel2.lean ====
abbrev S4096x1024 : Shape := ⟨2, ![4096, 1024]⟩
abbrev S4096x256 : Shape := ⟨2, ![4096, 256]⟩
abbrev S16 : Shape := ⟨1, ![16]⟩
abbrev S4096x1536 : Shape := ⟨2, ![4096, 1536]⟩
abbrev S4x4 : Shape := ⟨2, ![4, 4]⟩
abbrev S4x4x128 : Shape := ⟨3, ![4, 4, 128]⟩
abbrev S4x512 : Shape := ⟨2, ![4, 512]⟩
abbrev S4x1x512 : Shape := ⟨3, ![4, 1, 512]⟩
abbrev S4x8x512 : Shape := ⟨3, ![4, 8, 512]⟩
abbrev S4x4x8x128 : Shape := ⟨4, ![4, 4, 8, 128]⟩
abbrev S128x1024 : Shape := ⟨2, ![128, 1024]⟩
abbrev S128x256 : Shape := ⟨2, ![128, 256]⟩
abbrev S128x512 : Shape := ⟨2, ![128, 512]⟩
abbrev S128x64 : Shape := ⟨2, ![128, 64]⟩
abbrev S512x64 : Shape := ⟨2, ![512, 64]⟩
abbrev S256x64 : Shape := ⟨2, ![256, 64]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x128 : Shape := ⟨2, ![1, 128]⟩
abbrev S1 : Shape := ⟨1, ![1]⟩
abbrev S1x1 : Shape := ⟨2, ![1, 1]⟩
abbrev S8x128 : Shape := ⟨2, ![8, 128]⟩
abbrev S64x512 : Shape := ⟨2, ![64, 512]⟩
abbrev S1x1x8x128 : Shape := ⟨4, ![1, 1, 8, 128]⟩

abbrev nBuf : Space → Nat
  | .hbm => 19
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16, .f32⟩
  | .hbm, ⟨4, _⟩ => ⟨S4096x1024, .f32⟩
  | .hbm, ⟨5, _⟩ => ⟨S4096x1536, .f32⟩
  | .hbm, ⟨6, _⟩ => ⟨S4096x1536, .bf16⟩
  | .hbm, ⟨7, _⟩ => ⟨S4x4, .f32⟩
  | .hbm, ⟨8, _⟩ => ⟨S4x4x128, .f32⟩
  | .hbm, ⟨9, _⟩ => ⟨S4x512, .f32⟩
  | .hbm, ⟨10, _⟩ => ⟨S4x1x512, .f32⟩
  | .hbm, ⟨11, _⟩ => ⟨S4x8x512, .f32⟩
  | .hbm, ⟨12, _⟩ => ⟨S4096x1024, .bf16⟩
  | .hbm, ⟨13, _⟩ => ⟨S4096x1024, .bf16⟩
  | .hbm, ⟨14, _⟩ => ⟨S4096x256, .bf16⟩
  | .hbm, ⟨15, _⟩ => ⟨S4096x256, .bf16⟩
  | .hbm, ⟨16, _⟩ => ⟨S4096x256, .bf16⟩
  | .hbm, ⟨17, _⟩ => ⟨S4096x256, .bf16⟩
  | .hbm, ⟨18, _⟩ => ⟨S4x4x8x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x8x512, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x256, .bf16⟩
  | .local _ .vmem, ⟨16, _⟩ => ⟨S128x256, .bf16⟩
  | .local _ .vmem, ⟨17, _⟩ => ⟨S128x256, .bf16⟩
  | .local _ .vmem, ⟨18, _⟩ => ⟨S128x256, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S4x4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev main_v8_4 : Ref sig .tc := ⟨.hbm, 17, rfl⟩
abbrev main_v8_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_239 : BitVec 32 := 0#32
  let v517 : BitVec 1 := Scalar.cmpi .eq arg0 c0_i32_239
  let v518 : BitVec 32 := Scalar.extui v517
  let c0_i32_240 : BitVec 32 := 0#32
  let v519 : BitVec 1 := Scalar.cmpi .ne v518 c0_i32_240
  v519

def k0_cond2 (i : grid0.Coords) : BitVec 1 :=
  let arg0 : BitVec 32 := BitVec.ofNat 32 (i 0).val
  let c0_i32_241 : BitVec 32 := 0#32
  let v520 : BitVec 1 := Scalar.cmpi .sgt arg0 c0_i32_241
  let v521 : BitVec 32 := Scalar.extui v520
  let c0_i32_242 : BitVec 32 := 0#32
  let v522 : BitVec 1 := Scalar.cmpi .ne v521 c0_i32_242
  v522

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S4x4x8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel2Ideal.lean ====
variable {F : FTy → Type} [FloatOps F] [Named F]
def κ : String → Option EReal := fun
  | "mask" => some ⊥
  | _ => none
-- ==== Reference2Ideal.lean ====
abbrev S4096x1024 : Shape := ⟨2, ![4096, 1024]⟩
abbrev S4096x256 : Shape := ⟨2, ![4096, 256]⟩
abbrev S16 : Shape := ⟨1, ![16]⟩
abbrev S1x32x128x4x4x64 : Shape := ⟨6, ![1, 32, 128, 4, 4, 64]⟩
abbrev S1x32x128x4x64 : Shape := ⟨5, ![1, 32, 128, 4, 64]⟩
abbrev S_ : Shape := ⟨0, ![]⟩
abbrev S1x1x128x4x64 : Shape := ⟨5, ![1, 1, 128, 4, 64]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S1x32x4x64x256 : Shape := ⟨5, ![1, 32, 4, 64, 256]⟩
abbrev S1x4x4x1 : Shape := ⟨4, ![1, 4, 4, 1]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S4x4x1x1 : Shape := ⟨4, ![4, 4, 1, 1]⟩
abbrev S4x4x8x128 : Shape := ⟨4, ![4, 4, 8, 128]⟩

abbrev nBuf : Space → Nat
  | .hbm => 192
  | .vmem => 0
  | .smem => 0
  | _ => 0

abbrev hbmTy0_0 (i : Nat) : BufTy := match i % 128 with
  | 0 => ⟨S4096x1024, .f32⟩
  | 1 => ⟨S4096x256, .f32⟩
  | 2 => ⟨S4096x256, .f32⟩
  | 3 => ⟨S16, .f32⟩
  | 4 => ⟨S4096x1024, .f32⟩
  | 5 => ⟨S1x32x128x4x4x64, .f32⟩
  | 6 => ⟨S1x32x128x4x64, .f32⟩
  | 7 => ⟨S1x32x128x4x64, .f32⟩
  | 8 => ⟨S_, .f32⟩
  | 9 => ⟨S1x1x128x4x64, .f32⟩
  | 10 => ⟨S1x31x128x4x64, .f32⟩
  | 11 => ⟨S1x32x128x4x64, .f32⟩
  | 12 => ⟨S_, .f32⟩
  | 13 => ⟨S1x1x128x4x64, .f32⟩
  | 14 => ⟨S1x31x128x4x64, .f32⟩
  | 15 => ⟨S1x32x128x4x64, .f32⟩
  | 16 => ⟨S1x32x128x4x4x64, .f32⟩
  | 17 => ⟨S1x32x256x4x64, .f32⟩
  | 18 => ⟨S1x32x256x4x64, .f32⟩
  | 19 => ⟨S1x32x4x256x128x4, .f32⟩
  | 20 => ⟨S1x32x4x4x128x256, .f32⟩
  | 21 => ⟨S_, .f32⟩
  | 22 => ⟨S1x32x4x4x128x256, .f32⟩
  | 23 => ⟨S1x32x4x4x128x256, .f32⟩
  | 24 => ⟨S128, .i32⟩
  | 25 => ⟨S128x1, .i32⟩
  | 26 => ⟨S_, .i32⟩
  | 27 => ⟨S128x1, .i32⟩
  | 28 => ⟨S128x1, .i32⟩
  | 29 => ⟨S256, .i32⟩
  | 30 => ⟨S1x256, .i32⟩
  | 31 => ⟨S128x256, .i32⟩
  | 32 => ⟨S128x256, .i32⟩
  | 33 => ⟨S128x256, .i1⟩
  | 34 => ⟨S128x256, .i32⟩
  | 35 => ⟨S128x256, .i32⟩
  | 36 => ⟨S128x256, .i32⟩
  | 37 => ⟨S_, .i32⟩
  | 38 => ⟨S128x256, .i32⟩
  | 39 => ⟨S128x256, .i1⟩
  | 40 => ⟨S128x256, .i1⟩
  | 41 => ⟨S32, .i32⟩
  | 42 => ⟨S32x1x1, .i32⟩
  | 43 => ⟨S1x128x256, .i1⟩
  | 44 => ⟨S_, .i32⟩
  | 45 => ⟨S32x1x1, .i32⟩
  | 46 => ⟨S32x1x1, .i32⟩
  | 47 => ⟨S1x1x256, .i32⟩
  | 48 => ⟨S32x1x256, .i32⟩
  | 49 => ⟨S32x1x256, .i32⟩
  | 50 => ⟨S32x1x256, .i32⟩
  | 51 => ⟨S_, .i32⟩
  | 52 => ⟨S32x1x256, .i32⟩
  | 53 => ⟨S32x1x256, .i32⟩
  | 54 => ⟨S_, .i32⟩
  | 55 => ⟨S32x1x256, .i32⟩
  | 56 => ⟨S32x1x256, .i1⟩
  | 57 => ⟨S32x128x256, .i1⟩
  | 58 => ⟨S32x128x256, .i1⟩
  | 59 => ⟨S32x128x256, .i1⟩
  | 60 => ⟨S1x32x1x1x128x256, .i1⟩
  | 61 => ⟨S_, .f32⟩
  | 62 => ⟨S_, .f32⟩
  | 63 => ⟨S1x32x4x4x128x256, .i1⟩
  | 64 => ⟨S1x32x4x4x128x256, .f32⟩
  | 65 => ⟨S1x32x4x4x128x256, .f32⟩
  | 66 => ⟨S_, .f32⟩
  | 67 => ⟨S1x32x4x4x128x256, .f32⟩
  | 68 => ⟨S1x1x4x4x1x1, .f32⟩
  | 69 => ⟨S_, .f32⟩
  | 70 => ⟨S1x32x4x4x128, .f32⟩
  | 71 => ⟨S1x32x4x4x128x1, .f32⟩
  | 72 => ⟨S1x32x4x4x128x256, .f32⟩
  | 73 => ⟨S1x32x4x4x128x256, .i1⟩
  | 74 => ⟨S1x32x4x4x128x256, .f32⟩
  | 75 => ⟨S_, .f32⟩
  | 76 => ⟨S1x32x4x4x128, .f32⟩
  | 77 => ⟨S1x32x4x4x128x1, .f32⟩
  | 78 => ⟨S1x32x4x4x128x1, .f32⟩
  | 79 => ⟨S1x32x4x4x128x1, .f32⟩
  | 80 => ⟨S1x32x4x4x128x1, .f32⟩
  | 81 => ⟨S1x32x4x4x128x1, .i1⟩
  | 82 => ⟨S1x32x4x4x128x1, .f32⟩
  | 83 => ⟨S1x32x4x4x128x1, .i1⟩
  | 84 => ⟨S_, .f32⟩
  | 85 => ⟨S1x32x4x4x128x1, .f32⟩
  | 86 => ⟨S_, .f32⟩
  | 87 => ⟨S1x32x4x4x128x1, .f32⟩
  | 88 => ⟨S_, .f32⟩
  | 89 => ⟨S1x32x4x4x128x1, .f32⟩
  | 90 => ⟨S1x32x4x4x128x1, .f32⟩
  | 91 => ⟨S1x32x4x4x128x1, .f32⟩
  | 92 => ⟨S1x32x4x4x128x1, .f32⟩
  | 93 => ⟨S1x32x4x4x128x1, .i1⟩
  | 94 => ⟨S1x32x4x4x128x1, .f32⟩
  | 95 => ⟨S1x32x4x4x128x1, .i1⟩
  | 96 => ⟨S_, .f32⟩
  | 97 => ⟨S1x32x4x4x128x1, .f32⟩
  | 98 => ⟨S_, .f32⟩
  | 99 => ⟨S1x32x4x4x128x1, .f32⟩
  | 100 => ⟨S_, .f32⟩
  | 101 => ⟨S1x32x4x4x128x1, .f32⟩
  | 102 => ⟨S1x32x4x4x128x1, .f32⟩
  | 103 => ⟨S1x32x4x4x128x1, .f32⟩
  | 104 => ⟨S1x32x4x4x128x256, .f32⟩
  | 105 => ⟨S1x32x4x4x128x256, .f32⟩
  | 106 => ⟨S1x32x4x4x128x256, .f32⟩
  | 107 => ⟨S_, .f32⟩
  | 108 => ⟨S1x32x4x4x128, .f32⟩
  | 109 => ⟨S1x32x4x4x128x1, .f32⟩
  | 110 => ⟨S1x32x4x4x128x1, .f32⟩
  | 111 => ⟨S1x32x4x4x128x1, .f32⟩
  | 112 => ⟨S1x32x4x4x128x1, .f32⟩
  | 113 => ⟨S1x32x4x4x128x1, .f32⟩
  | 114 => ⟨S1x32x4x4x128x256, .f32⟩
  | 115 => ⟨S1x32x4x4x128x256, .f32⟩
  | 116 => ⟨S1x32x4x4x128x1, .f32⟩
  | 117 => ⟨S_, .f32⟩
  | 118 => ⟨S1x32x4x4x128x1, .f32⟩
  | 119 => ⟨S1x32x4x4x128x1, .f32⟩
  | 120 => ⟨S1x32x4x64x4x128, .f32⟩
  | 121 => ⟨S1x32x128x4x4x64, .f32⟩
  | 122 => ⟨S1x32x4x64x4x128, .f32⟩
  | 123 => ⟨S1x32x4x4x128x256, .f32⟩
  | 124 => ⟨S1x32x4x64x256, .f32⟩
  | 125 => ⟨S1x32x256x4x64, .f32⟩
  | 126 => ⟨S1x32x4x4x128x256, .f32⟩
  | 127 => ⟨S1x32x4x4x128x256, .f32⟩
  | _ => ⟨S4096x1024, .f32⟩

abbrev hbmTy0_1 (i : Nat) : BufTy := match i % 128 with
  | 0 => ⟨S1x32x4x4x128x256, .f32⟩
  | 1 => ⟨S_, .f32⟩
  | 2 => ⟨S1x32x4x4x128, .f32⟩
  | 3 => ⟨S1x32x4x4x128x1, .f32⟩
  | 4 => ⟨S1x32x4x4x128x1, .f32⟩
  | 5 => ⟨S1x32x4x4x128x256, .f32⟩
  | 6 => ⟨S1x32x4x4x128x256, .f32⟩
  | 7 => ⟨S1x32x4x4x128x1, .f32⟩
  | 8 => ⟨S_, .f32⟩
  | 9 => ⟨S1x4x4x1, .f32⟩
  | 10 => ⟨S1x1x4x4x1x1, .f32⟩
  | 11 => ⟨S1x32x4x4x128x1, .f32⟩
  | 12 => ⟨S_, .f32⟩
  | 13 => ⟨S32x4x4x128, .f32⟩
  | 14 => ⟨S1x32x4x4x128, .f32⟩
  | 15 => ⟨S1x32x4x4x128x256, .f32⟩
  | 16 => ⟨S1x32x4x4x128x256, .f32⟩
  | 17 => ⟨S1x32x4x4x128x256, .f32⟩
  | 18 => ⟨S1x32x4x4x128x256, .f32⟩
  | 19 => ⟨S_, .f32⟩
  | 20 => ⟨S1x32x4x4x128, .f32⟩
  | 21 => ⟨S1x32x4x4x128x1, .f32⟩
  | 22 => ⟨S1x32x4x4x128x1, .f32⟩
  | 23 => ⟨S1x32x4x4x128x1, .f32⟩
  | 24 => ⟨S_, .f32⟩
  | 25 => ⟨S1x4x4x1, .f32⟩
  | 26 => ⟨S1x1x4x4x1x1, .f32⟩
  | 27 => ⟨S1x1x4x4x1x1, .f32⟩
  | 28 => ⟨S1x32x4x4x128x1, .f32⟩
  | 29 => ⟨S_, .f32⟩
  | 30 => ⟨S32x4x4x128, .f32⟩
  | 31 => ⟨S1x32x4x4x128, .f32⟩
  | 32 => ⟨S1x32x4x4x128, .f32⟩
  | 33 => ⟨S1x32x4x4x128x256, .f32⟩
  | 34 => ⟨S1x32x4x4x128x256, .f32⟩
  | 35 => ⟨S1x32x4x4x128x256, .f32⟩
  | 36 => ⟨S16, .f32⟩
  | 37 => ⟨S_, .f32⟩
  | 38 => ⟨S1x32x4x4x128x256, .f32⟩
  | 39 => ⟨S1x32x4x4x128x256, .f32⟩
  | 40 => ⟨S_, .f32⟩
  | 41 => ⟨S1x32x4x4x128x256, .f32⟩
  | 42 => ⟨S1x32x4x4x128x256, .f32⟩
  | 43 => ⟨S1x32x4x256x128x4, .f32⟩
  | 44 => ⟨S1x32x4x128x4x64, .f32⟩
  | 45 => ⟨S1x32x128x4x4x64, .f32⟩
  | 46 => ⟨S1x32x4x256x64, .f32⟩
  | 47 => ⟨S1x32x256x4x64, .f32⟩
  | 48 => ⟨S1x32x128x4x64, .f32⟩
  | 49 => ⟨S1x32x128x4x64, .f32⟩
  | 50 => ⟨S1x32x128x4x64, .f32⟩
  | 51 => ⟨S1x32x128x4x64, .f32⟩
  | 52 => ⟨S4096x1024, .f32⟩
  | 53 => ⟨S4096x1024, .bf16⟩
  | 54 => ⟨S4096x256, .f32⟩
  | 55 => ⟨S4096x256, .bf16⟩
  | 56 => ⟨S4096x256, .f32⟩
  | 57 => ⟨S4096x256, .bf16⟩
  | 58 => ⟨S4096x256, .f32⟩
  | 59 => ⟨S4096x256, .bf16⟩
  | 60 => ⟨S4096x256, .f32⟩
  | 61 => ⟨S4096x256, .bf16⟩
  | 62 => ⟨S4x4x1x1, .f32⟩
  | 63 => ⟨S4x4x8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c_4 : Ref sig .tc := ⟨.hbm, 51, rfl⟩
abbrev main_v40 : Ref sig .tc := ⟨.hbm, 52, rfl⟩
abbrev main_v41 : Ref sig .tc := ⟨.hbm, 53, rfl⟩
abbrev main_c_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_call0_v0 : Ref sig .tc := ⟨.hbm, 62, rfl⟩
abbrev main_v48_1 : Ref sig .tc := ⟨.hbm, 63, rfl⟩
abbrev main_call0_v2 : Ref sig .tc := ⟨.hbm, 64, rfl⟩
abbrev main_v48_0 : Ref sig .tc := ⟨.hbm, 65, rfl⟩
abbrev main_call0_cst : Ref sig .tc := ⟨.hbm, 66, rfl⟩
abbrev main_v48_2 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_cst_10 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_cst_13 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_17 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_cst_18 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_cst_19 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_cst_20 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_21 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_22 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_call1_cst : Ref sig .tc := ⟨.hbm, 165, rfl⟩
abbrev main_call1_v0 : Ref sig .tc := ⟨.hbm, 166, rfl⟩
abbrev main_v130 : Ref sig .tc := ⟨.hbm, 167, rfl⟩
abbrev main_cst_23 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S4x1024x1408 : Shape := ⟨3, ![4, 1024, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x2x2816, .f32⟩
  | .hbm, ⟨3, _⟩ => ⟨S2x4096x2816, .f32⟩
  | .hbm, ⟨4, _⟩ => ⟨S2x4096x2816, .bf16⟩
  | .hbm, ⟨5, _⟩ => ⟨S4096x1024, .bf16⟩
  | .hbm, ⟨6, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S1024x4x1408, .f32⟩
  | .hbm, ⟨8, _⟩ => ⟨S4x1024x1408, .f32⟩
  | .hbm, ⟨9, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S8x128 : Shape := ⟨2, ![8, 128]⟩
abbrev S512x1024 : Shape := ⟨2, ![512, 1024]⟩
abbrev S1x1024x1408 : Shape := ⟨3, ![1, 1024, 1408]⟩
abbrev S2x512x2816 : Shape := ⟨3, ![2, 512, 2816]⟩
abbrev S512x2816 : Shape := ⟨2, ![512, 2816]⟩
abbrev S256x1024 : Shape := ⟨2, ![256, 1024]⟩
abbrev S1024x1408 : Shape := ⟨2, ![1024, 1408]⟩
abbrev S256x1408 : Shape := ⟨2, ![256, 1408]⟩
abbrev S1x256x1408 : Shape := ⟨3, ![1, 256, 1408]⟩
abbrev S1408x1024 : Shape := ⟨2, ![1408, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 17
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S4096x1024, .bf16⟩
  | .hbm, ⟨10, _⟩ => ⟨S2816x1024, .bf16⟩
  | .hbm, ⟨11, _⟩ => ⟨S2x4096x2816, .bf16⟩
  | .hbm, ⟨12, _⟩ => ⟨S4096x2816, .bf16⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2816x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S2x512x2816, .bf16⟩
  | .local _ .vmem, ⟨13, _⟩ => ⟨S2x512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v248 : BitVec 32 := Scalar.extui v0
  let c0_i32_135 : BitVec 32 := 0#32
  let v249 : BitVec 1 := Scalar.cmpi .ne v248 c0_i32_135
  v249

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v250 : BitVec 1 := Scalar.xori v0 v_true
  let v251 : BitVec 32 := Scalar.extui v250
  let c0_i32_136 : BitVec 32 := 0#32
  let v252 : BitVec 1 := Scalar.cmpi .ne v251 c0_i32_136
  v252

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v255 : BitVec 32 := Scalar.extui v0
  let c0_i32_137 : BitVec 32 := 0#32
  let v256 : BitVec 1 := Scalar.cmpi .ne v255 c0_i32_137
  v256

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_138 : BitVec 1 := 1#1
  let v257 : BitVec 1 := Scalar.xori v0 true_138
  let v258 : BitVec 32 := Scalar.extui v257
  let c0_i32_139 : BitVec 32 := 0#32
  let v259 : BitVec 1 := Scalar.cmpi .ne v258 c0_i32_139
  v259

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S4096x1024 : Shape := ⟨2, ![4096, 1024]⟩
abbrev S1024x5632 : Shape := ⟨2, ![1024, 5632]⟩
abbrev S2816x1024 : Shape := ⟨2, ![2816, 1024]⟩
abbrev S1x1024 : Shape := ⟨2, ![1, 1024]⟩
abbrev S4096x5632 : Shape := ⟨2, ![4096, 5632]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x4096x2816 : Shape := ⟨3, ![1, 4096, 2816]⟩
abbrev S2x4096x2816 : Shape := ⟨3, ![2, 4096, 2816]⟩
abbrev S8x128 : Shape := ⟨2, ![8, 128]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S2816x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x5632, .f32⟩
  | .hbm, ⟨35, _⟩ => ⟨S4096x5632, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S4096, .f32⟩
  | .hbm, ⟨75, _⟩ => ⟨S_, .f32⟩
  | .hbm, ⟨76, _⟩ => ⟨S4096, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x2816, .f32⟩
  | .hbm, ⟨104, _⟩ => ⟨S4096x2816, .f32⟩
  | .hbm, ⟨105, _⟩ => ⟨S1x4096x2816, .f32⟩
  | .hbm, ⟨106, _⟩ => ⟨S1x4096x2816, .f32⟩
  | .hbm, ⟨107, _⟩ => ⟨S2x4096x2816, .f32⟩
  | .hbm, ⟨108, _⟩ => ⟨S2x4096x2816, .bf16⟩
  | .hbm, ⟨109, _⟩ => ⟨S4096x2816, .bf16⟩
  | .hbm, ⟨110, _⟩ => ⟨S4096x1024, .bf16⟩
  | .hbm, ⟨111, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v2_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v2_1 : Ref sig .tc := ⟨.hbm, 19, rfl⟩
abbrev main_v2_0 : Ref sig .tc := ⟨.hbm, 20, rfl⟩
abbrev main_v3 : Ref sig .tc := ⟨.hbm, 21, rfl⟩
abbrev main_v4 : Ref sig .tc := ⟨.hbm, 22, rfl⟩
abbrev main_cst : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_cst_2 : Ref sig .tc := ⟨.hbm, 38, rfl⟩
abbrev main_v14 : Ref sig .tc := ⟨.hbm, 39, rfl⟩
abbrev main_v15 : Ref sig .tc := ⟨.hbm, 40, rfl⟩
abbrev main_cst_3 : Ref sig .tc := ⟨.hbm, 41, rfl⟩
abbrev main_v16 : Ref sig .tc := ⟨.hbm, 42, rfl⟩
abbrev main_v17 : Ref sig .tc := ⟨.hbm, 43, rfl⟩
abbrev main_cst_4 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_cst_7 : Ref sig .tc := ⟨.hbm, 62, rfl⟩
abbrev main_v33 : Ref sig .tc := ⟨.hbm, 63, rfl⟩
abbrev main_cst_8 : Ref sig .tc := ⟨.hbm, 64, rfl⟩
abbrev main_v34 : Ref sig .tc := ⟨.hbm, 65, rfl⟩
abbrev main_v35 : Ref sig .tc := ⟨.hbm, 66, rfl⟩
abbrev main_cst_9 : Ref sig .tc := ⟨.hbm, 67, rfl⟩
abbrev main_v36 : Ref sig .tc := ⟨.hbm, 68, rfl⟩
abbrev main_cst_10 : Ref sig .tc := ⟨.hbm, 69, rfl⟩
abbrev main_v37 : Ref sig .tc := ⟨.hbm, 70, rfl⟩
abbrev main_cst_11 : Ref sig .tc := ⟨.hbm, 71, rfl⟩
abbrev main_cst_12 : Ref sig .tc := ⟨.hbm, 72, rfl⟩
abbrev main_v38 : Ref sig .tc := ⟨.hbm, 73, rfl⟩
abbrev main_v39 : Ref sig .tc := ⟨.hbm, 74, rfl⟩
abbrev main_cst_13 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_14 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_15 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_16 : Ref sig .tc := ⟨.hbm, 93, rfl⟩
abbrev main_v55 : Ref sig .tc := ⟨.hbm, 94, rfl⟩
abbrev main_v56 : Ref sig .tc := ⟨.hbm, 95, rfl⟩
abbrev main_cst_17 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩

abbrev nD : Nat := 1
abbrev τ : Topo := Topo.v7x

variable {F : FTy → Type} [FloatOps F]
-- ==== Kernel6.lean ====
abbrev S4096x1024 : Shape := ⟨2, ![4096, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S256x1024 : Shape := ⟨2, ![256, 1024]⟩
abbrev S1024x1408 : Shape := ⟨2, ![1024, 1408]⟩
abbrev S256x1408 : Shape := ⟨2, ![256, 1408]⟩
abbrev S1x256x1408 : Shape := ⟨3, ![1, 256, 1408]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S1024x4x1408, .f32⟩
  | .hbm, ⟨3, _⟩ => ⟨S4x1024x1408, .f32⟩
  | .hbm, ⟨4, _⟩ => ⟨S4x1024x1408, .bf16⟩
  | .hbm, ⟨5, _⟩ => ⟨S4096x1024, .bf16⟩
  | .hbm, ⟨6, _⟩ => ⟨S2x4096x2816, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩
abbrev S1x4096x2816 : Shape := ⟨3, ![1, 4096, 2816]⟩
abbrev S2x4096x2816 : Shape := ⟨3, ![2, 4096, 2816]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S_, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x5632, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x5632, .f32⟩
  | .hbm, ⟨31, _⟩ => ⟨S4096x5632, .f32⟩
  | .hbm, ⟨32, _⟩ => ⟨S4096x2816, .f32⟩
  | .hbm, ⟨33, _⟩ => ⟨S4096x2816, .f32⟩
  | .hbm, ⟨34, _⟩ => ⟨S1x4096x2816, .f32⟩
  | .hbm, ⟨35, _⟩ => ⟨S1x4096x2816, .f32⟩
  | .hbm, ⟨36, _⟩ => ⟨S2x4096x2816, .f32⟩
  | .hbm, ⟨37, _⟩ => ⟨S2x4096x2816, .bf16⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S4096x2816, .bf16⟩
  | .hbm, ⟨8, _⟩ => ⟨S2816x1024, .bf16⟩
  | .hbm, ⟨9, _⟩ => ⟨S4096x1024, .f32⟩
  | .hbm, ⟨10, _⟩ => ⟨S4096x1024, .bf16⟩
  | .hbm, ⟨11, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 39
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | .hbm, ⟨38, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel8.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S4x1024x512, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x1024 : Shape := ⟨2, ![4096, 1024]⟩
abbrev S4096x1536 : Shape := ⟨2, ![4096, 1536]⟩
abbrev S4x1024x384 : Shape := ⟨3, ![4, 1024, 384]⟩
abbrev S4096x384 : Shape := ⟨2, ![4096, 384]⟩
abbrev S1x1024x384 : Shape := ⟨3, ![1, 1024, 384]⟩
abbrev S1024x384 : Shape := ⟨2, ![1024, 384]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .bf16⟩
  | .hbm, ⟨3, _⟩ => ⟨S4096x1536, .bf16⟩
  | .hbm, ⟨4, _⟩ => ⟨S4x1024x384, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1x1024x384, .bf16⟩
  | .local _ .vmem, ⟨4, _⟩ => ⟨S1x1024x384, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S_, .f32⟩
  | .hbm, ⟨3, _⟩ => ⟨S1024x1536, .f32⟩
  | .hbm, ⟨4, _⟩ => ⟨S4096x1536, .f32⟩
  | .hbm, ⟨5, _⟩ => ⟨S1536x1024, .f32⟩
  | .hbm, ⟨6, _⟩ => ⟨S1024x1536, .f32⟩
  | .hbm, ⟨7, _⟩ => ⟨S1024x4x384, .f32⟩
  | .hbm, ⟨8, _⟩ => ⟨S4x1024x384, .f32⟩
  | .hbm, ⟨9, _⟩ => ⟨S4x1024x384, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S1024x4x512 : Shape := ⟨3, ![1024, 4, 512]⟩
abbrev S4x1024x512 : Shape := ⟨3, ![4, 1024, 512]⟩
abbrev S512x2048 : Shape := ⟨2, ![512, 2048]⟩
abbrev S1x1024x512 : Shape := ⟨3, ![1, 1024, 512]⟩
abbrev S512x1024 : Shape := ⟨2, ![512, 1024]⟩
abbrev S256x512 : Shape := ⟨2, ![256, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | .hbm, ⟨10, _⟩ => ⟨S4096x2048, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v176 : BitVec 32 := Scalar.extui v0
  let c0_i32_96 : BitVec 32 := 0#32
  let v177 : BitVec 1 := Scalar.cmpi .ne v176 c0_i32_96
  v177

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v178 : BitVec 1 := Scalar.xori v0 v_true
  let v179 : BitVec 32 := Scalar.extui v178
  let c0_i32_97 : BitVec 32 := 0#32
  let v180 : BitVec 1 := Scalar.cmpi .ne v179 c0_i32_97
  v180

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v181 : BitVec 32 := Scalar.extui v0
  let c0_i32_98 : BitVec 32 := 0#32
  let v182 : BitVec 1 := Scalar.cmpi .ne v181 c0_i32_98
  v182

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_99 : BitVec 1 := 1#1
  let v183 : BitVec 1 := Scalar.xori v0 true_99
  let v184 : BitVec 32 := Scalar.extui v183
  let c0_i32_100 : BitVec 32 := 0#32
  let v185 : BitVec 1 := Scalar.cmpi .ne v184 c0_i32_100
  v185

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v186 : BitVec 32 := Scalar.extui v0
  let c0_i32_101 : BitVec 32 := 0#32
  let v187 : BitVec 1 := Scalar.cmpi .ne v186 c0_i32_101
  v187

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_102 : BitVec 1 := 1#1
  let v188 : BitVec 1 := Scalar.xori v0 true_102
  let v189 : BitVec 32 := Scalar.extui v188
  let c0_i32_103 : BitVec 32 := 0#32
  let v190 : BitVec 1 := Scalar.cmpi .ne v189 c0_i32_103
  v190

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference12Ideal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S4096x1024, .f32⟩
  | .hbm, ⟨82, _⟩ => ⟨S4096x1024, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S_, .f32⟩
  | .hbm, ⟨88, _⟩ => ⟨S4096, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .bf16⟩
  | .hbm, ⟨95, _⟩ => ⟨S_, .f32⟩
  | .hbm, ⟨96, _⟩ => ⟨S1024, .f32⟩
  | .hbm, ⟨97, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_12 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_15 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel13.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S1024x4x384 : Shape := ⟨3, ![1024, 4, 384]⟩
abbrev S4x1024x384 : Shape := ⟨3, ![4, 1024, 384]⟩
abbrev S512x1536 : Shape := ⟨2, ![512, 1536]⟩
abbrev S1x1024x384 : Shape := ⟨3, ![1, 1024, 384]⟩
abbrev S512x1024 : Shape := ⟨2, ![512, 1024]⟩
abbrev S256x384 : Shape := ⟨2, ![256, 384]⟩
abbrev S1024x384 : Shape := ⟨2, ![1024, 384]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x4x384, .f32⟩
  | .hbm, ⟨6, _⟩ => ⟨S4x1024x384, .f32⟩
  | .hbm, ⟨7, _⟩ => ⟨S4x1024x384, .bf16⟩
  | .hbm, ⟨8, _⟩ => ⟨S4096x1536, .bf16⟩
  | .hbm, ⟨9, _⟩ => ⟨S4096x1024, .f32⟩
  | .hbm, ⟨10, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x384, .bf16⟩
  | .local _ .vmem, ⟨3, _⟩ => ⟨S1x1024x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v107 : BitVec 1 := Scalar.cmpi .eq arg0 c0_i32
  let v108 : BitVec 32 := Scalar.extui v107
  let c0_i32_70 : BitVec 32 := 0#32
  let v109 : BitVec 1 := Scalar.cmpi .ne v108 c0_i32_70
  v109

def k0_cond2 (i : grid0.Coords) : BitVec 1 :=
  let arg0 : BitVec 32 := BitVec.ofNat 32 (i 0).val
  let c0_i32 : BitVec 32 := 0#32
  let v107 : BitVec 1 := Scalar.cmpi .eq arg0 c0_i32
  let v_true : BitVec 1 := 1#1
  let v110 : BitVec 1 := Scalar.xori v107 v_true
  let v111 : BitVec 32 := Scalar.extui v110
  let c0_i32_71 : BitVec 32 := 0#32
  let v112 : BitVec 1 := Scalar.cmpi .ne v111 c0_i32_71
  v112

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S1024x1536, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1536, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S4096x1024, .bf16⟩
  | .hbm, ⟨10, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel16.lean ====
abbrev S4096x1024 : Shape := ⟨2, ![4096, 1024]⟩
abbrev S4096x256 : Shape := ⟨2, ![4096, 256]⟩
abbrev S16 : Shape := ⟨1, ![16]⟩
abbrev S4096x1536 : Shape := ⟨2, ![4096, 1536]⟩
abbrev S4x4 : Shape := ⟨2, ![4, 4]⟩
abbrev S4x4x128 : Shape := ⟨3, ![4, 4, 128]⟩
abbrev S4x512 : Shape := ⟨2, ![4, 512]⟩
abbrev S4x1x512 : Shape := ⟨3, ![4, 1, 512]⟩
abbrev S4x8x512 : Shape := ⟨3, ![4, 8, 512]⟩
abbrev S128x1024 : Shape := ⟨2, ![128, 1024]⟩
abbrev S128x256 : Shape := ⟨2, ![128, 256]⟩
abbrev S128x512 : Shape := ⟨2, ![128, 512]⟩
abbrev S128x64 : Shape := ⟨2, ![128, 64]⟩
abbrev S256x64 : Shape := ⟨2, ![256, 64]⟩
abbrev S512x64 : Shape := ⟨2, ![512, 64]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S64x512 : Shape := ⟨2, ![64, 512]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16, .f32⟩
  | .hbm, ⟨4, _⟩ => ⟨S4096x1536, .f32⟩
  | .hbm, ⟨5, _⟩ => ⟨S4096x1536, .bf16⟩
  | .hbm, ⟨6, _⟩ => ⟨S4x4, .f32⟩
  | .hbm, ⟨7, _⟩ => ⟨S4x4x128, .f32⟩
  | .hbm, ⟨8, _⟩ => ⟨S4x512, .f32⟩
  | .hbm, ⟨9, _⟩ => ⟨S4x1x512, .f32⟩
  | .hbm, ⟨10, _⟩ => ⟨S4x8x512, .f32⟩
  | .hbm, ⟨11, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x8x512, .f32⟩
  | .local _ .vmem, ⟨11, _⟩ => ⟨S128x1024, .bf16⟩
  | .local _ .vmem, ⟨12, _⟩ => ⟨S128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel16Ideal.lean ====
variable {F : FTy → Type} [FloatOps F] [Named F]
def κ : String → Option EReal := fun
  | "mask" => some ⊥
  | _ => none
-- ==== Reference16Ideal.lean ====
abbrev S4096x1024 : Shape := ⟨2, ![4096, 1024]⟩
abbrev S4096x256 : Shape := ⟨2, ![4096, 256]⟩
abbrev S16 : Shape := ⟨1, ![16]⟩
abbrev S1x32x128x4x4x64 : Shape := ⟨6, ![1, 32, 128, 4, 4, 64]⟩
abbrev S1x32x128x4x64 : Shape := ⟨5, ![1, 32, 128, 4, 64]⟩
abbrev S1x1x128x4x64 : Shape := ⟨5, ![1, 1, 128, 4, 64]⟩
abbrev S_ : Shape := ⟨0, ![]⟩
abbrev S1x31x128x4x64 : Shape := ⟨5, ![1, 31, 128, 4, 64]⟩
abbrev S1x32x256x4x64 : Shape := ⟨5, ![1, 32, 256, 4, 64]⟩
abbrev S1x32x4x256x128x4 : Shape := ⟨6, ![1, 32, 4, 256, 128, 4]⟩
abbrev S1x32x4x4x128x256 : Shape := ⟨6, ![1, 32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16, .f32⟩
  | .hbm, ⟨4, _⟩ => ⟨S1x32x128x4x4x64, .f32⟩
  | .hbm, ⟨5, _⟩ => ⟨S1x32x128x4x64, .f32⟩
  | .hbm, ⟨6, _⟩ => ⟨S1x32x128x4x64, .f32⟩
  | .hbm, ⟨7, _⟩ => ⟨S1x1x128x4x64, .f32⟩
  | .hbm, ⟨8, _⟩ => ⟨S_, .f32⟩
  | .hbm, ⟨9, _⟩ => ⟨S1x1x128x4x64, .f32⟩
  | .hbm, ⟨10, _⟩ => ⟨S1x31x128x4x64, .f32⟩
  | .hbm, ⟨11, _⟩ => ⟨S1x32x128x4x64, .f32⟩
  | .hbm, ⟨12, _⟩ => ⟨S1x32x256x4x64, .f32⟩
  | .hbm, ⟨13, _⟩ => ⟨S1x31x128x4x64, .f32⟩
  | .hbm, ⟨14, _⟩ => ⟨S1x32x128x4x64, .f32⟩
  | .hbm, ⟨15, _⟩ => ⟨S1x32x256x4x64, .f32⟩
  | .hbm, ⟨16, _⟩ => ⟨S1x32x4x256x128x4, .f32⟩
  | .hbm, ⟨17, _⟩ => ⟨S1x32x4x4x128x256, .f32⟩
  | .hbm, ⟨18, _⟩ => ⟨S_, .f32⟩
  | .hbm, ⟨19, _⟩ => ⟨S1x32x4x4x128x256, .f32⟩
  | .hbm, ⟨20, _⟩ => ⟨S1x32x4x4x128x256, .f32⟩
  | .hbm, ⟨21, _⟩ => ⟨S128, .i32⟩
  | .hbm, ⟨22, _⟩ => ⟨S128x1, .i32⟩
  | .hbm, ⟨23, _⟩ => ⟨S_, .i32⟩
  | .hbm, ⟨24, _⟩ => ⟨S128x1, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S128x256, .i32⟩
  | .hbm, ⟨29, _⟩ => ⟨S128x256, .i32⟩
  | .hbm, ⟨30, _⟩ => ⟨S128x256, .i1⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S_, .i32⟩
  | .hbm, ⟨35, _⟩ => ⟨S128x256, .i32⟩
  | .hbm, ⟨36, _⟩ => ⟨S128x256, .i1⟩
  | .hbm, ⟨37, _⟩ => ⟨S128x256, .i1⟩
  | .hbm, ⟨38, _⟩ => ⟨S32, .i32⟩
  | .hbm, ⟨39, _⟩ => ⟨S32x1x1, .i32⟩
  | .hbm, ⟨40, _⟩ => ⟨S1x128x256, .i1⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S1x1x256, .i32⟩
  | .hbm, ⟨45, _⟩ => ⟨S32x1x256, .i32⟩
  | .hbm, ⟨46, _⟩ => ⟨S32x1x256, .i32⟩
  | .hbm, ⟨47, _⟩ => ⟨S32x1x256, .i32⟩
  | .hbm, ⟨48, _⟩ => ⟨S_, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i1⟩
  | .hbm, ⟨54, _⟩ => ⟨S32x128x256, .i1⟩
  | .hbm, ⟨55, _⟩ => ⟨S32x128x256, .i1⟩
  | .hbm, ⟨56, _⟩ => ⟨S32x128x256, .i1⟩
  | .hbm, ⟨57, _⟩ => ⟨S1x32x1x1x128x256, .i1⟩
  | .hbm, ⟨58, _⟩ => ⟨S_, .f32⟩
  | .hbm, ⟨59, _⟩ => ⟨S_, .f32⟩
  | .hbm, ⟨60, _⟩ => ⟨S1x32x4x4x128x256, .i1⟩
  | .hbm, ⟨61, _⟩ => ⟨S1x32x4x4x128x256, .f32⟩
  | .hbm, ⟨62, _⟩ => ⟨S1x32x4x4x128x256, .f32⟩
  | .hbm, ⟨63, _⟩ => ⟨S1x1x4x4x1x1, .f32⟩
  | .hbm, ⟨64, _⟩ => ⟨S_, .f32⟩
  | .hbm, ⟨65, _⟩ => ⟨S1x32x4x4x128, .f32⟩
  | .hbm, ⟨66, _⟩ => ⟨S1x32x4x4x128x1, .f32⟩
  | .hbm, ⟨67, _⟩ => ⟨S1x32x4x4x128x1, .f32⟩
  | .hbm, ⟨68, _⟩ => ⟨S1x32x4x4x128x1, .f32⟩
  | .hbm, ⟨69, _⟩ => ⟨S1x32x4x4x128x256, .f32⟩
  | .hbm, ⟨70, _⟩ => ⟨S1x32x4x4x128x256, .f32⟩
  | .hbm, ⟨71, _⟩ => ⟨S1x32x4x4x128x256, .f32⟩
  | .hbm, ⟨72, _⟩ => ⟨S_, .f32⟩
  | .hbm, ⟨73, _⟩ => ⟨S1x32x4x4x128, .f32⟩
  | .hbm, ⟨74, _⟩ => ⟨S1x32x4x4x128x1, .f32⟩
  | .hbm, ⟨75, _⟩ => ⟨S1x32x4x4x128x1, .f32⟩
  | .hbm, ⟨76, _⟩ => ⟨S1x32x4x4x128x1, .f32⟩
  | .hbm, ⟨77, _⟩ => ⟨S1x32x4x4x128x1, .f32⟩
  | .hbm, ⟨78, _⟩ => ⟨S1x32x4x4x128x1, .f32⟩
  | .hbm, ⟨79, _⟩ => ⟨S1x32x4x4x128x256, .f32⟩
  | .hbm, ⟨80, _⟩ => ⟨S1x32x4x4x128x256, .f32⟩
  | .hbm, ⟨81, _⟩ => ⟨S1x32x4x64x4x128, .f32⟩
  | .hbm, ⟨82, _⟩ => ⟨S1x32x128x4x4x64, .f32⟩
  | .hbm, ⟨83, _⟩ => ⟨S4096x1024, .f32⟩
  | .hbm, ⟨84, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Proof.Reals.lean ====
/- The mathematics of the feed-forward half's backward pass on real numbers, with no program in sight: the arguments as
   real arrays, the row normalisation and its derivative, the gate and its derivative, and the six results. The kernel's
   modules and the reference's each show that their program computes these. -/
module

public import Mathlib.Data.EReal.Operations
public import Mathlib.Analysis.SpecialFunctions.Exp
public import Mathlib.Analysis.Real.Sqrt
public import Mathlib.Algebra.BigOperators.Fin
public import Mathlib.Tactic.FieldSimp
public import Mathlib.Tactic.Ring
public import Mathlib.Tactic.Positivity

@[expose] public section

noncomputable section

namespace Cert.Ffn

/-- The number added to a row's mean square: the real number that the printed single-precision word stands for. -/
def eps : ℝ := 8796093 / 8796093022208

theorem eps_pos : 0 < eps := by unfold eps; norm_num

/-- The arguments as real arrays, indexed by row and column numbers. Only the numbers below the arrays' sizes matter: 4096 rows of
    1024 for `df`, `dres`, `x` and `mo`, 2816 rows of 1024 for `wd`, 1024 rows of 5632 for `wgu`, 1024 numbers for the scales. -/
structure Args where
  df : ℕ → ℕ → ℝ
  wd : ℕ → ℕ → ℝ
  wgu : ℕ → ℕ → ℝ
  dres : ℕ → ℕ → ℝ
  x : ℕ → ℕ → ℝ
  gpre : ℕ → ℝ
  mo : ℕ → ℕ → ℝ
  gpost : ℕ → ℝ

/-- A row's mean square plus `eps`. -/
def ms (x : ℕ → ℝ) : ℝ := (∑ j : Fin 1024, x j * x j) / 1024 + eps

theorem ms_pos (x : ℕ → ℝ) : 0 < ms x := by
  have h : 0 ≤ ∑ j : Fin 1024, x j * x j := Finset.sum_nonneg fun j _ => mul_self_nonneg (x j)
  have := eps_pos
  unfold ms; positivity

/-- The reciprocal root mean square of a row. -/
def rinv (x : ℕ → ℝ) : ℝ := (Real.sqrt (ms x))⁻¹

theorem rinv_mul_self (x : ℕ → ℝ) : rinv x * rinv x = (ms x)⁻¹ := by
  unfold rinv
  rw [← mul_inv, Real.mul_self_sqrt (ms_pos x).le]

/-- A normalised row. -/
def hat (x : ℕ → ℝ) (k : ℕ) : ℝ := x k * rinv x

/-- The derivative of the row normalisation with respect to its row, at the cotangent `dy`. -/
def normBack (dy x g : ℕ → ℝ) (k : ℕ) : ℝ :=
  rinv x * (dy k * g k - hat x k * ((∑ j : Fin 1024, dy j * g j * hat x j) / 1024))

/-- The same derivative in the form the chain rule gives it: through the product and through the mean square, the square's
    two factors one at a time. -/
theorem normBack_eq (dy x g : ℕ → ℝ) (k : ℕ) :
    normBack dy x g k
      = dy k * g k * rinv x + x k * ((∑ j : Fin 1024, x j * (dy j * g j)) * (-(1 / 2) * (rinv x / ms x)) / 1024)
        + (∑ j : Fin 1024, x j * (dy j * g j)) * (-(1 / 2) * (rinv x / ms x)) / 1024 * x k := by
  have h : (∑ j : Fin 1024, dy j * g j * hat x j) = (∑ j : Fin 1024, x j * (dy j * g j)) * rinv x := by
    rw [Finset.sum_mul]
    exact Finset.sum_congr rfl fun j _ => by unfold hat; ring
  have h2 : rinv x / ms x = rinv x * (rinv x * rinv x) := by rw [rinv_mul_self]; rfl
  unfold normBack
  rw [h, h2]
  unfold hat
  ring

namespace Args

variable (A : Args)

/-- The normalised, scaled row that enters the up projection. -/
def h (i : ℕ) (k : ℕ) : ℝ := hat (A.x i) k * A.gpre k

/-- The up projection. -/
def gu (i : ℕ) (j : ℕ) : ℝ := ∑ k : Fin 1024, A.h i k * A.wgu k j

/-- The gate's half of the up projection. -/
def gate (i : ℕ) (j : ℕ) : ℝ := A.gu i j

/-- The other half. -/
def up (i : ℕ) (j : ℕ) : ℝ := A.gu i (2816 + j)

/-- The logistic function of the gate. -/
def sig (i : ℕ) (j : ℕ) : ℝ := (1 + Real.exp (-A.gate i j))⁻¹

/-- The cotangent of the gated activation. -/
def da (i : ℕ) (j : ℕ) : ℝ := ∑ k : Fin 1024, A.df i k * A.wd j k

/-- The derivative of the gated activation in the gate. -/
def d0 (i : ℕ) (j : ℕ) : ℝ := A.up i j * (A.sig i j + A.gate i j * A.sig i j * (1 - A.sig i j))

/-- The derivative of the gated activation in the other half. -/
def d1 (i : ℕ) (j : ℕ) : ℝ := A.gate i j * A.sig i j

/-- The gate's cotangent. -/
def dg (i : ℕ) (j : ℕ) : ℝ := A.da i j * A.d0 i j

/-- The other half's cotangent. -/
def du (i : ℕ) (j : ℕ) : ℝ := A.da i j * A.d1 i j

/-- The up projection's cotangent, the two halves side by side. -/
def dgu (i : ℕ) (j : ℕ) : ℝ :=
  if j < 2816 then A.dg i j else A.du i (j - 2816)

/-- The cotangent of the normalised, scaled row. -/
def dh (i : ℕ) (k : ℕ) : ℝ := ∑ j : Fin 5632, A.dgu i j * A.wgu k j

/-- The residual stream's cotangent: what arrives plus what comes back through the first normalisation. -/
def dx (i : ℕ) (k : ℕ) : ℝ := A.dres i k + normBack (A.dh i) (A.x i) A.gpre k

/-- The cotangent of the block's output before its second normalisation. -/
def dm (i : ℕ) (k : ℕ) : ℝ := normBack (A.dx i) (A.mo i) A.gpost k

/-- The first normalisation's gradient in its scale. -/
def dgpre (k : ℕ) : ℝ := ∑ i : Fin 4096, A.dh i k * hat (A.x i) k

/-- The second normalisation's gradient in its scale. -/
def dgpost (k : ℕ) : ℝ := ∑ i : Fin 4096, A.dx i k * hat (A.mo i) k

/-- The bias' gradient. -/
def db (k : ℕ) : ℝ := ∑ i : Fin 4096, A.dm i k

end Args

/-- A finite sum of reals, taken among the extended reals, is the sum. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

end Cert.Ffn

end
-- ==== Proof.Words.lean ====
/- The numbers that the programs' printed constants stand for. -/
module

public import Idealize.ShloMosaic.Lib.Pointwise
public import Idealize.ShloMosaic.PureOps.Ideal.Laws
public import proofs.«01_k».proof.Proof.Reals

@[expose] public section

noncomputable section

namespace Cert.Ffn

open Idealize.ShloMosaic

/-- The word of zeros is zero. -/
theorem word_zero : Ideal.ofBits .f32 0x00000000#32 = ((0 : ℝ) : EReal) := by
  simp [Ideal.ofBits, Ideal.ieee, -EReal.coe_mul]
/-- This word is one. -/
theorem word_one : Ideal.ofBits .f32 0x3F800000#32 = ((1 : ℝ) : EReal) := by
  simp [Ideal.ofBits, Ideal.ieee, -EReal.coe_mul]; norm_num
/-- This word is the number of a row's elements. -/
theorem word_rows : Ideal.ofBits .f32 0x44800000#32 = ((1024 : ℝ) : EReal) := by
  simp [Ideal.ofBits, Ideal.ieee, -EReal.coe_mul]; norm_num
/-- This word is minus a half. -/
theorem word_half : Ideal.ofBits .f32 0xBF000000#32 = ((-(1 / 2) : ℝ) : EReal) := by
  simp [Ideal.ofBits, Ideal.ieee, -EReal.coe_mul]; norm_num
/-- This word is the number added to a mean square. -/
theorem word_eps : Ideal.ofBits .f32 0x358637BD#32 = ((eps : ℝ) : EReal) := by
  unfold eps
  simp [Ideal.ofBits, Ideal.ieee, -EReal.coe_mul]; norm_num
/-- This word is the infinity that the precondition compares with. -/
theorem word_top : Ideal.ofBits .f32 0x7F800000#32 = (⊤ : EReal) := by
  simp [Ideal.ofBits, Ideal.ieee, -EReal.coe_mul]

/-- The quotient of a real by the number of a row's elements. -/
theorem div_rows (s : ℝ) : Ideal.div ((s : ℝ) : EReal) ((1024 : ℝ) : EReal) = ((s / 1024 : ℝ) : EReal) := by
  rw [Ideal.div_coe (by norm_num), ← EReal.coe_mul, mul_one_div]

/-- The reciprocal root mean square of a real row, as the programs compute it. -/
theorem rsqrt_ms (x : ℕ → ℝ) :
    Ideal.rsqrt (Ideal.div ((∑ j : Fin 1024, x j.val * x j.val : ℝ) : EReal) ((1024 : ℝ) : EReal) + ((eps : ℝ) : EReal)) = ((rinv x : ℝ) : EReal) := by
  rw [div_rows, ← EReal.coe_add, show (∑ j : Fin 1024, x j.val * x j.val) / 1024 + eps = ms x from rfl, Ideal.rsqrt_coe,
    if_neg (not_lt.mpr (ms_pos x).le), if_neg (ms_pos x).ne']
  rfl

/-- The logistic function of a real, as the host computes it. -/
theorem logistic_div (g : ℝ) : Ideal.div 1 (1 + Ideal.exp (-((g : ℝ) : EReal))) = (((1 + Real.exp (-g))⁻¹ : ℝ) : EReal) := by
  have h : (0 : ℝ) < 1 + Real.exp (-g) := by positivity
  rw [← EReal.coe_neg, Ideal.exp_coe, ← EReal.coe_one, ← EReal.coe_add, Ideal.div_coe h.ne', ← EReal.coe_mul, one_mul, one_div]

end Cert.Ffn

end
-- ==== Proof.Host.lean ====
/- What the host hands the kernel: the gate's derivatives from the forward lines, two planes of them, and the up projection's
   weight cut into four column shards. Each array is read at an index and shown to hold the real numbers of the formulas. -/
module

public import proofs.«01_k».proof.Proof.Gen.KernelIdeal.Value
public import proofs.«01_k».proof.Proof.Words
public import Idealize.ShloMosaic.Lib.Pipeline.ValueKit
public import Idealize.ShloMosaic.Lib.Pointwise

@[expose] public section

set_option maxRecDepth 16384

noncomputable section

namespace Cert.Ffn.Kernel

open Idealize.ShloMosaic Idealize.ShloMosaic.TcCoe Idealize.SL.Sem
open Cert.KernelIdeal Cert.KernelIdeal.Gen

/-- A matrix of the program holds these real numbers. -/
def Is {n k : ℕ} (v : (⟨2, ![n, k]⟩ : Shape).Idx → EReal) (f : ℕ → ℕ → ℝ) : Prop :=
  ∀ (a : Fin n) (b : Fin k), v (ix2 a b) = ((f a.val b.val : ℝ) : EReal)

/-- The normalised, scaled rows. -/
def hostH (X : FVec Ideal S4096x1024 .f32) (G : FVec Ideal S1x1024 .f32) : FVec Ideal S4096x1024 .f32 :=
  mulf (mulf X (broadcastInDim S4096x1024 ![0, 1] bcast_S4096x1_S4096x1024_0_1
      (Host.rsqrt (addf (Host.divf (broadcastInDim S4096x1 ![0] bcast_S4096_S4096x1_0
            (Host.reduceAdd (mulf X X) (constant S_ .f32 0x00000000#32) reducesTo_S4096x1024_S4096_d1 h_S_))
          (broadcastInDim S4096x1 ![] bcast_S_S4096x1 (constant S_ .f32 0x44800000#32)))
        (broadcastInDim S4096x1 ![] bcast_S_S4096x1 (constant S_ .f32 0x358637BD#32))))))
    (broadcastInDim S4096x1024 ![0, 1] bcast_S1x1024_S4096x1024_0_1 G)

/-- The up projection. -/
def hostGu (H : FVec Ideal S4096x1024 .f32) (W : FVec Ideal S1024x5632 .f32) : FVec Ideal S4096x5632 .f32 :=
  Host.dotGeneral dot_S4096x1024_S1024x5632_S4096x5632_1_0_0_1_n_n none H W

/-- The logistic function of the gate. -/
def hostSig (U : FVec Ideal S4096x5632 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32))
      (Host.exp (Host.negf (extractStridedSlice S4096x2816 ![0, 0] U slices_S4096x5632_S4096x2816_0_0))))

/-- The gated activation's derivative in the gate. -/
def hostD0 (U : FVec Ideal S4096x5632 .f32) (S : FVec Ideal S4096x2816 .f32) : FVec Ideal S4096x2816 .f32 :=
  mulf (extractStridedSlice S4096x2816 ![0, 2816] U slices_S4096x5632_S4096x2816_0_2816)
    (addf S (mulf (mulf (extractStridedSlice S4096x2816 ![0, 0] U slices_S4096x5632_S4096x2816_0_0) S)
      (subf (broadcastInDim S4096x2816 ![] bcast_S_S4096x2816 (constant S_ .f32 0x3F800000#32)) S)))

/-- The gated activation's derivative in the other half. -/
def hostD1 (U : FVec Ideal S4096x5632 .f32) (S : FVec Ideal S4096x2816 .f32) : FVec Ideal S4096x2816 .f32 :=
  mulf (extractStridedSlice S4096x2816 ![0, 0] U slices_S4096x5632_S4096x2816_0_0) S

/-- The two planes. -/
def hostPlanes (D0 D1 : FVec Ideal S4096x2816 .f32) : FVec Ideal S2x4096x2816 .bf16 :=
  truncf .bf16 (concatenate S2x4096x2816 0 [⟨S1x4096x2816, broadcastInDim S1x4096x2816 ![1, 2] bcast_S4096x2816_S1x4096x2816_1_2 D0⟩,
    ⟨S1x4096x2816, broadcastInDim S1x4096x2816 ![1, 2] bcast_S4096x2816_S1x4096x2816_1_2 D1⟩] concatenates_S1x4096x2816_S1x4096x2816_S2x4096x2816_d0) bitsLt_bf16_f32

/-- The normalised, scaled rows, on real rows. -/
theorem hostH_is (A : Args) {X : FVec Ideal S4096x1024 .f32} {G : FVec Ideal S1x1024 .f32} (hX : Is X A.x) (hG : Is G fun _ => A.gpre) :
    Is (hostH X G) A.h := fun a k => by
  pointwise [hostH]
  simp only [hX _ _, hG _ _, word_rows, word_eps, ← EReal.coe_mul, coe_sum, rsqrt_ms]
  rfl

/-- The up projection, on real arrays. -/
theorem hostGu_is (A : Args) {H : FVec Ideal S4096x1024 .f32} {W : FVec Ideal S1024x5632 .f32} (hH : Is H A.h) (hW : Is W A.wgu) :
    Is (hostGu H W) A.gu := fun a j => by
  pointwise [hostGu]
  simp only [hH _ _, hW _ _, ← EReal.coe_mul, coe_sum]
  rfl

/-- The logistic function of the gate, on a real projection. -/
theorem hostSig_is (A : Args) {U : FVec Ideal S4096x5632 .f32} (hU : Is U A.gu) : Is (hostSig U) A.sig := fun a j => by
  pointwise [hostSig]
  simp only [hU _ _, logistic_div]
  rfl

/-- The derivative in the gate, on a real projection. -/
theorem hostD0_is (A : Args) {U : FVec Ideal S4096x5632 .f32} {S : FVec Ideal S4096x2816 .f32} (hU : Is U A.gu) (hS : Is S A.sig) : Is (hostD0 U S) A.d0 := fun a j => by
  pointwise [hostD0]
  simp only [hU _ _, hS _ _, ← EReal.coe_one, ← EReal.coe_sub, ← EReal.coe_mul, ← EReal.coe_add]
  rfl

/-- The derivative in the other half, on a real projection. -/
theorem hostD1_is (A : Args) {U : FVec Ideal S4096x5632 .f32} {S : FVec Ideal S4096x2816 .f32} (hU : Is U A.gu) (hS : Is S A.sig) : Is (hostD1 U S) A.d1 := fun a j => by
  pointwise [hostD1]
  simp only [hU _ _, hS _ _, ← EReal.coe_mul]
  rfl

/-- The planes read at an index: the first plane holds the derivative in the gate, the second the other. -/
theorem hostPlanes_at (A : Args) {D0 D1 : FVec Ideal S4096x2816 .f32} (h0 : Is D0 A.d0) (h1 : Is D1 A.d1) (s : Fin 2) (a : Fin 4096) (j : Fin 2816) :
    hostPlanes D0 D1 (ix3 s a j) = (((if s.val < 1 then A.d0 a.val j.val else A.d1 a.val j.val) : ℝ) : EReal) := by
  pointwise [hostPlanes]
  by_cases h : s.val < 1
  · rw [dif_pos h, if_pos h, h0 _ _]
  · rw [dif_neg h, if_neg h, h1 _ _]

variable (m : (ℓ : Loc nD τ sig) → Buf (Elt Ideal) ℓ) (c : Dev nD)

/-- The eight argument arrays hold these real numbers. -/
structure Given (A : Args) : Prop where
  df_is : Is (m ((c : Thread nD τ).loc main_arg0)) A.df
  wd_is : Is (m ((c : Thread nD τ).loc main_arg1)) A.wd
  wgu_is : Is (m ((c : Thread nD τ).loc main_arg2)) A.wgu
  dres_is : Is (m ((c : Thread nD τ).loc main_arg3)) A.dres
  x_is : Is (m ((c : Thread nD τ).loc main_arg4)) A.x
  gpre_is : Is (m ((c : Thread nD τ).loc main_arg5)) fun _ => A.gpre
  mo_is : Is (m ((c : Thread nD τ).loc main_arg6)) A.mo
  gpost_is : Is (m ((c : Thread nD τ).loc main_arg7)) fun _ => A.gpost

variable {m c} {A : Args}

/-- The cotangent, converted. -/
theorem V_df (G : Given m c A) : Is (V m c main_v35) A.df := fun a k => by
  entry_read
  pointwise []
  exact G.df_is a k

/-- The down projection's weight, converted. -/
theorem V_wd (G : Given m c A) : Is (V m c main_v36) A.wd := fun a k => by
  entry_read
  pointwise []
  exact G.wd_is a k

/-- The block's output, converted. -/
theorem V_mo (G : Given m c A) : Is (V m c main_v37) A.mo := fun a k => by
  entry_read
  pointwise []
  exact G.mo_is a k

/-- The up projection's weight in four column shards. -/
theorem V_wgu (G : Given m c A) (s : Fin 4) (k : Fin 1024) (j : Fin 1408) :
    (V m c main_v34 : FVec Ideal S4x1024x1408 .bf16) (ix3 s k j) = ((A.wgu k.val (s.val * 1408 + j.val) : ℝ) : EReal) := by
  entry_read
  pointwise []
  exact G.wgu_is k _

/-- The gate's derivatives in two planes. -/
theorem V_planes (G : Given m c A) (s : Fin 2) (a : Fin 4096) (j : Fin 2816) :
    (V m c main_v31 : FVec Ideal S2x4096x2816 .bf16) (ix3 s a j) = (((if s.val < 1 then A.d0 a.val j.val else A.d1 a.val j.val) : ℝ) : EReal) := by
  have hU := hostGu_is A (hostH_is A G.x_is G.gpre_is) G.wgu_is
  have hS := hostSig_is A hU
  refine Eq.trans ?_ (hostPlanes_at A (hostD0_is A hU hS) (hostD1_is A hU hS) s a j)
  entry_read
  rfl

end Cert.Ffn.Kernel

end
-- ==== Proof.Blocks.lean ====
/- What the kernel finds in its staged input blocks at a grid point: the rows of the arrays that the point is about, and the
   whole of the arrays that every point reads. -/
module

public import proofs.«01_k».proof.Proof.Host

@[expose] public section

set_option maxRecDepth 16384

noncomputable section

namespace Cert.Ffn.Kernel

open Idealize.ShloMosaic Idealize.ShloMosaic.TcCoe Idealize.SL.Sem
open Cert.KernelIdeal Cert.KernelIdeal.Gen

/-- Where each window's block lies, for all eight grid points. -/
theorem idx_val : ∀ t : Fin cfg0.N, win0_0.index t = ![t.val, 0] ∧ win0_1.index t = ![0, 0] ∧ win0_2.index t = ![0, t.val, 0]
    ∧ win0_3.index t = ![0, 0, 0] ∧ win0_4.index t = ![1, 0, 0] ∧ win0_5.index t = ![2, 0, 0] ∧ win0_6.index t = ![3, 0, 0]
    ∧ win0_7.index t = ![t.val, 0] ∧ win0_8.index t = ![t.val, 0] ∧ win0_9.index t = ![0, 0] ∧ win0_10.index t = ![t.val, 0] ∧ win0_11.index t = ![0, 0]
    ∧ win0_12.index t = ![0, t.val, 0] ∧ win0_13.index t = ![t.val, 0] ∧ win0_14.index t = ![t.val, 0]
    ∧ win0_15.index t = ![0, 0] ∧ win0_16.index t = ![0, 0] ∧ win0_17.index t = ![0, 0] :=
  (by decide +kernel : ∀ t : Fin grid0.N, _)

variable {m : (ℓ : Loc nD τ sig) → Buf (Elt Ideal) ℓ} {c : Dev nD} {A : Args}

/-- Row `a` of grid point `t`'s block, as a row of the whole array. -/
abbrev row (t : Fin cfg0.N) (a : Fin 512) : Fin 4096 :=
  ⟨512 * t.val + a.val, by have := t.isLt; have := a.isLt; have : cfg0.N = 8 := N_0; omega⟩

/-- The cotangent's rows of this point. -/
theorem blk_df (G : Given m c A) (t : Fin cfg0.N) : Is (n := 512) (k := 1024) (iblk m c 0 t) fun a => A.df (512 * t.val + a) := fun a k => by
  refine Eq.trans ?_ (V_df G (row t a) k)
  blk_point [iblk, V, idx_val t]

/-- The down projection's weight. -/
theorem blk_wd (G : Given m c A) (t : Fin cfg0.N) : Is (n := 2816) (k := 1024) (iblk m c 1 t) A.wd := fun a k => by
  refine Eq.trans ?_ (V_wd G a k)
  blk_point [iblk, V, idx_val t]

/-- The two planes' rows of this point. -/
theorem blk_planes (G : Given m c A) (t : Fin cfg0.N) (s : Fin 2) (a : Fin 512) (j : Fin 2816) :
    (iblk m c 2 t : FVec Ideal S2x512x2816 .bf16) (ix3 s a j) = (((if s.val < 1 then A.d0 (512 * t.val + a.val) j.val else A.d1 (512 * t.val + a.val) j.val) : ℝ) : EReal) := by
  refine Eq.trans ?_ (V_planes G s (row t a) j)
  blk_point [iblk, idx_val t]

/-- Column shard 0 of the up projection's weight. -/
theorem blk_shard0 (G : Given m c A) (t : Fin cfg0.N) (k : Fin 1024) (j : Fin 1408) :
    (iblk m c 3 t : FVec Ideal S1x1024x1408 .bf16) (ix3 0 k j) = ((A.wgu k.val (0 + j.val) : ℝ) : EReal) := by
  refine Eq.trans ?_ (V_wgu G 0 k j)
  blk_point [iblk, idx_val t]

/-- Column shard 1 of the up projection's weight. -/
theorem blk_shard1 (G : Given m c A) (t : Fin cfg0.N) (k : Fin 1024) (j : Fin 1408) :
    (iblk m c 4 t : FVec Ideal S1x1024x1408 .bf16) (ix3 0 k j) = ((A.wgu k.val (1408 + j.val) : ℝ) : EReal) := by
  refine Eq.trans ?_ (V_wgu G 1 k j)
  blk_point [iblk, idx_val t]

/-- Column shard 2 of the up projection's weight. -/
theorem blk_shard2 (G : Given m c A) (t : Fin cfg0.N) (k : Fin 1024) (j : Fin 1408) :
    (iblk m c 5 t : FVec Ideal S1x1024x1408 .bf16) (ix3 0 k j) = ((A.wgu k.val (2816 + j.val) : ℝ) : EReal) := by
  refine Eq.trans ?_ (V_wgu G 2 k j)
  blk_point [iblk, idx_val t]

/-- Column shard 3 of the up projection's weight. -/
theorem blk_shard3 (G : Given m c A) (t : Fin cfg0.N) (k : Fin 1024) (j : Fin 1408) :
    (iblk m c 6 t : FVec Ideal S1x1024x1408 .bf16) (ix3 0 k j) = ((A.wgu k.val (4224 + j.val) : ℝ) : EReal) := by
  refine Eq.trans ?_ (V_wgu G 3 k j)
  blk_point [iblk, idx_val t]

/-- The residual stream's cotangent, the rows of this point. -/
theorem blk_dres (G : Given m c A) (t : Fin cfg0.N) : Is (n := 512) (k := 1024) (iblk m c 7 t) fun a => A.dres (512 * t.val + a) := fun a k => by
  refine Eq.trans ?_ (G.dres_is (row t a) k)
  blk_point [iblk, V, idx_val t]

/-- The residual stream, the rows of this point. -/
theorem blk_x (G : Given m c A) (t : Fin cfg0.N) : Is (n := 512) (k := 1024) (iblk m c 8 t) fun a => A.x (512 * t.val + a) := fun a k => by
  refine Eq.trans ?_ (G.x_is (row t a) k)
  blk_point [iblk, V, idx_val t]

/-- The first normalisation's scale. -/
theorem blk_gpre (G : Given m c A) (t : Fin cfg0.N) : Is (n := 1) (k := 1024) (iblk m c 9 t) (fun _ => A.gpre) := fun a k => by
  refine Eq.trans ?_ (G.gpre_is a k)
  blk_point [iblk, V, idx_val t]

/-- The block's output, the rows of this point. -/
theorem blk_mo (G : Given m c A) (t : Fin cfg0.N) : Is (n := 512) (k := 1024) (iblk m c 10 t) fun a => A.mo (512 * t.val + a) := fun a k => by
  refine Eq.trans ?_ (V_mo G (row t a) k)
  blk_point [iblk, V, idx_val t]

/-- The second normalisation's scale. -/
theorem blk_gpost (G : Given m c A) (t : Fin cfg0.N) : Is (n := 1) (k := 1024) (iblk m c 11 t) (fun _ => A.gpost) := fun a k => by
  refine Eq.trans ?_ (G.gpost_is a k)
  blk_point [iblk, V, idx_val t]

end Cert.Ffn.Kernel

end
-- ==== Proof.Rows.lean ====
/- What one tile of 256 rows computes: each vector of the kernel's body, given that the vectors it reads hold given real
   functions. A grid point has two such tiles; their texts differ in how the vectors are named and grouped. -/
module

public import proofs.«01_k».proof.Proof.Host

@[expose] public section

set_option maxRecDepth 16384

noncomputable section

namespace Cert.Ffn.Kernel

open Idealize.ShloMosaic Idealize.ShloMosaic.TcCoe Idealize.SL.Sem
open Cert.KernelIdeal Cert.KernelIdeal.Gen

/-- A vector with a leading axis of length one whose plane holds the reals `f`. -/
def Is3 {n k : ℕ} (v : (⟨3, ![1, n, k]⟩ : Shape).Idx → EReal) (f : ℕ → ℕ → ℝ) : Prop :=
  ∀ (a : Fin n) (b : Fin k), v (ix3 0 a b) = ((f a.val b.val : ℝ) : EReal)

variable {f w w' d0 d1 p q p' q' e r x mo : ℕ → ℕ → ℝ} {g g' s s' : ℕ → ℝ}

/-- The product of a tile of the cotangent with rows of the weight, times a plane. -/
def gated (f w d : ℕ → ℕ → ℝ) (a j : ℕ) : ℝ := (∑ k : Fin 1024, f a k * w j k) * d a j

/-- Two half planes through their shards of the weight. -/
def twoShards (u v p q : ℕ → ℕ → ℝ) (a k : ℕ) : ℝ := (∑ j : Fin 1408, u a j * p k j) + ∑ j : Fin 1408, v a j * q k j

/-- The sum over a tile's rows. -/
def rowSum (f : ℕ → ℕ → ℝ) (_ k : ℕ) : ℝ := ∑ a : Fin 256, f a k

/-- The residual stream's cotangent of a tile. -/
def tileDx (e x r : ℕ → ℕ → ℝ) (g : ℕ → ℝ) (a k : ℕ) : ℝ := r a k + normBack (e a) (x a) g k

/-- First tile, first half of the columns: the gate's cotangent. -/
theorem pay5_is {v1 : FVec Ideal S256x1024 .bf16} {v3 : FVec Ideal S1408x1024 .bf16} {v6 : FVec Ideal S1x256x1408 .bf16} (h1 : Is (n := 256) (k := 1024) v1 f) (h3 : Is (n := 1408) (k := 1024) v3 w) (h6 : Is3 (n := 256) (k := 1408) v6 d0) :
    Is (n := 256) (k := 1408) (k0_pay5 (F := Ideal) v1 v3 v6) (gated f w d0) := by
  intro a j
  pointwise [k0_pay5, k0_pay4, k0_pay3]
  simp only [h1 _ _, h3 _ _, h6 _ _, ← EReal.coe_mul, ← EReal.coe_add, ← EReal.coe_sub, coe_sum]
  rfl

/-- First tile, first half of the columns: the other half's cotangent. -/
theorem pay6_is {v1 : FVec Ideal S256x1024 .bf16} {v3 : FVec Ideal S1408x1024 .bf16} {v11 : FVec Ideal S1x256x1408 .bf16} (h1 : Is (n := 256) (k := 1024) v1 f) (h3 : Is (n := 1408) (k := 1024) v3 w) (h6 : Is3 (n := 256) (k := 1408) v11 d0) :
    Is (n := 256) (k := 1408) (k0_pay6 (F := Ideal) v1 v3 v11) (gated f w d0) := by
  intro a j
  pointwise [k0_pay6, k0_pay4, k0_pay3]
  simp only [h1 _ _, h3 _ _, h6 _ _, ← EReal.coe_mul, ← EReal.coe_add, ← EReal.coe_sub, coe_sum]
  rfl

/-- The same with its leading axis, as it is stored. -/
theorem pay7_is {v1 : FVec Ideal S256x1024 .bf16} {v3 : FVec Ideal S1408x1024 .bf16} {v6 : FVec Ideal S1x256x1408 .bf16} (h1 : Is (n := 256) (k := 1024) v1 f) (h3 : Is (n := 1408) (k := 1024) v3 w) (h6 : Is3 (n := 256) (k := 1408) v6 d0) :
    Is3 (n := 256) (k := 1408) (k0_pay7 (F := Ideal) v1 v3 v6) (gated f w d0) := by
  intro a j
  pointwise [k0_pay7, k0_pay5, k0_pay4, k0_pay3]
  simp only [h1 _ _, h3 _ _, h6 _ _, ← EReal.coe_mul, ← EReal.coe_add, ← EReal.coe_sub, coe_sum]
  rfl

/-- The same with its leading axis, as it is stored. -/
theorem pay8_is {v1 : FVec Ideal S256x1024 .bf16} {v3 : FVec Ideal S1408x1024 .bf16} {v11 : FVec Ideal S1x256x1408 .bf16} (h1 : Is (n := 256) (k := 1024) v1 f) (h3 : Is (n := 1408) (k := 1024) v3 w) (h6 : Is3 (n := 256) (k := 1408) v11 d0) :
    Is3 (n := 256) (k := 1408) (k0_pay8 (F := Ideal) v1 v3 v11) (gated f w d0) := by
  intro a j
  pointwise [k0_pay8, k0_pay6, k0_pay4, k0_pay3]
  simp only [h1 _ _, h3 _ _, h6 _ _, ← EReal.coe_mul, ← EReal.coe_add, ← EReal.coe_sub, coe_sum]
  rfl

/-- First tile, second half of the columns: the gate's cotangent. -/
theorem pay11_is {v2 : FVec Ideal S256x1024 .bf16} {v29 : FVec Ideal S1408x1024 .bf16} {v32 : FVec Ideal S1x256x1408 .bf16} (h1 : Is (n := 256) (k := 1024) v2 f) (h3 : Is (n := 1408) (k := 1024) v29 w) (h6 : Is3 (n := 256) (k := 1408) v32 d0) :
    Is (n := 256) (k := 1408) (k0_pay11 (F := Ideal) v2 v29 v32) (gated f w d0) := by
  intro a j
  pointwise [k0_pay11, k0_pay10]
  simp only [h1 _ _, h3 _ _, h6 _ _, ← EReal.coe_mul, ← EReal.coe_add, ← EReal.coe_sub, coe_sum]
  rfl

/-- First tile, second half of the columns: the other half's cotangent. -/
theorem pay12_is {v2 : FVec Ideal S256x1024 .bf16} {v29 : FVec Ideal S1408x1024 .bf16} {v37 : FVec Ideal S1x256x1408 .bf16} (h1 : Is (n := 256) (k := 1024) v2 f) (h3 : Is (n := 1408) (k := 1024) v29 w) (h6 : Is3 (n := 256) (k := 1408) v37 d0) :
    Is (n := 256) (k := 1408) (k0_pay12 (F := Ideal) v2 v29 v37) (gated f w d0) := by
  intro a j
  pointwise [k0_pay12, k0_pay10]
  simp only [h1 _ _, h3 _ _, h6 _ _, ← EReal.coe_mul, ← EReal.coe_add, ← EReal.coe_sub, coe_sum]
  rfl

/-- The same with its leading axis, as it is stored. -/
theorem pay13_is {v2 : FVec Ideal S256x1024 .bf16} {v29 : FVec Ideal S1408x1024 .bf16} {v32 : FVec Ideal S1x256x1408 .bf16} (h1 : Is (n := 256) (k := 1024) v2 f) (h3 : Is (n := 1408) (k := 1024) v29 w) (h6 : Is3 (n := 256) (k := 1408) v32 d0) :
    Is3 (n := 256) (k := 1408) (k0_pay13 (F := Ideal) v2 v29 v32) (gated f w d0) := by
  intro a j
  pointwise [k0_pay13, k0_pay11, k0_pay10]
  simp only [h1 _ _, h3 _ _, h6 _ _, ← EReal.coe_mul, ← EReal.coe_add, ← EReal.coe_sub, coe_sum]
  rfl

/-- The same with its leading axis, as it is stored. -/
theorem pay14_is {v2 : FVec Ideal S256x1024 .bf16} {v29 : FVec Ideal S1408x1024 .bf16} {v37 : FVec Ideal S1x256x1408 .bf16} (h1 : Is (n := 256) (k := 1024) v2 f) (h3 : Is (n := 1408) (k := 1024) v29 w) (h6 : Is3 (n := 256) (k := 1408) v37 d0) :
    Is3 (n := 256) (k := 1408) (k0_pay14 (F := Ideal) v2 v29 v37) (gated f w d0) := by
  intro a j
  pointwise [k0_pay14, k0_pay12, k0_pay10]
  simp only [h1 _ _, h3 _ _, h6 _ _, ← EReal.coe_mul, ← EReal.coe_add, ← EReal.coe_sub, coe_sum]
  rfl

/-- Second tile, first half of the columns: the gate's cotangent. -/
theorem pay32_is {v119 : FVec Ideal S256x1024 .bf16} {v121 : FVec Ideal S1408x1024 .bf16} {v124 : FVec Ideal S1x256x1408 .bf16} (h1 : Is (n := 256) (k := 1024) v119 f) (h3 : Is (n := 1408) (k := 1024) v121 w) (h6 : Is3 (n := 256) (k := 1408) v124 d0) :
    Is (n := 256) (k := 1408) (k0_pay32 (F := Ideal) v119 v121 v124) (gated f w d0) := by
  intro a j
  pointwise [k0_pay32, k0_pay31, k0_pay30]
  simp only [h1 _ _, h3 _ _, h6 _ _, ← EReal.coe_mul, ← EReal.coe_add, ← EReal.coe_sub, coe_sum]
  rfl

/-- Second tile, first half of the columns: the other half's cotangent. -/
theorem pay33_is {v119 : FVec Ideal S256x1024 .bf16} {v121 : FVec Ideal S1408x1024 .bf16} {v129 : FVec Ideal S1x256x1408 .bf16} (h1 : Is (n := 256) (k := 1024) v119 f) (h3 : Is (n := 1408) (k := 1024) v121 w) (h6 : Is3 (n := 256) (k := 1408) v129 d0) :
    Is (n := 256) (k := 1408) (k0_pay33 (F := Ideal) v119 v121 v129) (gated f w d0) := by
  intro a j
  pointwise [k0_pay33, k0_pay31, k0_pay30]
  simp only [h1 _ _, h3 _ _, h6 _ _, ← EReal.coe_mul, ← EReal.coe_add, ← EReal.coe_sub, coe_sum]
  rfl

/-- The same with its leading axis, as it is stored. -/
theorem pay34_is {v119 : FVec Ideal S256x1024 .bf16} {v121 : FVec Ideal S1408x1024 .bf16} {v124 : FVec Ideal S1x256x1408 .bf16} (h1 : Is (n := 256) (k := 1024) v119 f) (h3 : Is (n := 1408) (k := 1024) v121 w) (h6 : Is3 (n := 256) (k := 1408) v124 d0) :
    Is3 (n := 256) (k := 1408) (k0_pay34 (F := Ideal) v119 v121 v124) (gated f w d0) := by
  intro a j
  pointwise [k0_pay34, k0_pay32, k0_pay31, k0_pay30]
  simp only [h1 _ _, h3 _ _, h6 _ _, ← EReal.coe_mul, ← EReal.coe_add, ← EReal.coe_sub, coe_sum]
  rfl

/-- Second tile, second half of the columns: the gate's cotangent. -/
theorem pay38_is {v120 : FVec Ideal S256x1024 .bf16} {v147 : FVec Ideal S1408x1024 .bf16} {v150 : FVec Ideal S1x256x1408 .bf16} (h1 : Is (n := 256) (k := 1024) v120 f) (h3 : Is (n := 1408) (k := 1024) v147 w) (h6 : Is3 (n := 256) (k := 1408) v150 d0) :
    Is (n := 256) (k := 1408) (k0_pay38 (F := Ideal) v120 v147 v150) (gated f w d0) := by
  intro a j
  pointwise [k0_pay38, k0_pay37]
  simp only [h1 _ _, h3 _ _, h6 _ _, ← EReal.coe_mul, ← EReal.coe_add, ← EReal.coe_sub, coe_sum]
  rfl

/-- Second tile, second half of the columns: the other half's cotangent. -/
theorem pay39_is {v120 : FVec Ideal S256x1024 .bf16} {v147 : FVec Ideal S1408x1024 .bf16} {v155 : FVec Ideal S1x256x1408 .bf16} (h1 : Is (n := 256) (k := 1024) v120 f) (h3 : Is (n := 1408) (k := 1024) v147 w) (h6 : Is3 (n := 256) (k := 1408) v155 d0) :
    Is (n := 256) (k := 1408) (k0_pay39 (F := Ideal) v120 v147 v155) (gated f w d0) := by
  intro a j
  pointwise [k0_pay39, k0_pay37]
  simp only [h1 _ _, h3 _ _, h6 _ _, ← EReal.coe_mul, ← EReal.coe_add, ← EReal.coe_sub, coe_sum]
  rfl

/-- The same with its leading axis, as it is stored. -/
theorem pay40_is {v120 : FVec Ideal S256x1024 .bf16} {v147 : FVec Ideal S1408x1024 .bf16} {v150 : FVec Ideal S1x256x1408 .bf16} (h1 : Is (n := 256) (k := 1024) v120 f) (h3 : Is (n := 1408) (k := 1024) v147 w) (h6 : Is3 (n := 256) (k := 1408) v150 d0) :
    Is3 (n := 256) (k := 1408) (k0_pay40 (F := Ideal) v120 v147 v150) (gated f w d0) := by
  intro a j
  pointwise [k0_pay40, k0_pay38, k0_pay37]
  simp only [h1 _ _, h3 _ _, h6 _ _, ← EReal.coe_mul, ← EReal.coe_add, ← EReal.coe_sub, coe_sum]
  rfl

/-- The same with its leading axis, as it is stored. -/
theorem pay41_is {v120 : FVec Ideal S256x1024 .bf16} {v147 : FVec Ideal S1408x1024 .bf16} {v155 : FVec Ideal S1x256x1408 .bf16} (h1 : Is (n := 256) (k := 1024) v120 f) (h3 : Is (n := 1408) (k := 1024) v147 w) (h6 : Is3 (n := 256) (k := 1408) v155 d0) :
    Is3 (n := 256) (k := 1408) (k0_pay41 (F := Ideal) v120 v147 v155) (gated f w d0) := by
  intro a j
  pointwise [k0_pay41, k0_pay39, k0_pay37]
  simp only [h1 _ _, h3 _ _, h6 _ _, ← EReal.coe_mul, ← EReal.coe_add, ← EReal.coe_sub, coe_sum]
  rfl

/-- The cast of a tile holds the tile. -/
theorem pay3_is {v1 : FVec Ideal S256x1024 .bf16} (h : Is (n := 256) (k := 1024) v1 f) :
    Is (n := 256) (k := 1024) (k0_pay3 (F := Ideal) v1) f := by
  intro a k
  pointwise [k0_pay3]
  simp only [h _ _]

/-- The cast of a tile holds the tile. -/
theorem pay30_is {v1 : FVec Ideal S256x1024 .bf16} (h : Is (n := 256) (k := 1024) v1 f) :
    Is (n := 256) (k := 1024) (k0_pay30 (F := Ideal) v1) f := by
  intro a k
  pointwise [k0_pay30]
  simp only [h _ _]

/-- A half plane with its leading axis, as it is stored. -/
theorem pay35_is {v133 : FVec Ideal S256x1408 .bf16} (h : Is (n := 256) (k := 1408) v133 f) :
    Is3 (n := 256) (k := 1408) (k0_pay35 (F := Ideal) v133) f := by
  intro a k
  pointwise [k0_pay35]
  simp only [h _ _]

/-- First tile: the first halves of the two planes, through their shards. -/
theorem pay9_is {v1 : FVec Ideal S256x1024 .bf16} {v3 : FVec Ideal S1408x1024 .bf16} {v6 v11 : FVec Ideal S1x256x1408 .bf16} {v22 v25 : FVec Ideal S1x1024x1408 .bf16}
    (h1 : Is (n := 256) (k := 1024) v1 f) (h3 : Is (n := 1408) (k := 1024) v3 w) (h6 : Is3 (n := 256) (k := 1408) v6 d0)
    (h11 : Is3 (n := 256) (k := 1408) v11 d1) (hv22 : Is3 (n := 1024) (k := 1408) v22 p) (hv25 : Is3 (n := 1024) (k := 1408) v25 q) :
    Is (n := 256) (k := 1024) (k0_pay9 (F := Ideal) v1 v3 v6 v11 v22 v25) (twoShards (gated f w d0) (gated f w d1) p q) := by
  have e6 := pay5_is h1 h3 h6
  have e11 := pay6_is h1 h3 h11
  intro a k
  pointwise [k0_pay9]
  simp only [e6 _ _, e11 _ _, hv22 _ _, hv25 _ _, ← EReal.coe_mul, ← EReal.coe_add, ← EReal.coe_sub, coe_sum]
  rfl

/-- First tile: all four half planes through their shards. -/
theorem pay15_is {v2 : FVec Ideal S256x1024 .bf16} {v28 : FVec Ideal S256x1024 .f32} {v29 : FVec Ideal S1408x1024 .bf16} {v32 v37 : FVec Ideal S1x256x1408 .bf16} {v48 v51 : FVec Ideal S1x1024x1408 .bf16}
    (h2 : Is (n := 256) (k := 1024) v2 f) (h28 : Is (n := 256) (k := 1024) v28 e) (h29 : Is (n := 1408) (k := 1024) v29 w) (h32 : Is3 (n := 256) (k := 1408) v32 d0)
    (h37 : Is3 (n := 256) (k := 1408) v37 d1) (hv48 : Is3 (n := 1024) (k := 1408) v48 p) (hv51 : Is3 (n := 1024) (k := 1408) v51 q) :
    Is (n := 256) (k := 1024) (k0_pay15 (F := Ideal) v2 v28 v29 v32 v37 v48 v51) (fun a k => e a k + twoShards (gated f w d0) (gated f w d1) p q a k) := by
  have e32 := pay11_is h2 h29 h32
  have e37 := pay12_is h2 h29 h37
  intro a k
  pointwise [k0_pay15]
  simp only [h28 _ _, e32 _ _, e37 _ _, hv48 _ _, hv51 _ _, ← EReal.coe_mul, ← EReal.coe_add, ← EReal.coe_sub, coe_sum]
  rfl

/-- Second tile: the first halves of the two planes, through their shards. -/
theorem pay36_is {v128 v133 : FVec Ideal S256x1408 .bf16} {v140 v143 : FVec Ideal S1x1024x1408 .bf16}
    (h128 : Is (n := 256) (k := 1408) v128 d0) (h133 : Is (n := 256) (k := 1408) v133 d1) (hv140 : Is3 (n := 1024) (k := 1408) v140 p) (hv143 : Is3 (n := 1024) (k := 1408) v143 q) :
    Is (n := 256) (k := 1024) (k0_pay36 (F := Ideal) v128 v133 v140 v143) (twoShards d0 d1 p q) := by
  intro a k
  pointwise [k0_pay36]
  simp only [h128 _ _, h133 _ _, hv140 _ _, hv143 _ _, ← EReal.coe_mul, ← EReal.coe_add, ← EReal.coe_sub, coe_sum]
  rfl

/-- Second tile: the second half of the gate's plane through its shard. -/
theorem pay42_is {v120 : FVec Ideal S256x1024 .bf16} {v147 : FVec Ideal S1408x1024 .bf16} {v150 : FVec Ideal S1x256x1408 .bf16} {v166 : FVec Ideal S1x1024x1408 .bf16}
    (h1 : Is (n := 256) (k := 1024) v120 f) (h3 : Is (n := 1408) (k := 1024) v147 w) (h6 : Is3 (n := 256) (k := 1408) v150 d0) (hv166 : Is3 (n := 1024) (k := 1408) v166 p) :
    Is (n := 256) (k := 1024) (k0_pay42 (F := Ideal) v120 v147 v150 v166) (fun a k => ∑ j : Fin 1408, gated f w d0 a j * p k j) := by
  have e6 := pay38_is h1 h3 h6
  intro a k
  pointwise [k0_pay42]
  simp only [e6 _ _, hv166 _ _, ← EReal.coe_mul, ← EReal.coe_add, ← EReal.coe_sub, coe_sum]

/-- Second tile: all four half planes through their shards. -/
theorem pay43_is {v146 : FVec Ideal S256x1024 .f32} {v159 : FVec Ideal S256x1408 .bf16} {v168 : FVec Ideal S256x1024 .f32} {v169 : FVec Ideal S1x1024x1408 .bf16}
    (h146 : Is (n := 256) (k := 1024) v146 e) (h159 : Is (n := 256) (k := 1408) v159 d1)
    (h168 : Is (n := 256) (k := 1024) v168 (fun a k => ∑ j : Fin 1408, d0 a j * p k j)) (hv169 : Is3 (n := 1024) (k := 1408) v169 q) :
    Is (n := 256) (k := 1024) (k0_pay43 (F := Ideal) v146 v159 v168 v169) (fun a k => e a k + twoShards d0 d1 p q a k) := by
  intro a k
  pointwise [k0_pay43]
  simp only [h146 _ _, h159 _ _, h168 _ _, hv169 _ _, ← EReal.coe_mul, ← EReal.coe_add, ← EReal.coe_sub, coe_sum]
  rfl

/-- A broadcast column over the rows of a tile. -/
theorem rsqrt_row (y : ℕ → ℕ → ℝ) (a : ℕ) :
    Ideal.rsqrt (Ideal.div ((∑ j : Fin 1024, y a j.val * y a j.val : ℝ) : EReal) ((1024 : ℝ) : EReal) + ((eps : ℝ) : EReal)) = ((rinv (y a) : ℝ) : EReal) :=
  rsqrt_ms (y a)

/-- First tile: the reciprocal root mean square of the residual stream's rows. -/
theorem pay17_is {v56 : FVec Ideal S256x1024 .f32} (hx : Is (n := 256) (k := 1024) v56 x) :
    Is (n := 256) (k := 1) (k0_pay17 (F := Ideal) (k0_pay16 (F := Ideal) v56)) (fun a _ => rinv (x a)) := by
  intro a k
  pointwise [k0_pay17, k0_pay16]
  simp only [hx _ _, word_rows, word_eps, ← EReal.coe_mul, ← EReal.coe_add, ← EReal.coe_sub, coe_sum]
  exact rsqrt_row x a

/-- First tile: the reciprocal root mean square of the block output's rows. -/
theorem pay22_is {v86 : FVec Ideal S256x1024 .bf16} (hx : Is (n := 256) (k := 1024) v86 mo) :
    Is (n := 256) (k := 1) (k0_pay22 (F := Ideal) v86) (fun a _ => rinv (mo a)) := by
  intro a k
  pointwise [k0_pay22, k0_pay21]
  simp only [hx _ _, word_rows, word_eps, ← EReal.coe_mul, ← EReal.coe_add, ← EReal.coe_sub, coe_sum]
  exact rsqrt_row mo a

/-- Second tile: the reciprocal root mean square of the residual stream's rows. -/
theorem pay44_is {v174 : FVec Ideal S256x1024 .f32} (hx : Is (n := 256) (k := 1024) v174 x) :
    Is (n := 256) (k := 1) (k0_pay44 (F := Ideal) v174) (fun a _ => rinv (x a)) := by
  intro a k
  pointwise [k0_pay44]
  simp only [hx _ _, word_rows, word_eps, ← EReal.coe_mul, ← EReal.coe_add, ← EReal.coe_sub, coe_sum]
  exact rsqrt_row x a

/-- Second tile: the reciprocal root mean square of the block output's rows. -/
theorem pay49_is {v206 : FVec Ideal S256x1024 .f32} (hx : Is (n := 256) (k := 1024) v206 mo) :
    Is (n := 256) (k := 1) (k0_pay49 (F := Ideal) v206) (fun a _ => rinv (mo a)) := by
  intro a k
  pointwise [k0_pay49]
  simp only [hx _ _, word_rows, word_eps, ← EReal.coe_mul, ← EReal.coe_add, ← EReal.coe_sub, coe_sum]
  exact rsqrt_row mo a

/-- First tile: the normalised rows of the residual stream. -/
theorem pay18_is {v56 : FVec Ideal S256x1024 .f32} (hx : Is (n := 256) (k := 1024) v56 x) :
    Is (n := 256) (k := 1024) (k0_pay18 (F := Ideal) v56 (k0_pay16 (F := Ideal) v56)) (fun a => hat (x a)) := by
  have e1 := pay17_is hx
  intro a k
  pointwise [k0_pay18]
  simp only [hx _ _, e1 _ _, ← EReal.coe_mul, ← EReal.coe_add, ← EReal.coe_sub, coe_sum]
  rfl

/-- First tile: the normalised rows of the block's output. -/
theorem pay23_is {v86 : FVec Ideal S256x1024 .bf16} (hx : Is (n := 256) (k := 1024) v86 mo) :
    Is (n := 256) (k := 1024) (k0_pay23 (F := Ideal) v86) (fun a => hat (mo a)) := by
  have e1 := pay22_is hx
  intro a k
  pointwise [k0_pay23, k0_pay21]
  simp only [hx _ _, e1 _ _, ← EReal.coe_mul, ← EReal.coe_add, ← EReal.coe_sub, coe_sum]
  rfl

/-- Second tile: the normalised rows of the residual stream. -/
theorem pay45_is {v174 : FVec Ideal S256x1024 .f32} (hx : Is (n := 256) (k := 1024) v174 x) :
    Is (n := 256) (k := 1024) (k0_pay45 (F := Ideal) v174) (fun a => hat (x a)) := by
  have e1 := pay44_is hx
  intro a k
  pointwise [k0_pay45]
  simp only [hx _ _, e1 _ _, ← EReal.coe_mul, ← EReal.coe_add, ← EReal.coe_sub, coe_sum]
  rfl

/-- Second tile: the normalised rows of the block's output. -/
theorem pay50_is {v206 : FVec Ideal S256x1024 .f32} (hx : Is (n := 256) (k := 1024) v206 mo) :
    Is (n := 256) (k := 1024) (k0_pay50 (F := Ideal) v206) (fun a => hat (mo a)) := by
  have e1 := pay49_is hx
  intro a k
  pointwise [k0_pay50]
  simp only [hx _ _, e1 _ _, ← EReal.coe_mul, ← EReal.coe_add, ← EReal.coe_sub, coe_sum]
  rfl

/-- The block's output, widened. -/
theorem pay48_is {v204 : FVec Ideal S256x1024 .bf16} (h : Is (n := 256) (k := 1024) v204 f) :
    Is (n := 256) (k := 1024) (k0_pay48 (F := Ideal) v204) f := by
  intro a k
  pointwise [k0_pay48]
  simp only [h _ _]

/-- First tile: its rows' part of the gradient in the first scale. -/
theorem pay19_is {v55 v56 : FVec Ideal S256x1024 .f32} (h55 : Is (n := 256) (k := 1024) v55 e) (hx : Is (n := 256) (k := 1024) v56 x) :
    Is (n := 1) (k := 1024) (k0_pay19 (F := Ideal) v55 v56 (k0_pay16 (F := Ideal) v56)) (rowSum fun a k => e a k * hat (x a) k) := by
  have e1 := pay18_is hx
  intro a k
  pointwise [k0_pay19]
  simp only [h55 _ _, e1 _ _, ← EReal.coe_mul, ← EReal.coe_add, ← EReal.coe_sub, coe_sum]
  rfl

/-- First tile: the residual stream's cotangent. -/
theorem pay20_is {v55 v56 v83 : FVec Ideal S256x1024 .f32} {v57 : FVec Ideal S1x1024 .f32} (h55 : Is (n := 256) (k := 1024) v55 e) (hx : Is (n := 256) (k := 1024) v56 x) (h57 : Is (n := 1) (k := 1024) v57 (fun _ => g)) (h83 : Is (n := 256) (k := 1024) v83 r) :
    Is (n := 256) (k := 1024) (k0_pay20 (F := Ideal) v55 v56 v57 (k0_pay16 (F := Ideal) v56) v83) (tileDx e x r g) := by
  have e1 := pay18_is hx
  have e2 := pay17_is hx
  intro a k
  pointwise [k0_pay20]
  simp only [h55 _ _, h57 _ _, h83 _ _, e1 _ _, e2 _ _, word_rows, ← EReal.coe_mul, ← EReal.coe_add, ← EReal.coe_sub, coe_sum, div_rows]
  rfl

/-- First tile: that cotangent times the second scale. -/
theorem pay24_is {v55 v56 v83 : FVec Ideal S256x1024 .f32} {v57 v89 : FVec Ideal S1x1024 .f32} (h55 : Is (n := 256) (k := 1024) v55 e) (hx : Is (n := 256) (k := 1024) v56 x) (h57 : Is (n := 1) (k := 1024) v57 (fun _ => g)) (h83 : Is (n := 256) (k := 1024) v83 r)
    (h89 : Is (n := 1) (k := 1024) v89 (fun _ => g')) :
    Is (n := 256) (k := 1024) (k0_pay24 (F := Ideal) v55 v56 v57 (k0_pay16 (F := Ideal) v56) v83 v89) (fun a k => tileDx e x r g a k * g' k) := by
  have e1 := pay20_is h55 hx h57 h83
  intro a k
  pointwise [k0_pay24]
  simp only [e1 _ _, h89 _ _, ← EReal.coe_mul, ← EReal.coe_add, ← EReal.coe_sub, coe_sum]

/-- First tile: the same times the normalised rows of the block's output. -/
theorem pay25_is {v55 v56 v83 : FVec Ideal S256x1024 .f32} {v86 : FVec Ideal S256x1024 .bf16} {v57 v89 : FVec Ideal S1x1024 .f32} (h55 : Is (n := 256) (k := 1024) v55 e) (hx : Is (n := 256) (k := 1024) v56 x) (h57 : Is (n := 1) (k := 1024) v57 (fun _ => g)) (h83 : Is (n := 256) (k := 1024) v83 r)
    (h86 : Is (n := 256) (k := 1024) v86 mo) (h89 : Is (n := 1) (k := 1024) v89 (fun _ => g')) :
    Is (n := 256) (k := 1024) (k0_pay25 (F := Ideal) v55 v56 v57 (k0_pay16 (F := Ideal) v56) v83 v86 v89) (fun a k => tileDx e x r g a k * g' k * hat (mo a) k) := by
  have e1 := pay24_is h55 hx h57 h83 h89
  have e2 := pay23_is h86
  intro a k
  pointwise [k0_pay25]
  simp only [e1 _ _, e2 _ _, ← EReal.coe_mul, ← EReal.coe_add, ← EReal.coe_sub, coe_sum]

/-- First tile: what comes back through the second normalisation. -/
theorem pay26_is {v97 : FVec Ideal S256x1 .f32} {v99 v101 v102 : FVec Ideal S256x1024 .f32} (h97 : Is (n := 256) (k := 1) v97 (fun a _ => rinv (mo a))) (h99 : Is (n := 256) (k := 1024) v99 (fun a => hat (mo a)))
    (h101 : Is (n := 256) (k := 1024) v101 (fun a k => e a k * g k)) (h102 : Is (n := 256) (k := 1024) v102 (fun a k => e a k * g k * hat (mo a) k)) :
    Is (n := 256) (k := 1024) (k0_pay26 (F := Ideal) v97 v99 v101 v102) (fun a => normBack (e a) (mo a) g) := by
  intro a k
  pointwise [k0_pay26]
  simp only [h97 _ _, h99 _ _, h101 _ _, h102 _ _, word_rows, ← EReal.coe_mul, ← EReal.coe_add, ← EReal.coe_sub, coe_sum, div_rows]
  rfl

/-- First tile: its rows' part of the gradient in the second scale. -/
theorem pay27_is {v84 v99 : FVec Ideal S256x1024 .f32} (h84 : Is (n := 256) (k := 1024) v84 e) (h99 : Is (n := 256) (k := 1024) v99 (fun a => hat (mo a))) :
    Is (n := 1) (k := 1024) (k0_pay27 (F := Ideal) v84 v99) (rowSum fun a k => e a k * hat (mo a) k) := by
  intro a k
  pointwise [k0_pay27]
  simp only [h84 _ _, h99 _ _, ← EReal.coe_mul, ← EReal.coe_add, ← EReal.coe_sub, coe_sum]
  rfl

/-- First tile: what comes back through the second normalisation, as it is stored. -/
theorem pay28_is {v97 : FVec Ideal S256x1 .f32} {v99 v101 v102 : FVec Ideal S256x1024 .f32} (h : Is (n := 256) (k := 1024) (k0_pay26 (F := Ideal) v97 v99 v101 v102) f) :
    Is (n := 256) (k := 1024) (k0_pay28 (F := Ideal) v97 v99 v101 v102) f := by
  intro a k
  pointwise [k0_pay28]
  exact h a k

/-- First tile: its rows' part of the bias' gradient. -/
theorem pay29_is {v97 : FVec Ideal S256x1 .f32} {v99 v101 v102 : FVec Ideal S256x1024 .f32} (h : Is (n := 256) (k := 1024) (k0_pay26 (F := Ideal) v97 v99 v101 v102) f) :
    Is (n := 1) (k := 1024) (k0_pay29 (F := Ideal) v97 v99 v101 v102) (rowSum f) := by
  intro a k
  pointwise [k0_pay29]
  simp only [h _ _, ← EReal.coe_mul, ← EReal.coe_add, ← EReal.coe_sub, coe_sum]
  rfl

/-- Second tile: its rows' part of the gradient in the first scale. -/
theorem pay46_is {v146 v168 v174 : FVec Ideal S256x1024 .f32} {v159 : FVec Ideal S256x1408 .bf16} {v169 : FVec Ideal S1x1024x1408 .bf16} (h : Is (n := 256) (k := 1024) (k0_pay43 (F := Ideal) v146 v159 v168 v169) e) (hx : Is (n := 256) (k := 1024) v174 x) :
    Is (n := 1) (k := 1024) (k0_pay46 (F := Ideal) v146 v159 v168 v169 v174) (rowSum fun a k => e a k * hat (x a) k) := by
  have e1 := pay45_is hx
  intro a k
  pointwise [k0_pay46]
  simp only [h _ _, e1 _ _, ← EReal.coe_mul, ← EReal.coe_add, ← EReal.coe_sub, coe_sum]
  rfl

/-- Second tile: the residual stream's cotangent. -/
theorem pay47_is {v146 v168 v174 v201 : FVec Ideal S256x1024 .f32} {v159 : FVec Ideal S256x1408 .bf16} {v169 : FVec Ideal S1x1024x1408 .bf16} {v175 : FVec Ideal S1x1024 .f32} (h : Is (n := 256) (k := 1024) (k0_pay43 (F := Ideal) v146 v159 v168 v169) e) (hx : Is (n := 256) (k := 1024) v174 x)
    (h175 : Is (n := 1) (k := 1024) v175 (fun _ => g)) (h201 : Is (n := 256) (k := 1024) v201 r) :
    Is (n := 256) (k := 1024) (k0_pay47 (F := Ideal) v146 v159 v168 v169 v174 v175 v201) (tileDx e x r g) := by
  have e1 := pay45_is hx
  have e2 := pay44_is hx
  intro a k
  pointwise [k0_pay47]
  simp only [h _ _, h175 _ _, h201 _ _, e1 _ _, e2 _ _, word_rows, ← EReal.coe_mul, ← EReal.coe_add, ← EReal.coe_sub, coe_sum, div_rows]
  rfl

/-- Second tile: what comes back through the second normalisation. -/
theorem pay51_is {v202 v206 : FVec Ideal S256x1024 .f32} {v207 : FVec Ideal S1x1024 .f32} (h202 : Is (n := 256) (k := 1024) v202 e) (h206 : Is (n := 256) (k := 1024) v206 mo) (h207 : Is (n := 1) (k := 1024) v207 (fun _ => g)) :
    Is (n := 256) (k := 1024) (k0_pay51 (F := Ideal) v202 v206 v207) (fun a => normBack (e a) (mo a) g) := by
  have e1 := pay50_is h206
  have e2 := pay49_is h206
  intro a k
  pointwise [k0_pay51]
  simp only [h202 _ _, h207 _ _, e1 _ _, e2 _ _, word_rows, ← EReal.coe_mul, ← EReal.coe_add, ← EReal.coe_sub, coe_sum, div_rows]
  rfl

/-- Second tile: the same, as it is stored. -/
theorem pay52_is {v202 v206 : FVec Ideal S256x1024 .f32} {v207 : FVec Ideal S1x1024 .f32} (h202 : Is (n := 256) (k := 1024) v202 e) (h206 : Is (n := 256) (k := 1024) v206 mo) (h207 : Is (n := 1) (k := 1024) v207 (fun _ => g)) :
    Is (n := 256) (k := 1024) (k0_pay52 (F := Ideal) v202 v206 v207) (fun a => normBack (e a) (mo a) g) := by
  have e1 := pay51_is h202 h206 h207
  intro a k
  pointwise [k0_pay52]
  exact e1 a k

/-- Both tiles' parts of the gradient in the first scale. -/
theorem pay53_is {v82 v200 : FVec Ideal S1x1024 .f32} (h82 : Is (n := 1) (k := 1024) v82 f) (h200 : Is (n := 1) (k := 1024) v200 e) :
    Is (n := 1) (k := 1024) (k0_pay53 (F := Ideal) v82 v200) (fun a k => f a k + e a k) := by
  intro a k
  pointwise [k0_pay53]
  simp only [Fin.val_eq_zero, h82 _ _, h200 _ _, ← EReal.coe_mul, ← EReal.coe_add, ← EReal.coe_sub, coe_sum]

/-- Both tiles' parts of the gradient in the second scale. -/
theorem pay54_is {v114 : FVec Ideal S1x1024 .f32} {v202 v206 : FVec Ideal S256x1024 .f32} (h114 : Is (n := 1) (k := 1024) v114 f) (h202 : Is (n := 256) (k := 1024) v202 e) (h206 : Is (n := 256) (k := 1024) v206 mo) :
    Is (n := 1) (k := 1024) (k0_pay54 (F := Ideal) v114 v202 v206) (fun a k => f a k + rowSum (fun a k => e a k * hat (mo a) k) a k) := by
  have e1 := pay50_is h206
  intro a k
  pointwise [k0_pay54]
  simp only [Fin.val_eq_zero, h114 _ _, h202 _ _, e1 _ _, ← EReal.coe_mul, ← EReal.coe_add, ← EReal.coe_sub, coe_sum]
  rfl

/-- Both tiles' parts of the bias' gradient. -/
theorem pay55_is {v118 : FVec Ideal S1x1024 .f32} {v202 v206 : FVec Ideal S256x1024 .f32} {v207 : FVec Ideal S1x1024 .f32} (h118 : Is (n := 1) (k := 1024) v118 f) (h202 : Is (n := 256) (k := 1024) v202 e) (h206 : Is (n := 256) (k := 1024) v206 mo) (h207 : Is (n := 1) (k := 1024) v207 (fun _ => g)) :
    Is (n := 1) (k := 1024) (k0_pay55 (F := Ideal) v118 v202 v206 v207) (fun a k => f a k + rowSum (fun a => normBack (e a) (mo a) g) a k) := by
  have e1 := pay51_is h202 h206 h207
  intro a k
  pointwise [k0_pay55]
  simp only [Fin.val_eq_zero, h118 _ _, e1 _ _, ← EReal.coe_mul, ← EReal.coe_add, ← EReal.coe_sub, coe_sum]
  rfl

end Cert.Ffn.Kernel

end
-- ==== Proof.Tile.lean ====
/- One tile of 256 rows: if what it loads are the rows from `R` on of the call's arrays, what it computes are the rows from `R`
   on of the results, and the sums of its rows for the three gradients that are sums over all rows. -/
module

public import proofs.«01_k».proof.Proof.Rows

@[expose] public section

set_option maxRecDepth 16384

noncomputable section

namespace Cert.Ffn.Kernel

open Idealize.ShloMosaic Idealize.ShloMosaic.TcCoe Idealize.SL.Sem
open Cert.KernelIdeal Cert.KernelIdeal.Gen

/-- What a tile loads: the rows from `R` on, and the weights. -/
structure Tile (A : Args) (R : ℕ)
    (v1 : FVec Ideal S256x1024 .bf16)
    (v3 : FVec Ideal S1408x1024 .bf16)
    (v29 : FVec Ideal S1408x1024 .bf16)
    (v6 : FVec Ideal S1x256x1408 .bf16)
    (v11 : FVec Ideal S1x256x1408 .bf16)
    (v32 : FVec Ideal S1x256x1408 .bf16)
    (v37 : FVec Ideal S1x256x1408 .bf16)
    (v22 : FVec Ideal S1x1024x1408 .bf16)
    (v25 : FVec Ideal S1x1024x1408 .bf16)
    (v48 : FVec Ideal S1x1024x1408 .bf16)
    (v51 : FVec Ideal S1x1024x1408 .bf16)
    (v56 : FVec Ideal S256x1024 .f32)
    (v57 : FVec Ideal S1x1024 .f32)
    (v83 : FVec Ideal S256x1024 .f32)
    (v86 : FVec Ideal S256x1024 .bf16)
    (v89 : FVec Ideal S1x1024 .f32) : Prop where
  hv1 : Is (n := 256) (k := 1024) v1 fun a => A.df (R + a)
  hv3 : Is (n := 1408) (k := 1024) v3 A.wd
  hv29 : Is (n := 1408) (k := 1024) v29 fun j => A.wd (1408 + j)
  hv6 : Is3 (n := 256) (k := 1408) v6 fun a => A.d0 (R + a)
  hv11 : Is3 (n := 256) (k := 1408) v11 fun a => A.d1 (R + a)
  hv32 : Is3 (n := 256) (k := 1408) v32 fun a j => A.d0 (R + a) (1408 + j)
  hv37 : Is3 (n := 256) (k := 1408) v37 fun a j => A.d1 (R + a) (1408 + j)
  hv22 : Is3 (n := 1024) (k := 1408) v22 A.wgu
  hv25 : Is3 (n := 1024) (k := 1408) v25 fun k j => A.wgu k (2816 + j)
  hv48 : Is3 (n := 1024) (k := 1408) v48 fun k j => A.wgu k (1408 + j)
  hv51 : Is3 (n := 1024) (k := 1408) v51 fun k j => A.wgu k (4224 + j)
  hv56 : Is (n := 256) (k := 1024) v56 fun a => A.x (R + a)
  hv57 : Is (n := 1) (k := 1024) v57 fun _ => A.gpre
  hv83 : Is (n := 256) (k := 1024) v83 fun a => A.dres (R + a)
  hv86 : Is (n := 256) (k := 1024) v86 fun a => A.mo (R + a)
  hv89 : Is (n := 1) (k := 1024) v89 fun _ => A.gpost

variable {A : Args} {R : ℕ}
    {v1 : FVec Ideal S256x1024 .bf16}
    {v3 : FVec Ideal S1408x1024 .bf16}
    {v29 : FVec Ideal S1408x1024 .bf16}
    {v6 : FVec Ideal S1x256x1408 .bf16}
    {v11 : FVec Ideal S1x256x1408 .bf16}
    {v32 : FVec Ideal S1x256x1408 .bf16}
    {v37 : FVec Ideal S1x256x1408 .bf16}
    {v22 : FVec Ideal S1x1024x1408 .bf16}
    {v25 : FVec Ideal S1x1024x1408 .bf16}
    {v48 : FVec Ideal S1x1024x1408 .bf16}
    {v51 : FVec Ideal S1x1024x1408 .bf16}
    {v56 : FVec Ideal S256x1024 .f32}
    {v57 : FVec Ideal S1x1024 .f32}
    {v83 : FVec Ideal S256x1024 .f32}
    {v86 : FVec Ideal S256x1024 .bf16}
    {v89 : FVec Ideal S1x1024 .f32}

/-- The cotangent of the normalised row as the kernel adds it up: four half planes of 1408 columns each. -/
theorem dh_split (A : Args) (i k : ℕ) :
    A.dh i k = ((∑ j : Fin 1408, A.dg i j * A.wgu k j) + ∑ j : Fin 1408, A.du i j * A.wgu k (2816 + j))
      + ((∑ j : Fin 1408, A.dg i (1408 + j) * A.wgu k (1408 + j)) + ∑ j : Fin 1408, A.du i (1408 + j) * A.wgu k (4224 + j)) := by
  have e : ∀ (n : ℕ) (f : ℕ → ℝ), (∑ j : Fin n, f j) = ∑ j ∈ Finset.range n, f j := fun n f => Fin.sum_univ_eq_sum_range f n
  unfold Args.dh
  rw [e 5632 fun j => A.dgu i j * A.wgu k j, e 1408 fun j => A.dg i j * A.wgu k j, e 1408 fun j => A.du i j * A.wgu k (2816 + j),
    e 1408 fun j => A.dg i (1408 + j) * A.wgu k (1408 + j), e 1408 fun j => A.du i (1408 + j) * A.wgu k (4224 + j),
    show 5632 = 1408 + 1408 + 1408 + 1408 from rfl, Finset.sum_range_add, Finset.sum_range_add, Finset.sum_range_add]
  have e1 : ∀ j ∈ Finset.range 1408, A.dgu i j * A.wgu k j = A.dg i j * A.wgu k j := fun j hj => by
    have := Finset.mem_range.mp hj
    rw [Args.dgu, if_pos (by omega)]
  have e2 : ∀ j ∈ Finset.range 1408, A.dgu i (1408 + j) * A.wgu k (1408 + j) = A.dg i (1408 + j) * A.wgu k (1408 + j) := fun j hj => by
    have := Finset.mem_range.mp hj
    rw [Args.dgu, if_pos (by omega)]
  have e3 : ∀ j ∈ Finset.range 1408, A.dgu i (1408 + 1408 + j) * A.wgu k (1408 + 1408 + j) = A.du i j * A.wgu k (2816 + j) := fun j hj => by
    rw [Args.dgu, if_neg (by omega), show 1408 + 1408 + j - 2816 = j by omega]
  have e4 : ∀ j ∈ Finset.range 1408, A.dgu i (1408 + 1408 + 1408 + j) * A.wgu k (1408 + 1408 + 1408 + j) = A.du i (1408 + j) * A.wgu k (4224 + j) := fun j hj => by
    rw [Args.dgu, if_neg (by omega), show 1408 + 1408 + 1408 + j - 2816 = 1408 + j by omega]
  rw [Finset.sum_congr rfl e1, Finset.sum_congr rfl e2, Finset.sum_congr rfl e3, Finset.sum_congr rfl e4]
  ring

/-- The kernel's sum of its four half planes is the cotangent of the normalised row. -/
theorem dh_tile (A : Args) (R : ℕ) :
    (fun a k => twoShards (gated (fun a => A.df (R + a)) A.wd fun a => A.d0 (R + a)) (gated (fun a => A.df (R + a)) A.wd fun a => A.d1 (R + a)) A.wgu
        (fun k j => A.wgu k (2816 + j)) a k
      + twoShards (gated (fun a => A.df (R + a)) (fun j => A.wd (1408 + j)) fun a j => A.d0 (R + a) (1408 + j))
        (gated (fun a => A.df (R + a)) (fun j => A.wd (1408 + j)) fun a j => A.d1 (R + a) (1408 + j)) (fun k j => A.wgu k (1408 + j)) (fun k j => A.wgu k (4224 + j)) a k)
      = fun a => A.dh (R + a) := by
  funext a k
  rw [dh_split]
  rfl

section
variable (T : Tile A R v1 v3 v29 v6 v11 v32 v37 v22 v25 v48 v51 v56 v57 v83 v86 v89)
include T

/-- First tile: the cotangent of its normalised rows. -/
theorem tile0_dh :
    Is (n := 256) (k := 1024) (k0_pay15 (F := Ideal) (k0_pay3 v1) (k0_pay9 v1 v3 v6 v11 v22 v25) v29 v32 v37 v48 v51) fun a => A.dh (R + a) :=
  dh_tile A R ▸ pay15_is (pay3_is T.hv1) (pay9_is T.hv1 T.hv3 T.hv6 T.hv11 T.hv22 T.hv25) T.hv29 T.hv32 T.hv37 T.hv48 T.hv51

/-- Second tile: the cotangent of its normalised rows. -/
theorem tile1_dh :
    Is (n := 256) (k := 1024) (k0_pay43 (F := Ideal) (k0_pay36 (k0_pay32 v1 v3 v6) (k0_pay33 v1 v3 v11) v22 v25) (k0_pay39 (k0_pay30 v1) v29 v37) (k0_pay42 (k0_pay30 v1) v29 v32 v48) v51) fun a => A.dh (R + a) :=
  dh_tile A R ▸ pay43_is (pay36_is (pay32_is T.hv1 T.hv3 T.hv6) (pay33_is T.hv1 T.hv3 T.hv11) T.hv22 T.hv25) (pay39_is (pay30_is T.hv1) T.hv29 T.hv37)
    (pay42_is (pay30_is T.hv1) T.hv29 T.hv32 T.hv48) T.hv51

/-- First tile: its rows of the residual stream's cotangent. -/
theorem tile0_dx :
    Is (n := 256) (k := 1024) (k0_pay20 (F := Ideal) (k0_pay15 (k0_pay3 v1) (k0_pay9 v1 v3 v6 v11 v22 v25) v29 v32 v37 v48 v51) v56 v57 (k0_pay16 v56) v83) fun a => A.dx (R + a) :=
  pay20_is (tile0_dh T) T.hv56 T.hv57 T.hv83

/-- Second tile: its rows of the residual stream's cotangent. -/
theorem tile1_dx :
    Is (n := 256) (k := 1024) (k0_pay47 (F := Ideal) (k0_pay36 (k0_pay32 v1 v3 v6) (k0_pay33 v1 v3 v11) v22 v25) (k0_pay39 (k0_pay30 v1) v29 v37) (k0_pay42 (k0_pay30 v1) v29 v32 v48) v51 v56 v57 v83) fun a => A.dx (R + a) :=
  pay47_is (tile1_dh T) T.hv56 T.hv57 T.hv83

/-- First tile: its rows of the block output's cotangent, before rounding. -/
theorem tile0_dm :
    Is (n := 256) (k := 1024) (k0_pay26 (F := Ideal) (k0_pay22 v86) (k0_pay23 v86) (k0_pay24 (k0_pay15 (k0_pay3 v1) (k0_pay9 v1 v3 v6 v11 v22 v25) v29 v32 v37 v48 v51) v56 v57 (k0_pay16 v56) v83 v89) (k0_pay25 (k0_pay15 (k0_pay3 v1) (k0_pay9 v1 v3 v6 v11 v22 v25) v29 v32 v37 v48 v51) v56 v57 (k0_pay16 v56) v83 v86 v89)) fun a => A.dm (R + a) :=
  pay26_is (pay22_is T.hv86) (pay23_is T.hv86) (pay24_is (tile0_dh T) T.hv56 T.hv57 T.hv83 T.hv89) (pay25_is (tile0_dh T) T.hv56 T.hv57 T.hv83 T.hv86 T.hv89)

/-- First tile: its rows of the block output's cotangent, as stored. -/
theorem tile0_dm_stored :
    Is (n := 256) (k := 1024) (k0_pay28 (F := Ideal) (k0_pay22 v86) (k0_pay23 v86) (k0_pay24 (k0_pay15 (k0_pay3 v1) (k0_pay9 v1 v3 v6 v11 v22 v25) v29 v32 v37 v48 v51) v56 v57 (k0_pay16 v56) v83 v89) (k0_pay25 (k0_pay15 (k0_pay3 v1) (k0_pay9 v1 v3 v6 v11 v22 v25) v29 v32 v37 v48 v51) v56 v57 (k0_pay16 v56) v83 v86 v89)) fun a => A.dm (R + a) :=
  pay28_is (tile0_dm T)

/-- Second tile: its rows of the block output's cotangent, as stored. -/
theorem tile1_dm_stored :
    Is (n := 256) (k := 1024) (k0_pay52 (F := Ideal) (k0_pay47 (k0_pay36 (k0_pay32 v1 v3 v6) (k0_pay33 v1 v3 v11) v22 v25) (k0_pay39 (k0_pay30 v1) v29 v37) (k0_pay42 (k0_pay30 v1) v29 v32 v48) v51 v56 v57 v83) (k0_pay48 v86) v89) fun a => A.dm (R + a) :=
  pay52_is (tile1_dx T) (pay48_is T.hv86) T.hv89

/-- First tile: its rows' part of the first scale's gradient. -/
theorem tile0_dgpre :
    Is (n := 1) (k := 1024) (k0_pay19 (F := Ideal) (k0_pay15 (k0_pay3 v1) (k0_pay9 v1 v3 v6 v11 v22 v25) v29 v32 v37 v48 v51) v56 (k0_pay16 v56)) (rowSum fun a k => A.dh (R + a) k * hat (A.x (R + a)) k) :=
  pay19_is (tile0_dh T) T.hv56

/-- Second tile: its rows' part of the first scale's gradient. -/
theorem tile1_dgpre :
    Is (n := 1) (k := 1024) (k0_pay46 (F := Ideal) (k0_pay36 (k0_pay32 v1 v3 v6) (k0_pay33 v1 v3 v11) v22 v25) (k0_pay39 (k0_pay30 v1) v29 v37) (k0_pay42 (k0_pay30 v1) v29 v32 v48) v51 v56) (rowSum fun a k => A.dh (R + a) k * hat (A.x (R + a)) k) :=
  pay46_is (tile1_dh T) T.hv56

/-- First tile: its rows' part of the second scale's gradient. -/
theorem tile0_dgpost :
    Is (n := 1) (k := 1024) (k0_pay27 (F := Ideal) (k0_pay20 (k0_pay15 (k0_pay3 v1) (k0_pay9 v1 v3 v6 v11 v22 v25) v29 v32 v37 v48 v51) v56 v57 (k0_pay16 v56) v83) (k0_pay23 v86)) (rowSum fun a k => A.dx (R + a) k * hat (A.mo (R + a)) k) :=
  pay27_is (tile0_dx T) (pay23_is T.hv86)

/-- First tile: its rows' part of the bias' gradient. -/
theorem tile0_db :
    Is (n := 1) (k := 1024) (k0_pay29 (F := Ideal) (k0_pay22 v86) (k0_pay23 v86) (k0_pay24 (k0_pay15 (k0_pay3 v1) (k0_pay9 v1 v3 v6 v11 v22 v25) v29 v32 v37 v48 v51) v56 v57 (k0_pay16 v56) v83 v89) (k0_pay25 (k0_pay15 (k0_pay3 v1) (k0_pay9 v1 v3 v6 v11 v22 v25) v29 v32 v37 v48 v51) v56 v57 (k0_pay16 v56) v83 v86 v89)) (rowSum fun a k => A.dm (R + a) k) :=
  pay29_is (tile0_dm T)

/-- First tile: its rows of the gate's cotangent, columns from 0 on. -/
theorem tile0_dg0 :
    Is3 (n := 256) (k := 1408) (k0_pay7 (F := Ideal) v1 v3 v6) fun a => A.dg (R + a) :=
  pay7_is T.hv1 T.hv3 T.hv6

/-- First tile: its rows of the other half's cotangent, columns from 0 on. -/
theorem tile0_du0 :
    Is3 (n := 256) (k := 1408) (k0_pay8 (F := Ideal) v1 v3 v11) fun a => A.du (R + a) :=
  pay8_is T.hv1 T.hv3 T.hv11

/-- First tile: its rows of the gate's cotangent, columns from 1408 on. -/
theorem tile0_dg1408 :
    Is3 (n := 256) (k := 1408) (k0_pay13 (F := Ideal) (k0_pay3 v1) v29 v32) fun a j => A.dg (R + a) (1408 + j) :=
  pay13_is (pay3_is T.hv1) T.hv29 T.hv32

/-- First tile: its rows of the other half's cotangent, columns from 1408 on. -/
theorem tile0_du1408 :
    Is3 (n := 256) (k := 1408) (k0_pay14 (F := Ideal) (k0_pay3 v1) v29 v37) fun a j => A.du (R + a) (1408 + j) :=
  pay14_is (pay3_is T.hv1) T.hv29 T.hv37

/-- Second tile: its rows of the gate's cotangent, columns from 0 on. -/
theorem tile1_dg0 :
    Is3 (n := 256) (k := 1408) (k0_pay34 (F := Ideal) v1 v3 v6) fun a => A.dg (R + a) :=
  pay34_is T.hv1 T.hv3 T.hv6

/-- Second tile: its rows of the other half's cotangent, columns from 0 on. -/
theorem tile1_du0 :
    Is3 (n := 256) (k := 1408) (k0_pay35 (F := Ideal) (k0_pay33 v1 v3 v11)) fun a => A.du (R + a) :=
  pay35_is (pay33_is T.hv1 T.hv3 T.hv11)

/-- Second tile: its rows of the gate's cotangent, columns from 1408 on. -/
theorem tile1_dg1408 :
    Is3 (n := 256) (k := 1408) (k0_pay40 (F := Ideal) (k0_pay30 v1) v29 v32) fun a j => A.dg (R + a) (1408 + j) :=
  pay40_is (pay30_is T.hv1) T.hv29 T.hv32

/-- Second tile: its rows of the other half's cotangent, columns from 1408 on. -/
theorem tile1_du1408 :
    Is3 (n := 256) (k := 1408) (k0_pay41 (F := Ideal) (k0_pay30 v1) v29 v37) fun a j => A.du (R + a) (1408 + j) :=
  pay41_is (pay30_is T.hv1) T.hv29 T.hv37

end

end Cert.Ffn.Kernel

end
-- ==== Proof.Loads.lean ====
/- What the two tiles of a grid point load from the staged blocks: the first tile the block's rows from 0 on, the second its rows
   from 256 on. -/
module

public import proofs.«01_k».proof.Proof.Blocks
public import proofs.«01_k».proof.Proof.Tile

@[expose] public section

set_option maxRecDepth 16384

noncomputable section

namespace Cert.Ffn.Kernel

open Idealize.ShloMosaic Idealize.ShloMosaic.TcCoe Idealize.SL.Sem
open Cert.KernelIdeal Cert.KernelIdeal.Gen

variable {m : (ℓ : Loc nD τ sig) → Buf (Elt Ideal) ℓ} {c : Dev nD} {A : Args}

/-- What the first tile of grid point `t` loads. -/
theorem loads0 (G : Given m c A) (t : Fin cfg0.N) : Tile A (512 * t.val)
    (View.ld (Val := Elt Ideal) (iblk m c 0 t) (Rect.unit ![0, 0] ![256, 1024] inb_S512x1024_S256x1024_0_0))
    (View.ld (Val := Elt Ideal) (iblk m c 1 t) (Rect.unit ![0, 0] ![1408, 1024] inb_S2816x1024_S1408x1024_0_0))
    (View.ld (Val := Elt Ideal) (iblk m c 1 t) (Rect.unit ![1408, 0] ![1408, 1024] inb_S2816x1024_S1408x1024_1408_0))
    (View.ld (Val := Elt Ideal) (iblk m c 2 t) (Rect.unit ![0, 0, 0] ![1, 256, 1408] inb_S2x512x2816_S1x256x1408_0_0_0))
    (View.ld (Val := Elt Ideal) (iblk m c 2 t) (Rect.unit ![1, 0, 0] ![1, 256, 1408] inb_S2x512x2816_S1x256x1408_1_0_0))
    (View.ld (Val := Elt Ideal) (iblk m c 2 t) (Rect.unit ![0, 0, 1408] ![1, 256, 1408] inb_S2x512x2816_S1x256x1408_0_0_1408))
    (View.ld (Val := Elt Ideal) (iblk m c 2 t) (Rect.unit ![1, 0, 1408] ![1, 256, 1408] inb_S2x512x2816_S1x256x1408_1_0_1408))
    (iblk m c 3 t)
    (iblk m c 5 t)
    (iblk m c 4 t)
    (iblk m c 6 t)
    (View.ld (Val := Elt Ideal) (iblk m c 8 t) (Rect.unit ![0, 0] ![256, 1024] inb_S512x1024_S256x1024_0_0))
    (iblk m c 9 t)
    (View.ld (Val := Elt Ideal) (iblk m c 7 t) (Rect.unit ![0, 0] ![256, 1024] inb_S512x1024_S256x1024_0_0))
    (View.ld (Val := Elt Ideal) (iblk m c 10 t) (Rect.unit ![0, 0] ![256, 1024] inb_S512x1024_S256x1024_0_0))
    (iblk m c 11 t) := by
  refine ⟨?_, ?_, ?_, ?_, ?_, ?_, ?_, ?_, ?_, ?_, ?_, ?_, blk_gpre G t, ?_, ?_, blk_gpost G t⟩
  · intro a k
    pointwise []
    refine (blk_df G t ⟨a.val, by omega⟩ k).trans ?_
    simp only [Nat.add_assoc, Nat.zero_add]
  · intro a k
    pointwise []
    exact blk_wd G t ⟨a.val, by omega⟩ k
  · intro a k
    pointwise []
    exact blk_wd G t ⟨1408 + a, by omega⟩ k
  · intro a j
    pointwise []
    refine (blk_planes G t 0 ⟨a.val, by omega⟩ ⟨j.val, by omega⟩).trans ?_
    simp [Nat.add_assoc]
  · intro a j
    pointwise []
    refine (blk_planes G t 1 ⟨a.val, by omega⟩ ⟨j.val, by omega⟩).trans ?_
    simp [Nat.add_assoc]
  · intro a j
    pointwise []
    refine (blk_planes G t 0 ⟨a.val, by omega⟩ ⟨1408 + j, by omega⟩).trans ?_
    simp [Nat.add_assoc]
  · intro a j
    pointwise []
    refine (blk_planes G t 1 ⟨a.val, by omega⟩ ⟨1408 + j, by omega⟩).trans ?_
    simp [Nat.add_assoc]
  · exact fun k j => (blk_shard0 G t k j).trans (by simp only [Nat.zero_add])
  · exact fun k j => blk_shard2 G t k j
  · exact fun k j => blk_shard1 G t k j
  · exact fun k j => blk_shard3 G t k j
  · intro a k
    pointwise []
    refine (blk_x G t ⟨a.val, by omega⟩ k).trans ?_
    simp only [Nat.add_assoc, Nat.zero_add]
  · intro a k
    pointwise []
    refine (blk_dres G t ⟨a.val, by omega⟩ k).trans ?_
    simp only [Nat.add_assoc, Nat.zero_add]
  · intro a k
    pointwise []
    refine (blk_mo G t ⟨a.val, by omega⟩ k).trans ?_
    simp only [Nat.add_assoc, Nat.zero_add]

/-- What the second tile of grid point `t` loads. -/
theorem loads1 (G : Given m c A) (t : Fin cfg0.N) : Tile A (512 * t.val + 256)
    (View.ld (Val := Elt Ideal) (iblk m c 0 t) (Rect.unit ![256, 0] ![256, 1024] inb_S512x1024_S256x1024_256_0))
    (View.ld (Val := Elt Ideal) (iblk m c 1 t) (Rect.unit ![0, 0] ![1408, 1024] inb_S2816x1024_S1408x1024_0_0))
    (View.ld (Val := Elt Ideal) (iblk m c 1 t) (Rect.unit ![1408, 0] ![1408, 1024] inb_S2816x1024_S1408x1024_1408_0))
    (View.ld (Val := Elt Ideal) (iblk m c 2 t) (Rect.unit ![0, 256, 0] ![1, 256, 1408] inb_S2x512x2816_S1x256x1408_0_256_0))
    (View.ld (Val := Elt Ideal) (iblk m c 2 t) (Rect.unit ![1, 256, 0] ![1, 256, 1408] inb_S2x512x2816_S1x256x1408_1_256_0))
    (View.ld (Val := Elt Ideal) (iblk m c 2 t) (Rect.unit ![0, 256, 1408] ![1, 256, 1408] inb_S2x512x2816_S1x256x1408_0_256_1408))
    (View.ld (Val := Elt Ideal) (iblk m c 2 t) (Rect.unit ![1, 256, 1408] ![1, 256, 1408] inb_S2x512x2816_S1x256x1408_1_256_1408))
    (iblk m c 3 t)
    (iblk m c 5 t)
    (iblk m c 4 t)
    (iblk m c 6 t)
    (View.ld (Val := Elt Ideal) (iblk m c 8 t) (Rect.unit ![256, 0] ![256, 1024] inb_S512x1024_S256x1024_256_0))
    (iblk m c 9 t)
    (View.ld (Val := Elt Ideal) (iblk m c 7 t) (Rect.unit ![256, 0] ![256, 1024] inb_S512x1024_S256x1024_256_0))
    (View.ld (Val := Elt Ideal) (iblk m c 10 t) (Rect.unit ![256, 0] ![256, 1024] inb_S512x1024_S256x1024_256_0))
    (iblk m c 11 t) := by
  refine ⟨?_, ?_, ?_, ?_, ?_, ?_, ?_, ?_, ?_, ?_, ?_, ?_, blk_gpre G t, ?_, ?_, blk_gpost G t⟩
  · intro a k
    pointwise []
    refine (blk_df G t ⟨256 + a, by omega⟩ k).trans ?_
    simp only [Nat.add_assoc, Nat.zero_add]
  · intro a k
    pointwise []
    exact blk_wd G t ⟨a.val, by omega⟩ k
  · intro a k
    pointwise []
    exact blk_wd G t ⟨1408 + a, by omega⟩ k
  · intro a j
    pointwise []
    refine (blk_planes G t 0 ⟨256 + a, by omega⟩ ⟨j.val, by omega⟩).trans ?_
    simp [Nat.add_assoc]
  · intro a j
    pointwise []
    refine (blk_planes G t 1 ⟨256 + a, by omega⟩ ⟨j.val, by omega⟩).trans ?_
    simp [Nat.add_assoc]
  · intro a j
    pointwise []
    refine (blk_planes G t 0 ⟨256 + a, by omega⟩ ⟨1408 + j, by omega⟩).trans ?_
    simp [Nat.add_assoc]
  · intro a j
    pointwise []
    refine (blk_planes G t 1 ⟨256 + a, by omega⟩ ⟨1408 + j, by omega⟩).trans ?_
    simp [Nat.add_assoc]
  · exact fun k j => (blk_shard0 G t k j).trans (by simp only [Nat.zero_add])
  · exact fun k j => blk_shard2 G t k j
  · exact fun k j => blk_shard1 G t k j
  · exact fun k j => blk_shard3 G t k j
  · intro a k
    pointwise []
    refine (blk_x G t ⟨256 + a, by omega⟩ k).trans ?_
    simp only [Nat.add_assoc, Nat.zero_add]
  · intro a k
    pointwise []
    refine (blk_dres G t ⟨256 + a, by omega⟩ k).trans ?_
    simp only [Nat.add_assoc, Nat.zero_add]
  · intro a k
    pointwise []
    refine (blk_mo G t ⟨256 + a, by omega⟩ k).trans ?_
    simp only [Nat.add_assoc, Nat.zero_add]

end Cert.Ffn.Kernel

end
-- ==== Proof.Outs.lean ====
/- What a grid point leaves in its output blocks: its rows of the three arrays, and its part of the three gradients that are sums
   over all rows. -/
module

public import proofs.«01_k».proof.Proof.Loads

@[expose] public section

set_option maxRecDepth 16384

noncomputable section

namespace Cert.Ffn.Kernel

open Idealize.ShloMosaic Idealize.ShloMosaic.TcCoe Idealize.SL.Sem
open Cert.KernelIdeal Cert.KernelIdeal.Gen

variable {m : (ℓ : Loc nD τ sig) → Buf (Elt Ideal) ℓ} {c : Dev nD} {A : Args}

/-- Its rows of the residual stream's cotangent. -/
theorem out13 (G : Given m c A) (t : Fin cfg0.N) (y : S512x1024.Idx) :
    (outsAt0 m c t.val t.isLt).2.1 y = ((A.dx (512 * t.val + (y 0).val) (y 1).val : ℝ) : EReal) := by
  have hN : t.val < 8 := lt_of_lt_of_eq t.isLt N_0
  by_cases k1 : 1 ≤ t.val
  · have k0 : ¬t.val % 8 = 0 := by omega
    rw [outsAt0_B m c t k0 k1 k0 k1 k0 k1]
    frame_out
    canon_tiles x h
    case piece0 =>
      idx_vars x
      exact (tile1_dx (loads1 G t) _ _).trans (by simp only [h0, h1, Nat.add_assoc])
    case piece1 =>
      idx_vars x
      exact (tile0_dx (loads0 G t) _ _).trans (by simp only [h0, h1, Nat.zero_add])
  · have k0 : t.val % 8 = 0 := by omega
    rw [outsAt0_A m c t k0 k1 k0 k1 k0 k1]
    frame_out
    canon_tiles x h
    case piece0 =>
      idx_vars x
      exact (tile1_dx (loads1 G t) _ _).trans (by simp only [h0, h1, Nat.add_assoc])
    case piece1 =>
      idx_vars x
      exact (tile0_dx (loads0 G t) _ _).trans (by simp only [h0, h1, Nat.zero_add])

/-- Its rows of the block output's cotangent. -/
theorem out14 (G : Given m c A) (t : Fin cfg0.N) (y : S512x1024.Idx) :
    (outsAt0 m c t.val t.isLt).2.2.1 y = ((A.dm (512 * t.val + (y 0).val) (y 1).val : ℝ) : EReal) := by
  have hN : t.val < 8 := lt_of_lt_of_eq t.isLt N_0
  by_cases k1 : 1 ≤ t.val
  · have k0 : ¬t.val % 8 = 0 := by omega
    rw [outsAt0_B m c t k0 k1 k0 k1 k0 k1]
    frame_out
    canon_tiles x h
    case piece0 =>
      idx_vars x
      exact (tile1_dm_stored (loads1 G t) _ _).trans (by simp only [h0, h1, Nat.add_assoc])
    case piece1 =>
      idx_vars x
      exact (tile0_dm_stored (loads0 G t) _ _).trans (by simp only [h0, h1, Nat.zero_add])
  · have k0 : t.val % 8 = 0 := by omega
    rw [outsAt0_A m c t k0 k1 k0 k1 k0 k1]
    frame_out
    canon_tiles x h
    case piece0 =>
      idx_vars x
      exact (tile1_dm_stored (loads1 G t) _ _).trans (by simp only [h0, h1, Nat.add_assoc])
    case piece1 =>
      idx_vars x
      exact (tile0_dm_stored (loads0 G t) _ _).trans (by simp only [h0, h1, Nat.zero_add])

/-- A column of the gate's cotangent, as a column of both halves side by side. -/
theorem dgu_plane0 (A : Args) (i j : ℕ) (h : j < 2816) : A.dgu i (2816 * 0 + j) = A.dg i j := by
  rw [Args.dgu, if_pos (by omega), Nat.mul_zero, Nat.zero_add]

/-- A column of the other half's cotangent, as a column of both halves side by side. -/
theorem dgu_plane1 (A : Args) (i j : ℕ) (_ : j < 2816) : A.dgu i (2816 * 1 + j) = A.du i j := by
  rw [Args.dgu, if_neg (by omega), Nat.mul_one, Nat.add_sub_cancel_left]

/-- Its rows of the up projection's cotangent, a plane for each half. -/
theorem out12 (G : Given m c A) (t : Fin cfg0.N) (y : S2x512x2816.Idx) :
    (outsAt0 m c t.val t.isLt).1 y = ((A.dgu (512 * t.val + (y 1).val) (2816 * (y 0).val + (y 2).val) : ℝ) : EReal) := by
  have hN : t.val < 8 := lt_of_lt_of_eq t.isLt N_0
  by_cases k1 : 1 ≤ t.val
  · have k0 : ¬t.val % 8 = 0 := by omega
    rw [outsAt0_B m c t k0 k1 k0 k1 k0 k1]
    frame_out
    canon_tiles x h
    case piece0 =>
      idx_vars x
      obtain rfl : x0 = 0 := Subsingleton.elim _ _
      refine (tile1_du1408 (loads1 G t) _ _).trans ?_
      simp only [Fin.val_zero, Nat.add_zero] at h0
      rw [h0, h1, h2, dgu_plane1 A _ _ (by omega)]
      simp only [Nat.add_assoc]
    case piece1 =>
      idx_vars x
      obtain rfl : x0 = 0 := Subsingleton.elim _ _
      refine (tile1_dg1408 (loads1 G t) _ _).trans ?_
      simp only [Fin.val_zero, Nat.add_zero] at h0
      rw [h0, h1, h2, dgu_plane0 A _ _ (by omega)]
      simp only [Nat.add_assoc]
    case piece2 =>
      idx_vars x
      obtain rfl : x0 = 0 := Subsingleton.elim _ _
      refine (tile1_du0 (loads1 G t) _ _).trans ?_
      simp only [Fin.val_zero, Nat.add_zero] at h0
      rw [h0, h1, h2, dgu_plane1 A _ _ (by omega)]
      simp only [Nat.add_assoc]
    case piece3 =>
      idx_vars x
      obtain rfl : x0 = 0 := Subsingleton.elim _ _
      refine (tile1_dg0 (loads1 G t) _ _).trans ?_
      simp only [Fin.val_zero, Nat.add_zero] at h0
      rw [h0, h1, h2, dgu_plane0 A _ _ (by omega)]
      simp only [Nat.add_assoc]
    case piece4 =>
      idx_vars x
      obtain rfl : x0 = 0 := Subsingleton.elim _ _
      refine (tile0_du1408 (loads0 G t) _ _).trans ?_
      simp only [Fin.val_zero, Nat.add_zero] at h0
      rw [h0, h1, h2, dgu_plane1 A _ _ (by omega)]
    case piece5 =>
      idx_vars x
      obtain rfl : x0 = 0 := Subsingleton.elim _ _
      refine (tile0_dg1408 (loads0 G t) _ _).trans ?_
      simp only [Fin.val_zero, Nat.add_zero] at h0
      rw [h0, h1, h2, dgu_plane0 A _ _ (by omega)]
    case piece6 =>
      idx_vars x
      obtain rfl : x0 = 0 := Subsingleton.elim _ _
      refine (tile0_du0 (loads0 G t) _ _).trans ?_
      simp only [Fin.val_zero, Nat.add_zero] at h0
      rw [h0, h1, h2, dgu_plane1 A _ _ (by omega)]
    case piece7 =>
      idx_vars x
      obtain rfl : x0 = 0 := Subsingleton.elim _ _
      refine (tile0_dg0 (loads0 G t) _ _).trans ?_
      simp only [Fin.val_zero, Nat.add_zero] at h0
      rw [h0, h1, h2, dgu_plane0 A _ _ (by omega)]
  · have k0 : t.val % 8 = 0 := by omega
    rw [outsAt0_A m c t k0 k1 k0 k1 k0 k1]
    frame_out
    canon_tiles x h
    case piece0 =>
      idx_vars x
      obtain rfl : x0 = 0 := Subsingleton.elim _ _
      refine (tile1_du1408 (loads1 G t) _ _).trans ?_
      simp only [Fin.val_zero, Nat.add_zero] at h0
      rw [h0, h1, h2, dgu_plane1 A _ _ (by omega)]
      simp only [Nat.add_assoc]
    case piece1 =>
      idx_vars x
      obtain rfl : x0 = 0 := Subsingleton.elim _ _
      refine (tile1_dg1408 (loads1 G t) _ _).trans ?_
      simp only [Fin.val_zero, Nat.add_zero] at h0
      rw [h0, h1, h2, dgu_plane0 A _ _ (by omega)]
      simp only [Nat.add_assoc]
    case piece2 =>
      idx_vars x
      obtain rfl : x0 = 0 := Subsingleton.elim _ _
      refine (tile1_du0 (loads1 G t) _ _).trans ?_
      simp only [Fin.val_zero, Nat.add_zero] at h0
      rw [h0, h1, h2, dgu_plane1 A _ _ (by omega)]
      simp only [Nat.add_assoc]
    case piece3 =>
      idx_vars x
      obtain rfl : x0 = 0 := Subsingleton.elim _ _
      refine (tile1_dg0 (loads1 G t) _ _).trans ?_
      simp only [Fin.val_zero, Nat.add_zero] at h0
      rw [h0, h1, h2, dgu_plane0 A _ _ (by omega)]
      simp only [Nat.add_assoc]
    case piece4 =>
      idx_vars x
      obtain rfl : x0 = 0 := Subsingleton.elim _ _
      refine (tile0_du1408 (loads0 G t) _ _).trans ?_
      simp only [Fin.val_zero, Nat.add_zero] at h0
      rw [h0, h1, h2, dgu_plane1 A _ _ (by omega)]
    case piece5 =>
      idx_vars x
      obtain rfl : x0 = 0 := Subsingleton.elim _ _
      refine (tile0_dg1408 (loads0 G t) _ _).trans ?_
      simp only [Fin.val_zero, Nat.add_zero] at h0
      rw [h0, h1, h2, dgu_plane0 A _ _ (by omega)]
    case piece6 =>
      idx_vars x
      obtain rfl : x0 = 0 := Subsingleton.elim _ _
      refine (tile0_du0 (loads0 G t) _ _).trans ?_
      simp only [Fin.val_zero, Nat.add_zero] at h0
      rw [h0, h1, h2, dgu_plane1 A _ _ (by omega)]
    case piece7 =>
      idx_vars x
      obtain rfl : x0 = 0 := Subsingleton.elim _ _
      refine (tile0_dg0 (loads0 G t) _ _).trans ?_
      simp only [Fin.val_zero, Nat.add_zero] at h0
      rw [h0, h1, h2, dgu_plane0 A _ _ (by omega)]

end Cert.Ffn.Kernel

end
-- ==== Proof.Sums.lean ====
/- The three gradients that are sums over all rows: each grid point adds its two tiles' rows to what the point before left, and
   the first point starts the sums. -/
module

public import proofs.«01_k».proof.Proof.Outs

@[expose] public section

set_option maxRecDepth 16384

noncomputable section

namespace Cert.Ffn.Kernel

open Idealize.ShloMosaic Idealize.ShloMosaic.TcCoe Idealize.SL.Sem
open Cert.KernelIdeal Cert.KernelIdeal.Gen

variable {m : (ℓ : Loc nD τ sig) → Buf (Elt Ideal) ℓ} {c : Dev nD} {A : Args}

/-- A sum over the rows of the eight points' two tiles is the sum over all rows. -/
theorem sum_tiles (f : ℕ → ℝ) :
    (∑ t : Fin 8, ((∑ a : Fin 256, f (512 * t + a)) + ∑ a : Fin 256, f (512 * t + 256 + a))) = ∑ i : Fin 4096, f i := by
  have e : ∀ (n : ℕ) (f : ℕ → ℝ), (∑ j : Fin n, f j) = ∑ j ∈ Finset.range n, f j := fun n f => Fin.sum_univ_eq_sum_range f n
  have e2 : ∀ t : ℕ, ((∑ a : Fin 256, f (512 * t + a)) + ∑ a : Fin 256, f (512 * t + 256 + a)) = ∑ a ∈ Finset.range 512, f (512 * t + a) := fun t => by
    rw [e 256 fun a => f (512 * t + a), e 256 fun a => f (512 * t + 256 + a), show 512 = 256 + 256 from rfl, Finset.sum_range_add]
    simp only [Nat.add_assoc]
  have e3 : ∀ n : ℕ, (∑ t ∈ Finset.range n, ∑ a ∈ Finset.range 512, f (512 * t + a)) = ∑ i ∈ Finset.range (512 * n), f i := fun n => by
    induction n with
    | zero => simp
    | succ n ih => rw [Finset.sum_range_succ, ih, Nat.mul_succ, Finset.sum_range_add]
  rw [e 4096 f, e 8 fun t => (∑ a : Fin 256, f (512 * t + a)) + ∑ a : Fin 256, f (512 * t + 256 + a), Finset.sum_congr rfl fun t _ => e2 t, e3 8]

/-- The last grid point. -/
abbrev lastPoint : Fin cfg0.N := ⟨7, by have : cfg0.N = 8 := N_0; omega⟩

/-- The first scale's gradient, continued. -/
theorem pay56_at (v82 v200 v255 : FVec Ideal S1x1024 .f32) (j : S1x1024.Idx) : k0_pay56 v82 v200 v255 j = v255 j + k0_pay53 v82 v200 j := by
  pointwise [k0_pay56]

/-- The second scale's gradient, continued. -/
theorem pay1_at (v255 v238 : FVec Ideal S1x1024 .f32) (j : S1x1024.Idx) : k0_pay1 v238 v255 j = v255 j + v238 j := by
  pointwise [k0_pay1]

/-- The bias' gradient, continued. -/
theorem pay2_at (v255 v239 : FVec Ideal S1x1024 .f32) (j : S1x1024.Idx) : k0_pay2 v239 v255 j = v255 j + v239 j := by
  pointwise [k0_pay2]

/-- The first scale's gradient after the last point. -/
theorem sum_dgpre (G : Given m c A) (k : Fin 1024) :
    (outsAt0 m c lastPoint.val lastPoint.isLt).2.2.2.1 (ix2 0 k) = ((A.dgpre k.val : ℝ) : EReal) := by
  have part : ∀ (t : Fin cfg0.N) (a : Fin 1) (k : Fin 1024), _ := fun t a k => pay53_is (tile0_dgpre (loads0 G t)) (tile1_dgpre (loads1 G t)) a k
  rw [Pipeline.eq_sum_fin_of_reset_step_apply_last (fun n h => (outsAt0 m c n h).2.2.2.1) 8 (fun _ => 0)
    (fun p j => ((((∑ a : Fin 256, A.dh (512 * p + a) (j 1).val * hat (A.x (512 * p + a)) (j 1).val) + ∑ a : Fin 256, A.dh (512 * p + 256 + a) (j 1).val * hat (A.x (512 * p + 256 + a)) (j 1).val : ℝ)) : EReal)) ?_ ?_ (le_of_eq N_0) lastPoint rfl (ix2 0 k), zero_add, coe_sum]
  · exact congrArg _ (sum_tiles fun i => A.dh (i) k.val * hat (A.x (i)) k.val)
  · intro t k0 j
    have hN : t.val < 8 := lt_of_lt_of_eq t.isLt N_0
    have k1 : ¬1 ≤ t.val := by omega
    rw [zero_add, outsAt0_A m c t k0 k1 k0 k1 k0 k1]
    frame_out
    idx_vars j
    exact part t j0 j1
  · intro t k0 j
    have hN : t.val < 8 := lt_of_lt_of_eq t.isLt N_0
    have k1 : 1 ≤ t.val := by omega
    rw [outsAt0_B m c t k0 k1 k0 k1 k0 k1]
    frame_out
    idx_vars j
    refine (pay56_at ..).trans ?_
    exact congrArg _ (part t j0 j1)

/-- The second scale's gradient after the last point. -/
theorem sum_dgpost (G : Given m c A) (k : Fin 1024) :
    (outsAt0 m c lastPoint.val lastPoint.isLt).2.2.2.2.1 (ix2 0 k) = ((A.dgpost k.val : ℝ) : EReal) := by
  have part : ∀ (t : Fin cfg0.N) (a : Fin 1) (k : Fin 1024), _ := fun t a k => pay54_is (tile0_dgpost (loads0 G t)) (tile1_dx (loads1 G t)) (pay48_is (loads1 G t).hv86) a k
  rw [Pipeline.eq_sum_fin_of_reset_step_apply_last (fun n h => (outsAt0 m c n h).2.2.2.2.1) 8 (fun _ => 0)
    (fun p j => ((((∑ a : Fin 256, A.dx (512 * p + a) (j 1).val * hat (A.mo (512 * p + a)) (j 1).val) + ∑ a : Fin 256, A.dx (512 * p + 256 + a) (j 1).val * hat (A.mo (512 * p + 256 + a)) (j 1).val : ℝ)) : EReal)) ?_ ?_ (le_of_eq N_0) lastPoint rfl (ix2 0 k), zero_add, coe_sum]
  · exact congrArg _ (sum_tiles fun i => A.dx (i) k.val * hat (A.mo (i)) k.val)
  · intro t k0 j
    have hN : t.val < 8 := lt_of_lt_of_eq t.isLt N_0
    have k1 : ¬1 ≤ t.val := by omega
    rw [zero_add, outsAt0_A m c t k0 k1 k0 k1 k0 k1]
    frame_out
    idx_vars j
    exact part t j0 j1
  · intro t k0 j
    have hN : t.val < 8 := lt_of_lt_of_eq t.isLt N_0
    have k1 : 1 ≤ t.val := by omega
    rw [outsAt0_B m c t k0 k1 k0 k1 k0 k1]
    frame_out
    idx_vars j
    refine (pay1_at ..).trans ?_
    exact congrArg _ (part t j0 j1)

/-- The bias' gradient after the last point. -/
theorem sum_db (G : Given m c A) (k : Fin 1024) :
    (outsAt0 m c lastPoint.val lastPoint.isLt).2.2.2.2.2 (ix2 0 k) = ((A.db k.val : ℝ) : EReal) := by
  have part : ∀ (t : Fin cfg0.N) (a : Fin 1) (k : Fin 1024), _ := fun t a k => pay55_is (tile0_db (loads0 G t)) (tile1_dx (loads1 G t)) (pay48_is (loads1 G t).hv86) (loads1 G t).hv89 a k
  rw [Pipeline.eq_sum_fin_of_reset_step_apply_last (fun n h => (outsAt0 m c n h).2.2.2.2.2) 8 (fun _ => 0)
    (fun p j => ((((∑ a : Fin 256, A.dm (512 * p + a) (j 1).val) + ∑ a : Fin 256, A.dm (512 * p + 256 + a) (j 1).val : ℝ)) : EReal)) ?_ ?_ (le_of_eq N_0) lastPoint rfl (ix2 0 k), zero_add, coe_sum]
  · exact congrArg _ (sum_tiles fun i => A.dm (i) k.val)
  · intro t k0 j
    have hN : t.val < 8 := lt_of_lt_of_eq t.isLt N_0
    have k1 : ¬1 ≤ t.val := by omega
    rw [zero_add, outsAt0_A m c t k0 k1 k0 k1 k0 k1]
    frame_out
    idx_vars j
    exact part t j0 j1
  · intro t k0 j
    have hN : t.val < 8 := lt_of_lt_of_eq t.isLt N_0
    have k1 : 1 ≤ t.val := by omega
    rw [outsAt0_B m c t k0 k1 k0 k1 k0 k1]
    frame_out
    idx_vars j
    refine (pay2_at ..).trans ?_
    exact congrArg _ (part t j0 j1)

end Cert.Ffn.Kernel

end
-- ==== Proof.Arrays.lean ====
/- The six arrays that the kernel leaves: every element, for finite arguments. -/
module

public import proofs.«01_k».proof.Proof.Sums
public import proofs.«01_k».proof.Proof.Gen.KernelIdeal.Value

@[expose] public section

set_option maxRecDepth 16384

noncomputable section

namespace Cert.Ffn.Kernel

open Idealize.ShloMosaic Idealize.ShloMosaic.TcCoe Idealize.SL.Sem
open Cert.KernelIdeal Cert.KernelIdeal.Gen

variable {m : (ℓ : Loc nD τ sig) → Buf (Elt Ideal) ℓ} {c : Dev nD} {A : Args}

/-- The up projection's cotangent: plane `s` holds its columns from `2816 * s` on. -/
theorem arr12 (G : Given m c A) : (dats m 0 c).arrAt 12 cfg0.N
    = fun i : S2x4096x2816.Idx => ((A.dgu (i 1).val (2816 * (i 0).val + (i 2).val) : ℝ) : EReal) :=
  (dats m 0 c).arrAt_eq_of_covers 12 _ (by decide +kernel) fun t hf y => by
    blk_simp
    rw [after0_12, out12 G t]
    simp [idx_val t, Nat.mul_comm]

/-- The residual stream's cotangent. -/
theorem arr13 (G : Given m c A) : (dats m 0 c).arrAt 13 cfg0.N
    = fun i : S4096x1024.Idx => ((A.dx (i 0).val (i 1).val : ℝ) : EReal) :=
  (dats m 0 c).arrAt_eq_of_covers 13 _ (by decide +kernel) fun t hf y => by
    blk_simp
    rw [after0_13, out13 G t]
    simp [idx_val t, Nat.mul_comm]

/-- The block output's cotangent. -/
theorem arr14 (G : Given m c A) : (dats m 0 c).arrAt 14 cfg0.N
    = fun i : S4096x1024.Idx => ((A.dm (i 0).val (i 1).val : ℝ) : EReal) :=
  (dats m 0 c).arrAt_eq_of_covers 14 _ (by decide +kernel) fun t hf y => by
    blk_simp
    rw [after0_14, out14 G t]
    simp [idx_val t, Nat.mul_comm]

/-- The first scale's gradient. -/
theorem arr15 (G : Given m c A) : (dats m 0 c).arrAt 15 cfg0.N
    = fun i : S1x1024.Idx => ((A.dgpre (i 1).val : ℝ) : EReal) :=
  (dats m 0 c).arrAt_eq_of_after_last 15 t0_7 (by decide +kernel) _ fun j => by
    blk_simp
    rw [after0_15]
    idx_vars j
    obtain rfl : j0 = 0 := Subsingleton.elim _ _
    exact sum_dgpre G j1

/-- The second scale's gradient. -/
theorem arr16 (G : Given m c A) : (dats m 0 c).arrAt 16 cfg0.N
    = fun i : S1x1024.Idx => ((A.dgpost (i 1).val : ℝ) : EReal) :=
  (dats m 0 c).arrAt_eq_of_after_last 16 t0_7 (by decide +kernel) _ fun j => by
    blk_simp
    rw [after0_16]
    idx_vars j
    obtain rfl : j0 = 0 := Subsingleton.elim _ _
    exact sum_dgpost G j1

/-- The bias' gradient. -/
theorem arr17 (G : Given m c A) : (dats m 0 c).arrAt 17 cfg0.N
    = fun i : S1x1024.Idx => ((A.db (i 1).val : ℝ) : EReal) :=
  (dats m 0 c).arrAt_eq_of_after_last 17 t0_7 (by decide +kernel) _ fun j => by
    blk_simp
    rw [after0_17]
    idx_vars j
    obtain rfl : j0 = 0 := Subsingleton.elim _ _
    exact sum_db G j1

end Cert.Ffn.Kernel

end
-- ==== Proof.RefVals.lean ====
/- What the reference computes, stage by stage, on arguments that are real: the gradient of the feed-forward half's
   forward lines, read at an index and shown equal to the real formulas. -/
module

public import proofs.«01_k».proof.Proof.Gen.ReferenceIdeal.Read
public import proofs.«01_k».proof.Proof.Words

@[expose] public section

noncomputable section

namespace Cert.Ffn.Reference

open Cert.ReferenceIdeal Cert.ReferenceIdeal.Gen Cert.ReferenceIdeal.Read Idealize.ShloMosaic Idealize.ShloMosaic.TcCoe Cert.Ffn

/-- The eight argument arrays hold these real numbers. -/
structure Holds (A : Args) (x0 : (⟨S4096x1024, .f32⟩ : BufTy).Contents (Elt Ideal)) (x1 : (⟨S2816x1024, .f32⟩ : BufTy).Contents (Elt Ideal)) (x2 : (⟨S1024x5632, .f32⟩ : BufTy).Contents (Elt Ideal))
    (x3 x4 : (⟨S4096x1024, .f32⟩ : BufTy).Contents (Elt Ideal)) (x5 : (⟨S1x1024, .f32⟩ : BufTy).Contents (Elt Ideal)) (x6 : (⟨S4096x1024, .f32⟩ : BufTy).Contents (Elt Ideal)) (x7 : (⟨S1x1024, .f32⟩ : BufTy).Contents (Elt Ideal)) : Prop where
  df_at : ∀ i, x0 i = ((A.df (i 0).val (i 1).val : ℝ) : EReal)
  wd_at : ∀ i, x1 i = ((A.wd (i 0).val (i 1).val : ℝ) : EReal)
  wgu_at : ∀ i, x2 i = ((A.wgu (i 0).val (i 1).val : ℝ) : EReal)
  dres_at : ∀ i, x3 i = ((A.dres (i 0).val (i 1).val : ℝ) : EReal)
  x_at : ∀ i, x4 i = ((A.x (i 0).val (i 1).val : ℝ) : EReal)
  gpre_at : ∀ i, x5 i = ((A.gpre (i 1).val : ℝ) : EReal)
  mo_at : ∀ i, x6 i = ((A.mo (i 0).val (i 1).val : ℝ) : EReal)
  gpost_at : ∀ i, x7 i = ((A.gpost (i 1).val : ℝ) : EReal)

variable {A : Args} {x0 : (⟨S4096x1024, .f32⟩ : BufTy).Contents (Elt Ideal)} {x1 : (⟨S2816x1024, .f32⟩ : BufTy).Contents (Elt Ideal)} {x2 : (⟨S1024x5632, .f32⟩ : BufTy).Contents (Elt Ideal)}
  {x3 x4 : (⟨S4096x1024, .f32⟩ : BufTy).Contents (Elt Ideal)} {x5 : (⟨S1x1024, .f32⟩ : BufTy).Contents (Elt Ideal)} {x6 : (⟨S4096x1024, .f32⟩ : BufTy).Contents (Elt Ideal)} {x7 : (⟨S1x1024, .f32⟩ : BufTy).Contents (Elt Ideal)}

/-- The first normalisation: a row's mean square plus the small number. -/
theorem v6_at (H : Holds A x0 x1 x2 x3 x4 x5 x6 x7) (i : S4096x1.Idx) :
    val_main_v6 (F := Ideal) x4 i = ((ms (A.x (i 0).val) : ℝ) : EReal) := by
  rw [val_main_v6_apply, val_main_v4_apply, val_main_v2_apply, val_main_v1_apply, val_main_cst_apply, val_main_v3_apply, val_main_cst_0_apply, val_main_v5_apply, val_main_cst_1_apply]
  simp only [val_main_v0_apply, H.x_at, Ideal.mulf_def, Ideal.addf_def, Ideal.hostDivf_def, Ideal.ofBits_def, word_zero, word_rows, word_eps, ← EReal.coe_mul, coe_sum]
  rw [← EReal.coe_add, Ideal.div_coe (by norm_num), ← EReal.coe_mul, ← EReal.coe_add]
  refine congrArg _ ?_
  unfold ms
  rw [zero_add, mul_one_div]

/-- The first normalisation: a row's reciprocal root mean square. -/
theorem v7_at (H : Holds A x0 x1 x2 x3 x4 x5 x6 x7) (i : S4096x1.Idx) :
    val_main_v7 (F := Ideal) x4 i = ((rinv (A.x (i 0).val) : ℝ) : EReal) := by
  rw [val_main_v7_apply, v6_at H, Ideal.hostUnary_rsqrt_def, Ideal.rsqrt_coe, if_neg (not_lt.mpr (ms_pos _).le), if_neg (ms_pos _).ne']
  rfl

/-- The first normalisation: the derivative of the reciprocal root in the mean square. -/
theorem v10_at (H : Holds A x0 x1 x2 x3 x4 x5 x6 x7) (i : S4096x1.Idx) :
    val_main_v10 (F := Ideal) x4 i = ((-(1 / 2) * (rinv (A.x (i 0).val) / ms (A.x (i 0).val)) : ℝ) : EReal) := by
  rw [val_main_v10_apply, val_main_v9_apply, val_main_cst_2_apply, val_main_v8_apply, v7_at H, v6_at H, Ideal.hostDivf_def, Ideal.div_coe (ms_pos _).ne', Ideal.mulf_def, Ideal.ofBits_def, word_half, ← EReal.coe_mul, ← EReal.coe_mul, mul_one_div]

/-- The first normalisation: the normalised row. -/
theorem v12_at (H : Holds A x0 x1 x2 x3 x4 x5 x6 x7) (i : S4096x1024.Idx) :
    val_main_v12 (F := Ideal) x4 i = ((hat (A.x (i 0).val) (i 1).val : ℝ) : EReal) := by
  rw [val_main_v12_apply, val_main_v11_apply, H.x_at, v7_at H, Ideal.mulf_def, ← EReal.coe_mul]
  rfl

/-- The normalised, scaled row. -/
theorem v14_at (H : Holds A x0 x1 x2 x3 x4 x5 x6 x7) (i : S4096x1024.Idx) :
    val_main_v14 (F := Ideal) x4 x5 i = ((A.h (i 0).val (i 1).val : ℝ) : EReal) := by
  rw [val_main_v14_apply, val_main_v13_apply, v12_at H, H.gpre_at, Ideal.mulf_def, ← EReal.coe_mul]
  rfl

/-- The up projection. -/
theorem v15_at (H : Holds A x0 x1 x2 x3 x4 x5 x6 x7) (i : S4096x5632.Idx) :
    val_main_v15 (F := Ideal) x2 x4 x5 i = ((A.gu (i 0).val (i 1).val : ℝ) : EReal) := by
  rw [val_main_v15_apply]
  simp only [v14_at H, H.wgu_at, ← EReal.coe_mul, coe_sum]
  rfl

/-- The gate. -/
theorem v16_at (H : Holds A x0 x1 x2 x3 x4 x5 x6 x7) (i : S4096x2816.Idx) :
    val_main_v16 (F := Ideal) x2 x4 x5 i = ((A.gate (i 0).val (i 1).val : ℝ) : EReal) := by
  rw [val_main_v16_apply, v15_at H]
  rfl

/-- The other half of the up projection. -/
theorem v18_at (H : Holds A x0 x1 x2 x3 x4 x5 x6 x7) (i : S4096x2816.Idx) :
    val_main_v18 (F := Ideal) x2 x4 x5 i = ((A.up (i 0).val (i 1).val : ℝ) : EReal) := by
  rw [val_main_v18_apply, v15_at H]
  rfl

/-- The logistic function of the gate. -/
theorem v17_2_at (H : Holds A x0 x1 x2 x3 x4 x5 x6 x7) (i : S4096x2816.Idx) :
    val_main_v17_2 (F := Ideal) x2 x4 x5 i = ((A.sig (i 0).val (i 1).val : ℝ) : EReal) := by
  rw [val_main_v17_2_apply, val_main_call0_v4_apply, val_main_call0_cst_0_apply, val_main_call0_v3_apply, val_main_call0_v2_apply, val_main_call0_cst_apply, val_main_call0_v1_apply, val_main_call0_v0_apply, v16_at H, Ideal.ofBits_def, word_one]
  have h : (0 : ℝ) < 1 + Real.exp (-A.gate (i 0).val (i 1).val) := by positivity
  simp only [Ideal.hostNegf_def, Ideal.negf_def, Ideal.hostUnary_exp_def, ← EReal.coe_neg, Ideal.exp_coe, Ideal.addf_def, Ideal.hostDivf_def, ← EReal.coe_add]
  rw [Ideal.div_coe h.ne', ← EReal.coe_mul, one_mul, one_div]
  rfl

/-- The derivative of the logistic function. -/
theorem v17_1_at (H : Holds A x0 x1 x2 x3 x4 x5 x6 x7) (i : S4096x2816.Idx) :
    val_main_v17_1 (F := Ideal) x2 x4 x5 i = ((A.sig (i 0).val (i 1).val * (1 - A.sig (i 0).val (i 1).val) : ℝ) : EReal) := by
  rw [val_main_v17_1_apply, val_main_call0_v7_apply, val_main_call0_v6_apply, val_main_call0_cst_1_apply, v17_2_at H, Ideal.ofBits_def, word_one, Ideal.subf_def, Ideal.mulf_def, ← EReal.coe_sub, ← EReal.coe_mul]

/-- The gate times its logistic function. -/
theorem v17_0_at (H : Holds A x0 x1 x2 x3 x4 x5 x6 x7) (i : S4096x2816.Idx) :
    val_main_v17_0 (F := Ideal) x2 x4 x5 i = ((A.d1 (i 0).val (i 1).val : ℝ) : EReal) := by
  rw [val_main_v17_0_apply, v16_at H, v17_2_at H, Ideal.mulf_def, ← EReal.coe_mul]
  rfl

/-- The cotangent of the gated activation. -/
theorem v21_at (H : Holds A x0 x1 x2 x3 x4 x5 x6 x7) (i : S4096x2816.Idx) :
    val_main_v21 (F := Ideal) x0 x1 i = ((A.da (i 0).val (i 1).val : ℝ) : EReal) := by
  rw [val_main_v21_apply]
  simp only [H.df_at, H.wd_at, ← EReal.coe_mul, coe_sum]
  rfl

/-- The other half's cotangent. -/
theorem v22_at (H : Holds A x0 x1 x2 x3 x4 x5 x6 x7) (i : S4096x2816.Idx) :
    val_main_v22 (F := Ideal) x0 x1 x2 x4 x5 i = ((A.du (i 0).val (i 1).val : ℝ) : EReal) := by
  rw [val_main_v22_apply, v17_0_at H, v21_at H, Ideal.mulf_def, ← EReal.coe_mul]
  exact congrArg _ (mul_comm _ _)

/-- The gate's cotangent. -/
theorem v25_at (H : Holds A x0 x1 x2 x3 x4 x5 x6 x7) (i : S4096x2816.Idx) :
    val_main_v25 (F := Ideal) x0 x1 x2 x4 x5 i = ((A.dg (i 0).val (i 1).val : ℝ) : EReal) := by
  rw [val_main_v25_apply, val_main_call1_v2_apply, val_main_call1_v1_apply, val_main_call1_v0_apply, val_main_v23_apply, v16_at H, v17_1_at H, v17_2_at H, v18_at H, v21_at H]
  simp only [Ideal.mulf_def, Ideal.addf_def, ← EReal.coe_mul, ← EReal.coe_add]
  refine congrArg _ ?_
  unfold Args.dg Args.d0
  ring

/-- The two cotangents side by side. -/
theorem v27_at (H : Holds A x0 x1 x2 x3 x4 x5 x6 x7) (i : S4096x5632.Idx) :
    val_main_v27 (F := Ideal) x0 x1 x2 x4 x5 i = ((A.dgu (i 0).val (i 1).val : ℝ) : EReal) := by
  rw [val_main_v27_apply]
  unfold val_main_v24 val_main_v26
  obtain ⟨a, b, rfl⟩ : ∃ (a : Fin 4096) (b : Fin 5632), i = ix2 a b := ⟨i 0, i 1, by funext q; match q with | ⟨0, _⟩ => rfl | ⟨1, _⟩ => rfl⟩
  pointwise []
  show _ = ((if b.val < 2816 then A.dg a.val b.val else A.du a.val (b.val - 2816) : ℝ) : EReal)
  have hb := b.isLt
  by_cases h : b.val < 2816
  · rw [dif_neg (by omega), dif_pos h, if_pos h, val_main_cst_3_apply, v25_at H, Ideal.ofBits_def, word_zero, ← EReal.coe_add, zero_add]
    rfl
  · rw [dif_pos ⟨by omega, by omega⟩, dif_neg h, if_neg h, val_main_cst_4_apply, v22_at H, Ideal.ofBits_def, word_zero, ← EReal.coe_add, add_zero]
    rfl

/-- The cotangent of the normalised, scaled row. -/
theorem v28_at (H : Holds A x0 x1 x2 x3 x4 x5 x6 x7) (i : S4096x1024.Idx) :
    val_main_v28 (F := Ideal) x0 x1 x2 x4 x5 i = ((A.dh (i 0).val (i 1).val : ℝ) : EReal) := by
  rw [val_main_v28_apply]
  simp only [v27_at H, H.wgu_at, ← EReal.coe_mul, coe_sum]
  rfl

/-- The first normalisation's gradient in its scale. -/
theorem v31_at (H : Holds A x0 x1 x2 x3 x4 x5 x6 x7) (i : S1x1024.Idx) :
    val_main_v31 (F := Ideal) x0 x1 x2 x4 x5 i = ((A.dgpre (i 1).val : ℝ) : EReal) := by
  rw [val_main_v31_apply, val_main_v30_apply, val_main_cst_5_apply]
  simp only [val_main_v29_apply, v12_at H, v28_at H, Ideal.mulf_def, Ideal.ofBits_def, word_zero, ← EReal.coe_mul, coe_sum]
  rw [← EReal.coe_add, zero_add]
  refine congrArg _ ?_
  unfold Args.dgpre
  have h0 : (i 0).val = 0 := by have h : (i 0).val < 1 := (i 0).isLt; omega
  simp only [h0, Nat.zero_mul, Nat.zero_add]
  exact Finset.sum_congr rfl fun k _ => mul_comm (hat _ _) (A.dh _ _)

/-- Through the first normalisation: the cotangent times the scale. -/
theorem v33_at (H : Holds A x0 x1 x2 x3 x4 x5 x6 x7) (i : S4096x1024.Idx) :
    val_main_v33 (F := Ideal) x0 x1 x2 x4 x5 i = ((A.dh (i 0).val (i 1).val * A.gpre (i 1).val : ℝ) : EReal) := by
  rw [val_main_v33_apply, val_main_v32_apply, v28_at H, H.gpre_at, Ideal.mulf_def, ← EReal.coe_mul]

/-- Through the first normalisation: the part through the mean square, per row. -/
theorem v43_at (H : Holds A x0 x1 x2 x3 x4 x5 x6 x7) (i : S4096x1024.Idx) :
    val_main_v43 (F := Ideal) x0 x1 x2 x4 x5 i = (((∑ j : Fin 1024, A.x (i 0).val j * (A.dh (i 0).val j * A.gpre j)) * (-(1 / 2) * (rinv (A.x (i 0).val) / ms (A.x (i 0).val))) / 1024 : ℝ) : EReal) := by
  rw [val_main_v43_apply, val_main_v42_apply, val_main_cst_8_apply]
  simp only [val_main_v41_apply, val_main_v40_apply, val_main_cst_7_apply, val_main_v39_apply, val_main_v36_apply, val_main_v35_apply, val_main_cst_6_apply, val_main_v34_apply, v33_at H, v10_at H, H.x_at, Ideal.mulf_def, Ideal.ofBits_def, Ideal.hostDivf_def, word_zero, word_rows, ← EReal.coe_mul, coe_sum, ← EReal.coe_add, Ideal.div_coe (show (1024 : ℝ) ≠ 0 by norm_num), zero_add, mul_one_div, Finset.univ_unique, Finset.sum_singleton, Fin.default_eq_zero, Fin.isValue, Fin.val_zero, Nat.mul_one, Nat.add_zero]

/-- Through the first normalisation: its derivative. -/
theorem v47_at (H : Holds A x0 x1 x2 x3 x4 x5 x6 x7) (i : S4096x1024.Idx) :
    val_main_v47 (F := Ideal) x0 x1 x2 x4 x5 i = ((normBack (A.dh (i 0).val) (A.x (i 0).val) A.gpre (i 1).val : ℝ) : EReal) := by
  rw [val_main_v47_apply, val_main_v46_apply, val_main_v45_apply, val_main_v44_apply, val_main_v38_apply, val_main_v37_apply, v33_at H, v43_at H, v7_at H, H.x_at, normBack_eq]
  simp only [Ideal.mulf_def, Ideal.addf_def, ← EReal.coe_mul, ← EReal.coe_add]

/-- The residual stream's cotangent. -/
theorem v48_at (H : Holds A x0 x1 x2 x3 x4 x5 x6 x7) (i : S4096x1024.Idx) :
    val_main_v48 (F := Ideal) x0 x1 x2 x3 x4 x5 i = ((A.dx (i 0).val (i 1).val : ℝ) : EReal) := by
  rw [val_main_v48_apply, H.dres_at, v47_at H, Ideal.addf_def, ← EReal.coe_add]
  rfl

/-- The second normalisation: a row's mean square plus the small number. -/
theorem v55_at (H : Holds A x0 x1 x2 x3 x4 x5 x6 x7) (i : S4096x1.Idx) :
    val_main_v55 (F := Ideal) x6 i = ((ms (A.mo (i 0).val) : ℝ) : EReal) := by
  rw [val_main_v55_apply, val_main_v53_apply, val_main_v51_apply, val_main_v50_apply, val_main_cst_9_apply, val_main_v52_apply, val_main_cst_10_apply, val_main_v54_apply, val_main_cst_11_apply]
  simp only [val_main_v49_apply, H.mo_at, Ideal.mulf_def, Ideal.addf_def, Ideal.hostDivf_def, Ideal.ofBits_def, word_zero, word_rows, word_eps, ← EReal.coe_mul, coe_sum]
  rw [← EReal.coe_add, Ideal.div_coe (by norm_num), ← EReal.coe_mul, ← EReal.coe_add]
  refine congrArg _ ?_
  unfold ms
  rw [zero_add, mul_one_div]

/-- The second normalisation: a row's reciprocal root mean square. -/
theorem v56_at (H : Holds A x0 x1 x2 x3 x4 x5 x6 x7) (i : S4096x1.Idx) :
    val_main_v56 (F := Ideal) x6 i = ((rinv (A.mo (i 0).val) : ℝ) : EReal) := by
  rw [val_main_v56_apply, v55_at H, Ideal.hostUnary_rsqrt_def, Ideal.rsqrt_coe, if_neg (not_lt.mpr (ms_pos _).le), if_neg (ms_pos _).ne']
  rfl

/-- The second normalisation: the derivative of the reciprocal root in the mean square. -/
theorem v59_at (H : Holds A x0 x1 x2 x3 x4 x5 x6 x7) (i : S4096x1.Idx) :
    val_main_v59 (F := Ideal) x6 i = ((-(1 / 2) * (rinv (A.mo (i 0).val) / ms (A.mo (i 0).val)) : ℝ) : EReal) := by
  rw [val_main_v59_apply, val_main_v58_apply, val_main_cst_12_apply, val_main_v57_apply, v56_at H, v55_at H, Ideal.hostDivf_def, Ideal.div_coe (ms_pos _).ne', Ideal.mulf_def, Ideal.ofBits_def, word_half, ← EReal.coe_mul, ← EReal.coe_mul, mul_one_div]

/-- The second normalisation: the normalised row. -/
theorem v61_at (H : Holds A x0 x1 x2 x3 x4 x5 x6 x7) (i : S4096x1024.Idx) :
    val_main_v61 (F := Ideal) x6 i = ((hat (A.mo (i 0).val) (i 1).val : ℝ) : EReal) := by
  rw [val_main_v61_apply, val_main_v60_apply, H.mo_at, v56_at H, Ideal.mulf_def, ← EReal.coe_mul]
  rfl

/-- The second normalisation's gradient in its scale. -/
theorem v66_at (H : Holds A x0 x1 x2 x3 x4 x5 x6 x7) (i : S1x1024.Idx) :
    val_main_v66 (F := Ideal) x0 x1 x2 x3 x4 x5 x6 i = ((A.dgpost (i 1).val : ℝ) : EReal) := by
  rw [val_main_v66_apply, val_main_v65_apply, val_main_cst_13_apply]
  simp only [val_main_v64_apply, v61_at H, v48_at H, Ideal.mulf_def, Ideal.ofBits_def, word_zero, ← EReal.coe_mul, coe_sum]
  rw [← EReal.coe_add, zero_add]
  refine congrArg _ ?_
  unfold Args.dgpost
  have h0 : (i 0).val = 0 := by have h : (i 0).val < 1 := (i 0).isLt; omega
  simp only [h0, Nat.zero_mul, Nat.zero_add]
  exact Finset.sum_congr rfl fun k _ => mul_comm (hat _ _) (A.dx _ _)

/-- Through the second normalisation: the cotangent times the scale. -/
theorem v68_at (H : Holds A x0 x1 x2 x3 x4 x5 x6 x7) (i : S4096x1024.Idx) :
    val_main_v68 (F := Ideal) x0 x1 x2 x3 x4 x5 x7 i = ((A.dx (i 0).val (i 1).val * A.gpost (i 1).val : ℝ) : EReal) := by
  rw [val_main_v68_apply, val_main_v67_apply, v48_at H, H.gpost_at, Ideal.mulf_def, ← EReal.coe_mul]

/-- Through the second normalisation: the part through the mean square, per row. -/
theorem v78_at (H : Holds A x0 x1 x2 x3 x4 x5 x6 x7) (i : S4096x1024.Idx) :
    val_main_v78 (F := Ideal) x0 x1 x2 x3 x4 x5 x6 x7 i = (((∑ j : Fin 1024, A.mo (i 0).val j * (A.dx (i 0).val j * A.gpost j)) * (-(1 / 2) * (rinv (A.mo (i 0).val) / ms (A.mo (i 0).val))) / 1024 : ℝ) : EReal) := by
  rw [val_main_v78_apply, val_main_v77_apply, val_main_cst_16_apply]
  simp only [val_main_v76_apply, val_main_v75_apply, val_main_cst_15_apply, val_main_v74_apply, val_main_v71_apply, val_main_v70_apply, val_main_cst_14_apply, val_main_v69_apply, v68_at H, v59_at H, H.mo_at, Ideal.mulf_def, Ideal.ofBits_def, Ideal.hostDivf_def, word_zero, word_rows, ← EReal.coe_mul, coe_sum, ← EReal.coe_add, Ideal.div_coe (show (1024 : ℝ) ≠ 0 by norm_num), zero_add, mul_one_div, Finset.univ_unique, Finset.sum_singleton, Fin.default_eq_zero, Fin.isValue, Fin.val_zero, Nat.mul_one, Nat.add_zero]

/-- Through the second normalisation: its derivative. -/
theorem v82_at (H : Holds A x0 x1 x2 x3 x4 x5 x6 x7) (i : S4096x1024.Idx) :
    val_main_v82 (F := Ideal) x0 x1 x2 x3 x4 x5 x6 x7 i = ((normBack (A.dx (i 0).val) (A.mo (i 0).val) A.gpost (i 1).val : ℝ) : EReal) := by
  rw [val_main_v82_apply, val_main_v81_apply, val_main_v80_apply, val_main_v79_apply, val_main_v73_apply, val_main_v72_apply, v68_at H, v78_at H, v56_at H, H.mo_at, normBack_eq]
  simp only [Ideal.mulf_def, Ideal.addf_def, ← EReal.coe_mul, ← EReal.coe_add]

/-- The cotangent of the block's output. -/
theorem v89_at (H : Holds A x0 x1 x2 x3 x4 x5 x6 x7) (i : S4096x1024.Idx) :
    val_main_v89 (F := Ideal) x0 x1 x2 x3 x4 x5 x6 x7 i = ((A.dm (i 0).val (i 1).val : ℝ) : EReal) := by
  rw [val_main_v89_apply, v82_at H, Ideal.truncf_def]
  rfl

/-- The bias' gradient. -/
theorem v91_at (H : Holds A x0 x1 x2 x3 x4 x5 x6 x7) (i : S1x1024.Idx) :
    val_main_v91 (F := Ideal) x0 x1 x2 x3 x4 x5 x6 x7 i = ((A.db (i 1).val : ℝ) : EReal) := by
  rw [val_main_v91_apply, val_main_v90_apply, val_main_cst_17_apply]
  simp only [v82_at H, Ideal.ofBits_def, word_zero, coe_sum]
  rw [← EReal.coe_add, zero_add]
  rfl

/-- The two cotangents, stacked. -/
theorem v88_at (H : Holds A x0 x1 x2 x3 x4 x5 x6 x7) (i : S2x4096x2816.Idx) :
    val_main_v88 (F := Ideal) x0 x1 x2 x4 x5 i = ((A.dgu (i 1).val (2816 * (i 0).val + (i 2).val) : ℝ) : EReal) := by
  rw [val_main_v88_apply, Ideal.truncf_def]
  unfold val_main_v87
  obtain ⟨s, a, b, rfl⟩ : ∃ (s : Fin 2) (a : Fin 4096) (b : Fin 2816), i = ix3 s a b := ⟨i 0, i 1, i 2, by funext q; match q with | ⟨0, _⟩ => rfl | ⟨1, _⟩ => rfl | ⟨2, _⟩ => rfl⟩
  pointwise []
  have hs := s.isLt
  by_cases h : s.val < 1
  · have h0 : s.val = 0 := by omega
    rw [dif_pos h, val_main_v85_apply, val_main_v83_apply, v27_at H]
    refine congrArg _ ?_
    show A.dgu a.val b.val = A.dgu a.val (2816 * s.val + b.val)
    rw [h0, Nat.mul_zero, Nat.zero_add]
  · have h0 : s.val = 1 := by omega
    rw [dif_neg h, val_main_v86_apply, val_main_v84_apply, v27_at H]
    refine congrArg _ ?_
    show A.dgu a.val (2816 + b.val) = A.dgu a.val (2816 * s.val + b.val)
    rw [h0, Nat.mul_one]

end Cert.Ffn.Reference

end
-- ==== Proof.Finite.lean ====
/- The precondition: every element of every argument is finite. So each argument array holds real numbers, and these are the
   arrays of reals that the results are stated in. -/
module

public import proofs.«01_k».proof.Proof.Gen.Pre_finite
public import proofs.«01_k».proof.Proof.Words
public import Idealize.ShloMosaic.Lib.ReduceAll
public import Idealize.ShloMosaic.Lib.Pointwise

@[expose] public section

noncomputable section

namespace Cert.Ffn.Finite

open Idealize.ShloMosaic Cert.Pre_finite

/-- An extended real smaller in size than infinity is a real. -/
theorem real_of_abs_lt (a : EReal) (h : max a (-a) < ⊤) : a = ((a.toReal : ℝ) : EReal) := by
  induction a using EReal.rec with
  | bot => simp at h
  | top => simp at h
  | coe r => simp

/-- If the conjunction over an array of «smaller in size than infinity» is true, every element is a real. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : x i = (((x i).toReal : ℝ) : EReal) := by
  haveI : Subsingleton S_.Idx := ⟨fun a b => funext fun q => q.elim0⟩
  have h := Host.reduce_andi_all _ _ hr hu j e i
  refine real_of_abs_lt (x i) ?_
  have h' : Ideal.cmp .olt (max (x i) (-(x i))) (Ideal.ofBits .f32 0x7F800000#32) = 1#1 := h
  rw [word_top] at h'
  by_contra hn
  simp [Ideal.cmp, hn] at h'

/-- The real matrix an array of extended reals holds, nought outside it. -/
def reals {n k : ℕ} (v : (⟨2, ![n, k]⟩ : Shape).Idx → EReal) (i j : ℕ) : ℝ :=
  if h : i < n ∧ j < k then (v (ix2 ⟨i, h.1⟩ ⟨j, h.2⟩)).toReal else 0

/-- An array of reals holds the matrix read off it. -/
theorem reals_at {n k : ℕ} (v : (⟨2, ![n, k]⟩ : Shape).Idx → EReal) (h : ∀ i, v i = (((v i).toReal : ℝ) : EReal)) (a : Fin n) (b : Fin k) :
    v (ix2 a b) = ((reals v a.val b.val : ℝ) : EReal) := by
  rw [reals, dif_pos ⟨a.isLt, b.isLt⟩]
  exact h _

variable (x0 : FVec Ideal S4096x1024 .f32) (x1 : FVec Ideal S2816x1024 .f32) (x2 : FVec Ideal S1024x5632 .f32)
  (x3 x4 : FVec Ideal S4096x1024 .f32) (x5 : FVec Ideal S1x1024 .f32) (x6 : FVec Ideal S4096x1024 .f32) (x7 : FVec Ideal S1x1024 .f32)

/-- Each argument's elements are reals. -/
structure AllReal : Prop where
  h0 : ∀ i, x0 i = (((x0 i).toReal : ℝ) : EReal)
  h1 : ∀ i, x1 i = (((x1 i).toReal : ℝ) : EReal)
  h2 : ∀ i, x2 i = (((x2 i).toReal : ℝ) : EReal)
  h3 : ∀ i, x3 i = (((x3 i).toReal : ℝ) : EReal)
  h4 : ∀ i, x4 i = (((x4 i).toReal : ℝ) : EReal)
  h5 : ∀ i, x5 i = (((x5 i).toReal : ℝ) : EReal)
  h6 : ∀ i, x6 i = (((x6 i).toReal : ℝ) : EReal)
  h7 : ∀ i, x7 i = (((x7 i).toReal : ℝ) : EReal)

/-- What the precondition says. -/
theorem allReal_of_pre (h : Cert.Pre_finite.fn (F := Ideal) x0 x1 x2 x3 x4 x5 x6 x7 = fun _ => 1#1) : AllReal x0 x1 x2 x3 x4 x5 x6 x7 := by
  have e := congrFun h (fun q => q.elim0)
  simp only [Cert.Pre_finite.fn, Cert.Pre_finite.fn_part1, Cert.Pre_finite.fn_part2, andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all _ _ _ _ _ e0, real_of_all _ _ _ _ _ e1, real_of_all _ _ _ _ _ e2, real_of_all _ _ _ _ _ e3, real_of_all _ _ _ _ _ e4,
    real_of_all _ _ _ _ _ e5, real_of_all _ _ _ _ _ e6, real_of_all _ _ _ _ _ e7⟩

/-- The real arrays that the arguments hold. -/
def args : Args where
  df := reals x0
  wd := reals x1
  wgu := reals x2
  dres := reals x3
  x := reals x4
  gpre := reals x5 0
  mo := reals x6
  gpost := reals x7 0

end Cert.Ffn.Finite

end
-- ==== Proof.Equation.lean ====
/- The equation: on finite arguments the idealized kernel and the idealized reference leave the same six arrays. -/
module

public import proofs.«01_k».proof.Defs
public import proofs.«01_k».proof.Proof.Arrays
public import proofs.«01_k».proof.Proof.RefVals
public import proofs.«01_k».proof.Proof.Finite
public import proofs.«01_k».proof.Proof.Gen.ReferenceIdeal
public import proofs.«01_k».proof.Proof.Gen.ReferenceIdeal.Run

@[expose] public section

set_option maxRecDepth 16384

noncomputable section

namespace Cert.Ffn

open Idealize.ShloMosaic Idealize.SL.Sem

/-- The reference runs to the end and leaves its arguments and its counters alone: it declares no semaphore. -/
theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (Cert.ReferenceIdeal.Value.run (F := Ideal) m ρ)

section
variable {x0 x3 x4 x6 : FVec Ideal Cert.Pre_finite.S4096x1024 .f32} {x1 : FVec Ideal Cert.Pre_finite.S2816x1024 .f32}
  {x2 : FVec Ideal Cert.Pre_finite.S1024x5632 .f32} {x5 x7 : FVec Ideal Cert.Pre_finite.S1x1024 .f32}

/-- Finite arrays hold the reals read off them, an element for each index. -/
theorem holds_of_allReal (h : Finite.AllReal x0 x1 x2 x3 x4 x5 x6 x7) :
    Reference.Holds (Finite.args x0 x1 x2 x3 x4 x5 x6 x7) x0 x1 x2 x3 x4 x5 x6 x7 where
  df_at i := by idx_vars i; exact Finite.reals_at x0 h.h0 _ _
  wd_at i := by idx_vars i; exact Finite.reals_at x1 h.h1 _ _
  wgu_at i := by idx_vars i; exact Finite.reals_at x2 h.h2 _ _
  dres_at i := by idx_vars i; exact Finite.reals_at x3 h.h3 _ _
  x_at i := by idx_vars i; exact Finite.reals_at x4 h.h4 _ _
  gpre_at i := by idx_vars i; obtain rfl : i0 = 0 := Subsingleton.elim _ _; exact Finite.reals_at x5 h.h5 _ _
  mo_at i := by idx_vars i; exact Finite.reals_at x6 h.h6 _ _
  gpost_at i := by idx_vars i; obtain rfl : i0 = 0 := Subsingleton.elim _ _; exact Finite.reals_at x7 h.h7 _ _
end

section
open Cert.KernelIdeal
variable (m : (ℓ : Loc nD τ sig) → Buf (Elt Ideal) ℓ) (c : Dev nD)

/-- The real arrays that a device's arguments hold. -/
abbrev argsOf : Args :=
  Finite.args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

variable {m} (hp : Cert.Pre_KernelIdeal_finite m)
include hp

/-- Under the precondition, the reference's reading of them. -/
theorem holds_of_pre : Reference.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)) :=
  holds_of_allReal (Finite.allReal_of_pre _ _ _ _ _ _ _ _ (hp c))

/-- Under the precondition, the kernel's reading of them. -/
theorem given_of_pre : Kernel.Given m c (argsOf m c) where
  df_is a k := (holds_of_pre c hp).df_at (ix2 a k)
  wd_is a k := (holds_of_pre c hp).wd_at (ix2 a k)
  wgu_is a k := (holds_of_pre c hp).wgu_at (ix2 a k)
  dres_is a k := (holds_of_pre c hp).dres_at (ix2 a k)
  x_is a k := (holds_of_pre c hp).x_at (ix2 a k)
  gpre_is a k := (holds_of_pre c hp).gpre_at (ix2 a k)
  mo_is a k := (holds_of_pre c hp).mo_at (ix2 a k)
  gpost_is a k := (holds_of_pre c hp).gpost_at (ix2 a k)
end

/-- Both programs leave the real formulas' arrays. -/
theorem equation : Cert.algebraic_KernelIdeal_ReferenceIdeal_pre_finite := by
  intro m ρ m' ρ' hp hagree
  refine ⟨fun c i => (((argsOf m c).dgu (i 1).val (2816 * (i 0).val + (i 2).val) : ℝ) : EReal),
    fun c i => (((argsOf m c).dx (i 0).val (i 1).val : ℝ) : EReal), fun c i => (((argsOf m c).dm (i 0).val (i 1).val : ℝ) : EReal),
    fun c i => (((argsOf m c).dgpre (i 1).val : ℝ) : EReal), fun c i => (((argsOf m c).dgpost (i 1).val : ℝ) : EReal),
    fun c i => (((argsOf m c).db (i 1).val : ℝ) : EReal), ?_, ?_⟩
  · refine (θ_run Cert.KernelIdeal.defs _ _).mono (fun r h c => ?_) (Cert.KernelIdeal.Value.run_blocks (F := Ideal) m ρ)
    have G := given_of_pre c hp
    obtain ⟨h0, h1, h2, h3, h4, h5, hk⟩ := h c
    exact ⟨h0.trans (Kernel.arr12 G), h1.trans (Kernel.arr13 G), h2.trans (Kernel.arr14 G), h3.trans (Kernel.arr15 G), h4.trans (Kernel.arr16 G),
      h5.trans (Kernel.arr17 G), hk⟩
  · refine (θ_run Cert.ReferenceIdeal.defs _ _).mono (fun r h c => ?_) (Cert.ReferenceIdeal.Value.run (F := Ideal) m' ρ')
    have H := holds_of_pre c hp
    obtain ⟨a0, a1, a2, a3, a4, a5, a6, a7⟩ := hagree c
    obtain ⟨h0, h1, h2, h3, h4, h5, hk⟩ := h c
    rw [Cert.ReferenceIdeal.Read.val_main_v88_eq, a0, a1, a2, a4, a5] at h0
    rw [Cert.ReferenceIdeal.Read.val_main_v48_eq, a0, a1, a2, a3, a4, a5] at h1
    rw [Cert.ReferenceIdeal.Read.val_main_v89_eq, a0, a1, a2, a3, a4, a5, a6, a7] at h2
    rw [Cert.ReferenceIdeal.Read.val_main_v31_eq, a0, a1, a2, a4, a5] at h3
    rw [Cert.ReferenceIdeal.Read.val_main_v66_eq, a0, a1, a2, a3, a4, a5, a6] at h4
    rw [Cert.ReferenceIdeal.Read.val_main_v91_eq, a0, a1, a2, a3, a4, a5, a6, a7] at h5
    exact ⟨h0.trans (funext (Reference.v88_at H)), h1.trans (funext (Reference.v48_at H)), h2.trans (funext (Reference.v89_at H)),
      h3.trans (funext (Reference.v31_at H)), h4.trans (funext (Reference.v66_at H)), h5.trans (funext (Reference.v91_at H)), hk⟩

end Cert.Ffn

end
-- ==== Proof.AttnReals.lean ====
/- The mathematics of the attention half's backward pass on real numbers, with no program in sight: queries look at the 128 keys up to
   and including their own position, each row of scores has one more entry (its head's sink), and the gradients of the queries, the
   keys, the values and the sinks follow. The kernel's modules and the reference's each show that their program computes these. -/
module

public import Mathlib.Data.EReal.Operations
public import Mathlib.Analysis.SpecialFunctions.Exp
public import Mathlib.Algebra.BigOperators.Fin
public import Mathlib.Tactic.FieldSimp
public import Mathlib.Tactic.Ring
public import Mathlib.Tactic.Positivity

@[expose] public section

noncomputable section

namespace Cert.Attn

/-- Query `r` of a block (four heads' rows below each other, 128 each) may look at band position `p`: the key lies at most 127
    positions back and not ahead, and in block 0 there is no block before. Band positions 0 … 127 are the block before, 128 … 255
    the block itself. -/
abbrev ok (b p r : ℕ) : Prop := r % 128 < p ∧ p ≤ r % 128 + 128 ∧ (p < 128 → 0 < b)

section Row

variable (f g : ℕ → ℕ → ℝ) (s : ℕ → ℝ) (b : ℕ)

/-- The unnormalised weight of band position `p` for query `r`, from the scores `f`. -/
def wt (p r : ℕ) : ℝ := if ok b p r then Real.exp (f p r * (1 / 8)) else 0

/-- The sum of a query's weights and its sink's. -/
def zed (r : ℕ) : ℝ := (∑ p : Fin 256, wt f b p r) + Real.exp (s r)

/-- The probability of band position `p` for query `r`. -/
def prob (p r : ℕ) : ℝ := wt f b p r / zed f s b r

/-- A query's mean of the probabilities' cotangents `g`. -/
def mean (r : ℕ) : ℝ := ∑ p : Fin 256, prob f s b p r * g p r

/-- The cotangent of the unscaled score. -/
def dscore (p r : ℕ) : ℝ := prob f s b p r * (g p r - mean f g s b r) * (1 / 8)

/-- Minus the cotangent of a query's sink. -/
def dsinkRow (r : ℕ) : ℝ := Real.exp (s r) / zed f s b r * mean f g s b r

theorem wt_nonneg (p r : ℕ) : 0 ≤ wt f b p r := by unfold wt; split_ifs <;> positivity

theorem zed_pos (r : ℕ) : 0 < zed f s b r := by
  have h : 0 ≤ ∑ p : Fin 256, wt f b p r := Finset.sum_nonneg fun p _ => wt_nonneg f b p r
  have := Real.exp_pos (s r)
  unfold zed; positivity

theorem wt_eq_zero {p r : ℕ} (h : ¬ok b p r) : wt f b p r = 0 := if_neg h

theorem prob_eq_zero {p r : ℕ} (h : ¬ok b p r) : prob f s b p r = 0 := by rw [prob, wt_eq_zero f b h, zero_div]

theorem dscore_eq_zero {p r : ℕ} (h : ¬ok b p r) : dscore f g s b p r = 0 := by rw [dscore, prob_eq_zero f s b h, zero_mul, zero_mul]

end Row

/-- The band position that slot `j` of query `r` holds: of the two positions `j` and `128 + j` exactly one is in the query's window. -/
def pos (j r : ℕ) : ℕ := if r % 128 < j then j else 128 + j

theorem ok_pos {b j r : ℕ} (h : j < 128) : ok b (pos j r) r ↔ (r % 128 < j → 0 < b) := by
  have := Nat.mod_lt r (show 0 < 128 by omega)
  unfold ok pos; split_ifs with hj
  · exact ⟨fun h _ => h.2.2 (by omega), fun h' => ⟨hj, by omega, fun _ => h' hj⟩⟩
  · exact ⟨fun _ h => absurd h hj, fun _ => ⟨by omega, by omega, fun h => by omega⟩⟩

/-- A sum over a query's 128 slots is the sum over the 256 band positions, where the summand vanishes outside the window. -/
theorem sum_slots (F : ℕ → ℝ) (b r : ℕ) (hF : ∀ p, ¬ok b p r → F p = 0) : ∑ j : Fin 128, F (pos j r) = ∑ p : Fin 256, F p := by
  have e : ∑ p : Fin 256, F p = ∑ j : Fin 128, F j + ∑ j : Fin 128, F (128 + j) := Fin.sum_univ_add (a := 128) (b := 128) fun p => F p.val
  rw [e, ← Finset.sum_add_distrib]
  refine Finset.sum_congr rfl fun j _ => ?_
  have := j.isLt
  unfold pos; split_ifs with hj
  · rw [hF (128 + j) fun h => by have := h.2.1; omega, add_zero]
  · rw [hF j fun h => hj h.1, zero_add]

/-- A sum over the 512 rows of a block, group by group. -/
theorem sum_groups (F : ℕ → ℝ) : ∑ r : Fin 512, F r = ∑ e : Fin 4, ∑ i : Fin 128, F (128 * e + i) := by
  have h1 : ∑ r : Fin 512, F r = ∑ r : Fin 256, F r + ∑ r : Fin 256, F (256 + r) := Fin.sum_univ_add (a := 256) (b := 256) fun p => F p.val
  have h2 (G : ℕ → ℝ) : ∑ r : Fin 256, G r = ∑ r : Fin 128, G r + ∑ r : Fin 128, G (128 + r) := Fin.sum_univ_add (a := 128) (b := 128) fun p => G p.val
  rw [h1, h2, h2 fun r => F (256 + r), Fin.sum_univ_four]
  have a0 : ∑ i : Fin 128, F (128 * (0 : Fin 4).val + i) = ∑ i : Fin 128, F i := by simp
  have a1 : ∑ i : Fin 128, F (128 * (1 : Fin 4).val + i) = ∑ i : Fin 128, F (128 + i) := by simp
  have a2 : ∑ i : Fin 128, F (128 * (2 : Fin 4).val + i) = ∑ i : Fin 128, F (256 + i) := by simp
  have a3 : ∑ i : Fin 128, F (128 * (3 : Fin 4).val + i) = ∑ i : Fin 128, F (256 + (128 + i)) := by
    refine Finset.sum_congr rfl fun i _ => congrArg F ?_
    show 128 * 3 + i.val = _
    omega
  rw [a0, a1, a2, a3]; ring

/-- The arguments as real arrays: queries and the output's cotangent of 4096 rows with 16 heads of 64 columns, keys and values of 4096 rows
    with 4 heads of 64 columns, 16 sinks. -/
structure Args where
  q : ℕ → ℕ → ℝ
  k : ℕ → ℕ → ℝ
  v : ℕ → ℕ → ℝ
  sink : ℕ → ℝ
  g : ℕ → ℕ → ℝ

/-- The band of block `b`: the block before (in block 0, where no query may look there, the block itself) and the block. -/
def band (x : ℕ → ℕ → ℝ) (b p c : ℕ) : ℝ := if p < 128 then x (128 * (b - 1) + p) c else x (128 * b + (p - 128)) c

/-- The rows of block `b` that read key head `h`: four query heads below each other. -/
def rows (x : ℕ → ℕ → ℝ) (b h r d : ℕ) : ℝ := x (128 * b + r % 128) (64 * (4 * h + r / 128) + d)

namespace Args

variable (A : Args) (b h : ℕ)

/-- The keys of a block's band. -/
def kb (p d : ℕ) : ℝ := band A.k b p (64 * h + d)
/-- The values of a block's band. -/
def vb (p d : ℕ) : ℝ := band A.v b p (64 * h + d)
/-- The queries of a block. -/
def qb (r d : ℕ) : ℝ := rows A.q b h r d
/-- The output's cotangent of a block. -/
def gb (r d : ℕ) : ℝ := rows A.g b h r d
/-- The scores, before the scaling. -/
def sc (p r : ℕ) : ℝ := ∑ d : Fin 64, A.kb b h p d * A.qb b h r d
/-- The cotangents of the probabilities. -/
def dp (p r : ℕ) : ℝ := ∑ d : Fin 64, A.vb b h p d * A.gb b h r d
/-- The sinks of a block's rows. -/
def sk (r : ℕ) : ℝ := A.sink (4 * h + r / 128)
/-- The probabilities. -/
def pr (p r : ℕ) : ℝ := prob (A.sc b h) (A.sk h) b p r
/-- The scores' cotangents. -/
def ds (p r : ℕ) : ℝ := dscore (A.sc b h) (A.dp b h) (A.sk h) b p r

/-- The gradient of the queries in a block's row `r`. -/
def dq (r d : ℕ) : ℝ := ∑ p : Fin 256, A.kb b h p d * A.ds b h p r
/-- The gradient of the keys at a block's band position. -/
def dk (p d : ℕ) : ℝ := ∑ r : Fin 512, A.ds b h p r * A.qb b h r d
/-- The gradient of the values at a block's band position. -/
def dv (p d : ℕ) : ℝ := ∑ r : Fin 512, A.pr b h p r * A.gb b h r d
/-- A block's part of the gradient of the sink of head `4 * h + e`. -/
def dsink (e : ℕ) : ℝ := ∑ i : Fin 128, -dsinkRow (A.sc b h) (A.dp b h) (A.sk h) b (128 * e + i)

end Args

end Cert.Attn

end
-- ==== Proof.AttnHead.lean ====
/- One key head's part of a grid point, as the kernel computes it from the loaded tiles: the probabilities and the scores' cotangents in
   128 slots for each query, spread over the band of 256 positions, and the gradients from there. -/
module

public import proofs.«01_k».proof.Proof.AttnReals
public import proofs.«01_k».proof.Proof.Host
public import proofs.«01_k».proof.Proof.Gen.Kernel2Ideal.Value

@[expose] public section

set_option maxRecDepth 16384

noncomputable section

namespace Cert.Attn.Kernel

open Idealize.ShloMosaic Idealize.ShloMosaic.TcCoe Idealize.SL.Sem
open Cert.Kernel2Ideal Cert.Kernel2Ideal.Gen
open Cert.Ffn (coe_sum word_zero word_one)
open Cert.Ffn.Kernel (Is)

/-- The word of an eighth. -/
theorem word_eighth : Ideal.ofBits .f32 0x3E000000#32 = ((1 / 8 : ℝ) : EReal) := by
  simp [Ideal.ofBits, Ideal.ieee, -EReal.coe_mul]; norm_num

/-- The word of minus infinity. -/
theorem word_bot : Ideal.ofBits .f32 0xFF800000#32 = (⊥ : EReal) := by
  simp [Ideal.ofBits, Ideal.ieee, -EReal.coe_mul]

/-- The masking constant is named minus infinity. -/
theorem mask_named : Named.named (F := Ideal) κ "mask" (φ := .f32) 0xF149F2CA#32 = (⊥ : EReal) :=
  IdealRules.named_const.ideal_named_scalar κ "mask" (φ := .f32) 0xF149F2CA#32 ⊥ rfl

/-- A small number's word, read as a signed number. -/
theorem toInt_small {n : ℕ} (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- Which slots hold a position of the block before. -/
theorem slot_at (j : Fin 128) (r : Fin 512) : k0_pay37 (ix2 j r) = if r.val % 128 < j.val then 1#1 else 0#1 := by
  have hj := j.isLt
  have hr := r.isLt
  have h1 : (IntOp.andi (BitVec.ofNat 32 r.val) 127#32) = BitVec.ofNat 32 (r.val % 128) := by
    apply BitVec.eq_of_toNat_eq
    show ((BitVec.ofNat 32 r.val) &&& 127#32).toNat = _
    rw [BitVec.toNat_and, BitVec.toNat_ofNat, BitVec.toNat_ofNat, BitVec.toNat_ofNat, Nat.mod_eq_of_lt (a := r.val) (by omega),
      show 127 % 2 ^ 32 = 2 ^ 7 - 1 from rfl, Nat.and_two_pow_sub_one_eq_mod, Nat.mod_eq_of_lt (b := 2 ^ 32) (by omega)]
  have h2 : r.val % 128 < 128 := Nat.mod_lt _ (by omega)
  pointwise [k0_pay37]
  rw [h1]
  show BitVec.ofBool ((BitVec.ofNat 32 (r.val % 128)).slt (BitVec.ofNat 32 j.val)) = _
  rw [BitVec.slt_eq_decide, toInt_small (by omega), toInt_small (by omega)]
  by_cases h : r.val % 128 < j.val
  · rw [if_pos h, decide_eq_true (by omega)]; rfl
  · rw [if_neg h, decide_eq_false (by omega)]; rfl

/-- Choosing by the slot. -/
theorem select_slot {α : Type} (j : Fin 128) (r : Fin 512) (x y : α) : Scalar.select (k0_pay37 (ix2 j r)) x y = if r.val % 128 < j.val then x else y := by
  rw [slot_at]; split_ifs <;> rfl

/-- Whether there is a block before. -/
theorem select_before {α : Type} {b : ℕ} (hb : b < 32) (x y : α) : Scalar.select (Scalar.cmpi .sgt (BitVec.ofNat 32 b) 0#32) x y = if 0 < b then x else y := by
  have : Scalar.cmpi .sgt (BitVec.ofNat 32 b) 0#32 = if 0 < b then 1#1 else 0#1 := by
    show BitVec.ofBool ((0#32).slt (BitVec.ofNat 32 b)) = _
    rw [BitVec.slt_eq_decide, show (0#32).toInt = 0 from rfl, toInt_small (n := b) (by omega)]
    by_cases h : 0 < b
    · rw [if_pos h, decide_eq_true (by simpa using h)]; rfl
    · rw [if_neg h, decide_eq_false (by simpa using h)]; rfl
  rw [this]; split_ifs <;> rfl

section Probabilities

variable {f g : ℕ → ℕ → ℝ} {s : ℕ → ℝ} {b : ℕ} (hb : b < 32) {S D : FVec Ideal S256x512 .f32} {sk : FVec Ideal S1x1x512 .f32}
  (hS : Is S f) (hD : Is D g) (hs : ∀ r : Fin 512, sk (ix3 0 0 r) = ((s r.val : ℝ) : EReal))

/-- A scaled, masked score. -/
theorem score_at (hb : b < 32) (hS : Is S f) (j : Fin 128) (r : Fin 512) : k0_pay79 (BitVec.ofNat 32 b) k0_pay37 S (ix2 j r)
    = if r.val % 128 < j.val → 0 < b then ((f (pos j r) r * (1 / 8) : ℝ) : EReal) else ⊥ := by
  pointwise [k0_pay79]
  rw [select_slot, select_before hb, mask_named, word_eighth, hS _ _, hS _ _]
  by_cases hj : r.val % 128 < j.val
  · by_cases h0 : 0 < b
    · rw [if_pos hj, if_pos h0, if_pos fun _ => h0, pos, if_pos hj, EReal.coe_mul]
    · rw [if_pos hj, if_neg h0, if_neg fun h => h0 (h hj), EReal.bot_mul_coe_of_pos (by norm_num)]
  · rw [if_neg hj, if_pos fun h => absurd h hj, pos, if_neg hj, EReal.coe_mul]

/-- The largest of a query's scores and its sink is a real number. -/
theorem max_real (hb : b < 32) (hS : Is S f) (hs : ∀ r : Fin 512, sk (ix3 0 0 r) = ((s r.val : ℝ) : EReal)) :
    ∃ μ : ℕ → ℝ, Is (k0_pay80 (BitVec.ofNat 32 b) k0_pay37 S sk) fun _ r => μ r := by
  have key : ∀ r : Fin 512, ∃ x : ℝ, k0_pay80 (BitVec.ofNat 32 b) k0_pay37 S sk (ix2 0 r) = (x : EReal) := by
    intro r
    pointwise [k0_pay80, k0_pay78]
    rw [hs, word_bot]
    have h1 : Finset.fold max (⊥ : EReal) (fun x => k0_pay79 (BitVec.ofNat 32 b) k0_pay37 S (ix2 x r)) Finset.univ < ⊤ := by
      rw [Finset.fold_max_lt]
      refine ⟨bot_lt_top, fun j _ => ?_⟩
      rw [score_at hb hS]
      split_ifs
      · exact EReal.coe_lt_top _
      · exact bot_lt_top
    refine ⟨(max _ _ : EReal).toReal, (EReal.coe_toReal ?_ ?_).symm⟩
    · exact (max_lt h1 (EReal.coe_lt_top _)).ne
    · exact (lt_of_lt_of_le (EReal.bot_lt_coe (s r.val)) (le_max_right _ _)).ne'
  choose x hx using key
  refine ⟨fun r => if h : r < 512 then x ⟨r, h⟩ else 0, fun a r => ?_⟩
  obtain rfl : a = 0 := Subsingleton.elim _ _
  exact (hx r).trans (by simp only [r.isLt, dif_pos, Fin.eta])

/-- The exponentials of a query's scores, up to the factor its largest score gives. -/
theorem exp_at (hb : b < 32) (hS : Is S f) {μ : ℕ → ℝ} (hμ : Is (k0_pay80 (BitVec.ofNat 32 b) k0_pay37 S sk) fun _ r => μ r) :
    Is (k0_pay81 (BitVec.ofNat 32 b) k0_pay37 S sk) fun j r => wt f b (pos j r) r * Real.exp (-μ r) := fun j r => by
  pointwise [k0_pay81]
  rw [score_at hb hS, hμ]
  by_cases h : r.val % 128 < j.val → 0 < b
  · rw [if_pos h, wt, if_pos ((ok_pos j.isLt).mpr h), ← EReal.coe_sub, Ideal.exp_coe, ← Real.exp_add, ← sub_eq_add_neg]
  · rw [if_neg h, wt, if_neg (fun h' => h ((ok_pos j.isLt).mp h')), EReal.bot_sub, zero_mul]; rfl

/-- The exponential of a query's sink, up to the same factor. -/
theorem expSink_at (hs : ∀ r : Fin 512, sk (ix3 0 0 r) = ((s r.val : ℝ) : EReal)) {μ : ℕ → ℝ}
    (hμ : Is (k0_pay80 (BitVec.ofNat 32 b) k0_pay37 S sk) fun _ r => μ r) :
    Is (k0_pay82 (BitVec.ofNat 32 b) k0_pay37 S sk) fun _ r => Real.exp (s r) * Real.exp (-μ r) := fun a r => by
  obtain rfl : a = 0 := Subsingleton.elim _ _
  pointwise [k0_pay82, k0_pay78]
  rw [hs, hμ, ← EReal.coe_sub, Ideal.exp_coe, ← Real.exp_add, ← sub_eq_add_neg]

/-- The reciprocal of the sum of both. -/
theorem inv_at (hb : b < 32) (hS : Is S f) (hs : ∀ r : Fin 512, sk (ix3 0 0 r) = ((s r.val : ℝ) : EReal)) {μ : ℕ → ℝ}
    (hμ : Is (k0_pay80 (BitVec.ofNat 32 b) k0_pay37 S sk) fun _ r => μ r) :
    Is (k0_pay83 (BitVec.ofNat 32 b) k0_pay37 S sk) fun _ r => 1 / (zed f s b r * Real.exp (-μ r)) := fun a r => by
  obtain rfl : a = 0 := Subsingleton.elim _ _
  pointwise [k0_pay83]
  have e : ∑ j : Fin 128, k0_pay81 (BitVec.ofNat 32 b) k0_pay37 S sk (ix2 j r) + k0_pay82 (BitVec.ofNat 32 b) k0_pay37 S sk (ix2 0 r)
      = ((zed f s b r * Real.exp (-μ r) : ℝ) : EReal) := by
    rw [expSink_at hs hμ]
    simp only [exp_at hb hS hμ _ _, coe_sum]
    rw [← EReal.coe_add, ← Finset.sum_mul, sum_slots (fun p => wt f b p r) b r fun p h => wt_eq_zero f b h, zed, add_mul]
  rw [e, Ideal.div_coe (mul_pos (zed_pos f s b r) (Real.exp_pos _)).ne', one_mul]

/-- The probabilities, slot by slot. -/
theorem prob_at (hb : b < 32) (hS : Is S f) (hs : ∀ r : Fin 512, sk (ix3 0 0 r) = ((s r.val : ℝ) : EReal)) :
    Is (k0_pay84 (BitVec.ofNat 32 b) k0_pay37 S sk) fun j r => prob f s b (pos j r) r := fun j r => by
  obtain ⟨μ, hμ⟩ := max_real (sk := sk) hb hS hs
  pointwise [k0_pay84]
  rw [exp_at hb hS hμ, inv_at hb hS hs hμ, ← EReal.coe_mul]
  have := (zed_pos f s b r).ne'
  have := (Real.exp_pos (-μ r)).ne'
  congr 1
  unfold prob
  field_simp

/-- A sink's probability. -/
theorem probSink_at (hb : b < 32) (hS : Is S f) (hs : ∀ r : Fin 512, sk (ix3 0 0 r) = ((s r.val : ℝ) : EReal)) :
    Is (k0_pay85 (BitVec.ofNat 32 b) k0_pay37 S sk) fun _ r => Real.exp (s r) / zed f s b r := fun a r => by
  obtain ⟨μ, hμ⟩ := max_real (sk := sk) hb hS hs
  pointwise [k0_pay85]
  rw [expSink_at hs hμ, inv_at hb hS hs hμ, ← EReal.coe_mul]
  have := (zed_pos f s b r).ne'
  have := (Real.exp_pos (-μ r)).ne'
  congr 1
  field_simp

end Probabilities

section Cotangents

variable {f g : ℕ → ℕ → ℝ} {s : ℕ → ℝ} {b : ℕ} {P : FVec Ideal S128x512 .f32} {E : FVec Ideal S1x512 .f32} {D : FVec Ideal S256x512 .f32}

/-- The cotangents of the probabilities, slot by slot. -/
theorem picked_at (hD : Is D g) : Is (k0_pay88 (F := Ideal) k0_pay37 (k0_pay86 D) (k0_pay87 D)) fun j r => g (pos j r) r := fun j r => by
  pointwise [k0_pay88, k0_pay86, k0_pay87]
  rw [select_slot, hD _ _, hD _ _, pos]
  split_ifs <;> rfl

/-- A query's mean of them. -/
theorem mean_at (hP : Is P fun j r => prob f s b (pos j r) r) (hD : Is D g) :
    Is (k0_pay89 (F := Ideal) k0_pay37 P (k0_pay86 D) (k0_pay87 D)) fun _ r => mean f g s b r := fun a r => by
  obtain rfl : a = 0 := Subsingleton.elim _ _
  pointwise [k0_pay89]
  simp only [hP _ _, picked_at hD _ _, ← EReal.coe_mul, coe_sum]
  rw [sum_slots (fun p => prob f s b p r * g p r) b r fun p h => by rw [prob_eq_zero f s b h, zero_mul]]
  rfl

/-- Spreading the slots over the band: a band position outside the window gets zero. -/
theorem spread {F : ℕ → ℕ → ℝ} (hF : ∀ p r, ¬ok b p r → F p r = 0) (p : Fin 256) (r : Fin 512) :
    (if h : p.val < 128 then (if r.val % 128 < p.val then ((F (pos p r) r : ℝ) : EReal) else 0)
      else (if r.val % 128 < p.val - 128 then 0 else ((F (pos (p.val - 128) r) r : ℝ) : EReal))) = ((F p r : ℝ) : EReal) := by
  have := p.isLt
  split_ifs with h1 h2 h2
  · rw [pos, if_pos h2]
  · rw [hF p r fun h => h2 h.1]; rfl
  · rw [hF p r fun h => by have := h.2.1; omega]; rfl
  · rw [pos, if_neg h2, show 128 + (p.val - 128) = p.val by omega]

/-- The scores' cotangents over the band. -/
theorem dscore_at (hP : Is P fun j r => prob f s b (pos j r) r) (hD : Is D g) :
    Is (k0_pay90 (F := Ideal) k0_pay37 P (k0_pay86 D) (k0_pay87 D)) (dscore f g s b) := fun p r => by
  refine Eq.trans ?_ (spread (F := dscore f g s b) (fun p r h => dscore_eq_zero f g s b h) p r)
  pointwise [k0_pay90]
  simp only [select_slot, picked_at hD _ _, mean_at hP hD _ _, hP _ _, word_eighth, ← EReal.coe_sub, ← EReal.coe_mul]
  rfl

/-- The probabilities over the band. -/
theorem probBand_at (hP : Is P fun j r => prob f s b (pos j r) r) : Is (k0_pay91 (F := Ideal) k0_pay37 P) (prob f s b) := fun p r => by
  refine Eq.trans ?_ (spread (F := prob f s b) (fun p r h => prob_eq_zero f s b h) p r)
  pointwise [k0_pay91]
  simp only [select_slot, hP _ _]

/-- Minus a sink's cotangent, negated. -/
theorem dsinkRow_at (hP : Is P fun j r => prob f s b (pos j r) r) (hE : Is E fun _ r => Real.exp (s r) / zed f s b r) (hD : Is D g) :
    Is (k0_pay92 (F := Ideal) k0_pay37 P E (k0_pay86 D) (k0_pay87 D)) fun _ r => -dsinkRow f g s b r := fun a r => by
  pointwise [k0_pay92]
  rw [hE, mean_at hP hD, ← EReal.coe_mul, zero_sub, ← EReal.coe_neg]
  rfl

/-- A query head's part of its sink's gradient, in every place of a tile. -/
theorem dsink_tile (e : ℕ) (he : e < 4) {T : FVec Ideal S1x512 .f32} {F : ℕ → ℝ} (hT : Is T fun _ r => F r) :
    ∑ i : Fin 128, T (ix2 0 ⟨128 * e + i.val, by omega⟩) = ((∑ i : Fin 128, F (128 * e + i.val) : ℝ) : EReal) := by
  simp only [hT _ _, coe_sum]

end Cotangents

end Cert.Attn.Kernel

end
-- ==== Proof.AttnBlocks.lean ====
/- What a grid point finds in its staged input blocks: its queries and their cotangents, its keys and values and those of the block
   before, and the sinks. -/
module

public import proofs.«01_k».proof.Proof.AttnHead

@[expose] public section

set_option maxRecDepth 16384

noncomputable section

namespace Cert.Attn.Kernel

open Idealize.ShloMosaic Idealize.ShloMosaic.TcCoe Idealize.SL.Sem
open Cert.Kernel2Ideal Cert.Kernel2Ideal.Gen
open Cert.Ffn.Kernel (Is)

/-- Where each window's block lies, for all 32 grid points. -/
theorem idx_val : ∀ t : Fin cfg0.N, win0_0.index t = ![t.val, 0] ∧ win0_1.index t = ![t.val, 4] ∧ win0_2.index t = ![t.val - 1, 4]
    ∧ win0_3.index t = ![t.val, 5] ∧ win0_4.index t = ![t.val - 1, 5] ∧ win0_5.index t = ![0, 0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0, 0, 0] ∧ (grid0.coords t 0).val = t.val :=
  (by decide +kernel : ∀ t : Fin grid0.N, _)

variable (m : (ℓ : Loc nD τ sig) → Buf (Elt Ideal) ℓ) (c : Dev nD)

/-- The five argument arrays hold these real numbers. -/
structure Given (A : Args) : Prop where
  q_is : Is (m ((c : Thread nD τ).loc main_arg0)) A.q
  k_is : Is (m ((c : Thread nD τ).loc main_arg1)) A.k
  v_is : Is (m ((c : Thread nD τ).loc main_arg2)) A.v
  sink_is : ∀ i : Fin 16, (m ((c : Thread nD τ).loc main_arg3) : FVec Ideal S16 .f32) (ix1 i) = ((A.sink i.val : ℝ) : EReal)
  g_is : Is (m ((c : Thread nD τ).loc main_arg4)) A.g

variable {m c} {A : Args}

/-- Queries, keys and values side by side, converted. -/
theorem V_qkv (G : Given m c A) (a : Fin 4096) (j : Fin 1536) : (V m c main_v1 : FVec Ideal S4096x1536 .bf16) (ix2 a j)
    = (((if j.val < 1024 then A.q a j else if j.val - 1024 < 256 then A.k a (j.val - 1024) else A.v a (j.val - 1024 - 256)) : ℝ) : EReal) := by
  entry_read
  pointwise []
  by_cases h1 : j.val < 1024
  · rw [dif_pos h1, if_pos h1]
    exact G.q_is a _
  · rw [dif_neg h1, if_neg h1]
    by_cases h2 : j.val - 1024 < 256
    · rw [dif_pos h2, if_pos h2]
      exact G.k_is a _
    · rw [dif_neg h2, if_neg h2]
      exact G.v_is a _

/-- The sinks, one for each row of a block. -/
theorem V_sink (G : Given m c A) (h : Fin 4) (x : Fin 8) (r : Fin 512) : (V m c main_v6 : FVec Ideal S4x8x512 .f32) (ix3 h x r)
    = ((A.sk h.val r.val : ℝ) : EReal) := by
  entry_read
  pointwise []
  refine (G.sink_is ⟨h.val * 4 + r.val / 128, by omega⟩).trans ?_
  rw [Args.sk, mul_comm 4 h.val]

/-- The output's cotangent, converted. -/
theorem V_g (G : Given m c A) : Is (V m c main_v7) A.g := fun a k => by
  entry_read
  pointwise []
  exact G.g_is a k

/-- Row `a` of grid point `t`'s block, as a row of the whole array. -/
abbrev row (t : Fin cfg0.N) (a : Fin 128) : Fin 4096 :=
  ⟨128 * t.val + a.val, by have := t.isLt; have := a.isLt; have : cfg0.N = 32 := N_0; omega⟩

/-- Row `a` of the block before grid point `t`'s. -/
abbrev rowBefore (t : Fin cfg0.N) (a : Fin 128) : Fin 4096 :=
  ⟨128 * (t.val - 1) + a.val, by have := t.isLt; have := a.isLt; have : cfg0.N = 32 := N_0; omega⟩

/-- This point's queries. -/
theorem blk_q (G : Given m c A) (t : Fin cfg0.N) : Is (n := 128) (k := 1024) (X0_0 m c t) fun a => A.q (128 * t.val + a) := fun a j => by
  refine Eq.trans ?_ ((V_qkv G (row t a) ⟨j.val, by omega⟩).trans (by rw [if_pos j.isLt]))
  rw [X0_0, Pipeline.Window.fill, dif_pos (moved0_0 t _)]
  blk_point [iblk, V, idx_val t]

/-- This point's keys. -/
theorem blk_k (G : Given m c A) (t : Fin cfg0.N) : Is (n := 128) (k := 256) (iblk m c 1 t) fun a => A.k (128 * t.val + a) := fun a j => by
  refine Eq.trans ?_ ((V_qkv G (row t a) ⟨1024 + j.val, by omega⟩).trans (by simp))
  blk_point [iblk, V, idx_val t]

/-- The keys of the block before. -/
theorem blk_kp (G : Given m c A) (t : Fin cfg0.N) : Is (n := 128) (k := 256) (iblk m c 2 t) fun a => A.k (128 * (t.val - 1) + a) := fun a j => by
  refine Eq.trans ?_ ((V_qkv G (rowBefore t a) ⟨1024 + j.val, by omega⟩).trans (by simp))
  blk_point [iblk, V, idx_val t]

/-- This point's values. -/
theorem blk_v (G : Given m c A) (t : Fin cfg0.N) : Is (n := 128) (k := 256) (iblk m c 3 t) fun a => A.v (128 * t.val + a) := fun a j => by
  refine Eq.trans ?_ ((V_qkv G (row t a) ⟨1280 + j.val, by omega⟩).trans (by
    rw [if_neg (show ¬1280 + j.val < 1024 by omega), if_neg (show ¬1280 + j.val - 1024 < 256 by omega)]
    simp only [show 1280 + j.val - 1024 - 256 = j.val by omega]))
  blk_point [iblk, V, idx_val t]

/-- The values of the block before. -/
theorem blk_vp (G : Given m c A) (t : Fin cfg0.N) : Is (n := 128) (k := 256) (iblk m c 4 t) fun a => A.v (128 * (t.val - 1) + a) := fun a j => by
  refine Eq.trans ?_ ((V_qkv G (rowBefore t a) ⟨1280 + j.val, by omega⟩).trans (by
    rw [if_neg (show ¬1280 + j.val < 1024 by omega), if_neg (show ¬1280 + j.val - 1024 < 256 by omega)]
    simp only [show 1280 + j.val - 1024 - 256 = j.val by omega]))
  blk_point [iblk, V, idx_val t]

/-- The sinks. -/
theorem blk_sink (G : Given m c A) (t : Fin cfg0.N) (h : Fin 4) (x : Fin 8) (r : Fin 512) :
    (iblk m c 5 t : FVec Ideal S4x8x512 .f32) (ix3 h x r) = ((A.sk h.val r.val : ℝ) : EReal) := by
  refine Eq.trans ?_ (V_sink G h x r)
  blk_point [iblk, V, idx_val t]

/-- This point's rows of the output's cotangent. -/
theorem blk_g (G : Given m c A) (t : Fin cfg0.N) : Is (n := 128) (k := 1024) (iblk m c 6 t) fun a => A.g (128 * t.val + a) := fun a j => by
  refine Eq.trans ?_ (V_g G (row t a) j)
  blk_point [iblk, V, idx_val t]

end Cert.Attn.Kernel

end
-- ==== Proof.AttnTiles.lean ====
/- The gradients that one key head's part of a grid point ends in, from what the point loads: stated once for any key head, in the second
   head's steps. The four heads' printed steps are the same operations, cut into values at different places. -/
module

public import proofs.«01_k».proof.Proof.AttnBlocks

@[expose] public section

set_option maxRecDepth 16384

noncomputable section

namespace Cert.Attn.Kernel

open Idealize.ShloMosaic Idealize.ShloMosaic.TcCoe Idealize.SL.Sem
open Cert.Kernel2Ideal Cert.Kernel2Ideal.Gen
open Cert.Ffn (coe_sum)
open Cert.Ffn.Kernel (Is)

/-- What key head `h` of block `b` works on: its four query heads' queries and cotangents below each other, its band of keys and of
    values, and its rows' sinks. -/
structure Head (A : Args) (b h : ℕ) (Q : FVec Ideal S512x64 .bf16) (K : FVec Ideal S256x64 .bf16) (sk : FVec Ideal S1x1x512 .f32)
    (G : FVec Ideal S512x64 .bf16) (W : FVec Ideal S256x64 .bf16) : Prop where
  block : b < 32
  q_is : Is Q (A.qb b h)
  k_is : Is K (A.kb b h)
  sink_is : ∀ r : Fin 512, sk (ix3 0 0 r) = ((A.sk h r.val : ℝ) : EReal)
  g_is : Is G (A.gb b h)
  v_is : Is W (A.vb b h)

/-- The probabilities in slots. -/
def slots (b : ℕ) (Q : FVec Ideal S512x64 .bf16) (K : FVec Ideal S256x64 .bf16) (sk : FVec Ideal S1x1x512 .f32) : FVec Ideal S128x512 .f32 :=
  k0_pay84 (BitVec.ofNat 32 b) k0_pay37 (k0_pay52 Q K) sk

/-- The scores' cotangents over the band. -/
def dscoreBand (b : ℕ) (Q : FVec Ideal S512x64 .bf16) (K : FVec Ideal S256x64 .bf16) (sk : FVec Ideal S1x1x512 .f32)
    (G : FVec Ideal S512x64 .bf16) (W : FVec Ideal S256x64 .bf16) : FVec Ideal S256x512 .bf16 :=
  k0_pay90 k0_pay37 (slots b Q K sk) (k0_pay86 (k0_pay52 G W)) (k0_pay87 (k0_pay52 G W))

/-- The probabilities over the band. -/
def probBand (b : ℕ) (Q : FVec Ideal S512x64 .bf16) (K : FVec Ideal S256x64 .bf16) (sk : FVec Ideal S1x1x512 .f32) : FVec Ideal S256x512 .bf16 :=
  k0_pay91 k0_pay37 (slots b Q K sk)

/-- Each row's part of its sink's gradient. -/
def sinkRow (b : ℕ) (Q : FVec Ideal S512x64 .bf16) (K : FVec Ideal S256x64 .bf16) (sk : FVec Ideal S1x1x512 .f32)
    (G : FVec Ideal S512x64 .bf16) (W : FVec Ideal S256x64 .bf16) : FVec Ideal S1x512 .f32 :=
  k0_pay92 k0_pay37 (slots b Q K sk) (k0_pay85 (BitVec.ofNat 32 b) k0_pay37 (k0_pay52 Q K) sk) (k0_pay86 (k0_pay52 G W)) (k0_pay87 (k0_pay52 G W))

section Results

variable {A : Args} {b h : ℕ} {Q : FVec Ideal S512x64 .bf16} {K : FVec Ideal S256x64 .bf16} {sk : FVec Ideal S1x1x512 .f32}
  {G : FVec Ideal S512x64 .bf16} {W : FVec Ideal S256x64 .bf16}

theorem score_is (H : Head A b h Q K sk G W) : Is (k0_pay52 (F := Ideal) Q K) (A.sc b h) := fun p r => by
  pointwise [k0_pay52]
  simp only [H.k_is _ _, H.q_is _ _, ← EReal.coe_mul, coe_sum]
  rfl

theorem dprob_is (H : Head A b h Q K sk G W) : Is (k0_pay52 (F := Ideal) G W) (A.dp b h) := fun p r => by
  pointwise [k0_pay52]
  simp only [H.v_is _ _, H.g_is _ _, ← EReal.coe_mul, coe_sum]
  rfl

theorem slots_is (H : Head A b h Q K sk G W) : Is (slots b Q K sk) fun j r => prob (A.sc b h) (A.sk h) b (pos j r) r :=
  prob_at H.block (score_is H) H.sink_is

theorem dscoreBand_is (H : Head A b h Q K sk G W) : Is (dscoreBand b Q K sk G W) (A.ds b h) := dscore_at (slots_is H) (dprob_is H)

theorem probBand_is (H : Head A b h Q K sk G W) : Is (probBand b Q K sk) (A.pr b h) := probBand_at (slots_is H)

theorem sinkRow_is (H : Head A b h Q K sk G W) :
    Is (sinkRow b Q K sk G W) fun _ r => -dsinkRow (A.sc b h) (A.dp b h) (A.sk h) b r :=
  dsinkRow_at (slots_is H) (probSink_at H.block (score_is H) H.sink_is) (dprob_is H)

/-- The gradient of the queries. -/
theorem dq_is (H : Head A b h Q K sk G W) : Is (k0_pay167 (F := Ideal) K (dscoreBand b Q K sk G W)) (A.dq b h) := fun r d => by
  pointwise [k0_pay167]
  simp only [H.k_is _ _, dscoreBand_is H _ _, ← EReal.coe_mul, coe_sum]
  rfl

/-- The gradient of the keys. -/
theorem dk_is (H : Head A b h Q K sk G W) : Is (k0_pay165 (F := Ideal) Q (dscoreBand b Q K sk G W)) (A.dk b h) := fun p d => by
  pointwise [k0_pay165]
  simp only [H.q_is _ _, dscoreBand_is H _ _, ← EReal.coe_mul, coe_sum]
  rfl

/-- The gradient of the values. -/
theorem dv_is (H : Head A b h Q K sk G W) : Is (k0_pay165 (F := Ideal) G (probBand b Q K sk)) (A.dv b h) := fun p d => by
  pointwise [k0_pay165]
  simp only [H.g_is _ _, probBand_is H _ _, ← EReal.coe_mul, coe_sum]
  rfl

/-! What each stored tile holds: 128 rows of a gradient, from row 0, 128, 256 or 384 on. -/

theorem rows0 {X : FVec Ideal S512x64 .f32} {F : ℕ → ℕ → ℝ} (hX : Is X F) (i : Fin 128) (d : Fin 64) :
    k0_pay1 (F := Ideal) X (ix2 i d) = ((F (128 * 0 + i) d : ℝ) : EReal) := by
  pointwise [k0_pay1]; rw [hX]

theorem rows1 {X : FVec Ideal S512x64 .f32} {F : ℕ → ℕ → ℝ} (hX : Is X F) (i : Fin 128) (d : Fin 64) :
    k0_pay2 (F := Ideal) X (ix2 i d) = ((F (128 * 1 + i) d : ℝ) : EReal) := by
  pointwise [k0_pay2]; rw [hX]

theorem rows2 {X : FVec Ideal S512x64 .f32} {F : ℕ → ℕ → ℝ} (hX : Is X F) (i : Fin 128) (d : Fin 64) :
    k0_pay3 (F := Ideal) X (ix2 i d) = ((F (128 * 2 + i) d : ℝ) : EReal) := by
  pointwise [k0_pay3]; rw [hX]

theorem rows3 {X : FVec Ideal S512x64 .f32} {F : ℕ → ℕ → ℝ} (hX : Is X F) (i : Fin 128) (d : Fin 64) :
    k0_pay4 (F := Ideal) X (ix2 i d) = ((F (128 * 3 + i) d : ℝ) : EReal) := by
  pointwise [k0_pay4]; rw [hX]

/-- The block before, of a gradient over the band. -/
theorem before_is {X : FVec Ideal S256x64 .bf16} {F : ℕ → ℕ → ℝ} (hX : Is X F) (i : Fin 128) (d : Fin 64) :
    k0_pay159 (F := Ideal) X (ix2 i d) = ((F i d : ℝ) : EReal) := by
  pointwise [k0_pay159]; rw [hX]

/-- The block itself, of a gradient over the band. -/
theorem self_is {X : FVec Ideal S256x64 .bf16} {F : ℕ → ℕ → ℝ} (hX : Is X F) (i : Fin 128) (d : Fin 64) :
    k0_pay160 (F := Ideal) X (ix2 i d) = ((F (128 + i) d : ℝ) : EReal) := by
  pointwise [k0_pay160]; rw [hX]

/-! A tile of a sink's gradient: the sum over a query head's 128 rows, in every place. -/

theorem sum0 {X : FVec Ideal S1x512 .f32} {F : ℕ → ℝ} (hX : Is X fun _ r => F r) (i : Fin 8) (d : Fin 128) :
    k0_pay74 (F := Ideal) (extractStridedSlice S1x128 ![0, 0] X slices_S1x512_o0_0_S1x128) (ix2 i d) = ((∑ i : Fin 128, F (128 * 0 + i) : ℝ) : EReal) := by
  pointwise [k0_pay74]; simp only [hX _ _, coe_sum, Nat.mul_zero, Nat.zero_add]

theorem sum1 {X : FVec Ideal S1x512 .f32} {F : ℕ → ℝ} (hX : Is X fun _ r => F r) (i : Fin 8) (d : Fin 128) :
    k0_pay75 (F := Ideal) X (ix2 i d) = ((∑ i : Fin 128, F (128 * 1 + i) : ℝ) : EReal) := by
  pointwise [k0_pay75]; simp only [hX _ _, coe_sum]

theorem sum2 {X : FVec Ideal S1x512 .f32} {F : ℕ → ℝ} (hX : Is X fun _ r => F r) (i : Fin 8) (d : Fin 128) :
    k0_pay76 (F := Ideal) X (ix2 i d) = ((∑ i : Fin 128, F (128 * 2 + i) : ℝ) : EReal) := by
  pointwise [k0_pay76]; simp only [hX _ _, coe_sum]

theorem sum3 {X : FVec Ideal S1x512 .f32} {F : ℕ → ℝ} (hX : Is X fun _ r => F r) (i : Fin 8) (d : Fin 128) :
    k0_pay77 (F := Ideal) X (ix2 i d) = ((∑ i : Fin 128, F (128 * 3 + i) : ℝ) : EReal) := by
  pointwise [k0_pay77]; simp only [hX _ _, coe_sum]

/-- The first block's tile is stored as it is. -/
theorem stored_at (X : FVec Ideal S8x128 .f32) (i0 i1 : Fin 1) (i : Fin 8) (d : Fin 128) : k0_pay6 (F := Ideal) X (ix4 i0 i1 i d) = X (ix2 i d) := by
  pointwise [k0_pay6]

/-- A later block's tile is added to what is there. -/
theorem added_at (X : FVec Ideal S8x128 .f32) (Y : FVec Ideal S1x1x8x128 .f32) (i0 i1 : Fin 1) (i : Fin 8) (d : Fin 128) :
    k0_pay21 (F := Ideal) X Y (ix4 i0 i1 i d) = Y (ix4 0 0 i d) + X (ix2 i d) := by
  pointwise [k0_pay21]

end Results

variable {m : (ℓ : Loc nD τ sig) → Buf (Elt Ideal) ℓ} {c : Dev nD} {A : Args}

/-- Four tiles of 128 rows below each other. -/
theorem stack_is {x : ℕ → ℕ → ℝ} {b h : ℕ} {T0 T1 T2 T3 : FVec Ideal S128x64 .bf16}
    (h0 : Is T0 fun i d => x (128 * b + i) (64 * (4 * h + 0) + d)) (h1 : Is T1 fun i d => x (128 * b + i) (64 * (4 * h + 1) + d))
    (h2 : Is T2 fun i d => x (128 * b + i) (64 * (4 * h + 2) + d)) (h3 : Is T3 fun i d => x (128 * b + i) (64 * (4 * h + 3) + d)) :
    Is (k0_pay38 (F := Ideal) T0 T1 T2 T3) (rows x b h) := fun r d => by
  have := r.isLt
  pointwise [k0_pay38]
  by_cases g0 : r.val < 128
  · simp only [g0, reduceDIte, reduceIte, h0 _ _]
    rw [rows, show r.val % 128 = r.val by omega, show r.val / 128 = 0 by omega]
  by_cases g1 : r.val - 128 < 128
  · simp only [g0, g1, reduceDIte, reduceIte, h1 _ _]
    rw [rows, show r.val % 128 = r.val - 128 by omega, show r.val / 128 = 1 by omega]
  by_cases g2 : r.val - 128 - 128 < 128
  · simp only [g0, g1, g2, reduceDIte, reduceIte, h2 _ _]
    rw [rows, show r.val % 128 = r.val - 128 - 128 by omega, show r.val / 128 = 2 by omega]
  · simp only [g0, g1, g2, reduceDIte, reduceIte, h3 _ _]
    rw [rows, show r.val % 128 = r.val - 128 - 128 - 128 by omega, show r.val / 128 = 3 by omega]

/-- The block before above the block. -/
theorem band_is {x : ℕ → ℕ → ℝ} {b o : ℕ} {T0 T1 : FVec Ideal S128x64 .bf16} (h0 : Is T0 fun i d => x (128 * (b - 1) + i) (o + d))
    (h1 : Is T1 fun i d => x (128 * b + i) (o + d)) : Is (k0_pay51 (F := Ideal) T0 T1) fun p d => band x b p (o + d) := fun p d => by
  pointwise [k0_pay51]
  by_cases g : p.val < 128
  · simp only [g, reduceDIte, reduceIte, h0 _ _]
    rw [band, if_pos g]
  · simp only [g, reduceDIte, reduceIte, h1 _ _]
    rw [band, if_neg g]

/-- 64 columns of a tile of 1024. -/
theorem cols1024 {X : FVec Ideal S128x1024 .bf16} {F : ℕ → ℕ → ℝ} (hX : Is X F) (o : ℕ) (hi : ∀ a, (![0, o] : Fin 2 → ℕ) a + S128x64.size a ≤ S128x1024.size a) :
    Is (n := 128) (k := 64) (View.ld (Val := Elt Ideal) (e' := .bf16) X (Rect.unit ![0, o] ![128, 64] hi)) fun i d => F i (o + d) := fun i d => by
  pointwise []
  exact hX _ _

/-- 64 columns of a tile of 256. -/
theorem cols256 {X : FVec Ideal S128x256 .bf16} {F : ℕ → ℕ → ℝ} (hX : Is X F) (o : ℕ) (hi : ∀ a, (![0, o] : Fin 2 → ℕ) a + S128x64.size a ≤ S128x256.size a) :
    Is (n := 128) (k := 64) (View.ld (Val := Elt Ideal) (e' := .bf16) X (Rect.unit ![0, o] ![128, 64] hi)) fun i d => F i (o + d) := fun i d => by
  pointwise []
  exact hX _ _

/-! What the point loads for key head `h`. -/

theorem inb_cols1024 (h e : Fin 4) : ∀ a, (![0, 64 * (4 * h.val + e.val)] : Fin 2 → ℕ) a + S128x64.size a ≤ S128x1024.size a := by
  revert h e; decide

theorem inb_cols256 (h : Fin 4) : ∀ a, (![0, 64 * h.val] : Fin 2 → ℕ) a + S128x64.size a ≤ S128x256.size a := by
  revert h; decide

theorem inb_sink (h : Fin 4) : ∀ a, (![h.val, 0, 0] : Fin 3 → ℕ) a + S1x1x512.size a ≤ S4x8x512.size a := by
  revert h; decide

/-- The key head's query heads' queries, below each other. -/
def queries (m : (ℓ : Loc nD τ sig) → Buf (Elt Ideal) ℓ) (c : Dev nD) (t : Fin cfg0.N) (h : Fin 4) : FVec Ideal S512x64 .bf16 :=
  k0_pay38 (View.ld (Val := Elt Ideal) (X0_0 m c t) (Rect.unit ![0, 64 * (4 * h.val + (0 : Fin 4).val)] ![128, 64] (inb_cols1024 h 0)))
    (View.ld (Val := Elt Ideal) (X0_0 m c t) (Rect.unit ![0, 64 * (4 * h.val + (1 : Fin 4).val)] ![128, 64] (inb_cols1024 h 1)))
    (View.ld (Val := Elt Ideal) (X0_0 m c t) (Rect.unit ![0, 64 * (4 * h.val + (2 : Fin 4).val)] ![128, 64] (inb_cols1024 h 2)))
    (View.ld (Val := Elt Ideal) (X0_0 m c t) (Rect.unit ![0, 64 * (4 * h.val + (3 : Fin 4).val)] ![128, 64] (inb_cols1024 h 3)))

/-- The cotangents, below each other. -/
def cotangents (m : (ℓ : Loc nD τ sig) → Buf (Elt Ideal) ℓ) (c : Dev nD) (t : Fin cfg0.N) (h : Fin 4) : FVec Ideal S512x64 .bf16 :=
  k0_pay38 (View.ld (Val := Elt Ideal) (iblk m c 6 t) (Rect.unit ![0, 64 * (4 * h.val + (0 : Fin 4).val)] ![128, 64] (inb_cols1024 h 0)))
    (View.ld (Val := Elt Ideal) (iblk m c 6 t) (Rect.unit ![0, 64 * (4 * h.val + (1 : Fin 4).val)] ![128, 64] (inb_cols1024 h 1)))
    (View.ld (Val := Elt Ideal) (iblk m c 6 t) (Rect.unit ![0, 64 * (4 * h.val + (2 : Fin 4).val)] ![128, 64] (inb_cols1024 h 2)))
    (View.ld (Val := Elt Ideal) (iblk m c 6 t) (Rect.unit ![0, 64 * (4 * h.val + (3 : Fin 4).val)] ![128, 64] (inb_cols1024 h 3)))

/-- The band of keys. -/
def keys (m : (ℓ : Loc nD τ sig) → Buf (Elt Ideal) ℓ) (c : Dev nD) (t : Fin cfg0.N) (h : Fin 4) : FVec Ideal S256x64 .bf16 :=
  k0_pay51 (View.ld (Val := Elt Ideal) (iblk m c 2 t) (Rect.unit ![0, 64 * h.val] ![128, 64] (inb_cols256 h)))
    (View.ld (Val := Elt Ideal) (iblk m c 1 t) (Rect.unit ![0, 64 * h.val] ![128, 64] (inb_cols256 h)))

/-- The band of values. -/
def values (m : (ℓ : Loc nD τ sig) → Buf (Elt Ideal) ℓ) (c : Dev nD) (t : Fin cfg0.N) (h : Fin 4) : FVec Ideal S256x64 .bf16 :=
  k0_pay51 (View.ld (Val := Elt Ideal) (iblk m c 4 t) (Rect.unit ![0, 64 * h.val] ![128, 64] (inb_cols256 h)))
    (View.ld (Val := Elt Ideal) (iblk m c 3 t) (Rect.unit ![0, 64 * h.val] ![128, 64] (inb_cols256 h)))

/-- The rows' sinks. -/
def sinks (m : (ℓ : Loc nD τ sig) → Buf (Elt Ideal) ℓ) (c : Dev nD) (t : Fin cfg0.N) (h : Fin 4) : FVec Ideal S1x1x512 .f32 :=
  View.ld (Val := Elt Ideal) (iblk m c 5 t) (Rect.unit ![h.val, 0, 0] ![1, 1, 512] (inb_sink h))

/-- The block a grid point works on. -/
abbrev blockOf (t : Fin cfg0.N) : ℕ := (grid0.coords t 0).val

theorem blockOf_eq (t : Fin cfg0.N) : blockOf t = t.val := by simp [blockOf, idx_val t]

theorem head_is (G : Given m c A) (t : Fin cfg0.N) (h : Fin 4) :
    Head A (blockOf t) h.val (queries m c t h) (keys m c t h) (sinks m c t h) (cotangents m c t h) (values m c t h) := by
  rw [blockOf_eq]
  refine ⟨lt_of_lt_of_eq t.isLt N_0, ?_, ?_, ?_, ?_, ?_⟩
  · exact stack_is (cols1024 (blk_q G t) _ _) (cols1024 (blk_q G t) _ _) (cols1024 (blk_q G t) _ _) (cols1024 (blk_q G t) _ _)
  · exact band_is (cols256 (blk_kp G t) _ _) (cols256 (blk_k G t) _ _)
  · intro r
    rw [sinks]
    pointwise []
    exact blk_sink G t h 0 r
  · exact stack_is (cols1024 (blk_g G t) _ _) (cols1024 (blk_g G t) _ _) (cols1024 (blk_g G t) _ _) (cols1024 (blk_g G t) _ _)
  · exact band_is (cols256 (blk_vp G t) _ _) (cols256 (blk_v G t) _ _)

end Cert.Attn.Kernel

end
-- ==== Proof.AttnOuts.lean ====
/- What every grid point leaves in the kernel's result tiles. The two cases of a point differ in the sinks' gradient only: the first point
   stores its part, every later one adds its part to what is there. -/
module

public import proofs.«01_k».proof.Proof.AttnTiles

@[expose] public section

set_option maxRecDepth 16384

noncomputable section

namespace Cert.Attn.Kernel

open Idealize.ShloMosaic Idealize.ShloMosaic.TcCoe Idealize.SL.Sem
open Cert.Kernel2Ideal Cert.Kernel2Ideal.Gen

variable {m : (ℓ : Loc nD τ sig) → Buf (Elt Ideal) ℓ} {c : Dev nD} {A : Args}

/-- Column `64 * (4 * h + e) + d` is column `d` of key head `h`'s query head `e`. -/
theorem dq_place (A : Args) (b : ℕ) {h e d p q i : ℕ} (hp : p = 64 * (4 * h + e) + d) (he : e < 4) (hd : d < 64) (hq : q = i) :
    ((A.dq b h (128 * e + i) d : ℝ) : EReal) = ((A.dq b (p / 256) (128 * (p % 256 / 64) + q) (p % 64) : ℝ) : EReal) := by
  rw [hq, show p / 256 = h by omega, show p % 256 / 64 = e by omega, show p % 64 = d by omega]

/-- Column `64 * h + d` is column `d` of key head `h`. -/
theorem band_place (F : ℕ → ℕ → ℕ → ℝ) {h d p q i : ℕ} (hp : p = 64 * h + d) (hd : d < 64) (hq : q = i) :
    ((F h i d : ℝ) : EReal) = ((F (p / 64) q (p % 64) : ℝ) : EReal) := by
  rw [hq, show p / 64 = h by omega, show p % 64 = d by omega]

/-- The queries' gradient. -/
theorem out7 (G : Given m c A) (t : Fin cfg0.N) (y : S128x1024.Idx) :
    (outsAt0 m c t.val t.isLt).1 y = ((A.dq (blockOf t) ((y 1).val / 256) (128 * ((y 1).val % 256 / 64) + (y 0).val) ((y 1).val % 64) : ℝ) : EReal) := by
  have hN : t.val < 32 := lt_of_lt_of_eq t.isLt N_0
  by_cases k1 : 1 ≤ t.val
  on_goal 1 => rw [outsAt0_B m c t (by omega) k1]
  on_goal 2 => rw [outsAt0_A m c t (by omega) k1]
  all_goals
    frame_out
    canon_tiles x h
    all_goals idx_vars x
    case piece0 => exact (rows3 (dq_is (head_is G t 3)) _ _).trans (dq_place A _ (h := 3) (e := 3) h1 (by decide) x1_lt h0)
    case piece1 => exact (rows2 (dq_is (head_is G t 3)) _ _).trans (dq_place A _ (h := 3) (e := 2) h1 (by decide) x1_lt h0)
    case piece2 => exact (rows1 (dq_is (head_is G t 3)) _ _).trans (dq_place A _ (h := 3) (e := 1) h1 (by decide) x1_lt h0)
    case piece3 => exact (rows0 (dq_is (head_is G t 3)) _ _).trans (dq_place A _ (h := 3) (e := 0) h1 (by decide) x1_lt h0)
    case piece4 => exact (rows3 (dq_is (head_is G t 2)) _ _).trans (dq_place A _ (h := 2) (e := 3) h1 (by decide) x1_lt h0)
    case piece5 => exact (rows2 (dq_is (head_is G t 2)) _ _).trans (dq_place A _ (h := 2) (e := 2) h1 (by decide) x1_lt h0)
    case piece6 => exact (rows1 (dq_is (head_is G t 2)) _ _).trans (dq_place A _ (h := 2) (e := 1) h1 (by decide) x1_lt h0)
    case piece7 => exact (rows0 (dq_is (head_is G t 2)) _ _).trans (dq_place A _ (h := 2) (e := 0) h1 (by decide) x1_lt h0)
    case piece8 => exact (rows3 (dq_is (head_is G t 1)) _ _).trans (dq_place A _ (h := 1) (e := 3) h1 (by decide) x1_lt h0)
    case piece9 => exact (rows2 (dq_is (head_is G t 1)) _ _).trans (dq_place A _ (h := 1) (e := 2) h1 (by decide) x1_lt h0)
    case piece10 => exact (rows1 (dq_is (head_is G t 1)) _ _).trans (dq_place A _ (h := 1) (e := 1) h1 (by decide) x1_lt h0)
    case piece11 => exact (rows0 (dq_is (head_is G t 1)) _ _).trans (dq_place A _ (h := 1) (e := 0) h1 (by decide) x1_lt h0)
    case piece12 => exact (rows3 (dq_is (head_is G t 0)) _ _).trans (dq_place A _ (h := 0) (e := 3) h1 (by decide) x1_lt h0)
    case piece13 => exact (rows2 (dq_is (head_is G t 0)) _ _).trans (dq_place A _ (h := 0) (e := 2) h1 (by decide) x1_lt h0)
    case piece14 => exact (rows1 (dq_is (head_is G t 0)) _ _).trans (dq_place A _ (h := 0) (e := 1) h1 (by decide) x1_lt h0)
    case piece15 => exact (rows0 (dq_is (head_is G t 0)) _ _).trans (dq_place A _ (h := 0) (e := 0) (by omega) (by decide) x1_lt h0)

/-- The keys' gradient from the block's own queries. -/
theorem out8 (G : Given m c A) (t : Fin cfg0.N) (y : S128x256.Idx) :
    (outsAt0 m c t.val t.isLt).2.1 y = ((A.dk (blockOf t) ((y 1).val / 64) (128 + (y 0).val) ((y 1).val % 64) : ℝ) : EReal) := by
  have hN : t.val < 32 := lt_of_lt_of_eq t.isLt N_0
  by_cases k1 : 1 ≤ t.val
  on_goal 1 => rw [outsAt0_B m c t (by omega) k1]
  on_goal 2 => rw [outsAt0_A m c t (by omega) k1]
  all_goals
    frame_out
    canon_tiles x h
    all_goals idx_vars x
    case piece0 => exact (self_is (dk_is (head_is G t 3)) _ _).trans (band_place (fun h i => A.dk (blockOf t) h (128 + i)) (h := 3) h1 x1_lt h0)
    case piece1 => exact (self_is (dk_is (head_is G t 2)) _ _).trans (band_place (fun h i => A.dk (blockOf t) h (128 + i)) (h := 2) h1 x1_lt h0)
    case piece2 => exact (self_is (dk_is (head_is G t 1)) _ _).trans (band_place (fun h i => A.dk (blockOf t) h (128 + i)) (h := 1) h1 x1_lt h0)
    case piece3 => exact (self_is (dk_is (head_is G t 0)) _ _).trans (band_place (fun h i => A.dk (blockOf t) h (128 + i)) (h := 0) (by omega) x1_lt h0)

/-- The gradient of the keys of the block before. -/
theorem out9 (G : Given m c A) (t : Fin cfg0.N) (y : S128x256.Idx) :
    (outsAt0 m c t.val t.isLt).2.2.1 y = ((A.dk (blockOf t) ((y 1).val / 64) (y 0).val ((y 1).val % 64) : ℝ) : EReal) := by
  have hN : t.val < 32 := lt_of_lt_of_eq t.isLt N_0
  by_cases k1 : 1 ≤ t.val
  on_goal 1 => rw [outsAt0_B m c t (by omega) k1]
  on_goal 2 => rw [outsAt0_A m c t (by omega) k1]
  all_goals
    frame_out
    canon_tiles x h
    all_goals idx_vars x
    case piece0 => exact (before_is (dk_is (head_is G t 3)) _ _).trans (band_place (A.dk (blockOf t)) (h := 3) h1 x1_lt h0)
    case piece1 => exact (before_is (dk_is (head_is G t 2)) _ _).trans (band_place (A.dk (blockOf t)) (h := 2) h1 x1_lt h0)
    case piece2 => exact (before_is (dk_is (head_is G t 1)) _ _).trans (band_place (A.dk (blockOf t)) (h := 1) h1 x1_lt h0)
    case piece3 => exact (before_is (dk_is (head_is G t 0)) _ _).trans (band_place (A.dk (blockOf t)) (h := 0) (by omega) x1_lt h0)

/-- The values' gradient from the block's own queries. -/
theorem out10 (G : Given m c A) (t : Fin cfg0.N) (y : S128x256.Idx) :
    (outsAt0 m c t.val t.isLt).2.2.2.1 y = ((A.dv (blockOf t) ((y 1).val / 64) (128 + (y 0).val) ((y 1).val % 64) : ℝ) : EReal) := by
  have hN : t.val < 32 := lt_of_lt_of_eq t.isLt N_0
  by_cases k1 : 1 ≤ t.val
  on_goal 1 => rw [outsAt0_B m c t (by omega) k1]
  on_goal 2 => rw [outsAt0_A m c t (by omega) k1]
  all_goals
    frame_out
    canon_tiles x h
    all_goals idx_vars x
    case piece0 => exact (self_is (dv_is (head_is G t 3)) _ _).trans (band_place (fun h i => A.dv (blockOf t) h (128 + i)) (h := 3) h1 x1_lt h0)
    case piece1 => exact (self_is (dv_is (head_is G t 2)) _ _).trans (band_place (fun h i => A.dv (blockOf t) h (128 + i)) (h := 2) h1 x1_lt h0)
    case piece2 => exact (self_is (dv_is (head_is G t 1)) _ _).trans (band_place (fun h i => A.dv (blockOf t) h (128 + i)) (h := 1) h1 x1_lt h0)
    case piece3 => exact (self_is (dv_is (head_is G t 0)) _ _).trans (band_place (fun h i => A.dv (blockOf t) h (128 + i)) (h := 0) (by omega) x1_lt h0)

/-- The gradient of the values of the block before. -/
theorem out11 (G : Given m c A) (t : Fin cfg0.N) (y : S128x256.Idx) :
    (outsAt0 m c t.val t.isLt).2.2.2.2.1 y = ((A.dv (blockOf t) ((y 1).val / 64) (y 0).val ((y 1).val % 64) : ℝ) : EReal) := by
  have hN : t.val < 32 := lt_of_lt_of_eq t.isLt N_0
  by_cases k1 : 1 ≤ t.val
  on_goal 1 => rw [outsAt0_B m c t (by omega) k1]
  on_goal 2 => rw [outsAt0_A m c t (by omega) k1]
  all_goals
    frame_out
    canon_tiles x h
    all_goals idx_vars x
    case piece0 => exact (before_is (dv_is (head_is G t 3)) _ _).trans (band_place (A.dv (blockOf t)) (h := 3) h1 x1_lt h0)
    case piece1 => exact (before_is (dv_is (head_is G t 2)) _ _).trans (band_place (A.dv (blockOf t)) (h := 2) h1 x1_lt h0)
    case piece2 => exact (before_is (dv_is (head_is G t 1)) _ _).trans (band_place (A.dv (blockOf t)) (h := 1) h1 x1_lt h0)
    case piece3 => exact (before_is (dv_is (head_is G t 0)) _ _).trans (band_place (A.dv (blockOf t)) (h := 0) (by omega) x1_lt h0)

/-- A query head's part of its sink's gradient. -/
theorem sink_place (A : Args) (b : ℕ) {h e p q : ℕ} (hp : p = h) (hq : q = e) : ((A.dsink b h e : ℝ) : EReal) = ((A.dsink b p q : ℝ) : EReal) := by
  rw [hp, hq]

/-- A tile of the sinks' gradient, read back. -/
theorem sink_read (P : FVec Ideal S4x4x8x128 .f32) (y : S4x4x8x128.Idx) {h e : ℕ} (hi : ∀ a, (![h, e, 0, 0] : Fin 4 → ℕ) a + S1x1x8x128.size a ≤ S4x4x8x128.size a)
    {i : Fin 8} {d : Fin 128} (h0 : (y 0).val = h) (h1 : (y 1).val = e) (h2 : (y 2).val = i.val) (h3 : (y 3).val = d.val) :
    (View.ld (Val := Elt Ideal) (e' := .f32) P (Rect.unit ![h, e, 0, 0] ![1, 1, 8, 128] hi) : FVec Ideal S1x1x8x128 .f32) (ix4 0 0 i d) = P y := by
  pointwise []
  refine congrArg P (funext fun a => Fin.ext ?_)
  fin_cases a
  · simpa using h0.symm
  · simpa using h1.symm
  · simpa using h2.symm
  · simpa using h3.symm

/-- The sinks' gradient at the first point: its part. -/
theorem out12_first (G : Given m c A) (t : Fin cfg0.N) (k1 : ¬1 ≤ t.val) (y : S4x4x8x128.Idx) :
    (outsAt0 m c t.val t.isLt).2.2.2.2.2 y = ((A.dsink (blockOf t) (y 0).val (y 1).val : ℝ) : EReal) := by
  have hN : t.val < 32 := lt_of_lt_of_eq t.isLt N_0
  rw [outsAt0_A m c t (by omega) k1]
  frame_out
  canon_tiles x h
  all_goals idx_vars x
  case piece0 => exact (stored_at _ x0 x1 x2 x3).trans ((sum3 (sinkRow_is (head_is G t 3)) x2 x3).trans (sink_place A _ (h := 3) (e := 3) (by omega) (by omega)))
  case piece1 => exact (stored_at _ x0 x1 x2 x3).trans ((sum2 (sinkRow_is (head_is G t 3)) x2 x3).trans (sink_place A _ (h := 3) (e := 2) (by omega) (by omega)))
  case piece2 => exact (stored_at _ x0 x1 x2 x3).trans ((sum1 (sinkRow_is (head_is G t 3)) x2 x3).trans (sink_place A _ (h := 3) (e := 1) (by omega) (by omega)))
  case piece3 => exact (stored_at _ x0 x1 x2 x3).trans ((sum0 (sinkRow_is (head_is G t 3)) x2 x3).trans (sink_place A _ (h := 3) (e := 0) (by omega) (by omega)))
  case piece4 => exact (stored_at _ x0 x1 x2 x3).trans ((sum3 (sinkRow_is (head_is G t 2)) x2 x3).trans (sink_place A _ (h := 2) (e := 3) (by omega) (by omega)))
  case piece5 => exact (stored_at _ x0 x1 x2 x3).trans ((sum2 (sinkRow_is (head_is G t 2)) x2 x3).trans (sink_place A _ (h := 2) (e := 2) (by omega) (by omega)))
  case piece6 => exact (stored_at _ x0 x1 x2 x3).trans ((sum1 (sinkRow_is (head_is G t 2)) x2 x3).trans (sink_place A _ (h := 2) (e := 1) (by omega) (by omega)))
  case piece7 => exact (stored_at _ x0 x1 x2 x3).trans ((sum0 (sinkRow_is (head_is G t 2)) x2 x3).trans (sink_place A _ (h := 2) (e := 0) (by omega) (by omega)))
  case piece8 => exact (stored_at _ x0 x1 x2 x3).trans ((sum3 (sinkRow_is (head_is G t 1)) x2 x3).trans (sink_place A _ (h := 1) (e := 3) (by omega) (by omega)))
  case piece9 => exact (stored_at _ x0 x1 x2 x3).trans ((sum2 (sinkRow_is (head_is G t 1)) x2 x3).trans (sink_place A _ (h := 1) (e := 2) (by omega) (by omega)))
  case piece10 => exact (stored_at _ x0 x1 x2 x3).trans ((sum1 (sinkRow_is (head_is G t 1)) x2 x3).trans (sink_place A _ (h := 1) (e := 1) (by omega) (by omega)))
  case piece11 => exact (stored_at _ x0 x1 x2 x3).trans ((sum0 (sinkRow_is (head_is G t 1)) x2 x3).trans (sink_place A _ (h := 1) (e := 0) (by omega) (by omega)))
  case piece12 => exact (stored_at _ x0 x1 x2 x3).trans ((sum3 (sinkRow_is (head_is G t 0)) x2 x3).trans (sink_place A _ (h := 0) (e := 3) (by omega) (by omega)))
  case piece13 => exact (stored_at _ x0 x1 x2 x3).trans ((sum2 (sinkRow_is (head_is G t 0)) x2 x3).trans (sink_place A _ (h := 0) (e := 2) (by omega) (by omega)))
  case piece14 => exact (stored_at _ x0 x1 x2 x3).trans ((sum1 (sinkRow_is (head_is G t 0)) x2 x3).trans (sink_place A _ (h := 0) (e := 1) (by omega) (by omega)))
  case piece15 => exact (stored_at _ x0 x1 x2 x3).trans ((sum0 (sinkRow_is (head_is G t 0)) x2 x3).trans (sink_place A _ (h := 0) (e := 0) (by omega) (by omega)))

/-- The sinks' gradient at a later point: what is there, and its part. -/
theorem out12_later (G : Given m c A) (t : Fin cfg0.N) (k1 : 1 ≤ t.val) (y : S4x4x8x128.Idx) :
    (outsAt0 m c t.val t.isLt).2.2.2.2.2 y = (outsAt0 m c (t.val - 1) (lt_of_le_of_lt (Nat.sub_le _ _) t.isLt)).2.2.2.2.2 y
      + ((A.dsink (blockOf t) (y 0).val (y 1).val : ℝ) : EReal) := by
  have hN : t.val < 32 := lt_of_lt_of_eq t.isLt N_0
  rw [outsAt0_B m c t (by omega) k1]
  frame_out
  canon_tiles x h
  all_goals idx_vars x
  case piece0 => exact (added_at _ _ x0 x1 x2 x3).trans (congrArg₂ (· + ·) (sink_read _ y _ (by omega) (by omega) h2 h3) ((sum3 (sinkRow_is (head_is G t 3)) x2 x3).trans (sink_place A _ (h := 3) (e := 3) (by omega) (by omega))))
  case piece1 => exact (added_at _ _ x0 x1 x2 x3).trans (congrArg₂ (· + ·) (sink_read _ y _ (by omega) (by omega) h2 h3) ((sum2 (sinkRow_is (head_is G t 3)) x2 x3).trans (sink_place A _ (h := 3) (e := 2) (by omega) (by omega))))
  case piece2 => exact (added_at _ _ x0 x1 x2 x3).trans (congrArg₂ (· + ·) (sink_read _ y _ (by omega) (by omega) h2 h3) ((sum1 (sinkRow_is (head_is G t 3)) x2 x3).trans (sink_place A _ (h := 3) (e := 1) (by omega) (by omega))))
  case piece3 => exact (added_at _ _ x0 x1 x2 x3).trans (congrArg₂ (· + ·) (sink_read _ y _ (by omega) (by omega) h2 h3) ((sum0 (sinkRow_is (head_is G t 3)) x2 x3).trans (sink_place A _ (h := 3) (e := 0) (by omega) (by omega))))
  case piece4 => exact (added_at _ _ x0 x1 x2 x3).trans (congrArg₂ (· + ·) (sink_read _ y _ (by omega) (by omega) h2 h3) ((sum3 (sinkRow_is (head_is G t 2)) x2 x3).trans (sink_place A _ (h := 2) (e := 3) (by omega) (by omega))))
  case piece5 => exact (added_at _ _ x0 x1 x2 x3).trans (congrArg₂ (· + ·) (sink_read _ y _ (by omega) (by omega) h2 h3) ((sum2 (sinkRow_is (head_is G t 2)) x2 x3).trans (sink_place A _ (h := 2) (e := 2) (by omega) (by omega))))
  case piece6 => exact (added_at _ _ x0 x1 x2 x3).trans (congrArg₂ (· + ·) (sink_read _ y _ (by omega) (by omega) h2 h3) ((sum1 (sinkRow_is (head_is G t 2)) x2 x3).trans (sink_place A _ (h := 2) (e := 1) (by omega) (by omega))))
  case piece7 => exact (added_at _ _ x0 x1 x2 x3).trans (congrArg₂ (· + ·) (sink_read _ y _ (by omega) (by omega) h2 h3) ((sum0 (sinkRow_is (head_is G t 2)) x2 x3).trans (sink_place A _ (h := 2) (e := 0) (by omega) (by omega))))
  case piece8 => exact (added_at _ _ x0 x1 x2 x3).trans (congrArg₂ (· + ·) (sink_read _ y _ (by omega) (by omega) h2 h3) ((sum3 (sinkRow_is (head_is G t 1)) x2 x3).trans (sink_place A _ (h := 1) (e := 3) (by omega) (by omega))))
  case piece9 => exact (added_at _ _ x0 x1 x2 x3).trans (congrArg₂ (· + ·) (sink_read _ y _ (by omega) (by omega) h2 h3) ((sum2 (sinkRow_is (head_is G t 1)) x2 x3).trans (sink_place A _ (h := 1) (e := 2) (by omega) (by omega))))
  case piece10 => exact (added_at _ _ x0 x1 x2 x3).trans (congrArg₂ (· + ·) (sink_read _ y _ (by omega) (by omega) h2 h3) ((sum1 (sinkRow_is (head_is G t 1)) x2 x3).trans (sink_place A _ (h := 1) (e := 1) (by omega) (by omega))))
  case piece11 => exact (added_at _ _ x0 x1 x2 x3).trans (congrArg₂ (· + ·) (sink_read _ y _ (by omega) (by omega) h2 h3) ((sum0 (sinkRow_is (head_is G t 1)) x2 x3).trans (sink_place A _ (h := 1) (e := 0) (by omega) (by omega))))
  case piece12 => exact (added_at _ _ x0 x1 x2 x3).trans (congrArg₂ (· + ·) (sink_read _ y _ (by omega) (by omega) h2 h3) ((sum3 (sinkRow_is (head_is G t 0)) x2 x3).trans (sink_place A _ (h := 0) (e := 3) (by omega) (by omega))))
  case piece13 => exact (added_at _ _ x0 x1 x2 x3).trans (congrArg₂ (· + ·) (sink_read _ y _ (by omega) (by omega) h2 h3) ((sum2 (sinkRow_is (head_is G t 0)) x2 x3).trans (sink_place A _ (h := 0) (e := 2) (by omega) (by omega))))
  case piece14 => exact (added_at _ _ x0 x1 x2 x3).trans (congrArg₂ (· + ·) (sink_read _ y _ (by omega) (by omega) h2 h3) ((sum1 (sinkRow_is (head_is G t 0)) x2 x3).trans (sink_place A _ (h := 0) (e := 1) (by omega) (by omega))))
  case piece15 => exact (added_at _ _ x0 x1 x2 x3).trans (congrArg₂ (· + ·) (sink_read _ y _ (by omega) (by omega) h2 h3) ((sum0 (sinkRow_is (head_is G t 0)) x2 x3).trans (sink_place A _ (h := 0) (e := 0) (by omega) (by omega))))

end Cert.Attn.Kernel

end
-- ==== Proof.AttnArrays.lean ====
/- The six arrays that the kernel leaves: every element, for finite arguments. -/
module

public import proofs.«01_k».proof.Proof.AttnOuts
public import proofs.«01_k».proof.Proof.Gen.Kernel2Ideal.Value

@[expose] public section

set_option maxRecDepth 16384

noncomputable section

namespace Cert.Attn.Kernel

open Idealize.ShloMosaic Idealize.ShloMosaic.TcCoe Idealize.SL.Sem
open Cert.Kernel2Ideal Cert.Kernel2Ideal.Gen
open Cert.Ffn (coe_sum)

variable {m : (ℓ : Loc nD τ sig) → Buf (Elt Ideal) ℓ} {c : Dev nD} {A : Args}

/-- An element of point `t`'s block lies in that block, at its own row. -/
theorem place (t q : ℕ) (hq : q < 128) : (t * 128 + q) / 128 = t ∧ (t * 128 + q) % 128 = q := by omega

/-- The queries' gradient. -/
theorem arr7 (G : Given m c A) : (dats m 0 c).arrAt 7 cfg0.N
    = fun i : S4096x1024.Idx => ((A.dq ((i 0).val / 128) ((i 1).val / 256) (128 * ((i 1).val % 256 / 64) + (i 0).val % 128) ((i 1).val % 64) : ℝ) : EReal) :=
  (dats m 0 c).arrAt_eq_of_covers 7 _ (by decide +kernel) fun t hf y => by
    blk_simp
    have hy : (y 0).val < 128 := (y 0).isLt
    rw [after0_7, out7 G t, blockOf_eq, show win0_7.index t 0 = t.val by simp [idx_val t], show win0_7.index t 1 = 0 by simp [idx_val t],
      (place t.val (y 0).val hy).1, (place t.val (y 0).val hy).2, Nat.zero_mul, Nat.zero_add]

/-- The keys' gradient from the block's own queries. -/
theorem arr8 (G : Given m c A) : (dats m 0 c).arrAt 8 cfg0.N
    = fun i : S4096x256.Idx => ((A.dk ((i 0).val / 128) ((i 1).val / 64) (128 + (i 0).val % 128) ((i 1).val % 64) : ℝ) : EReal) :=
  (dats m 0 c).arrAt_eq_of_covers 8 _ (by decide +kernel) fun t hf y => by
    blk_simp
    have hy : (y 0).val < 128 := (y 0).isLt
    rw [after0_8, out8 G t, blockOf_eq, show win0_8.index t 0 = t.val by simp [idx_val t], show win0_8.index t 1 = 0 by simp [idx_val t],
      (place t.val (y 0).val hy).1, (place t.val (y 0).val hy).2, Nat.zero_mul, Nat.zero_add]

/-- The gradient of the keys of the block before. -/
theorem arr9 (G : Given m c A) : (dats m 0 c).arrAt 9 cfg0.N
    = fun i : S4096x256.Idx => ((A.dk ((i 0).val / 128) ((i 1).val / 64) ((i 0).val % 128) ((i 1).val % 64) : ℝ) : EReal) :=
  (dats m 0 c).arrAt_eq_of_covers 9 _ (by decide +kernel) fun t hf y => by
    blk_simp
    have hy : (y 0).val < 128 := (y 0).isLt
    rw [after0_9, out9 G t, blockOf_eq, show win0_9.index t 0 = t.val by simp [idx_val t], show win0_9.index t 1 = 0 by simp [idx_val t],
      (place t.val (y 0).val hy).1, (place t.val (y 0).val hy).2, Nat.zero_mul, Nat.zero_add]

/-- The values' gradient from the block's own queries. -/
theorem arr10 (G : Given m c A) : (dats m 0 c).arrAt 10 cfg0.N
    = fun i : S4096x256.Idx => ((A.dv ((i 0).val / 128) ((i 1).val / 64) (128 + (i 0).val % 128) ((i 1).val % 64) : ℝ) : EReal) :=
  (dats m 0 c).arrAt_eq_of_covers 10 _ (by decide +kernel) fun t hf y => by
    blk_simp
    have hy : (y 0).val < 128 := (y 0).isLt
    rw [after0_10, out10 G t, blockOf_eq, show win0_10.index t 0 = t.val by simp [idx_val t], show win0_10.index t 1 = 0 by simp [idx_val t],
      (place t.val (y 0).val hy).1, (place t.val (y 0).val hy).2, Nat.zero_mul, Nat.zero_add]

/-- The gradient of the values of the block before. -/
theorem arr11 (G : Given m c A) : (dats m 0 c).arrAt 11 cfg0.N
    = fun i : S4096x256.Idx => ((A.dv ((i 0).val / 128) ((i 1).val / 64) ((i 0).val % 128) ((i 1).val % 64) : ℝ) : EReal) :=
  (dats m 0 c).arrAt_eq_of_covers 11 _ (by decide +kernel) fun t hf y => by
    blk_simp
    have hy : (y 0).val < 128 := (y 0).isLt
    rw [after0_11, out11 G t, blockOf_eq, show win0_11.index t 0 = t.val by simp [idx_val t], show win0_11.index t 1 = 0 by simp [idx_val t],
      (place t.val (y 0).val hy).1, (place t.val (y 0).val hy).2, Nat.zero_mul, Nat.zero_add]

/-- The last grid point. -/
abbrev lastPoint : Fin cfg0.N := ⟨31, by have : cfg0.N = 32 := N_0; omega⟩

/-- The sinks' gradient after the last point: the sum of the blocks' parts. -/
theorem sum_dsink (G : Given m c A) (y : S4x4x8x128.Idx) :
    (outsAt0 m c lastPoint.val lastPoint.isLt).2.2.2.2.2 y = ((∑ b : Fin 32, A.dsink b.val (y 0).val (y 1).val : ℝ) : EReal) := by
  rw [Pipeline.eq_sum_fin_of_reset_step_apply_last (fun n h => (outsAt0 m c n h).2.2.2.2.2) 32 (fun _ => 0)
    (fun p j => ((A.dsink p (j 0).val (j 1).val : ℝ) : EReal)) ?_ ?_ (le_of_eq N_0) lastPoint rfl y, zero_add, coe_sum]
  · rfl
  · intro t k0 j
    have hN : t.val < 32 := lt_of_lt_of_eq t.isLt N_0
    exact (out12_first G t (by omega) j).trans (by rw [blockOf_eq, zero_add])
  · intro t k0 j
    have hN : t.val < 32 := lt_of_lt_of_eq t.isLt N_0
    exact (out12_later G t (by omega) j).trans (by rw [blockOf_eq])

/-- The sinks' gradient. -/
theorem arr12 (G : Given m c A) : (dats m 0 c).arrAt 12 cfg0.N
    = fun i : S4x4x8x128.Idx => ((∑ b : Fin 32, A.dsink b.val (i 0).val (i 1).val : ℝ) : EReal) :=
  (dats m 0 c).arrAt_eq_of_after_last 12 lastPoint (by decide +kernel) _ fun j => by
    blk_simp
    rw [after0_12]
    idx_vars j
    exact sum_dsink G _

end Cert.Attn.Kernel

end
-- ==== Proof.AttnRefMask.lean ====
/- Which of a block's band positions a query may look at, as the reference's integer comparisons decide it. -/
module

public import proofs.«01_k».proof.Proof.AttnReals
public import proofs.«01_k».proof.Proof.AttnHead

@[expose] public section

noncomputable section

namespace Cert.Attn.Reference

open Idealize.ShloMosaic Idealize.ShloMosaic.TcCoe
open Cert.Attn.Kernel (toInt_small)

/-- A difference of small numbers' words, read as a signed number. -/
theorem toInt_sub_small {a b : ℕ} (ha : a < 2 ^ 30) (hb : b < 2 ^ 30) : (BitVec.ofNat 32 a - BitVec.ofNat 32 b).toInt = (a : ℤ) - b := by
  rw [BitVec.toInt_sub, toInt_small (by omega), toInt_small (by omega)]
  rw [show (2 ^ 32 : ℕ) = 4294967296 from rfl, Int.bmod_def]
  split_ifs <;> omega

/-- Three conditions' bits joined. -/
theorem andi_three (a b c : Prop) [Decidable a] [Decidable b] [Decidable c] :
    IntOp.andi (IntOp.andi (BitVec.ofBool (decide b)) (BitVec.ofBool (decide a))) (BitVec.ofBool (decide c)) = if a ∧ b ∧ c then 1#1 else 0#1 := by
  by_cases ha : a <;> by_cases hb : b <;> by_cases hc : c <;> simp [IntOp.andi, ha, hb, hc]

/-- The window: at most 127 positions back and not ahead, and no position before the first. -/
theorem window {n q p : ℕ} (hn : n < 32) (hq : q < 128) (hp : p < 256) :
    IntOp.andi (IntOp.andi (IntOp.cmpi .sle (BitVec.ofNat 32 p) (IntOp.addi (BitVec.ofNat 32 q) 128#32))
        (IntOp.cmpi .slt (IntOp.subi (IntOp.addi (BitVec.ofNat 32 q) 128#32) (BitVec.ofNat 32 p)) 128#32))
      (IntOp.cmpi .sge (IntOp.subi (IntOp.addi (IntOp.muli (BitVec.ofNat 32 n) 128#32) (BitVec.ofNat 32 p)) 128#32) 0#32)
      = if q < p ∧ p ≤ q + 128 ∧ (p < 128 → 0 < n) then 1#1 else 0#1 := by
  have e1 : IntOp.addi (BitVec.ofNat 32 q) 128#32 = BitVec.ofNat 32 (q + 128) := (BitVec.ofNat_add q 128).symm
  have e2 : IntOp.addi (IntOp.muli (BitVec.ofNat 32 n) 128#32) (BitVec.ofNat 32 p) = BitVec.ofNat 32 (n * 128 + p) := by
    rw [BitVec.ofNat_add, BitVec.ofNat_mul]; rfl
  have c1 : IntOp.cmpi .sle (BitVec.ofNat 32 p) (BitVec.ofNat 32 (q + 128)) = BitVec.ofBool (decide (p ≤ q + 128)) := by
    show BitVec.ofBool (BitVec.sle _ _) = _
    rw [BitVec.sle_eq_decide, toInt_small (by omega), toInt_small (by omega)]
    exact congrArg _ (decide_eq_decide.mpr (by omega))
  have c2 : IntOp.cmpi .slt (IntOp.subi (BitVec.ofNat 32 (q + 128)) (BitVec.ofNat 32 p)) 128#32 = BitVec.ofBool (decide (q < p)) := by
    show BitVec.ofBool (BitVec.slt (BitVec.ofNat 32 (q + 128) - BitVec.ofNat 32 p) (BitVec.ofNat 32 128)) = _
    rw [BitVec.slt_eq_decide, toInt_sub_small (by omega) (by omega), toInt_small (by omega)]
    exact congrArg _ (decide_eq_decide.mpr (by omega))
  have c3 : IntOp.cmpi .sge (IntOp.subi (BitVec.ofNat 32 (n * 128 + p)) 128#32) 0#32 = BitVec.ofBool (decide (p < 128 → 0 < n)) := by
    show BitVec.ofBool (BitVec.sle (BitVec.ofNat 32 0) (BitVec.ofNat 32 (n * 128 + p) - BitVec.ofNat 32 128)) = _
    rw [BitVec.sle_eq_decide, toInt_sub_small (by omega) (by omega), toInt_small (by omega)]
    exact congrArg _ (decide_eq_decide.mpr (by omega))
  rw [e1, e2, c1, c2, c3]
  exact andi_three _ _ _

end Cert.Attn.Reference

end
-- ==== Proof.AttnRefSums.lean ====
/- The reference's sums and maxima over one or two axes of its six, its spreads of a row's number over the row, and its
   operations element by element, each read at an index. -/
module

public import proofs.«01_k».proof.Proof.Gen.Reference2Ideal
public import Idealize.ShloMosaic.PureOps.Ideal.Laws
public import Idealize.ShloMosaic.Lib.Pointwise
public import Idealize.ShloMosaic.Lib.Pipeline.ValueKit

@[expose] public section

set_option maxRecDepth 16384

noncomputable section

namespace Cert.Attn.Reference

open Cert.Reference2Ideal Cert.Reference2Ideal.Gen Idealize.ShloMosaic Idealize.ShloMosaic.TcCoe

/-- A sum over the band positions. -/
theorem sum_band (x : FVec Ideal S1x32x4x4x128x256 .f32) (init : FVec Ideal S_ .f32) (n : Fin 32) (h e : Fin 4) (q : Fin 128) :
    Host.reduceAdd x init reducesTo_S1x32x4x4x128x256_S1x32x4x4x128_d5 h_S_ (ix5 0 n h e q)
      = init (Shape.Idx.first h_S_) + ∑ p : Fin 256, x (ix6 0 n h e q p) := by
  simp only [Host.reduceAdd, Ideal.hostReduceAdd_def]
  rw [Ideal.hostReduceAdd_single reducesTo_S1x32x4x4x128x256_S1x32x4x4x128_d5 (by decide)]
  refine congrArg (_ + ·) (Finset.sum_congr rfl fun k _ => ?_)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

/-- A maximum over the band positions. -/
theorem max_band (x : FVec Ideal S1x32x4x4x128x256 .f32) (init : FVec Ideal S_ .f32) (n : Fin 32) (h e : Fin 4) (q : Fin 128) :
    Host.reduce (FloatOps.maximumf (F := Ideal)) x init reducesTo_S1x32x4x4x128x256_S1x32x4x4x128_d5 h_S_ (ix5 0 n h e q)
      = Finset.univ.fold max (init (Shape.Idx.first h_S_)) fun p : Fin 256 => x (ix6 0 n h e q p) := by
  refine (Host.reduce_eq_fold_single FloatOps.maximumf x init reducesTo_S1x32x4x4x128x256_S1x32x4x4x128_d5 (by decide) h_S_ _).trans ?_
  refine congrArg (Finset.univ.fold max (init (Shape.Idx.first h_S_))) (funext fun k => ?_)
  exact congrArg x (funext fun a => Fin.ext (by match a with | ⟨0, _⟩ => rfl | ⟨1, _⟩ => rfl | ⟨2, _⟩ => rfl | ⟨3, _⟩ => rfl | ⟨4, _⟩ => rfl | ⟨5, _⟩ => rfl))

/-- A sum over the blocks and a block's queries. -/
theorem sum_blocks (x : FVec Ideal S1x32x4x4x128x1 .f32) (init : FVec Ideal S_ .f32) (h e : Fin 4) :
    Host.reduceAdd x init reducesTo_S1x32x4x4x128x1_S1x4x4x1_d1_4 h_S_ (ix4 0 h e 0)
      = init (Shape.Idx.first h_S_) + ∑ n : Fin 32, ∑ q : Fin 128, x (ix6 0 n h e q 0) := by
  simp only [Host.reduceAdd, Ideal.hostReduceAdd_def, Ideal.hostReduceAdd]
  refine congrArg (_ + ·) ?_
  rw [← Finset.sum_product']
  refine Finset.sum_nbij' (fun i => (i 1, i 4)) (fun k => ix6 0 k.1 h e k.2 0) (fun i _ => Finset.mem_univ _) (fun k _ => ?_) (fun i hi => ?_) (fun k _ => rfl) (fun i hi => ?_)
  · rw [Finset.mem_filter]
    refine ⟨Finset.mem_univ _, funext fun a => Fin.ext ?_⟩
    match a with | ⟨0, _⟩ => rfl | ⟨1, _⟩ => rfl | ⟨2, _⟩ => rfl | ⟨3, _⟩ => rfl
  all_goals
    have hd := (Finset.mem_filter.mp hi).2
    have h2 : (i 2).val = h.val := congrArg (fun j : S1x4x4x1.Idx => (j 1).val) hd
    have h3 : (i 3).val = e.val := congrArg (fun j : S1x4x4x1.Idx => (j 2).val) hd
    have h0 := (i 0).isLt
    have h5 := (i 5).isLt
  · refine funext fun a => Fin.ext ?_
    match a with
    | ⟨0, _⟩ => exact (Nat.lt_one_iff.mp h0).symm
    | ⟨1, _⟩ => rfl
    | ⟨2, _⟩ => exact h2.symm
    | ⟨3, _⟩ => exact h3.symm
    | ⟨4, _⟩ => rfl
    | ⟨5, _⟩ => exact (Nat.lt_one_iff.mp h5).symm
  · refine congrArg x (funext fun a => Fin.ext ?_)
    match a with
    | ⟨0, _⟩ => exact Nat.lt_one_iff.mp h0
    | ⟨1, _⟩ => rfl
    | ⟨2, _⟩ => exact h2
    | ⟨3, _⟩ => exact h3
    | ⟨4, _⟩ => rfl
    | ⟨5, _⟩ => exact Nat.lt_one_iff.mp h5

/-- A sum over two axes of size one. -/
theorem sum_one (x : FVec Ideal S1x32x4x4x128x1 .f32) (init : FVec Ideal S_ .f32) (n : Fin 32) (h e : Fin 4) (q : Fin 128) :
    Host.reduceAdd x init reducesTo_S1x32x4x4x128x1_S32x4x4x128_d0_5 h_S_ (ix4 n h e q)
      = init (Shape.Idx.first h_S_) + x (ix6 0 n h e q 0) := by
  simp only [Host.reduceAdd, Ideal.hostReduceAdd_def, Ideal.hostReduceAdd]
  refine congrArg (_ + ·) ?_
  refine (Finset.sum_eq_single (ix6 0 n h e q 0) (fun i hi hne => absurd ?_ hne) fun hn => absurd ?_ hn)
  · have hd := (Finset.mem_filter.mp hi).2
    have h0 := (i 0).isLt
    have h5 := (i 5).isLt
    refine funext fun a => Fin.ext ?_
    match a with
    | ⟨0, _⟩ => exact Nat.lt_one_iff.mp h0
    | ⟨1, _⟩ => exact congrArg (fun j : S32x4x4x128.Idx => (j 0).val) hd
    | ⟨2, _⟩ => exact congrArg (fun j : S32x4x4x128.Idx => (j 1).val) hd
    | ⟨3, _⟩ => exact congrArg (fun j : S32x4x4x128.Idx => (j 2).val) hd
    | ⟨4, _⟩ => exact congrArg (fun j : S32x4x4x128.Idx => (j 3).val) hd
    | ⟨5, _⟩ => exact Nat.lt_one_iff.mp h5
  · rw [Finset.mem_filter]
    refine ⟨Finset.mem_univ _, funext fun a => Fin.ext ?_⟩
    match a with | ⟨0, _⟩ => rfl | ⟨1, _⟩ => rfl | ⟨2, _⟩ => rfl | ⟨3, _⟩ => rfl

section Spreads

variable (n : Fin 32) (h e : Fin 4) (q : Fin 128) (p : Fin 256)

/-- A row's number, spread over the band positions. -/
theorem spread_band (x : FVec Ideal S1x32x4x4x128x1 .f32) :
    broadcastInDim S1x32x4x4x128x256 ![0, 1, 2, 3, 4, 5] bcast_S1x32x4x4x128x1_S1x32x4x4x128x256_0_1_2_3_4_5 x (ix6 0 n h e q p) = x (ix6 0 n h e q 0) := by
  pointwise []

/-- A row's number, spread over the band positions, from five axes. -/
theorem spread_row (x : FVec Ideal S1x32x4x4x128 .f32) :
    broadcastInDim S1x32x4x4x128x256 ![0, 1, 2, 3, 4] bcast_S1x32x4x4x128_S1x32x4x4x128x256_0_1_2_3_4 x (ix6 0 n h e q p) = x (ix5 0 n h e q) := by
  pointwise []

/-- A head's sink, spread over blocks and queries. -/
theorem spread_sink (x : FVec Ideal S1x1x4x4x1x1 .f32) :
    broadcastInDim S1x32x4x4x128x1 ![0, 1, 2, 3, 4, 5] bcast_S1x1x4x4x1x1_S1x32x4x4x128x1_0_1_2_3_4_5 x (ix6 0 n h e q 0) = x (ix6 0 0 h e 0 0) := by
  pointwise []

/-- A row's number, with a sixth axis of size one. -/
theorem keep_row (x : FVec Ideal S1x32x4x4x128 .f32) :
    broadcastInDim S1x32x4x4x128x1 ![0, 1, 2, 3, 4] bcast_S1x32x4x4x128_S1x32x4x4x128x1_0_1_2_3_4 x (ix6 0 n h e q 0) = x (ix5 0 n h e q) := by
  pointwise []

/-- The same by a reshape. -/
theorem cast_row (x : FVec Ideal S1x32x4x4x128 .f32) :
    shapeCast S1x32x4x4x128x1 x shapeCasts_S1x32x4x4x128_S1x32x4x4x128x1 (ix6 0 n h e q 0) = x (ix5 0 n h e q) := by
  pointwise []

/-- A row's number, with a first axis of size one. -/
theorem lead_row (x : FVec Ideal S32x4x4x128 .f32) :
    broadcastInDim S1x32x4x4x128 ![1, 2, 3, 4] bcast_S32x4x4x128_S1x32x4x4x128_1_2_3_4 x (ix5 0 n h e q) = x (ix4 n h e q) := by
  pointwise []

/-- A head's number, as the sinks are laid out. -/
theorem cast_head (x : FVec Ideal S1x4x4x1 .f32) :
    shapeCast S1x1x4x4x1x1 x shapeCasts_S1x4x4x1_S1x1x4x4x1x1 (ix6 0 0 h e 0 0) = x (ix4 0 h e 0) := by
  pointwise []

end Spreads

section Elementwise

variable {s : Shape} (x y : FVec Ideal s .f32) (i : s.Idx)

theorem at_max : (maximumf x y i : EReal) = max (x i) (y i) := by pointwise []
theorem at_add : (addf x y i : EReal) = x i + y i := by pointwise []
theorem at_sub : (subf x y i : EReal) = x i - y i := by pointwise []
theorem at_mul : (mulf x y i : EReal) = x i * y i := by pointwise []
theorem at_div : (Host.divf x y i : EReal) = Ideal.div (x i) (y i) := rfl
theorem at_neg : (Host.negf x i : EReal) = -x i := by pointwise []
theorem at_exp : (Host.exp x i : EReal) = Ideal.exp (x i) := by pointwise []
theorem at_count : (uitofp (F := Ideal) .f32 (cmpf .oeq x y) i : EReal) = if (x i : EReal) = y i then 1 else 0 := by
  show (((BitVec.ofBool (decide ((x i : EReal) = y i))).toNat : ℝ) : EReal) = _
  by_cases h : (x i : EReal) = y i
  · rw [if_pos h, decide_eq_true h, show (BitVec.ofBool true).toNat = 1 from rfl]; norm_num
  · rw [if_neg h, decide_eq_false h, show (BitVec.ofBool false).toNat = 0 from rfl]; norm_num

end Elementwise

end Cert.Attn.Reference

end
-- ==== Proof.AttnRefScores.lean ====
/- The reference's scores and largest scores on arguments that are real: read at an index, block by block. -/
module

public import proofs.«01_k».proof.Proof.AttnRefMask
public import proofs.«01_k».proof.Proof.AttnRefSums
public import proofs.«01_k».proof.Proof.Gen.Reference2Ideal.Read

@[expose] public section

set_option maxRecDepth 16384

noncomputable section

namespace Cert.Attn

/-- Weights depend on the scores only inside a query's window. -/
theorem wt_congr {f f' : ℕ → ℕ → ℝ} {b p r : ℕ} (h : ok b p r → f p r = f' p r) : wt f b p r = wt f' b p r := by
  unfold wt; split_ifs with g
  · rw [h g]
  · rfl

namespace Args

variable (A : Args) (b h : ℕ)

/-- A block's band as the reference forms it: zeros before block 0. -/
def padded (x : ℕ → ℕ → ℝ) (p d : ℕ) : ℝ := if p < 128 ∧ b = 0 then 0 else band x b p (64 * h + d)

/-- The scores over that band. -/
def scz (p r : ℕ) : ℝ := ∑ d : Fin 64, padded b h A.k p d * A.qb b h r d
/-- The cotangents of the probabilities over that band. -/
def dpz (p r : ℕ) : ℝ := ∑ d : Fin 64, A.gb b h r d * padded b h A.v p d

theorem padded_eq {x : ℕ → ℕ → ℝ} {p r d : ℕ} (g : ok b p r) : padded b h x p d = band x b p (64 * h + d) :=
  if_neg fun hh => by have := g.2.2 hh.1; omega

theorem scz_eq {p r : ℕ} (g : ok b p r) : A.scz b h p r = A.sc b h p r :=
  Finset.sum_congr rfl fun d _ => by rw [padded_eq b h g]; rfl

theorem dpz_eq {p r : ℕ} (g : ok b p r) : A.dpz b h p r = A.dp b h p r :=
  Finset.sum_congr rfl fun d _ => by rw [padded_eq b h g, mul_comm]; rfl

/-- The queries of a row, where they stand in the array. -/
theorem rows_at (x : ℕ → ℕ → ℝ) {e q : ℕ} (d : ℕ) (hq : q < 128) : rows x b h (128 * e + q) d = x (128 * b + q) (64 * (4 * h + e) + d) := by
  unfold rows
  rw [show (128 * e + q) % 128 = q by omega, show (128 * e + q) / 128 = e by omega]

theorem sk_at {e q : ℕ} (hq : q < 128) : A.sk h (128 * e + q) = A.sink (4 * h + e) := by
  unfold sk
  rw [show (128 * e + q) / 128 = e by omega]

end Args

namespace Reference

open Cert.Reference2Ideal Cert.Reference2Ideal.Gen Cert.Reference2Ideal.Read Idealize.ShloMosaic Idealize.ShloMosaic.TcCoe
open Cert.Ffn (coe_sum word_zero word_one)
open Cert.Attn.Kernel (word_eighth word_bot)
open Args

/-- The five argument arrays hold these real numbers. -/
structure Holds (A : Args) (x0 : (⟨S4096x1024, .f32⟩ : BufTy).Contents (Elt Ideal)) (x1 x2 : (⟨S4096x256, .f32⟩ : BufTy).Contents (Elt Ideal))
    (x3 : (⟨S16, .f32⟩ : BufTy).Contents (Elt Ideal)) (x4 : (⟨S4096x1024, .f32⟩ : BufTy).Contents (Elt Ideal)) : Prop where
  q_at : ∀ i, x0 i = ((A.q (i 0).val (i 1).val : ℝ) : EReal)
  k_at : ∀ i, x1 i = ((A.k (i 0).val (i 1).val : ℝ) : EReal)
  v_at : ∀ i, x2 i = ((A.v (i 0).val (i 1).val : ℝ) : EReal)
  s_at : ∀ i, x3 i = ((A.sink (i 0).val : ℝ) : EReal)
  g_at : ∀ i, x4 i = ((A.g (i 0).val (i 1).val : ℝ) : EReal)

/-- Equal real numbers, equal values. -/
theorem coe_congr {x y : ℝ} (h : x = y) : ((x : ℝ) : EReal) = ((y : ℝ) : EReal) := congrArg _ h

variable {A : Args} {x0 : (⟨S4096x1024, .f32⟩ : BufTy).Contents (Elt Ideal)} {x1 x2 : (⟨S4096x256, .f32⟩ : BufTy).Contents (Elt Ideal)}
  {x3 : (⟨S16, .f32⟩ : BufTy).Contents (Elt Ideal)} {x4 : (⟨S4096x1024, .f32⟩ : BufTy).Contents (Elt Ideal)}

/-- The queries, by block, position, key head, group and column. -/
theorem v0_at (H : Holds A x0 x1 x2 x3 x4) (i : S1x32x128x4x4x64.Idx) :
    val_main_v0 (F := Ideal) x0 i = ((A.qb (i 1).val (i 3).val (128 * (i 4).val + (i 2).val) (i 5).val : ℝ) : EReal) := by
  idx_vars i
  obtain rfl : i0 = 0 := Subsingleton.elim _ _
  pointwise [val_main_v0]
  rw [H.q_at]
  refine coe_congr ((Args.rows_at _ _ A.q _ i2.isLt).trans ?_).symm
  have := i2.isLt
  exact congrArg₂ A.q (by simp; omega) (by simp; omega)

/-- The cotangents, by block, position, key head, group and column. -/
theorem v9_at (H : Holds A x0 x1 x2 x3 x4) (i : S1x32x128x4x4x64.Idx) :
    val_main_v9 (F := Ideal) x4 i = ((A.gb (i 1).val (i 3).val (128 * (i 4).val + (i 2).val) (i 5).val : ℝ) : EReal) := by
  idx_vars i
  obtain rfl : i0 = 0 := Subsingleton.elim _ _
  pointwise [val_main_v9]
  rw [H.g_at]
  refine coe_congr ((Args.rows_at _ _ A.g _ i2.isLt).trans ?_).symm
  exact congrArg₂ A.g (by simp; omega) (by simp; omega)

/-- The bands of keys. -/
theorem v10_at (H : Holds A x0 x1 x2 x3 x4) (i : S1x32x256x4x64.Idx) :
    val_main_v10 (F := Ideal) x1 i = ((padded (i 1).val (i 3).val A.k (i 2).val (i 4).val : ℝ) : EReal) := by
  idx_vars i
  obtain rfl : i0 = 0 := Subsingleton.elim _ _
  pointwise [val_main_v10, val_main_v5, val_main_v3, val_main_v4, val_main_v1, val_main_cst]
  unfold padded band
  by_cases hp : i2.val < 128
  · by_cases hb : i1.val < 1
    · rw [dif_pos hp, dif_pos hb, if_pos ⟨hp, by omega⟩]; rfl
    · have hz : ¬(i2.val < 128 ∧ i1.val = 0) := fun h => by omega
      rw [dif_pos hp, dif_neg hb, H.k_at, if_neg hz, if_pos hp]
      exact coe_congr (congrArg₂ A.k (by simp; omega) (by simp; omega))
  · have hz : ¬(i2.val < 128 ∧ i1.val = 0) := fun h => hp h.1
    rw [dif_neg hp, H.k_at, if_neg hz, if_neg hp]
    exact coe_congr (congrArg₂ A.k (by simp; omega) (by simp; omega))

/-- The bands of values. -/
theorem v11_at (H : Holds A x0 x1 x2 x3 x4) (i : S1x32x256x4x64.Idx) :
    val_main_v11 (F := Ideal) x2 i = ((padded (i 1).val (i 3).val A.v (i 2).val (i 4).val : ℝ) : EReal) := by
  idx_vars i
  obtain rfl : i0 = 0 := Subsingleton.elim _ _
  pointwise [val_main_v11, val_main_v8, val_main_v6, val_main_v7, val_main_v2, val_main_cst_0]
  unfold padded band
  by_cases hp : i2.val < 128
  · by_cases hb : i1.val < 1
    · rw [dif_pos hp, dif_pos hb, if_pos ⟨hp, by omega⟩]; rfl
    · have hz : ¬(i2.val < 128 ∧ i1.val = 0) := fun h => by omega
      rw [dif_pos hp, dif_neg hb, H.v_at, if_neg hz, if_pos hp]
      exact coe_congr (congrArg₂ A.v (by simp; omega) (by simp; omega))
  · have hz : ¬(i2.val < 128 ∧ i1.val = 0) := fun h => hp h.1
    rw [dif_neg hp, H.v_at, if_neg hz, if_neg hp]
    exact coe_congr (congrArg₂ A.v (by simp; omega) (by simp; omega))

/-- The sinks. -/
theorem v49_at (H : Holds A x0 x1 x2 x3 x4) (i : S1x1x4x4x1x1.Idx) :
    val_main_v49 (F := Ideal) x3 i = ((A.sink (4 * (i 2).val + (i 3).val) : ℝ) : EReal) := by
  idx_vars i
  obtain rfl : i0 = 0 := Subsingleton.elim _ _
  obtain rfl : i1 = 0 := Subsingleton.elim _ _
  obtain rfl : i4 = 0 := Subsingleton.elim _ _
  obtain rfl : i5 = 0 := Subsingleton.elim _ _
  pointwise [val_main_v49]
  rw [H.s_at]
  exact coe_congr (congrArg A.sink (by simp; omega))

/-- The mask. -/
theorem mask_at (i : S1x32x4x4x128x256.Idx) :
    val_main_v48_1 (F := Ideal) i = if ok (i 1).val (i 5).val (128 * (i 3).val + (i 4).val) then 1#1 else 0#1 := by
  idx_vars i
  pointwise [val_main_v48_1, val_main_v47, val_main_v46, val_main_v45, val_main_v44, val_main_v43, val_main_v42, val_main_c_5, val_main_v41, val_main_v40, val_main_c_4, val_main_v39, val_main_v38, val_main_v37, val_main_v36, val_main_v35, val_main_v34,
    val_main_c_3, val_main_v33, val_main_v32, val_main_v31, val_main_v30, val_main_v29, val_main_v28, val_main_c_2, val_main_v27, val_main_v26, val_main_v25, val_main_v24, val_main_v23, val_main_v22, val_main_v21, val_main_v20, val_main_v19, val_main_v18, val_main_c, val_main_v17, val_main_v16]
  rw [window i1.isLt i4.isLt i5.isLt]
  have e : ok i1.val i5.val (128 * i3.val + i4.val) ↔ i4.val < i5.val ∧ i5.val ≤ i4.val + 128 ∧ (i5.val < 128 → 0 < i1.val) := by
    have := i4.isLt
    unfold ok
    rw [show (128 * i3.val + i4.val) % 128 = i4.val by omega]
  exact if_congr e.symm rfl rfl

/-- Choosing by the mask. -/
theorem select_mask {α : Type} (i : S1x32x4x4x128x256.Idx) (x y : α) :
    Scalar.select (val_main_v48_1 (F := Ideal) i) x y = if ok (i 1).val (i 5).val (128 * (i 3).val + (i 4).val) then x else y := by
  rw [mask_at]; split_ifs <;> rfl

/-- The scores, scaled. -/
theorem v15_at (H : Holds A x0 x1 x2 x3 x4) (i : S1x32x4x4x128x256.Idx) :
    val_main_v15 (F := Ideal) x0 x1 i = ((A.scz (i 1).val (i 2).val (i 5).val (128 * (i 3).val + (i 4).val) * (1 / 8) : ℝ) : EReal) := by
  idx_vars i
  obtain rfl : i0 = 0 := Subsingleton.elim _ _
  pointwise [val_main_v15, val_main_v14, val_main_cst_1, val_main_v13, val_main_v12]
  simp only [v10_at H, v0_at H, word_eighth, ← EReal.coe_mul, coe_sum]
  rfl

/-- The scores, scaled and masked. -/
theorem masked_at (H : Holds A x0 x1 x2 x3 x4) (i : S1x32x4x4x128x256.Idx) :
    val_main_v48_0 (F := Ideal) x0 x1 i = if ok (i 1).val (i 5).val (128 * (i 3).val + (i 4).val)
      then ((A.scz (i 1).val (i 2).val (i 5).val (128 * (i 3).val + (i 4).val) * (1 / 8) : ℝ) : EReal) else ⊥ := by
  have hb : val_main_call0_v2 (F := Ideal) i = (⊥ : EReal) := by
    idx_vars i
    pointwise [val_main_call0_v2, val_main_call0_v0, val_main_cst_6]
    exact word_bot
  show Scalar.select (val_main_v48_1 (F := Ideal) i) (val_main_v15 (F := Ideal) x0 x1 i) (val_main_call0_v2 (F := Ideal) i) = _
  rw [select_mask, v15_at H, hb]

/-- The largest of a query's scores is one of them, or there are none. -/
theorem v50_at (n : Fin 32) (h e : Fin 4) (q : Fin 128) :
    ∃ p : Fin 256, (val_main_v50 (F := Ideal) x0 x1 (ix5 0 n h e q) : EReal) = val_main_v48_0 (F := Ideal) x0 x1 (ix6 0 n h e q p) := by
  have hm := max_band (val_main_v48_0 (F := Ideal) x0 x1) (val_main_cst_7 (F := Ideal)) n h e q
  have hb : val_main_cst_7 (F := Ideal) (Shape.Idx.first h_S_) = (⊥ : EReal) := word_bot
  rw [hb] at hm
  obtain ⟨p, -, hp⟩ := Finset.exists_mem_eq_sup (Finset.univ : Finset (Fin 256)) Finset.univ_nonempty fun p => (val_main_v48_0 (F := Ideal) x0 x1 (ix6 0 n h e q p) : EReal)
  exact ⟨p, hm.trans hp⟩

/-- The larger of a query's largest score and its sink. -/
theorem v58_read (n : Fin 32) (h e : Fin 4) (q : Fin 128) : (val_main_v58 (F := Ideal) x0 x1 x3 (ix6 0 n h e q 0) : EReal)
    = max (val_main_v50 (F := Ideal) x0 x1 (ix5 0 n h e q) : EReal) (val_main_v49 (F := Ideal) x3 (ix6 0 0 h e 0 0)) :=
  (at_max (val_main_v56 (F := Ideal) x0 x1) (val_main_v57 (F := Ideal) x3) _).trans
    (congrArg₂ max (keep_row n h e q (val_main_v50 (F := Ideal) x0 x1)) (spread_sink n h e q (val_main_v49 (F := Ideal) x3)))

/-- It is a real number. -/
theorem v58_at (H : Holds A x0 x1 x2 x3 x4) :
    ∃ μ : Fin 32 → Fin 4 → Fin 4 → Fin 128 → ℝ, ∀ n h e q, (val_main_v58 (F := Ideal) x0 x1 x3 (ix6 0 n h e q 0) : EReal) = ((μ n h e q : ℝ) : EReal) := by
  have key : ∀ n h e q, ∃ y : ℝ, (val_main_v58 (F := Ideal) x0 x1 x3 (ix6 0 n h e q 0) : EReal) = (y : EReal) := by
    intro n h e q
    rw [v58_read, v49_at H]
    obtain ⟨p, hp⟩ := v50_at (x0 := x0) (x1 := x1) n h e q
    have h1 : (val_main_v50 (F := Ideal) x0 x1 (ix5 0 n h e q) : EReal) < (⊤ : EReal) := by
      rw [hp, masked_at H]
      split_ifs
      · exact EReal.coe_lt_top _
      · exact bot_lt_top
    refine ⟨(max _ _ : EReal).toReal, (EReal.coe_toReal ?_ ?_).symm⟩
    · exact (max_lt h1 (EReal.coe_lt_top _)).ne
    · exact (lt_of_lt_of_le (EReal.bot_lt_coe _) (le_max_right _ _)).ne'
  choose μ hμ using key
  exact ⟨μ, hμ⟩

/-- Whether a position holds its query's largest score. -/
theorem v54_read (n : Fin 32) (h e : Fin 4) (q : Fin 128) (p : Fin 256) : (val_main_v54 (F := Ideal) x0 x1 (ix6 0 n h e q p) : EReal)
    = if (val_main_v48_0 (F := Ideal) x0 x1 (ix6 0 n h e q p) : EReal) = val_main_v50 (F := Ideal) x0 x1 (ix5 0 n h e q) then 1 else 0 := by
  refine (at_count (val_main_v48_0 (F := Ideal) x0 x1) (val_main_v52 (F := Ideal) x0 x1) _).trans ?_
  have hs : (val_main_v52 (F := Ideal) x0 x1 (ix6 0 n h e q p) : EReal) = val_main_v50 (F := Ideal) x0 x1 (ix5 0 n h e q) :=
    (spread_band n h e q p (val_main_v51 (F := Ideal) x0 x1)).trans (cast_row n h e q (val_main_v50 (F := Ideal) x0 x1))
  rw [hs]

/-- How many positions hold a query's largest score: at least one. -/
theorem v55_ne (n : Fin 32) (h e : Fin 4) (q : Fin 128) : (val_main_v55 (F := Ideal) x0 x1 (ix5 0 n h e q) : EReal) ≠ (0 : EReal) := by
  have hs : (val_main_v55 (F := Ideal) x0 x1 (ix5 0 n h e q) : EReal) = _ := sum_band (val_main_v54 (F := Ideal) x0 x1) (val_main_cst_8 (F := Ideal)) n h e q
  have h0 : (val_main_cst_8 (F := Ideal) (Shape.Idx.first h_S_) : EReal) = (0 : EReal) := word_zero.trans EReal.coe_zero
  obtain ⟨p, hp⟩ := v50_at (x0 := x0) (x1 := x1) n h e q
  have hle : (val_main_v54 (F := Ideal) x0 x1 (ix6 0 n h e q p) : EReal) ≤ ∑ p : Fin 256, (val_main_v54 (F := Ideal) x0 x1 (ix6 0 n h e q p) : EReal) :=
    Finset.single_le_sum (f := fun p : Fin 256 => (val_main_v54 (F := Ideal) x0 x1 (ix6 0 n h e q p) : EReal)) (fun p _ => by
      show (0 : EReal) ≤ val_main_v54 (F := Ideal) x0 x1 (ix6 0 n h e q p)
      rw [v54_read]; split_ifs
      · exact zero_le_one
      · exact le_refl _) (Finset.mem_univ p)
  rw [v54_read n h e q p, if_pos hp.symm] at hle
  rw [hs, h0, zero_add]
  exact (lt_of_lt_of_le zero_lt_one hle).ne'

end Reference

end Cert.Attn

end
-- ==== Proof.AttnRefGrads.lean ====
/- The reference's probabilities and score cotangents on arguments that are real: the softmax with a sink and its gradient,
   read at an index. The gradient's part through the subtracted maximum vanishes. -/
module

public import proofs.«01_k».proof.Proof.AttnRefScores

@[expose] public section

set_option maxRecDepth 16384

noncomputable section

namespace Cert.Attn

section Rows

variable (f f' g g' : ℕ → ℕ → ℝ) (s : ℕ → ℝ) (b r : ℕ)

/-- The probabilities of a query sum to what the sink leaves. -/
theorem sum_prob : ∑ p : Fin 256, prob f s b p r = 1 - Real.exp (s r) / zed f s b r := by
  have hz := (zed_pos f s b r).ne'
  have e : ∑ p : Fin 256, prob f s b p r = (∑ p : Fin 256, wt f b p r) / zed f s b r := (Finset.sum_div _ _ _).symm
  have w : ∑ p : Fin 256, wt f b p r = zed f s b r - Real.exp (s r) := by unfold zed; ring
  rw [e, w, sub_div, div_self hz]

/-- The products of probabilities and cotangents less their mean, summed, leave what the sink's cotangent takes. -/
theorem sum_prob_sub : ∑ p : Fin 256, prob f s b p r * (g p r - mean f g s b r) = dsinkRow f g s b r := by
  have e : ∑ p : Fin 256, prob f s b p r * (g p r - mean f g s b r) = mean f g s b r - (∑ p : Fin 256, prob f s b p r) * mean f g s b r := by
    rw [Finset.sum_mul, mean, ← Finset.sum_sub_distrib]
    exact Finset.sum_congr rfl fun p _ => mul_sub _ _ _
  rw [e, sum_prob, dsinkRow]; ring

variable {g g' b r}

/-- The mean, from weights scaled by a positive factor. -/
theorem scaled_mean {c : ℝ} (hc : c ≠ 0) (hg : ∀ p, ok b p r → g' p r = g p r) :
    ∑ p : Fin 256, g' p r * (1 / (zed f s b r * c * (zed f s b r * c))) * (wt f b p r * c) = mean f g s b r / (zed f s b r * c) := by
  have hz := (zed_pos f s b r).ne'
  rw [mean, Finset.sum_div]
  refine Finset.sum_congr rfl fun p _ => ?_
  by_cases h : ok b p r
  · rw [hg p h, prob]; field_simp
  · rw [wt_eq_zero f b h, prob_eq_zero f s b h]; ring

/-- A probability's product with its cotangent less the mean, from weights scaled by a positive factor. -/
theorem scaled_score {c : ℝ} (hc : c ≠ 0) (hg : ∀ p, ok b p r → g' p r = g p r) (p : ℕ) :
    (g' p r * (1 / (zed f s b r * c)) + -(mean f g s b r / (zed f s b r * c))) * (wt f b p r * c) = prob f s b p r * (g p r - mean f g s b r) := by
  have hz := (zed_pos f s b r).ne'
  by_cases h : ok b p r
  · rw [hg p h, prob]; field_simp; ring
  · rw [wt_eq_zero f b h, prob_eq_zero f s b h]; ring

end Rows

namespace Reference

open Cert.Reference2Ideal Cert.Reference2Ideal.Gen Cert.Reference2Ideal.Read Idealize.ShloMosaic Idealize.ShloMosaic.TcCoe
open Cert.Ffn (coe_sum word_zero word_one)
open Cert.Attn.Kernel (word_eighth word_bot)
open Args

variable {A : Args} {x0 : (⟨S4096x1024, .f32⟩ : BufTy).Contents (Elt Ideal)} {x1 x2 : (⟨S4096x256, .f32⟩ : BufTy).Contents (Elt Ideal)}
  {x3 : (⟨S16, .f32⟩ : BufTy).Contents (Elt Ideal)} {x4 : (⟨S4096x1024, .f32⟩ : BufTy).Contents (Elt Ideal)} {μ : Fin 32 → Fin 4 → Fin 4 → Fin 128 → ℝ}

/-- The arguments are real, and `μ` is each query's larger of the largest score and the sink. -/
structure Ready (A : Args) (x0 : (⟨S4096x1024, .f32⟩ : BufTy).Contents (Elt Ideal)) (x1 x2 : (⟨S4096x256, .f32⟩ : BufTy).Contents (Elt Ideal))
    (x3 : (⟨S16, .f32⟩ : BufTy).Contents (Elt Ideal)) (x4 : (⟨S4096x1024, .f32⟩ : BufTy).Contents (Elt Ideal)) (μ : Fin 32 → Fin 4 → Fin 4 → Fin 128 → ℝ) : Prop where
  holds : Holds A x0 x1 x2 x3 x4
  top : ∀ n h e q, (val_main_v58 (F := Ideal) x0 x1 x3 (ix6 0 n h e q 0) : EReal) = ((μ n h e q : ℝ) : EReal)

variable (R : Ready A x0 x1 x2 x3 x4 μ) (n : Fin 32) (h e : Fin 4) (q : Fin 128)

/-- A query's row among a block's rows. -/
abbrev row (e : Fin 4) (q : Fin 128) : ℕ := 128 * e.val + q.val

/-- A query's sum of weights. -/
abbrev zr (A : Args) (n : Fin 32) (h e : Fin 4) (q : Fin 128) : ℝ := zed (A.sc n.val h.val) (A.sk h.val) n.val (row e q)

/-- A query's mean of the probabilities' cotangents. -/
abbrev mr (A : Args) (n : Fin 32) (h e : Fin 4) (q : Fin 128) : ℝ := mean (A.sc n.val h.val) (A.dp n.val h.val) (A.sk h.val) n.val (row e q)

include R

/-- The weights. -/
theorem v79_at (p : Fin 256) : (val_main_v79 (F := Ideal) x0 x1 x3 (ix6 0 n h e q p) : EReal)
    = ((wt (A.sc n.val h.val) n.val p.val (row e q) * Real.exp (-μ n h e q) : ℝ) : EReal) := by
  refine (at_exp (val_main_v78 (F := Ideal) x0 x1 x3) _).trans ?_
  have h78 : (val_main_v78 (F := Ideal) x0 x1 x3 (ix6 0 n h e q p) : EReal)
      = val_main_v48_0 (F := Ideal) x0 x1 (ix6 0 n h e q p) - ((μ n h e q : ℝ) : EReal) :=
    (at_sub (val_main_v48_0 (F := Ideal) x0 x1) (val_main_v77 (F := Ideal) x0 x1 x3) _).trans
      (congrArg (fun y : EReal => (val_main_v48_0 (F := Ideal) x0 x1 (ix6 0 n h e q p) : EReal) - y)
        ((spread_band n h e q p (val_main_v58 (F := Ideal) x0 x1 x3)).trans (R.top n h e q)))
  rw [h78, masked_at R.holds]
  show Ideal.exp ((if ok n.val p.val (row e q) then ((A.scz n.val h.val p.val (row e q) * (1 / 8) : ℝ) : EReal) else ⊥) - _) = _
  by_cases g : ok n.val p.val (row e q)
  · rw [if_pos g, wt, if_pos g, ← EReal.coe_sub, Ideal.exp_coe, ← Real.exp_add, A.scz_eq _ _ g, sub_eq_add_neg]
  · rw [if_neg g, wt, if_neg g, EReal.bot_sub, zero_mul]; rfl

/-- The sinks' weights. -/
theorem v84_at : (val_main_v84 (F := Ideal) x0 x1 x3 (ix6 0 n h e q 0) : EReal)
    = ((Real.exp (A.sk h.val (row e q)) * Real.exp (-μ n h e q) : ℝ) : EReal) := by
  refine (at_exp (val_main_v83 (F := Ideal) x0 x1 x3) _).trans ?_
  have h82 : (val_main_v82 (F := Ideal) x3 (ix6 0 n h e q 0) : EReal) = ((A.sk h.val (row e q) : ℝ) : EReal) :=
    ((spread_sink n h e q (val_main_v49 (F := Ideal) x3)).trans (v49_at R.holds _)).trans (coe_congr (A.sk_at h.val q.isLt).symm)
  have h83 : (val_main_v83 (F := Ideal) x0 x1 x3 (ix6 0 n h e q 0) : EReal) = ((A.sk h.val (row e q) : ℝ) : EReal) - ((μ n h e q : ℝ) : EReal) :=
    (at_sub (val_main_v82 (F := Ideal) x3) (val_main_v58 (F := Ideal) x0 x1 x3) _).trans (congrArg₂ (fun x y : EReal => x - y) h82 (R.top n h e q))
  rw [h83, ← EReal.coe_sub, Ideal.exp_coe, ← Real.exp_add, sub_eq_add_neg]

/-- The sums of weights. -/
theorem v85_at : (val_main_v85 (F := Ideal) x0 x1 x3 (ix6 0 n h e q 0) : EReal) = ((zr A n h e q * Real.exp (-μ n h e q) : ℝ) : EReal) := by
  have h80 : (val_main_v80 (F := Ideal) x0 x1 x3 (ix5 0 n h e q) : EReal)
      = (((∑ p : Fin 256, wt (A.sc n.val h.val) n.val p.val (row e q)) * Real.exp (-μ n h e q) : ℝ) : EReal) := by
    refine (sum_band (val_main_v79 (F := Ideal) x0 x1 x3) (val_main_cst_15 (F := Ideal)) n h e q).trans ?_
    have h0 : (val_main_cst_15 (F := Ideal) (Shape.Idx.first h_S_) : EReal) = (0 : EReal) := word_zero.trans EReal.coe_zero
    rw [h0, zero_add, Finset.sum_mul, ← coe_sum]
    exact Finset.sum_congr rfl fun p _ => v79_at R n h e q p
  refine (at_add (val_main_v81 (F := Ideal) x0 x1 x3) (val_main_v84 (F := Ideal) x0 x1 x3) _).trans ?_
  refine (congrArg₂ (fun x y : EReal => x + y) ((keep_row n h e q (val_main_v80 (F := Ideal) x0 x1 x3)).trans h80) (v84_at R n h e q)).trans ?_
  show ((_ : ℝ) : EReal) + ((_ : ℝ) : EReal) = _
  rw [← EReal.coe_add]
  exact coe_congr (by unfold zr zed; ring)

theorem scale_ne : zr A n h e q * Real.exp (-μ n h e q) ≠ 0 := mul_ne_zero (zed_pos _ _ _ _).ne' (Real.exp_pos _).ne'

/-- The probabilities. -/
theorem v87_at (p : Fin 256) : (val_main_v87 (F := Ideal) x0 x1 x3 (ix6 0 n h e q p) : EReal) = ((A.pr n.val h.val p.val (row e q) : ℝ) : EReal) := by
  refine (at_div (val_main_v79 (F := Ideal) x0 x1 x3) (val_main_v86 (F := Ideal) x0 x1 x3) _).trans ?_
  refine (congrArg₂ Ideal.div (v79_at R n h e q p) ((spread_band n h e q p (val_main_v85 (F := Ideal) x0 x1 x3)).trans (v85_at R n h e q))).trans ?_
  rw [Ideal.div_coe (scale_ne R n h e q), ← EReal.coe_mul]
  refine coe_congr ?_
  have hz := (zed_pos (A.sc n.val h.val) (A.sk h.val) n.val (row e q)).ne'
  have hc := (Real.exp_pos (-μ n h e q)).ne'
  unfold zr Args.pr prob
  field_simp

/-- The reciprocal squares of the sums of weights. -/
theorem v90_at : (val_main_v90 (F := Ideal) x0 x1 x3 (ix6 0 n h e q 0) : EReal)
    = ((1 / (zr A n h e q * Real.exp (-μ n h e q) * (zr A n h e q * Real.exp (-μ n h e q))) : ℝ) : EReal) := by
  have h89 : (val_main_v89 (F := Ideal) (ix6 0 n h e q 0) : EReal) = ((1 : ℝ) : EReal) := word_one
  have h88 : (val_main_v88 (F := Ideal) x0 x1 x3 (ix6 0 n h e q 0) : EReal)
      = ((zr A n h e q * Real.exp (-μ n h e q) * (zr A n h e q * Real.exp (-μ n h e q)) : ℝ) : EReal) := by
    refine (at_mul (val_main_v85 (F := Ideal) x0 x1 x3) (val_main_v85 (F := Ideal) x0 x1 x3) _).trans ?_
    rw [v85_at R n h e q, ← EReal.coe_mul]
  refine (at_div (val_main_v89 (F := Ideal)) (val_main_v88 (F := Ideal) x0 x1 x3) _).trans ?_
  rw [h89, h88, Ideal.div_coe (mul_ne_zero (scale_ne R n h e q) (scale_ne R n h e q)), ← EReal.coe_mul, one_mul]

/-- The probabilities' cotangents. -/
theorem v94_at (p : Fin 256) : (val_main_v94 (F := Ideal) x2 x4 (ix6 0 n h e q p) : EReal) = ((A.dpz n.val h.val p.val (row e q) : ℝ) : EReal) := by
  pointwise [val_main_v94, val_main_v93]
  simp only [v11_at R.holds, v9_at R.holds, ← EReal.coe_mul, coe_sum]
  rfl

/-- Minus the means, scaled. -/
theorem v102_at : (val_main_v102 (F := Ideal) x0 x1 x2 x3 x4 (ix6 0 n h e q 0) : EReal)
    = ((-(mr A n h e q / (zr A n h e q * Real.exp (-μ n h e q))) : ℝ) : EReal) := by
  have h99 (p : Fin 256) : (val_main_v99 (F := Ideal) x0 x1 x2 x3 x4 (ix6 0 n h e q p) : EReal)
      = ((A.dpz n.val h.val p.val (row e q) * (1 / (zr A n h e q * Real.exp (-μ n h e q) * (zr A n h e q * Real.exp (-μ n h e q))))
          * (wt (A.sc n.val h.val) n.val p.val (row e q) * Real.exp (-μ n h e q)) : ℝ) : EReal) := by
    have h98 : (val_main_v98 (F := Ideal) x0 x1 x2 x3 x4 (ix6 0 n h e q p) : EReal)
        = ((A.dpz n.val h.val p.val (row e q) * (1 / (zr A n h e q * Real.exp (-μ n h e q) * (zr A n h e q * Real.exp (-μ n h e q)))) : ℝ) : EReal) := by
      refine (at_mul (val_main_v94 (F := Ideal) x2 x4) (val_main_v97 (F := Ideal) x0 x1 x3) _).trans ?_
      refine (congrArg₂ (fun x y : EReal => x * y) (v94_at R n h e q p) ((spread_band n h e q p (val_main_v90 (F := Ideal) x0 x1 x3)).trans (v90_at R n h e q))).trans ?_
      exact (EReal.coe_mul _ _).symm
    refine (at_mul (val_main_v98 (F := Ideal) x0 x1 x2 x3 x4) (val_main_v79 (F := Ideal) x0 x1 x3) _).trans ?_
    exact (congrArg₂ (fun x y : EReal => x * y) h98 (v79_at R n h e q p)).trans (EReal.coe_mul _ _).symm
  have h100 : (val_main_v100 (F := Ideal) x0 x1 x2 x3 x4 (ix5 0 n h e q) : EReal) = ((mr A n h e q / (zr A n h e q * Real.exp (-μ n h e q)) : ℝ) : EReal) := by
    refine (sum_band (val_main_v99 (F := Ideal) x0 x1 x2 x3 x4) (val_main_cst_17 (F := Ideal)) n h e q).trans ?_
    have h0 : (val_main_cst_17 (F := Ideal) (Shape.Idx.first h_S_) : EReal) = (0 : EReal) := word_zero.trans EReal.coe_zero
    rw [h0, zero_add, ← scaled_mean (A.sc n.val h.val) (A.sk h.val) (Real.exp_pos (-μ n h e q)).ne' fun p g => A.dpz_eq n.val h.val g, ← coe_sum]
    exact Finset.sum_congr rfl fun p _ => h99 p
  refine (at_neg (val_main_v101 (F := Ideal) x0 x1 x2 x3 x4) _).trans ?_
  refine (congrArg (fun y : EReal => -y) ((cast_row n h e q (val_main_v100 (F := Ideal) x0 x1 x2 x3 x4)).trans h100)).trans ?_
  exact (EReal.coe_neg _).symm

/-- The sinks' cotangents, query by query. -/
theorem v105_at : (val_main_v105 (F := Ideal) x0 x1 x2 x3 x4 (ix6 0 n h e q 0) : EReal)
    = ((-dsinkRow (A.sc n.val h.val) (A.dp n.val h.val) (A.sk h.val) n.val (row e q) : ℝ) : EReal) := by
  refine (at_mul (val_main_v102 (F := Ideal) x0 x1 x2 x3 x4) (val_main_v84 (F := Ideal) x0 x1 x3) _).trans ?_
  refine ((congrArg₂ (fun x y : EReal => x * y) (v102_at R n h e q) (v84_at R n h e q)).trans (EReal.coe_mul _ _).symm).trans (coe_congr ?_)
  have hz := (zed_pos (A.sc n.val h.val) (A.sk h.val) n.val (row e q)).ne'
  have hc := (Real.exp_pos (-μ n h e q)).ne'
  unfold dsinkRow zr mr
  field_simp

/-- The probabilities' products with their cotangents less the mean. -/
theorem v113_at (p : Fin 256) : (val_main_v113 (F := Ideal) x0 x1 x2 x3 x4 (ix6 0 n h e q p) : EReal)
    = ((A.pr n.val h.val p.val (row e q) * (A.dp n.val h.val p.val (row e q) - mr A n h e q) : ℝ) : EReal) := by
  have h104 : (val_main_v104 (F := Ideal) x0 x1 x2 x3 x4 (ix6 0 n h e q p) : EReal)
      = ((A.dpz n.val h.val p.val (row e q) * (1 / (zr A n h e q * Real.exp (-μ n h e q))) : ℝ) : EReal) := by
    refine (at_div (val_main_v94 (F := Ideal) x2 x4) (val_main_v103 (F := Ideal) x0 x1 x3) _).trans ?_
    refine (congrArg₂ Ideal.div (v94_at R n h e q p) ((spread_band n h e q p (val_main_v85 (F := Ideal) x0 x1 x3)).trans (v85_at R n h e q))).trans ?_
    rw [Ideal.div_coe (scale_ne R n h e q), ← EReal.coe_mul]
  have h111 : (val_main_v111 (F := Ideal) x0 x1 x2 x3 x4 (ix6 0 n h e q p) : EReal) = ((-(mr A n h e q / (zr A n h e q * Real.exp (-μ n h e q))) : ℝ) : EReal) := by
    refine (spread_row n h e q p (val_main_v110 (F := Ideal) x0 x1 x2 x3 x4)).trans ?_
    refine (lead_row n h e q (val_main_v109 (F := Ideal) x0 x1 x2 x3 x4)).trans ?_
    refine (sum_one (val_main_v102 (F := Ideal) x0 x1 x2 x3 x4) (val_main_cst_19 (F := Ideal)) n h e q).trans ?_
    have h0 : (val_main_cst_19 (F := Ideal) (Shape.Idx.first h_S_) : EReal) = (0 : EReal) := word_zero.trans EReal.coe_zero
    rw [h0, zero_add, v102_at R n h e q]
  have h112 : (val_main_v112 (F := Ideal) x0 x1 x2 x3 x4 (ix6 0 n h e q p) : EReal)
      = ((A.dpz n.val h.val p.val (row e q) * (1 / (zr A n h e q * Real.exp (-μ n h e q))) + -(mr A n h e q / (zr A n h e q * Real.exp (-μ n h e q))) : ℝ) : EReal) :=
    (at_add (val_main_v104 (F := Ideal) x0 x1 x2 x3 x4) (val_main_v111 (F := Ideal) x0 x1 x2 x3 x4) _).trans
      ((congrArg₂ (fun x y : EReal => x + y) h104 h111).trans (EReal.coe_add _ _).symm)
  refine (at_mul (val_main_v112 (F := Ideal) x0 x1 x2 x3 x4) (val_main_v79 (F := Ideal) x0 x1 x3) _).trans ?_
  refine ((congrArg₂ (fun x y : EReal => x * y) h112 (v79_at R n h e q p)).trans (EReal.coe_mul _ _).symm).trans (coe_congr ?_)
  exact scaled_score (A.sc n.val h.val) (A.sk h.val) (Real.exp_pos (-μ n h e q)).ne' (fun p g => A.dpz_eq n.val h.val g) p.val

/-- The cotangent of the subtracted maximum vanishes. -/
theorem v117_at : (val_main_v117 (F := Ideal) x0 x1 x2 x3 x4 (ix6 0 n h e q 0) : EReal) = 0 := by
  have h108 : (val_main_v108 (F := Ideal) x0 x1 x2 x3 x4 (ix6 0 n h e q 0) : EReal)
      = ((dsinkRow (A.sc n.val h.val) (A.dp n.val h.val) (A.sk h.val) n.val (row e q) : ℝ) : EReal) := by
    refine (at_neg (val_main_v105 (F := Ideal) x0 x1 x2 x3 x4) _).trans ?_
    rw [v105_at R n h e q, ← EReal.coe_neg, neg_neg]
  have h114 (p : Fin 256) : (val_main_v114 (F := Ideal) x0 x1 x2 x3 x4 (ix6 0 n h e q p) : EReal)
      = ((-(A.pr n.val h.val p.val (row e q) * (A.dp n.val h.val p.val (row e q) - mr A n h e q)) : ℝ) : EReal) := by
    refine (at_neg (val_main_v113 (F := Ideal) x0 x1 x2 x3 x4) _).trans ?_
    rw [v113_at R n h e q p, ← EReal.coe_neg]
  have h115 : (val_main_v115 (F := Ideal) x0 x1 x2 x3 x4 (ix5 0 n h e q) : EReal)
      = ((-dsinkRow (A.sc n.val h.val) (A.dp n.val h.val) (A.sk h.val) n.val (row e q) : ℝ) : EReal) := by
    refine (sum_band (val_main_v114 (F := Ideal) x0 x1 x2 x3 x4) (val_main_cst_20 (F := Ideal)) n h e q).trans ?_
    have h0 : (val_main_cst_20 (F := Ideal) (Shape.Idx.first h_S_) : EReal) = (0 : EReal) := word_zero.trans EReal.coe_zero
    rw [h0, zero_add, ← sum_prob_sub, ← Finset.sum_neg_distrib, ← coe_sum]
    exact Finset.sum_congr rfl fun p _ => h114 p
  refine (at_add (val_main_v108 (F := Ideal) x0 x1 x2 x3 x4) (val_main_v116 (F := Ideal) x0 x1 x2 x3 x4) _).trans ?_
  refine (congrArg₂ (fun x y : EReal => x + y) h108 ((cast_row n h e q (val_main_v115 (F := Ideal) x0 x1 x2 x3 x4)).trans h115)).trans ?_
  show ((_ : ℝ) : EReal) + ((_ : ℝ) : EReal) = _
  rw [← EReal.coe_add, add_neg_cancel, EReal.coe_zero]

/-- The scores' cotangents, scaled. -/
theorem v132_at (p : Fin 256) : (val_main_v132 (F := Ideal) x0 x1 x2 x3 x4 (ix6 0 n h e q p) : EReal)
    = ((A.ds n.val h.val p.val (row e q) : ℝ) : EReal) := by
  have h122 : (val_main_v122 (F := Ideal) x0 x1 x2 x3 x4 (ix6 0 n h e q 0) : EReal) = 0 := by
    refine (at_mul (val_main_v117 (F := Ideal) x0 x1 x2 x3 x4) (val_main_v67 (F := Ideal) x0 x1 x3) _).trans ?_
    rw [v117_at R n h e q, zero_mul]
  have h125 : (val_main_v125 (F := Ideal) x0 x1 x2 x3 x4 (ix5 0 n h e q) : EReal) = 0 := by
    have h124 : (val_main_v124 (F := Ideal) x0 x1 x2 x3 x4 (ix5 0 n h e q) : EReal) = 0 := by
      refine (lead_row n h e q (val_main_v123 (F := Ideal) x0 x1 x2 x3 x4)).trans ?_
      refine (sum_one (val_main_v122 (F := Ideal) x0 x1 x2 x3 x4) (val_main_cst_22 (F := Ideal)) n h e q).trans ?_
      have h0 : (val_main_cst_22 (F := Ideal) (Shape.Idx.first h_S_) : EReal) = (0 : EReal) := word_zero.trans EReal.coe_zero
      rw [h0, zero_add, h122]
    refine (at_div (val_main_v124 (F := Ideal) x0 x1 x2 x3 x4) (val_main_v55 (F := Ideal) x0 x1) _).trans ?_
    rw [h124, Ideal.div, if_neg (v55_ne n h e q), zero_mul]
  have h127 : (val_main_v127 (F := Ideal) x0 x1 x2 x3 x4 (ix6 0 n h e q p) : EReal) = 0 := by
    refine (at_mul (val_main_v126 (F := Ideal) x0 x1 x2 x3 x4) (val_main_v54 (F := Ideal) x0 x1) _).trans ?_
    have h126 : (val_main_v126 (F := Ideal) x0 x1 x2 x3 x4 (ix6 0 n h e q p) : EReal) = 0 :=
      (spread_row n h e q p (val_main_v125 (F := Ideal) x0 x1 x2 x3 x4)).trans h125
    rw [h126, zero_mul]
  have h128 : (val_main_v128 (F := Ideal) x0 x1 x2 x3 x4 (ix6 0 n h e q p) : EReal)
      = ((A.pr n.val h.val p.val (row e q) * (A.dp n.val h.val p.val (row e q) - mr A n h e q) : ℝ) : EReal) := by
    refine (at_add (val_main_v113 (F := Ideal) x0 x1 x2 x3 x4) (val_main_v127 (F := Ideal) x0 x1 x2 x3 x4) _).trans ?_
    rw [h127, add_zero, v113_at R n h e q p]
  have h130 : (val_main_v130 (F := Ideal) x0 x1 x2 x3 x4 (ix6 0 n h e q p) : EReal)
      = ((A.pr n.val h.val p.val (row e q) * (A.dp n.val h.val p.val (row e q) - mr A n h e q) : ℝ) : EReal) := by
    have hz : (val_main_call1_v0 (F := Ideal) (ix6 0 n h e q p) : EReal) = ((0 : ℝ) : EReal) := word_zero
    show (Scalar.select (val_main_v48_1 (F := Ideal) (ix6 0 n h e q p)) (val_main_v128 (F := Ideal) x0 x1 x2 x3 x4 (ix6 0 n h e q p) : EReal) (val_main_call1_v0 (F := Ideal) (ix6 0 n h e q p)) : EReal) = _
    rw [select_mask, h128, hz]
    show (if ok n.val p.val (row e q) then _ else _) = _
    by_cases g : ok n.val p.val (row e q)
    · rw [if_pos g]
    · rw [if_neg g]; exact coe_congr (by unfold Args.pr; rw [prob_eq_zero _ _ _ g, zero_mul])
  have h131 : (val_main_v131 (F := Ideal) (ix6 0 n h e q p) : EReal) = ((1 / 8 : ℝ) : EReal) := word_eighth
  refine (at_mul (val_main_v130 (F := Ideal) x0 x1 x2 x3 x4) (val_main_v131 (F := Ideal)) _).trans ?_
  exact (congrArg₂ (fun x y : EReal => x * y) h130 h131).trans (EReal.coe_mul _ _).symm

/-- The sinks' gradients. -/
theorem v121_at : (val_main_v121 (F := Ideal) x0 x1 x2 x3 x4 (ix6 0 0 h e 0 0) : EReal) = ((∑ n : Fin 32, A.dsink n.val h.val e.val : ℝ) : EReal) := by
  have h107 : (val_main_v107 (F := Ideal) x0 x1 x2 x3 x4 (ix6 0 0 h e 0 0) : EReal) = ((∑ n : Fin 32, A.dsink n.val h.val e.val : ℝ) : EReal) := by
    refine (cast_head h e (val_main_v106 (F := Ideal) x0 x1 x2 x3 x4)).trans ?_
    refine (sum_blocks (val_main_v105 (F := Ideal) x0 x1 x2 x3 x4) (val_main_cst_18 (F := Ideal)) h e).trans ?_
    have h0 : (val_main_cst_18 (F := Ideal) (Shape.Idx.first h_S_) : EReal) = (0 : EReal) := word_zero.trans EReal.coe_zero
    rw [h0, zero_add, ← coe_sum]
    refine Finset.sum_congr rfl fun n _ => ?_
    refine Eq.trans (Finset.sum_congr rfl fun q _ => v105_at R n h e q) ?_
    exact coe_sum _
  have h120 : (val_main_v120 (F := Ideal) x0 x1 x2 x3 x4 (ix6 0 0 h e 0 0) : EReal) = 0 := by
    refine (cast_head h e (val_main_v119 (F := Ideal) x0 x1 x2 x3 x4)).trans ?_
    refine (sum_blocks (val_main_v118 (F := Ideal) x0 x1 x2 x3 x4) (val_main_cst_21 (F := Ideal)) h e).trans ?_
    have h0 : (val_main_cst_21 (F := Ideal) (Shape.Idx.first h_S_) : EReal) = (0 : EReal) := word_zero.trans EReal.coe_zero
    rw [h0, zero_add]
    refine Finset.sum_eq_zero fun n _ => Finset.sum_eq_zero fun q _ => ?_
    refine (at_mul (val_main_v117 (F := Ideal) x0 x1 x2 x3 x4) (val_main_v76 (F := Ideal) x0 x1 x3) _).trans ?_
    rw [v117_at R n h e q, zero_mul]
  refine (at_add (val_main_v107 (F := Ideal) x0 x1 x2 x3 x4) (val_main_v120 (F := Ideal) x0 x1 x2 x3 x4) _).trans ?_
  rw [h107, h120, add_zero]

end Reference

end Cert.Attn

end
-- ==== Proof.AttnRefOuts.lean ====
/- The reference's six results on arguments that are real. -/
module

public import proofs.«01_k».proof.Proof.AttnRefGrads

@[expose] public section

set_option maxRecDepth 16384

noncomputable section

namespace Cert.Attn

namespace Args

variable (A : Args) (b h : ℕ)

/-- The gradient of the queries, over the padded band. -/
theorem sum_dq (r d : ℕ) : ∑ p : Fin 256, A.ds b h p r * padded b h A.k p d = A.dq b h r d := by
  refine Finset.sum_congr rfl fun p _ => ?_
  by_cases g : ok b p r
  · rw [padded_eq b h g, mul_comm]; rfl
  · rw [ds, dscore_eq_zero _ _ _ _ g, zero_mul, mul_zero]

/-- The gradient of the keys, queries first. -/
theorem sum_dk (p d : ℕ) : ∑ q : Fin 128, ∑ e : Fin 4, A.ds b h p (128 * e + q) * A.qb b h (128 * e + q) d = A.dk b h p d := by
  rw [Finset.sum_comm]
  exact (sum_groups fun r => A.ds b h p r * A.qb b h r d).symm

/-- The gradient of the values, groups first. -/
theorem sum_dv (p d : ℕ) : ∑ e : Fin 4, ∑ q : Fin 128, A.gb b h (128 * e + q) d * A.pr b h p (128 * e + q) = A.dv b h p d :=
  (sum_groups fun r => A.gb b h r d * A.pr b h p r).symm.trans (Finset.sum_congr rfl fun r _ => mul_comm _ _)

end Args

namespace Reference

open Cert.Reference2Ideal Cert.Reference2Ideal.Gen Cert.Reference2Ideal.Read Idealize.ShloMosaic Idealize.ShloMosaic.TcCoe
open Cert.Ffn (coe_sum word_zero word_one)
open Args

variable {A : Args} {x0 : (⟨S4096x1024, .f32⟩ : BufTy).Contents (Elt Ideal)} {x1 x2 : (⟨S4096x256, .f32⟩ : BufTy).Contents (Elt Ideal)}
  {x3 : (⟨S16, .f32⟩ : BufTy).Contents (Elt Ideal)} {x4 : (⟨S4096x1024, .f32⟩ : BufTy).Contents (Elt Ideal)} {μ : Fin 32 → Fin 4 → Fin 4 → Fin 128 → ℝ}
  (R : Ready A x0 x1 x2 x3 x4 μ)

include R

/-- The queries' gradient, by block, key head, position, group and column. -/
theorem v134_at (n : Fin 32) (h : Fin 4) (q : Fin 128) (e : Fin 4) (d : Fin 64) :
    (val_main_v134 (F := Ideal) x0 x1 x2 x3 x4 (ix6 0 n h q e d) : EReal) = ((A.dq n.val h.val (128 * e.val + q.val) d.val : ℝ) : EReal) := by
  pointwise [val_main_v134, val_main_v133]
  simp only [v132_at R, v10_at R.holds, ← EReal.coe_mul, coe_sum]
  exact coe_congr (A.sum_dq n.val h.val (128 * e.val + q.val) d.val)

/-- The keys' gradient, by block, key head, band position and column. -/
theorem v136_at (n : Fin 32) (h : Fin 4) (p : Fin 256) (d : Fin 64) :
    (val_main_v136 (F := Ideal) x0 x1 x2 x3 x4 (ix5 0 n h p d) : EReal) = ((A.dk n.val h.val p.val d.val : ℝ) : EReal) := by
  pointwise [val_main_v136, val_main_v133]
  simp only [v132_at R, v0_at R.holds, ← EReal.coe_mul, coe_sum]
  exact coe_congr (A.sum_dk n.val h.val p.val d.val)

/-- The values' gradient, by block, key head, column and band position. -/
theorem v95_at (n : Fin 32) (h : Fin 4) (d : Fin 64) (p : Fin 256) :
    (val_main_v95 (F := Ideal) x0 x1 x3 x4 (ix5 0 n h d p) : EReal) = ((A.dv n.val h.val p.val d.val : ℝ) : EReal) := by
  pointwise [val_main_v95, val_main_v93]
  simp only [v87_at R, v9_at R.holds, ← EReal.coe_mul, coe_sum]
  exact coe_congr (A.sum_dv n.val h.val p.val d.val)

/-- The gradient of the queries. -/
theorem v143_at (i : S4096x1024.Idx) : (val_main_v143 (F := Ideal) x0 x1 x2 x3 x4 i : EReal)
    = ((A.dq ((i 0).val / 128) ((i 1).val / 256) (128 * ((i 1).val % 256 / 64) + (i 0).val % 128) ((i 1).val % 64) : ℝ) : EReal) := by
  idx_vars i
  pointwise [val_main_v143, val_main_v142, val_main_v135]
  rw [v134_at R]
  exact coe_congr (by simp only [show i1.val / 64 % 4 = i1.val % 256 / 64 by omega])

/-- The gradient of the keys in a block, from the block itself. -/
theorem v145_at (i : S4096x256.Idx) : (val_main_v145 (F := Ideal) x0 x1 x2 x3 x4 i : EReal)
    = ((A.dk ((i 0).val / 128) ((i 1).val / 64) (128 + (i 0).val % 128) ((i 1).val % 64) : ℝ) : EReal) := by
  idx_vars i
  pointwise [val_main_v145, val_main_v144, val_main_v141, val_main_v137]
  rw [v136_at R]

/-- The gradient of the keys in the block before. -/
theorem v147_at (i : S4096x256.Idx) : (val_main_v147 (F := Ideal) x0 x1 x2 x3 x4 i : EReal)
    = ((A.dk ((i 0).val / 128) ((i 1).val / 64) ((i 0).val % 128) ((i 1).val % 64) : ℝ) : EReal) := by
  idx_vars i
  pointwise [val_main_v147, val_main_v146, val_main_v140, val_main_v137]
  rw [v136_at R]

/-- The gradient of the values in a block, from the block itself. -/
theorem v149_at (i : S4096x256.Idx) : (val_main_v149 (F := Ideal) x0 x1 x3 x4 i : EReal)
    = ((A.dv ((i 0).val / 128) ((i 1).val / 64) (128 + (i 0).val % 128) ((i 1).val % 64) : ℝ) : EReal) := by
  idx_vars i
  pointwise [val_main_v149, val_main_v148, val_main_v139, val_main_v96]
  rw [v95_at R]

/-- The gradient of the values in the block before. -/
theorem v151_at (i : S4096x256.Idx) : (val_main_v151 (F := Ideal) x0 x1 x3 x4 i : EReal)
    = ((A.dv ((i 0).val / 128) ((i 1).val / 64) ((i 0).val % 128) ((i 1).val % 64) : ℝ) : EReal) := by
  idx_vars i
  pointwise [val_main_v151, val_main_v150, val_main_v138, val_main_v96]
  rw [v95_at R]

/-- The gradient of the sinks. -/
theorem v153_at (i : S4x4x8x128.Idx) : (val_main_v153 (F := Ideal) x0 x1 x2 x3 x4 i : EReal)
    = ((∑ b : Fin 32, A.dsink b.val (i 0).val (i 1).val : ℝ) : EReal) := by
  idx_vars i
  pointwise [val_main_v153, val_main_v152, val_main_v129]
  exact v121_at R i0 i1

end Reference

end Cert.Attn

end
-- ==== Proof.AttnEquation.lean ====
/- The equation of the attention's gradient: on finite arguments the idealized kernel and the idealized reference leave the same
   six arrays. -/
module

public import proofs.«01_k».proof.Defs
public import proofs.«01_k».proof.Proof.AttnArrays
public import proofs.«01_k».proof.Proof.AttnRefOuts
public import proofs.«01_k».proof.Proof.Finite
public import proofs.«01_k».proof.Proof.Gen.Pre_finite2
public import proofs.«01_k».proof.Proof.Gen.Reference2Ideal
public import proofs.«01_k».proof.Proof.Gen.Reference2Ideal.Run

@[expose] public section

set_option maxRecDepth 16384

noncomputable section

namespace Cert.Attn

open Idealize.ShloMosaic Idealize.SL.Sem
open Cert.Ffn.Finite (reals reals_at real_of_all)

/-- The reference runs to the end and leaves its arguments and its counters alone: it declares no semaphore. -/
theorem frame_reference : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

section Finite

open Cert.Pre_finite2

variable (x0 : FVec Ideal S4096x1024 .f32) (x1 x2 : FVec Ideal S4096x256 .f32) (x3 : FVec Ideal S16 .f32) (x4 : FVec Ideal S4096x1024 .f32)

/-- The real arrays that the arguments hold. -/
def realArgs : Args where
  q := reals x0
  k := reals x1
  v := reals x2
  sink i := if h : i < 16 then (x3 (ix1 ⟨i, h⟩)).toReal else 0
  g := reals x4

/-- What the precondition says: each argument holds real numbers. -/
theorem holds_of_finite (h : Cert.Pre_finite2.fn (F := Ideal) x0 x1 x2 x3 x4 = fun _ => 1#1) :
    Reference.Holds (realArgs x0 x1 x2 x3 x4) x0 x1 x2 x3 x4 := by
  have e := congrFun h (fun q => q.elim0)
  simp only [Cert.Pre_finite2.fn, Cert.Pre_finite2.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => ?_⟩
  · idx_vars i; exact reals_at x0 (real_of_all _ _ _ _ _ e0) _ _
  · idx_vars i; exact reals_at x1 (real_of_all _ _ _ _ _ e1) _ _
  · idx_vars i; exact reals_at x2 (real_of_all _ _ _ _ _ e2) _ _
  · idx_vars i
    refine (real_of_all _ _ _ _ _ e3 (ix1 i0)).trans (Reference.coe_congr ?_)
    show EReal.toReal (x3 (ix1 i0)) = if h : i0.val < 16 then (x3 (ix1 ⟨i0.val, h⟩)).toReal else 0
    rw [dif_pos i0.isLt]
  · idx_vars i; exact reals_at x4 (real_of_all _ _ _ _ _ e4) _ _

end Finite

section
open Cert.Kernel2Ideal
variable (m : (ℓ : Loc nD τ sig) → Buf (Elt Ideal) ℓ) (c : Dev nD)

/-- The real arrays that a device's arguments hold. -/
abbrev argsOf : Args :=
  realArgs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable {m} (hp : Cert.Pre_Kernel2Ideal_finite2 m)
include hp

/-- Under the precondition, the reference's reading of them. -/
theorem holds_of_pre : Reference.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) :=
  holds_of_finite _ _ _ _ _ (hp c)

/-- Under the precondition, the kernel's reading of them. -/
theorem given_of_pre : Kernel.Given m c (argsOf m c) where
  q_is a k := (holds_of_pre c hp).q_at (ix2 a k)
  k_is a k := (holds_of_pre c hp).k_at (ix2 a k)
  v_is a k := (holds_of_pre c hp).v_at (ix2 a k)
  sink_is i := (holds_of_pre c hp).s_at (ix1 i)
  g_is a k := (holds_of_pre c hp).g_at (ix2 a k)
end

/-- Both programs leave the real formulas' arrays. -/
theorem equation : Cert.algebraic_Kernel2Ideal_Reference2Ideal_pre_finite2 := by
  intro m ρ m' ρ' hp hagree
  refine ⟨fun c i => (((argsOf m c).dq ((i 0).val / 128) ((i 1).val / 256) (128 * ((i 1).val % 256 / 64) + (i 0).val % 128) ((i 1).val % 64) : ℝ) : EReal),
    fun c i => (((argsOf m c).dk ((i 0).val / 128) ((i 1).val / 64) (128 + (i 0).val % 128) ((i 1).val % 64) : ℝ) : EReal),
    fun c i => (((argsOf m c).dk ((i 0).val / 128) ((i 1).val / 64) ((i 0).val % 128) ((i 1).val % 64) : ℝ) : EReal),
    fun c i => (((argsOf m c).dv ((i 0).val / 128) ((i 1).val / 64) (128 + (i 0).val % 128) ((i 1).val % 64) : ℝ) : EReal),
    fun c i => (((argsOf m c).dv ((i 0).val / 128) ((i 1).val / 64) ((i 0).val % 128) ((i 1).val % 64) : ℝ) : EReal),
    fun c i => ((∑ b : Fin 32, (argsOf m c).dsink b.val (i 0).val (i 1).val : ℝ) : EReal), ?_, ?_⟩
  · refine (θ_run Cert.Kernel2Ideal.defs _ _).mono (fun r h c => ?_) (Cert.Kernel2Ideal.Value.run_blocks (F := Ideal) m ρ)
    have G := given_of_pre c hp
    obtain ⟨h0, h1, h2, h3, h4, h5, hk⟩ := h c
    exact ⟨h0.trans (Kernel.arr7 G), h1.trans (Kernel.arr8 G), h2.trans (Kernel.arr9 G), h3.trans (Kernel.arr10 G), h4.trans (Kernel.arr11 G),
      h5.trans (Kernel.arr12 G), hk⟩
  · refine (θ_run Cert.Reference2Ideal.defs _ _).mono (fun r h c => ?_) (Cert.Reference2Ideal.Value.run (F := Ideal) m' ρ')
    have H := holds_of_pre c hp
    obtain ⟨μ, hμ⟩ := Reference.v58_at H
    have R : Reference.Ready _ _ _ _ _ _ μ := ⟨H, hμ⟩
    obtain ⟨a0, a1, a2, a3, a4⟩ := hagree c
    obtain ⟨h0, h1, h2, h3, h4, h5, hk⟩ := h c
    have w0 : StableHlo.launchContents m' c (Proc.devRef .tc Cert.Reference2Ideal.main_arg0) = m ((c.tc : Thread _ _).loc Cert.Kernel2Ideal.main_arg0) := a0
    have w1 : StableHlo.launchContents m' c (Proc.devRef .tc Cert.Reference2Ideal.main_arg1) = m ((c.tc : Thread _ _).loc Cert.Kernel2Ideal.main_arg1) := a1
    have w2 : StableHlo.launchContents m' c (Proc.devRef .tc Cert.Reference2Ideal.main_arg2) = m ((c.tc : Thread _ _).loc Cert.Kernel2Ideal.main_arg2) := a2
    have w3 : StableHlo.launchContents m' c (Proc.devRef .tc Cert.Reference2Ideal.main_arg3) = m ((c.tc : Thread _ _).loc Cert.Kernel2Ideal.main_arg3) := a3
    have w4 : StableHlo.launchContents m' c (Proc.devRef .tc Cert.Reference2Ideal.main_arg4) = m ((c.tc : Thread _ _).loc Cert.Kernel2Ideal.main_arg4) := a4
    rw [Cert.Reference2Ideal.Read.val_main_v143_eq, w0, w1, w2, w3, w4] at h0
    rw [Cert.Reference2Ideal.Read.val_main_v145_eq, w0, w1, w2, w3, w4] at h1
    rw [Cert.Reference2Ideal.Read.val_main_v147_eq, w0, w1, w2, w3, w4] at h2
    rw [Cert.Reference2Ideal.Read.val_main_v149_eq, w0, w1, w3, w4] at h3
    rw [Cert.Reference2Ideal.Read.val_main_v151_eq, w0, w1, w3, w4] at h4
    rw [Cert.Reference2Ideal.Read.val_main_v153_eq, w0, w1, w2, w3, w4] at h5
    exact ⟨h0.trans (funext (Reference.v143_at R)), h1.trans (funext (Reference.v145_at R)), h2.trans (funext (Reference.v147_at R)),
      h3.trans (funext (Reference.v149_at R)), h4.trans (funext (Reference.v151_at R)), h5.trans (funext (Reference.v153_at R)), hk⟩

end Cert.Attn

end
-- ==== Proof.GradUp.lean ====
/- The up projection's weight gradient: the rows' transposed product with the cotangents, in four column shards. Kernel and
   reference hold the same sum of products over all rows at each index, in extended reals and for any arguments. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.GradUp

open Idealize.ShloMosaic Idealize.ShloMosaic.TcCoe Idealize.SL.Sem
open Cert.Kernel3Ideal Cert.Kernel3Ideal.Gen

/-- The gradient's value at shard `i 0`, row `i 1` and column `i 2` of it: column `i 1` of the rows times a column of the cotangents. -/
def val (h : FVec Ideal S4096x1024 .f32) (g : FVec Ideal S4096x5632 .f32) (i : S4x1024x1408.Idx) : EReal :=
  ∑ s : Fin 4096, h (ix2 s ⟨(i 1).val, (i 1).isLt⟩)
    * g (ix2 s ⟨1408 * (i 0).val + (i 2).val, by have h0 : (i 0).val < 4 := (i 0).isLt; have h2 : (i 2).val < 1408 := (i 2).isLt; omega⟩)

/-- Where each window's block lies, for all eight grid points. -/
theorem idx_val : ∀ t : Fin cfg0.N, win0_0.index t = ![0, t.val % 2] ∧ win0_1.index t = ![t.val / 4, 0, t.val / 2 % 2] ∧ win0_2.index t = ![t.val / 2, t.val % 2, 0] :=
  (by decide +kernel : ∀ t : Fin grid0.N, _)

variable (m : (ℓ : Loc nD τ sig) → Buf (Elt Ideal) ℓ) (c : Dev nD)

/-- The rows. -/
abbrev rows : FVec Ideal S4096x1024 .f32 := m ((c : Thread nD τ).loc main_arg0)

/-- The cotangents. -/
abbrev cots : FVec Ideal S4096x5632 .f32 := m ((c : Thread nD τ).loc main_arg1)

variable {m c}

/-- The rows, converted. -/
theorem V_rows (s : Fin 4096) (k : Fin 1024) : (V m c main_v3 : FVec Ideal S4096x1024 .bf16) (ix2 s k) = rows m c (ix2 s k) := by
  entry_read
  pointwise []

/-- The cotangents in two planes, converted. -/
theorem V_planes (p : Fin 2) (s : Fin 4096) (j : Fin 2816) :
    (V m c main_v2 : FVec Ideal S2x4096x2816 .bf16) (ix3 p s j) = cots m c (ix2 s ⟨p.val * 2816 + j.val, by omega⟩) := by
  entry_read
  pointwise []

/-- A point's columns of the rows. -/
theorem blk_rows (t : Fin cfg0.N) (s : Fin 4096) (k : Fin 512) :
    (iblk m c 0 t : FVec Ideal S4096x512 .bf16) (ix2 s k) = rows m c (ix2 s ⟨t.val % 2 * 512 + k.val, by omega⟩) := by
  refine Eq.trans ?_ (V_rows s _)
  blk_point [iblk, V, idx_val t]

/-- A point's columns of the cotangents. -/
theorem blk_planes (t : Fin cfg0.N) (s : Fin 4096) (j : Fin 1408) :
    (iblk m c 1 t : FVec Ideal S1x4096x1408 .bf16) (ix3 0 s j)
      = cots m c (ix2 s ⟨t.val / 4 * 2816 + (t.val / 2 % 2 * 1408 + j.val), by have : t.val < 8 := lt_of_lt_of_eq t.isLt N_0; omega⟩) := by
  have hN : t.val < 8 := lt_of_lt_of_eq t.isLt N_0
  refine Eq.trans ?_ (V_planes ⟨t.val / 4, by omega⟩ s ⟨t.val / 2 % 2 * 1408 + j.val, by omega⟩)
  blk_point [iblk, V, idx_val t]

/-- What a point leaves in its output block. -/
theorem out2 (t : Fin cfg0.N) (a : Fin 512) (b : Fin 1408) :
    out0_2 (iblk m c 0 t) (iblk m c 1 t) (ix3 0 a b)
      = ∑ s : Fin 4096, rows m c (ix2 s ⟨t.val % 2 * 512 + a.val, by omega⟩)
          * cots m c (ix2 s ⟨t.val / 4 * 2816 + (t.val / 2 % 2 * 1408 + b.val), by have : t.val < 8 := lt_of_lt_of_eq t.isLt N_0; omega⟩) := by
  unfold out0_2
  frame_out
  pointwise [k0_pay1]
  simp only [blk_rows, blk_planes]

/-- The array the kernel leaves. -/
theorem arr2 : (dats m 0 c).arrAt 2 cfg0.N = val (rows m c) (cots m c) :=
  (dats m 0 c).arrAt_eq_of_covers 2 _ (by decide +kernel) fun t hf y => by
    blk_simp
    rw [after0_2]
    have hN : t.val < 8 := lt_of_lt_of_eq t.isLt N_0
    idx_vars y
    obtain rfl : y0 = 0 := Subsingleton.elim _ _
    refine (out2 t y1 y2).trans (Finset.sum_congr rfl fun s _ => congrArg₂ _ (congrArg _ (congrArg _ (Fin.ext ?_))) (congrArg _ (congrArg _ (Fin.ext ?_))))
    · simp [idx_val t, Nat.mul_comm]
    · simp [idx_val t, Nat.mul_comm]
      omega

end Cert.GradUp

end
-- ==== Proof.GradDown.lean ====
/- The down projection's weight gradient: the gated activations' transposed product with the cotangents. Kernel and reference
   hold the same sum of products over all rows at each index, in extended reals and for any arguments. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.GradDown

open Idealize.ShloMosaic Idealize.ShloMosaic.TcCoe Idealize.SL.Sem
open Cert.Kernel4Ideal Cert.Kernel4Ideal.Gen

/-- The gradient's value at row `i 0` and column `i 1`: column `i 0` of the activations times column `i 1` of the cotangents. -/
def val (a : FVec Ideal S4096x2816 .f32) (g : FVec Ideal S4096x1024 .f32) (i : S2816x1024.Idx) : EReal :=
  ∑ s : Fin 4096, a (ix2 s ⟨(i 0).val, (i 0).isLt⟩) * g (ix2 s ⟨(i 1).val, (i 1).isLt⟩)

/-- Where each window's block lies, for all eleven grid points. -/
theorem idx_val : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The activations. -/
abbrev acts : FVec Ideal S4096x2816 .f32 := m ((c : Thread nD τ).loc main_arg0)

/-- The cotangents. -/
abbrev cots : FVec Ideal S4096x1024 .f32 := m ((c : Thread nD τ).loc main_arg1)

variable {m c}

/-- The activations, converted. -/
theorem V_acts (s : Fin 4096) (k : Fin 2816) : (V m c main_v0 : FVec Ideal S4096x2816 .bf16) (ix2 s k) = acts m c (ix2 s k) := by
  entry_read
  pointwise []

/-- The cotangents, converted. -/
theorem V_cots (s : Fin 4096) (k : Fin 1024) : (V m c main_v1 : FVec Ideal S4096x1024 .bf16) (ix2 s k) = cots m c (ix2 s k) := by
  entry_read
  pointwise []

/-- A point's columns of the activations. -/
theorem blk_acts (t : Fin cfg0.N) (s : Fin 4096) (k : Fin 256) :
    (iblk m c 0 t : FVec Ideal S4096x256 .bf16) (ix2 s k)
      = acts m c (ix2 s ⟨t.val * 256 + k.val, by have : t.val < 11 := lt_of_lt_of_eq t.isLt N_0; omega⟩) := by
  refine Eq.trans ?_ (V_acts s _)
  blk_point [iblk, V, idx_val t]

/-- All the cotangents. -/
theorem blk_cots (t : Fin cfg0.N) (s : Fin 4096) (k : Fin 1024) :
    (iblk m c 1 t : FVec Ideal S4096x1024 .bf16) (ix2 s k) = cots m c (ix2 s k) := by
  refine Eq.trans ?_ (V_cots s k)
  blk_point [iblk, V, idx_val t]

/-- What a point leaves in its output block. -/
theorem out2 (t : Fin cfg0.N) (a : Fin 256) (b : Fin 1024) :
    out0_2 (iblk m c 0 t) (iblk m c 1 t) (ix2 a b)
      = ∑ s : Fin 4096, acts m c (ix2 s ⟨t.val * 256 + a.val, by have : t.val < 11 := lt_of_lt_of_eq t.isLt N_0; omega⟩) * cots m c (ix2 s b) := by
  unfold out0_2
  frame_out
  pointwise [k0_pay1]
  simp only [blk_acts, blk_cots]

/-- The array the kernel leaves. -/
theorem arr2 : (dats m 0 c).arrAt 2 cfg0.N = val (acts m c) (cots m c) :=
  (dats m 0 c).arrAt_eq_of_covers 2 _ (by decide +kernel) fun t hf y => by
    blk_simp
    rw [after0_2]
    idx_vars y
    refine (out2 t y0 y1).trans (Finset.sum_congr rfl fun s _ => congrArg₂ _ (congrArg _ (congrArg _ (Fin.ext ?_))) (congrArg _ (congrArg _ (Fin.ext ?_))))
    · simp [idx_val t, Nat.mul_comm]
    · simp [idx_val t]

end Cert.GradDown

end
-- ==== Proof.GradEquations.lean ====
/- The two weight gradients' equations: the idealized kernel and the idealized reference leave the same array, whatever the
   arguments. The reference multiplies in the other order and cuts its product into shards afterwards. -/
module

public import proofs.«01_k».proof.Defs
public import proofs.«01_k».proof.Proof.GradUp
public import proofs.«01_k».proof.Proof.GradDown
public import proofs.«01_k».proof.Proof.Gen.Reference3Ideal.Read
public import proofs.«01_k».proof.Proof.Gen.Reference4Ideal.Read

@[expose] public section

set_option maxRecDepth 16384

noncomputable section

open Idealize.ShloMosaic Idealize.SL.Sem

namespace Cert.GradUp

/-- The reference runs to the end and leaves its arguments and its counters alone: it declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

open Cert.Reference3Ideal Cert.Reference3Ideal.Read in
/-- The reference's array. -/
theorem reference_val (x0 : FVec Ideal S4096x1024 .f32) (x1 : FVec Ideal S4096x5632 .f32) : val_main_v6 (F := Ideal) x0 x1 = val x0 x1 := by
  funext i
  rw [val_main_v6_apply, val_main_v5_apply, val_main_v4_apply, val_main_v3_apply, val_main_v2_apply, Ideal.truncf_def]
  refine Finset.sum_congr rfl fun s _ => ?_
  rw [mul_comm]
  have h0 : (i 0).val < 4 := (i 0).isLt
  have h1 : (i 1).val < 1024 := (i 1).isLt
  have h2 : (i 2).val < 1408 := (i 2).isLt
  refine congrArg₂ _ (congrArg x0 (funext fun a => ?_)) (congrArg x1 (funext fun a => ?_))
  · match a with
    | ⟨0, _⟩ => rfl
    | ⟨1, _⟩ =>
      refine Fin.ext ?_
      show (((i 1).val * 4 + (i 0).val) * 1408 + (i 2).val) / 5632 = (i 1).val
      omega
  · match a with
    | ⟨0, _⟩ => rfl
    | ⟨1, _⟩ =>
      refine Fin.ext ?_
      show (((i 1).val * 4 + (i 0).val) * 1408 + (i 2).val) % 5632 = 1408 * (i 0).val + (i 2).val
      omega

/-- Both programs leave the sums of products. -/
theorem equation : Cert.algebraic_Kernel3Ideal_Reference3Ideal := by
  intro m ρ m' ρ' _ hagree
  refine ⟨fun c => val (rows m c) (cots m c), ?_, ?_⟩
  · exact (θ_run Cert.Kernel3Ideal.defs _ _).mono (fun r h c => ⟨(h c).1.trans arr2, (h c).2⟩) (Cert.Kernel3Ideal.Value.run_blocks (F := Ideal) m ρ)
  · refine (θ_run Cert.Reference3Ideal.defs _ _).mono (fun r h c => ⟨?_, (h c).2⟩) (Cert.Reference3Ideal.Value.run (F := Ideal) m' ρ')
    have h0 := (h c).1
    obtain ⟨a0, a1⟩ := hagree c
    rw [Cert.Reference3Ideal.Read.val_main_v6_eq, a0, a1] at h0
    exact h0.trans (reference_val _ _)

end Cert.GradUp

namespace Cert.GradDown

/-- The reference runs to the end and leaves its arguments and its counters alone: it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal Cert.Reference4Ideal.Read in
/-- The reference's array. -/
theorem reference_val (x0 : FVec Ideal S4096x2816 .f32) (x1 : FVec Ideal S4096x1024 .f32) : val_main_v4 (F := Ideal) x0 x1 = val x0 x1 := by
  funext i
  rw [val_main_v4_apply, val_main_v3_apply, val_main_v2_apply, Ideal.truncf_def]
  refine Finset.sum_congr rfl fun s _ => ?_
  rw [mul_comm]
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- Both programs leave the sums of products. -/
theorem equation : Cert.algebraic_Kernel4Ideal_Reference4Ideal := by
  intro m ρ m' ρ' _ hagree
  refine ⟨fun c => val (acts m c) (cots m c), ?_, ?_⟩
  · exact (θ_run Cert.Kernel4Ideal.defs _ _).mono (fun r h c => ⟨(h c).1.trans arr2, (h c).2⟩) (Cert.Kernel4Ideal.Value.run_blocks (F := Ideal) m ρ)
  · refine (θ_run Cert.Reference4Ideal.defs _ _).mono (fun r h c => ⟨?_, (h c).2⟩) (Cert.Reference4Ideal.Value.run (F := Ideal) m' ρ')
    have h0 := (h c).1
    obtain ⟨a0, a1⟩ := hagree c
    rw [Cert.Reference4Ideal.Read.val_main_v4_eq, a0, a1] at h0
    exact h0.trans (reference_val _ _)

end Cert.GradDown

end
-- ==== Proof.LossReals.lean ====
/- The mathematics of the feed-forward half's forward pass with the loss and the loss' derivative, on real numbers: the arguments
   as real arrays and the six results. The kernel's modules and the reference's each show that their program computes these. -/
module

public import proofs.«01_k».proof.Proof.Words

@[expose] public section

noncomputable section

namespace Cert.Loss

open Idealize.ShloMosaic Cert.Ffn

/-- The arguments as real arrays, indexed by row and column numbers: the normalised rows, the two weights, the residual stream, the
    normalisation's scale and the target. -/
structure Args where
  h : ℕ → ℕ → ℝ
  wgu : ℕ → ℕ → ℝ
  wd : ℕ → ℕ → ℝ
  x : ℕ → ℕ → ℝ
  g : ℕ → ℝ
  target : ℕ → ℕ → ℝ

/-- The logistic function. -/
def sg (g : ℝ) : ℝ := (1 + Real.exp (-g))⁻¹

/-- The gate times its logistic function. -/
def silu (g : ℝ) : ℝ := g * sg g

/-- The gated activation's derivative in the gate. -/
def slope (g u : ℝ) : ℝ := u * (sg g + g * sg g * (1 - sg g))

/-- Rows through a projection with an inner axis of 1024. -/
def proj (h w : ℕ → ℕ → ℝ) (a j : ℕ) : ℝ := ∑ k : Fin 1024, h a k * w k j

namespace Args

variable (A : Args)

/-- The up projection. -/
def gu (i j : ℕ) : ℝ := proj A.h A.wgu i j

/-- The gate's half of it. -/
def gate (i j : ℕ) : ℝ := A.gu i j

/-- The other half. -/
def up (i j : ℕ) : ℝ := A.gu i (2816 + j)

/-- The gated activation. -/
def act (i j : ℕ) : ℝ := silu (A.gate i j) * A.up i j

/-- Its derivative in the gate. -/
def d0 (i j : ℕ) : ℝ := slope (A.gate i j) (A.up i j)

/-- Its derivative in the other half. -/
def d1 (i j : ℕ) : ℝ := silu (A.gate i j)

/-- The down projection. -/
def f (i k : ℕ) : ℝ := ∑ j : Fin 2816, A.act i j * A.wd j k

/-- How far the output is from the target. -/
def err (i k : ℕ) : ℝ := A.x i k + hat (A.f i) k * A.g k - A.target i k

/-- The residual stream's cotangent. -/
def dx (i k : ℕ) : ℝ := A.err i k * (1 / 1024)

/-- The down projection's cotangent. -/
def df (i k : ℕ) : ℝ := normBack (A.dx i) (A.f i) A.g k

/-- The gradient in the scale. -/
def dg (k : ℕ) : ℝ := ∑ i : Fin 4096, A.dx i k * hat (A.f i) k

/-- A row's squared distance. -/
def sq (i : ℕ) : ℝ := ∑ k : Fin 1024, A.err i k * A.err i k

/-- The loss. -/
def total : ℝ := ∑ i : Fin 4096, A.sq i * (1 / 2048)

/-- The down projection in two halves of 1408 inner columns. -/
theorem f_split (i k : ℕ) :
    A.f i k = (∑ j : Fin 1408, A.act i j * A.wd j k) + ∑ j : Fin 1408, A.act i (1408 + j) * A.wd (1408 + j) k := by
  have e : ∀ (n : ℕ) (f : ℕ → ℝ), (∑ j : Fin n, f j) = ∑ j ∈ Finset.range n, f j := fun n f => Fin.sum_univ_eq_sum_range f n
  unfold f
  rw [e 2816 fun j => A.act i j * A.wd j k, e 1408 fun j => A.act i j * A.wd j k, e 1408 fun j => A.act i (1408 + j) * A.wd (1408 + j) k,
    show 2816 = 1408 + 1408 from rfl, Finset.sum_range_add]

end Args

/-- This word is one over a row's length. -/
theorem word_inv_rows : Ideal.ofBits .f32 0x3A800000#32 = ((1 / 1024 : ℝ) : EReal) := by
  simp [Ideal.ofBits, Ideal.ieee, -EReal.coe_mul]; norm_num
/-- This word is half of that. -/
theorem word_half_inv_rows : Ideal.ofBits .f32 0x3A000000#32 = ((1 / 2048 : ℝ) : EReal) := by
  simp [Ideal.ofBits, Ideal.ieee, -EReal.coe_mul]; norm_num
/-- This word is a half. -/
theorem word_pos_half : Ideal.ofBits .f32 0x3F000000#32 = ((1 / 2 : ℝ) : EReal) := by
  simp [Ideal.ofBits, Ideal.ieee, -EReal.coe_mul]; norm_num
/-- This word is two. -/
theorem word_two : Ideal.ofBits .f32 0x40000000#32 = ((2 : ℝ) : EReal) := by
  simp [Ideal.ofBits, Ideal.ieee, -EReal.coe_mul]; norm_num

/-- The logistic function of a real, as the programs compute it. -/
theorem logistic (g : ℝ) : Ideal.div 1 (1 + Ideal.exp (-((g : ℝ) : EReal))) = ((sg g : ℝ) : EReal) := logistic_div g

end Cert.Loss

end
-- ==== Proof.LossBlocks.lean ====
/- What each staged block of the forward and loss kernel holds: rows or shards of the real arrays that its arguments hold. -/
module

public import proofs.«01_k».proof.Proof.Gen.Kernel5Ideal.Value
public import proofs.«01_k».proof.Proof.Rows
public import proofs.«01_k».proof.Proof.LossReals

@[expose] public section

set_option maxRecDepth 16384

noncomputable section

namespace Cert.Loss.Kernel

open Idealize.ShloMosaic Idealize.ShloMosaic.TcCoe Idealize.SL.Sem
open Cert.Kernel5Ideal Cert.Kernel5Ideal.Gen Cert.Ffn
open Cert.Ffn.Kernel (Is Is3)

/-- The six argument arrays hold these real numbers. -/
structure Given (m : (ℓ : Loc nD τ sig) → Buf (Elt Ideal) ℓ) (c : Dev nD) (A : Loss.Args) : Prop where
  h_is : Is (m ((c : Thread nD τ).loc main_arg0)) A.h
  wgu_is : Is (m ((c : Thread nD τ).loc main_arg1)) A.wgu
  wd_is : Is (m ((c : Thread nD τ).loc main_arg2)) A.wd
  x_is : Is (m ((c : Thread nD τ).loc main_arg3)) A.x
  g_is : Is (m ((c : Thread nD τ).loc main_arg4)) fun _ => A.g
  target_is : Is (m ((c : Thread nD τ).loc main_arg5)) A.target

/-- Where each window's block lies, for all eight grid points. -/
theorem idx_val : ∀ t : Fin cfg0.N, win0_0.index t = ![t.val, 0] ∧ win0_1.index t = ![0, 0, 0] ∧ win0_2.index t = ![1, 0, 0] ∧ win0_3.index t = ![2, 0, 0]
    ∧ win0_4.index t = ![3, 0, 0] ∧ win0_5.index t = ![0, 0] ∧ win0_6.index t = ![t.val, 0] ∧ win0_7.index t = ![0, 0] ∧ win0_8.index t = ![t.val, 0]
    ∧ win0_9.index t = ![0, t.val, 0] ∧ win0_10.index t = ![t.val, 0] ∧ win0_11.index t = ![t.val, 0] ∧ win0_12.index t = ![t.val, 0]
    ∧ win0_13.index t = ![0, 0] ∧ win0_14.index t = ![0, 0] :=
  (by decide +kernel : ∀ t : Fin grid0.N, _)

variable {m : (ℓ : Loc nD τ sig) → Buf (Elt Ideal) ℓ} {c : Dev nD} {A : Loss.Args}

/-- The rows, converted. -/
theorem V_h (G : Given m c A) : Is (V m c main_v3) A.h := fun a k => by
  entry_read
  pointwise []
  exact G.h_is a k

/-- The down projection's weight, converted. -/
theorem V_wd (G : Given m c A) : Is (V m c main_v4) A.wd := fun a k => by
  entry_read
  pointwise []
  exact G.wd_is a k

/-- The up projection's weight in four column shards. -/
theorem V_wgu (G : Given m c A) (s : Fin 4) (k : Fin 1024) (j : Fin 1408) :
    (V m c main_v2 : FVec Ideal S4x1024x1408 .bf16) (ix3 s k j) = ((A.wgu k.val (s.val * 1408 + j.val) : ℝ) : EReal) := by
  entry_read
  pointwise []
  exact G.wgu_is k _

/-- Row `a` of grid point `t`'s block, as a row of the whole array. -/
abbrev row (t : Fin cfg0.N) (a : Fin 512) : Fin 4096 :=
  ⟨512 * t.val + a.val, by have := t.isLt; have := a.isLt; have : cfg0.N = 8 := N_0; omega⟩

/-- The rows of this point. -/
theorem blk_h (G : Given m c A) (t : Fin cfg0.N) : Is (n := 512) (k := 1024) (iblk m c 0 t) fun a => A.h (512 * t.val + a) := fun a k => by
  refine Eq.trans ?_ (V_h G (row t a) k)
  blk_point [iblk, V, idx_val t]

/-- Column shard 0 of the up projection's weight. -/
theorem blk_shard0 (G : Given m c A) (t : Fin cfg0.N) : Is3 (n := 1024) (k := 1408) (iblk m c 1 t) A.wgu := fun k j => by
  refine Eq.trans ?_ ((V_wgu G 0 k j).trans (by simp only [Fin.val_zero, Nat.zero_mul, Nat.zero_add]))
  blk_point [iblk, idx_val t]

/-- Column shard 1 of the up projection's weight. -/
theorem blk_shard1 (G : Given m c A) (t : Fin cfg0.N) : Is3 (n := 1024) (k := 1408) (iblk m c 2 t) fun k j => A.wgu k (1408 + j) := fun k j => by
  refine Eq.trans ?_ (V_wgu G 1 k j)
  blk_point [iblk, idx_val t]

/-- Column shard 2 of the up projection's weight. -/
theorem blk_shard2 (G : Given m c A) (t : Fin cfg0.N) : Is3 (n := 1024) (k := 1408) (iblk m c 3 t) fun k j => A.wgu k (2816 + j) := fun k j => by
  refine Eq.trans ?_ (V_wgu G 2 k j)
  blk_point [iblk, idx_val t]

/-- Column shard 3 of the up projection's weight. -/
theorem blk_shard3 (G : Given m c A) (t : Fin cfg0.N) : Is3 (n := 1024) (k := 1408) (iblk m c 4 t) fun k j => A.wgu k (4224 + j) := fun k j => by
  refine Eq.trans ?_ (V_wgu G 3 k j)
  blk_point [iblk, idx_val t]

/-- The down projection's weight. -/
theorem blk_wd (G : Given m c A) (t : Fin cfg0.N) : Is (n := 2816) (k := 1024) (iblk m c 5 t) A.wd := fun a k => by
  refine Eq.trans ?_ (V_wd G a k)
  blk_point [iblk, V, idx_val t]

/-- The residual stream, the rows of this point. -/
theorem blk_x (G : Given m c A) (t : Fin cfg0.N) : Is (n := 512) (k := 1024) (iblk m c 6 t) fun a => A.x (512 * t.val + a) := fun a k => by
  refine Eq.trans ?_ (G.x_is (row t a) k)
  blk_point [iblk, V, idx_val t]

/-- The normalisation's scale. -/
theorem blk_g (G : Given m c A) (t : Fin cfg0.N) : Is (n := 1) (k := 1024) (iblk m c 7 t) (fun _ => A.g) := fun a k => by
  refine Eq.trans ?_ (G.g_is a k)
  blk_point [iblk, V, idx_val t]

/-- The target, the rows of this point. -/
theorem blk_target (G : Given m c A) (t : Fin cfg0.N) : Is (n := 512) (k := 1024) (iblk m c 8 t) fun a => A.target (512 * t.val + a) := fun a k => by
  refine Eq.trans ?_ (G.target_is (row t a) k)
  blk_point [iblk, V, idx_val t]

end Cert.Loss.Kernel

end
-- ==== Proof.LossRows.lean ====
/- What one tile of 256 rows of the forward and loss kernel computes: each vector of the kernel's body, given that the vectors it
   reads hold given real functions. A grid point has two such tiles; their texts differ in how the vectors are named and grouped. -/
module

public import proofs.«01_k».proof.Proof.LossBlocks

@[expose] public section

set_option maxRecDepth 16384

noncomputable section

namespace Cert.Loss.Kernel

open Idealize.ShloMosaic Idealize.ShloMosaic.TcCoe Idealize.SL.Sem
open Cert.Kernel5Ideal Cert.Kernel5Ideal.Gen Cert.Ffn
open Cert.Ffn.Kernel (Is Is3 rowSum)

variable {h w w' e f x t p q : ℕ → ℕ → ℝ} {g : ℕ → ℝ}

/-- The gated activation of rows through two shards. -/
def gated (h w w' : ℕ → ℕ → ℝ) (a j : ℕ) : ℝ := silu (proj h w a j) * proj h w' a j

/-- Its derivative in the gate. -/
def slopes (h w w' : ℕ → ℕ → ℝ) (a j : ℕ) : ℝ := slope (proj h w a j) (proj h w' a j)

/-- Its derivative in the other half. -/
def silus (h w : ℕ → ℕ → ℝ) (a j : ℕ) : ℝ := silu (proj h w a j)

/-- Activations through half of the down projection's rows. -/
def half (p q : ℕ → ℕ → ℝ) (a k : ℕ) : ℝ := ∑ j : Fin 1408, p a j * q j k

/-- How far a tile's output is from the target. -/
def tileErr (f x : ℕ → ℕ → ℝ) (g : ℕ → ℝ) (t : ℕ → ℕ → ℝ) (a k : ℕ) : ℝ := x a k + hat (f a) k * g k - t a k

/-- The residual stream's cotangent of a tile. -/
def tileDx (f x : ℕ → ℕ → ℝ) (g : ℕ → ℝ) (t : ℕ → ℕ → ℝ) (a k : ℕ) : ℝ := tileErr f x g t a k * (1 / 1024)

/-- A tile's part of the loss. -/
def tileLoss (e : ℕ → ℕ → ℝ) : ℝ := (∑ a : Fin 256, ∑ k : Fin 1024, e a k * e a k) * (1 / 2048)

/-- A row's reciprocal root mean square. -/
theorem rsqrt_row (y : ℕ → ℕ → ℝ) (a : ℕ) :
    Ideal.rsqrt (Ideal.div ((∑ j : Fin 1024, y a j.val * y a j.val : ℝ) : EReal) ((1024 : ℝ) : EReal) + ((eps : ℝ) : EReal)) = ((rinv (y a) : ℝ) : EReal) :=
  rsqrt_ms (y a)

section gate
variable {v2 : FVec Ideal S256x1024 .bf16} {v4 v7 : FVec Ideal S1x1024x1408 .bf16} (h2 : Is (n := 256) (k := 1024) v2 h) (h4 : Is3 (n := 1024) (k := 1408) v4 w)
  (h7 : Is3 (n := 1024) (k := 1408) v7 w')
include h2

/-- The cast of a tile holds the tile. -/
theorem pay2_is : Is (n := 256) (k := 1024) (k0_pay2 (F := Ideal) v2) h := by
  intro a k
  pointwise [k0_pay2]
  simp only [h2 _ _]

/-- The cast of a tile holds the tile. -/
theorem pay29_is : Is (n := 256) (k := 1024) (k0_pay29 (F := Ideal) v2) h := by
  intro a k
  pointwise [k0_pay29]
  simp only [h2 _ _]

include h4

/-- First tile, first half of the columns: the gate times its logistic function, as stored. -/
theorem pay8_is : Is3 (n := 256) (k := 1408) (k0_pay8 (F := Ideal) v2 v4) (silus h w) := by
  intro a j
  pointwise [k0_pay8, k0_pay6, k0_pay5, k0_pay3, k0_pay2]
  simp only [h2 _ _, h4 _ _, ← EReal.coe_mul, coe_sum, zero_sub, logistic]
  rfl

/-- First tile, second half: the same. -/
theorem pay16_is : Is3 (n := 256) (k := 1408) (k0_pay16 (F := Ideal) v2 v4) (silus h w) := by
  intro a j
  pointwise [k0_pay16, k0_pay14, k0_pay13, k0_pay11]
  simp only [h2 _ _, h4 _ _, ← EReal.coe_mul, coe_sum, zero_sub, logistic]
  rfl

/-- Second tile, first half: the same, before it is stored. -/
theorem pay33_is : Is (n := 256) (k := 1408) (k0_pay33 (F := Ideal) v2 v4) (silus h w) := by
  intro a j
  pointwise [k0_pay33, k0_pay32, k0_pay30, k0_pay29]
  simp only [h2 _ _, h4 _ _, ← EReal.coe_mul, coe_sum, zero_sub, logistic]
  rfl

/-- Second tile, second half: the same, before it is stored. -/
theorem pay42_is : Is (n := 256) (k := 1408) (k0_pay42 (F := Ideal) v2 v4) (silus h w) := by
  intro a j
  pointwise [k0_pay42, k0_pay41, k0_pay39]
  simp only [h2 _ _, h4 _ _, ← EReal.coe_mul, coe_sum, zero_sub, logistic]
  rfl

/-- Second tile, first half: the up projection's other half. -/
theorem pay31_is : Is (n := 256) (k := 1408) (k0_pay31 (F := Ideal) v2 v4) (proj h w) := by
  intro a j
  pointwise [k0_pay31, k0_pay29]
  simp only [h2 _ _, h4 _ _, ← EReal.coe_mul, coe_sum]
  rfl

/-- Second tile, second half: the same. -/
theorem pay40_is : Is (n := 256) (k := 1408) (k0_pay40 (F := Ideal) v2 v4) (proj h w) := by
  intro a j
  pointwise [k0_pay40]
  simp only [h2 _ _, h4 _ _, ← EReal.coe_mul, coe_sum]
  rfl

include h7

/-- First tile, first half: the derivative in the gate, as stored. -/
theorem pay7_is : Is3 (n := 256) (k := 1408) (k0_pay7 (F := Ideal) v2 v4 v7) (slopes h w w') := by
  intro a j
  pointwise [k0_pay7, k0_pay6, k0_pay5, k0_pay4, k0_pay3, k0_pay2]
  simp only [h2 _ _, h4 _ _, h7 _ _, ← EReal.coe_mul, coe_sum, zero_sub, logistic]
  simp only [← EReal.coe_one, ← EReal.coe_sub, ← EReal.coe_add, ← EReal.coe_mul]
  rfl

/-- First tile, second half: the same. -/
theorem pay15_is : Is3 (n := 256) (k := 1408) (k0_pay15 (F := Ideal) v2 v4 v7) (slopes h w w') := by
  intro a j
  pointwise [k0_pay15, k0_pay14, k0_pay13, k0_pay12, k0_pay11]
  simp only [h2 _ _, h4 _ _, h7 _ _, ← EReal.coe_mul, coe_sum, zero_sub, logistic]
  simp only [← EReal.coe_one, ← EReal.coe_sub, ← EReal.coe_add, ← EReal.coe_mul]
  rfl

/-- Second tile, first half: the same, before it is stored. -/
theorem pay34_is : Is (n := 256) (k := 1408) (k0_pay34 (F := Ideal) v2 v4 v7) (slopes h w w') := by
  intro a j
  pointwise [k0_pay34, k0_pay33, k0_pay32, k0_pay31, k0_pay30, k0_pay29]
  simp only [h2 _ _, h4 _ _, h7 _ _, ← EReal.coe_mul, coe_sum, zero_sub, logistic]
  simp only [← EReal.coe_one, ← EReal.coe_sub, ← EReal.coe_add, ← EReal.coe_mul]
  rfl

/-- Second tile, second half: the same, before it is stored. -/
theorem pay43_is : Is (n := 256) (k := 1408) (k0_pay43 (F := Ideal) v2 v4 v7) (slopes h w w') := by
  intro a j
  pointwise [k0_pay43, k0_pay42, k0_pay41, k0_pay40, k0_pay39]
  simp only [h2 _ _, h4 _ _, h7 _ _, ← EReal.coe_mul, coe_sum, zero_sub, logistic]
  simp only [← EReal.coe_one, ← EReal.coe_sub, ← EReal.coe_add, ← EReal.coe_mul]
  rfl

/-- First tile, first half: the gated activation. -/
theorem pay9_is : Is (n := 256) (k := 1408) (k0_pay9 (F := Ideal) v2 v4 v7) (gated h w w') := by
  intro a j
  pointwise [k0_pay9, k0_pay6, k0_pay5, k0_pay4, k0_pay3, k0_pay2]
  simp only [h2 _ _, h4 _ _, h7 _ _, ← EReal.coe_mul, coe_sum, zero_sub, logistic]
  rfl

/-- First tile, second half: the same. -/
theorem pay17_is : Is (n := 256) (k := 1408) (k0_pay17 (F := Ideal) v2 v4 v7) (gated h w w') := by
  intro a j
  pointwise [k0_pay17, k0_pay14, k0_pay13, k0_pay12, k0_pay11]
  simp only [h2 _ _, h4 _ _, h7 _ _, ← EReal.coe_mul, coe_sum, zero_sub, logistic]
  rfl

end gate

/-- A half plane with its leading axis, as it is stored. -/
theorem pay35_is {v144 : FVec Ideal S256x1408 .f32} (h1 : Is (n := 256) (k := 1408) v144 f) : Is3 (n := 256) (k := 1408) (k0_pay35 (F := Ideal) v144) f := by
  intro a k
  pointwise [k0_pay35]
  simp only [h1 _ _]

/-- A half plane with its leading axis, as it is stored. -/
theorem pay36_is {v139 : FVec Ideal S256x1408 .f32} (h1 : Is (n := 256) (k := 1408) v139 f) : Is3 (n := 256) (k := 1408) (k0_pay36 (F := Ideal) v139) f := by
  intro a k
  pointwise [k0_pay36]
  simp only [h1 _ _]

/-- A half plane with its leading axis, as it is stored. -/
theorem pay44_is {v178 : FVec Ideal S256x1408 .bf16} (h1 : Is (n := 256) (k := 1408) v178 f) : Is3 (n := 256) (k := 1408) (k0_pay44 (F := Ideal) v178) f := by
  intro a k
  pointwise [k0_pay44]
  simp only [h1 _ _]

/-- A half plane with its leading axis, as it is stored. -/
theorem pay45_is {v172 : FVec Ideal S256x1408 .f32} (h1 : Is (n := 256) (k := 1408) v172 f) : Is3 (n := 256) (k := 1408) (k0_pay45 (F := Ideal) v172) f := by
  intro a k
  pointwise [k0_pay45]
  simp only [h1 _ _]

section down
variable {v131 v139 : FVec Ideal S256x1408 .f32} {v36 : FVec Ideal S256x1024 .f32} {v32 : FVec Ideal S256x1408 .bf16} {v34 : FVec Ideal S1408x1024 .bf16}

/-- Second tile, first half: the gated activation from its two factors. -/
theorem pay37_is (hu : Is (n := 256) (k := 1408) v131 (proj h w')) (hs : Is (n := 256) (k := 1408) v139 (silus h w)) :
    Is (n := 256) (k := 1408) (k0_pay37 (F := Ideal) v131 v139) (gated h w w') := by
  intro a j
  pointwise [k0_pay37]
  simp only [hu _ _, hs _ _, ← EReal.coe_mul]
  rfl

/-- Second tile, second half: the same. -/
theorem pay46_is (hu : Is (n := 256) (k := 1408) v131 (proj h w')) (hs : Is (n := 256) (k := 1408) v139 (silus h w)) :
    Is (n := 256) (k := 1408) (k0_pay46 (F := Ideal) v131 v139) (gated h w w') := by
  intro a j
  pointwise [k0_pay46]
  simp only [hu _ _, hs _ _, ← EReal.coe_mul]
  rfl

/-- First tile: the activation's first half through its rows of the down projection. -/
theorem pay10_is (ha : Is (n := 256) (k := 1408) v32 p) (hw : Is (n := 1408) (k := 1024) v34 q) :
    Is (n := 256) (k := 1024) (k0_pay10 (F := Ideal) v32 v34) (half p q) := by
  intro a k
  pointwise [k0_pay10]
  simp only [ha _ _, hw _ _, ← EReal.coe_mul, coe_sum]
  rfl

/-- First tile: the down projection. -/
theorem pay18_is (h36 : Is (n := 256) (k := 1024) v36 e) (ha : Is (n := 256) (k := 1408) v32 p) (hw : Is (n := 1408) (k := 1024) v34 q) :
    Is (n := 256) (k := 1024) (k0_pay18 (F := Ideal) v36 v32 v34) (fun a k => e a k + half p q a k) := by
  intro a k
  pointwise [k0_pay18]
  simp only [h36 _ _, ha _ _, hw _ _, ← EReal.coe_mul, coe_sum, ← EReal.coe_add]
  rfl

/-- Second tile: the activation's first half through its rows of the down projection. -/
theorem pay38_is (ha : Is (n := 256) (k := 1408) (k0_pay37 (F := Ideal) v131 v139) p) (hw : Is (n := 1408) (k := 1024) v34 q) :
    Is (n := 256) (k := 1024) (k0_pay38 (F := Ideal) v131 v139 v34) (half p q) := by
  intro a k
  pointwise [k0_pay38]
  simp only [ha _ _, hw _ _, ← EReal.coe_mul, coe_sum]
  rfl

/-- Second tile: the down projection. -/
theorem pay47_is (h36 : Is (n := 256) (k := 1024) v36 e) (ha : Is (n := 256) (k := 1408) (k0_pay46 (F := Ideal) v131 v139) p) (hw : Is (n := 1408) (k := 1024) v34 q) :
    Is (n := 256) (k := 1024) (k0_pay47 (F := Ideal) v36 v131 v139 v34) (fun a k => e a k + half p q a k) := by
  intro a k
  pointwise [k0_pay47]
  simp only [h36 _ _, ha _ _, hw _ _, ← EReal.coe_mul, coe_sum, ← EReal.coe_add]
  rfl

variable {v1 : FVec Ideal S1x1024 .f32} {v71 v85 : FVec Ideal S256x1024 .f32}
section first
variable (hf : Is (n := 256) (k := 1024) (k0_pay18 (F := Ideal) v36 v32 v34) f)
include hf

/-- First tile: the reciprocal root mean square of the down projection's rows. -/
theorem pay21_is : Is (n := 256) (k := 1) (k0_pay21 (F := Ideal) v36 v32 v34) (fun a _ => rinv (f a)) := by
  intro a k
  pointwise [k0_pay21]
  simp only [hf _ _, word_rows, word_eps, ← EReal.coe_mul, coe_sum]
  exact rsqrt_row f a

/-- First tile: the normalised rows. -/
theorem pay22_is : Is (n := 256) (k := 1024) (k0_pay22 (F := Ideal) v36 v32 v34) (fun a => hat (f a)) := by
  have e1 := pay21_is hf
  intro a k
  pointwise [k0_pay22]
  simp only [hf _ _, e1 _ _, ← EReal.coe_mul]
  rfl

variable (hg : Is (n := 1) (k := 1024) v1 (fun _ => g)) (hx : Is (n := 256) (k := 1024) v71 x) (ht : Is (n := 256) (k := 1024) v85 t)
include hg hx ht

/-- First tile: how far the output is from the target. -/
theorem pay19_is : Is (n := 256) (k := 1024) (k0_pay19 (F := Ideal) v1 v36 v32 v34 v71 v85) (tileErr f x g t) := by
  intro a k
  pointwise [k0_pay19]
  simp only [hf _ _, hg _ _, hx _ _, ht _ _, word_rows, word_eps, ← EReal.coe_mul, coe_sum, rsqrt_row, ← EReal.coe_add, ← EReal.coe_sub]
  rfl

/-- First tile: the residual stream's cotangent. -/
theorem pay20_is : Is (n := 256) (k := 1024) (k0_pay20 (F := Ideal) v1 v36 v32 v34 v71 v85) (tileDx f x g t) := by
  have e1 := pay19_is hf hg hx ht
  intro a k
  pointwise [k0_pay20]
  simp only [e1 _ _, word_inv_rows, ← EReal.coe_mul]
  rfl

/-- First tile: that cotangent times the scale. -/
theorem pay23_is : Is (n := 256) (k := 1024) (k0_pay23 (F := Ideal) v1 v36 v32 v34 v71 v85) (fun a k => tileDx f x g t a k * g k) := by
  have e1 := pay20_is hf hg hx ht
  intro a k
  pointwise [k0_pay23]
  simp only [e1 _ _, hg _ _, ← EReal.coe_mul]

/-- First tile: the sum of its product with the normalised row. -/
theorem pay24_is : Is (n := 256) (k := 1) (k0_pay24 (F := Ideal) v1 v36 v32 v34 v71 v85) (fun a _ => ∑ j : Fin 1024, tileDx f x g t a j * g j * hat (f a) j) := by
  have e1 := pay23_is hf hg hx ht
  have e2 := pay22_is hf
  intro a k
  pointwise [k0_pay24]
  simp only [e1 _ _, e2 _ _, ← EReal.coe_mul, coe_sum]

end first

/-- First tile: the down projection's cotangent. -/
theorem pay27_is {v97 v104 : FVec Ideal S256x1 .f32} {v99 v101 : FVec Ideal S256x1024 .f32} (h97 : Is (n := 256) (k := 1) v97 (fun a _ => rinv (f a)))
    (h99 : Is (n := 256) (k := 1024) v99 (fun a => hat (f a))) (h101 : Is (n := 256) (k := 1024) v101 (fun a k => e a k * g k))
    (h104 : Is (n := 256) (k := 1) v104 (fun a _ => ∑ j : Fin 1024, e a j * g j * hat (f a) j)) :
    Is (n := 256) (k := 1024) (k0_pay27 (F := Ideal) v97 v99 v101 v104 k0_pay25) (fun a => normBack (e a) (f a) g) := by
  intro a k
  pointwise [k0_pay27, k0_pay25]
  simp only [h97 _ _, h99 _ _, h101 _ _, h104 _ _, word_rows, ← EReal.coe_mul, ← EReal.coe_sub, div_rows]
  rfl

/-- First tile: its rows' part of the gradient in the scale. -/
theorem pay26_is {v88 v99 : FVec Ideal S256x1024 .f32} (h88 : Is (n := 256) (k := 1024) v88 e) (h99 : Is (n := 256) (k := 1024) v99 (fun a => hat (f a))) :
    Is (n := 1) (k := 1024) (k0_pay26 (F := Ideal) v88 v99) (rowSum fun a k => e a k * hat (f a) k) := by
  intro a k
  pointwise [k0_pay26]
  simp only [h88 _ _, h99 _ _, ← EReal.coe_mul, coe_sum]
  rfl

/-- First tile: its rows' part of the loss. -/
theorem pay28_is {v86 : FVec Ideal S256x1024 .f32} (h86 : Is (n := 256) (k := 1024) v86 e) :
    Is (n := 1) (k := 1) (k0_pay28 (F := Ideal) v86) (fun _ _ => tileLoss e) := by
  intro a k
  pointwise [k0_pay28]
  simp only [h86 _ _, word_half_inv_rows, ← EReal.coe_mul, coe_sum]
  rfl

section second
variable (hf : Is (n := 256) (k := 1024) (k0_pay47 (F := Ideal) v36 v131 v139 v34) f)
include hf

/-- Second tile: the down projection's squares. -/
theorem pay50_is : Is (n := 256) (k := 1024) (k0_pay50 (F := Ideal) v36 v131 v139 v34) (fun a k => f a k * f a k) := by
  intro a k
  pointwise [k0_pay50]
  simp only [hf _ _, ← EReal.coe_mul]

variable (hg : Is (n := 1) (k := 1024) v1 (fun _ => g)) (hx : Is (n := 256) (k := 1024) v71 x) (ht : Is (n := 256) (k := 1024) v85 t)
include hg hx ht

/-- Second tile: how far the output is from the target. -/
theorem pay48_is : Is (n := 256) (k := 1024) (k0_pay48 (F := Ideal) v1 v36 v131 v139 v34 v71 v85) (tileErr f x g t) := by
  intro a k
  pointwise [k0_pay48]
  simp only [hf _ _, hg _ _, hx _ _, ht _ _, word_rows, word_eps, ← EReal.coe_mul, coe_sum, rsqrt_row, ← EReal.coe_add, ← EReal.coe_sub]
  rfl

/-- Second tile: the residual stream's cotangent. -/
theorem pay49_is : Is (n := 256) (k := 1024) (k0_pay49 (F := Ideal) v1 v36 v131 v139 v34 v71 v85) (tileDx f x g t) := by
  have e1 := pay48_is hf hg hx ht
  intro a k
  pointwise [k0_pay49]
  simp only [e1 _ _, word_inv_rows, ← EReal.coe_mul]
  rfl

end second
end down

section tail
variable {v192 v210 v212 : FVec Ideal S256x1024 .f32} {v1 v114 : FVec Ideal S1x1024 .f32} (h212 : Is (n := 256) (k := 1024) v212 (fun a k => f a k * f a k))
include h212

/-- Second tile: the reciprocal root mean square of the down projection's rows. -/
theorem pay51_is : Is (n := 256) (k := 1) (k0_pay51 (F := Ideal) v212) (fun a _ => rinv (f a)) := by
  intro a k
  pointwise [k0_pay51]
  simp only [h212 _ _, word_rows, word_eps, coe_sum]
  exact rsqrt_row f a

variable (h192 : Is (n := 256) (k := 1024) v192 f)
include h192

/-- Second tile: the normalised rows. -/
theorem pay52_is : Is (n := 256) (k := 1024) (k0_pay52 (F := Ideal) v192 v212) (fun a => hat (f a)) := by
  have e1 := pay51_is h212
  intro a k
  pointwise [k0_pay52]
  simp only [h192 _ _, e1 _ _, ← EReal.coe_mul]
  rfl

variable (h210 : Is (n := 256) (k := 1024) v210 e)
include h210

/-- Second tile: the down projection's cotangent. -/
theorem pay53_is (hg : Is (n := 1) (k := 1024) v1 (fun _ => g)) :
    Is (n := 256) (k := 1024) (k0_pay53 (F := Ideal) v1 v192 v210 v212) (fun a => normBack (e a) (f a) g) := by
  have e1 := pay51_is h212
  have e2 := pay52_is h212 h192
  intro a k
  pointwise [k0_pay53]
  simp only [e1 _ _, e2 _ _, h210 _ _, hg _ _, word_rows, ← EReal.coe_mul, coe_sum, ← EReal.coe_sub, div_rows]
  rfl

/-- Both tiles' parts of the gradient in the scale. -/
theorem pay54_is (h114 : Is (n := 1) (k := 1024) v114 p) :
    Is (n := 1) (k := 1024) (k0_pay54 (F := Ideal) v114 v192 v210 v212) (fun a k => p a k + rowSum (fun a k => e a k * hat (f a) k) a k) := by
  have e2 := pay52_is h212 h192
  intro a k
  pointwise [k0_pay54]
  simp only [Fin.val_eq_zero, h114 _ _, e2 _ _, h210 _ _, ← EReal.coe_mul, coe_sum, ← EReal.coe_add]
  rfl

end tail

/-- Both tiles' parts of the loss, in every place of the block. -/
theorem pay56_is {v123 : FVec Ideal S1x1 .f32} {v208 : FVec Ideal S256x1024 .f32} {l : ℝ} (h123 : Is (n := 1) (k := 1) v123 (fun _ _ => l)) (h208 : Is (n := 256) (k := 1024) v208 e) :
    Is (n := 8) (k := 128) (k0_pay56 (F := Ideal) v123 v208) (fun _ _ => l + tileLoss e) := by
  intro a k
  pointwise [k0_pay56]
  simp only [h123 _ _, h208 _ _, word_half_inv_rows, ← EReal.coe_mul, coe_sum, ← EReal.coe_add]
  rfl

/-- The gradient in the scale, continued. -/
theorem pay55_at (v114 v260 : FVec Ideal S1x1024 .f32) (v192 v210 v212 : FVec Ideal S256x1024 .f32) (j : S1x1024.Idx) :
    k0_pay55 v114 v192 v210 v212 v260 j = v260 j + k0_pay54 v114 v192 v210 v212 j := by
  pointwise [k0_pay55]

/-- The loss, continued. -/
theorem pay1_at (v254 v260 : FVec Ideal S8x128 .f32) (j : S8x128.Idx) : k0_pay1 v254 v260 j = v260 j + v254 j := by
  pointwise [k0_pay1]

end Cert.Loss.Kernel

end
-- ==== Proof.LossTile.lean ====
/- One tile of 256 rows of the forward and loss kernel: if what it loads are the rows from `R` on of the call's arrays, what it computes
   are the rows from `R` on of the results, and its rows' parts of the scale's gradient and of the loss. Then what the two tiles of a
   grid point load: the first tile the staged block's rows from 0 on, the second its rows from 256 on. -/
module

public import proofs.«01_k».proof.Proof.LossRows

@[expose] public section

set_option maxRecDepth 16384

noncomputable section

namespace Cert.Loss.Kernel

open Idealize.ShloMosaic Idealize.ShloMosaic.TcCoe Idealize.SL.Sem
open Cert.Kernel5Ideal Cert.Kernel5Ideal.Gen Cert.Ffn
open Cert.Ffn.Kernel (Is Is3 rowSum)

/-- What a tile loads: the rows from `R` on, the four shards, the two halves of the down projection and the scale. -/
structure Tile (A : Loss.Args) (R : ℕ) (hv : FVec Ideal S256x1024 .bf16) (w0 w1 w2 w3 : FVec Ideal S1x1024x1408 .bf16) (d0 d1 : FVec Ideal S1408x1024 .bf16)
    (xv tv : FVec Ideal S256x1024 .f32) (gv : FVec Ideal S1x1024 .f32) : Prop where
  hh : Is (n := 256) (k := 1024) hv fun a => A.h (R + a)
  hw0 : Is3 (n := 1024) (k := 1408) w0 A.wgu
  hw1 : Is3 (n := 1024) (k := 1408) w1 fun k j => A.wgu k (1408 + j)
  hw2 : Is3 (n := 1024) (k := 1408) w2 fun k j => A.wgu k (2816 + j)
  hw3 : Is3 (n := 1024) (k := 1408) w3 fun k j => A.wgu k (2816 + (1408 + j))
  hd0 : Is (n := 1408) (k := 1024) d0 A.wd
  hd1 : Is (n := 1408) (k := 1024) d1 fun j => A.wd (1408 + j)
  hx : Is (n := 256) (k := 1024) xv fun a => A.x (R + a)
  ht : Is (n := 256) (k := 1024) tv fun a => A.target (R + a)
  hg : Is (n := 1) (k := 1024) gv fun _ => A.g

section
variable {A : Loss.Args} {R : ℕ} {hv : FVec Ideal S256x1024 .bf16} {w0 w1 w2 w3 : FVec Ideal S1x1024x1408 .bf16} {d0 d1 : FVec Ideal S1408x1024 .bf16}
    {xv tv : FVec Ideal S256x1024 .f32} {gv : FVec Ideal S1x1024 .f32} (T : Tile A R hv w0 w1 w2 w3 d0 d1 xv tv gv)
include T

/-- First tile: the activation's columns from 0 on. -/
theorem tile0_act0 : Is (n := 256) (k := 1408) (k0_pay9 (F := Ideal) hv w0 w2) fun a => A.act (R + a) :=
  pay9_is T.hh T.hw0 T.hw2

/-- First tile: the activation's columns from 1408 on. -/
theorem tile0_act1 : Is (n := 256) (k := 1408) (k0_pay17 (F := Ideal) (k0_pay2 hv) w1 w3) fun a j => A.act (R + a) (1408 + j) :=
  pay17_is (pay2_is T.hh) T.hw1 T.hw3

/-- Second tile: the activation's columns from 0 on. -/
theorem tile1_act0 : Is (n := 256) (k := 1408) (k0_pay37 (F := Ideal) (k0_pay31 hv w2) (k0_pay33 hv w0)) fun a => A.act (R + a) :=
  pay37_is (pay31_is T.hh T.hw2) (pay33_is T.hh T.hw0)

/-- Second tile: the activation's columns from 1408 on. -/
theorem tile1_act1 : Is (n := 256) (k := 1408) (k0_pay46 (F := Ideal) (k0_pay40 (k0_pay29 hv) w3) (k0_pay42 (k0_pay29 hv) w1)) fun a j => A.act (R + a) (1408 + j) :=
  pay46_is (pay40_is (pay29_is T.hh) T.hw3) (pay42_is (pay29_is T.hh) T.hw1)

/-- First tile: the derivative in the gate, columns from 0 on. -/
theorem tile0_s0 : Is3 (n := 256) (k := 1408) (k0_pay7 (F := Ideal) hv w0 w2) fun a => A.d0 (R + a) :=
  pay7_is T.hh T.hw0 T.hw2

/-- First tile: the derivative in the gate, columns from 1408 on. -/
theorem tile0_s1 : Is3 (n := 256) (k := 1408) (k0_pay15 (F := Ideal) (k0_pay2 hv) w1 w3) fun a j => A.d0 (R + a) (1408 + j) :=
  pay15_is (pay2_is T.hh) T.hw1 T.hw3

/-- Second tile: the derivative in the gate, columns from 0 on. -/
theorem tile1_s0 : Is3 (n := 256) (k := 1408) (k0_pay35 (F := Ideal) (k0_pay34 hv w0 w2)) fun a => A.d0 (R + a) :=
  pay35_is (pay34_is T.hh T.hw0 T.hw2)

/-- Second tile: the derivative in the gate, columns from 1408 on. -/
theorem tile1_s1 : Is3 (n := 256) (k := 1408) (k0_pay44 (F := Ideal) (k0_pay43 (k0_pay29 hv) w1 w3)) fun a j => A.d0 (R + a) (1408 + j) :=
  pay44_is (pay43_is (pay29_is T.hh) T.hw1 T.hw3)

/-- First tile: the derivative in the other half, columns from 0 on. -/
theorem tile0_u0 : Is3 (n := 256) (k := 1408) (k0_pay8 (F := Ideal) hv w0) fun a => A.d1 (R + a) :=
  pay8_is T.hh T.hw0

/-- First tile: the derivative in the other half, columns from 1408 on. -/
theorem tile0_u1 : Is3 (n := 256) (k := 1408) (k0_pay16 (F := Ideal) (k0_pay2 hv) w1) fun a j => A.d1 (R + a) (1408 + j) :=
  pay16_is (pay2_is T.hh) T.hw1

/-- Second tile: the derivative in the other half, columns from 0 on. -/
theorem tile1_u0 : Is3 (n := 256) (k := 1408) (k0_pay36 (F := Ideal) (k0_pay33 hv w0)) fun a => A.d1 (R + a) :=
  pay36_is (pay33_is T.hh T.hw0)

/-- Second tile: the derivative in the other half, columns from 1408 on. -/
theorem tile1_u1 : Is3 (n := 256) (k := 1408) (k0_pay45 (F := Ideal) (k0_pay42 (k0_pay29 hv) w1)) fun a j => A.d1 (R + a) (1408 + j) :=
  pay45_is (pay42_is (pay29_is T.hh) T.hw1)

/-- First tile: the down projection. -/
theorem tile0_f : Is (n := 256) (k := 1024) (k0_pay18 (F := Ideal) (k0_pay10 (k0_pay9 hv w0 w2) d0) (k0_pay17 (k0_pay2 hv) w1 w3) d1) fun a => A.f (R + a) := fun a k =>
  (pay18_is (pay10_is (tile0_act0 T) T.hd0) (tile0_act1 T) T.hd1 a k).trans (congrArg Real.toEReal (A.f_split (R + a.val) k.val).symm)

/-- Second tile: the down projection. -/
theorem tile1_f : Is (n := 256) (k := 1024) (k0_pay47 (F := Ideal) (k0_pay38 (k0_pay31 hv w2) (k0_pay33 hv w0) d0) (k0_pay40 (k0_pay29 hv) w3) (k0_pay42 (k0_pay29 hv) w1) d1) fun a => A.f (R + a) := fun a k =>
  (pay47_is (pay38_is (tile1_act0 T) T.hd0) (tile1_act1 T) T.hd1 a k).trans (congrArg Real.toEReal (A.f_split (R + a.val) k.val).symm)

/-- First tile: how far the output is from the target. -/
theorem tile0_err : Is (n := 256) (k := 1024) (k0_pay19 (F := Ideal) gv (k0_pay10 (k0_pay9 hv w0 w2) d0) (k0_pay17 (k0_pay2 hv) w1 w3) d1 xv tv) fun a => A.err (R + a) :=
  pay19_is (tile0_f T) T.hg T.hx T.ht

/-- Second tile: how far the output is from the target. -/
theorem tile1_err : Is (n := 256) (k := 1024) (k0_pay48 (F := Ideal) gv (k0_pay38 (k0_pay31 hv w2) (k0_pay33 hv w0) d0) (k0_pay40 (k0_pay29 hv) w3) (k0_pay42 (k0_pay29 hv) w1) d1 xv tv) fun a => A.err (R + a) :=
  pay48_is (tile1_f T) T.hg T.hx T.ht

/-- First tile: the residual stream's cotangent. -/
theorem tile0_dx : Is (n := 256) (k := 1024) (k0_pay20 (F := Ideal) gv (k0_pay10 (k0_pay9 hv w0 w2) d0) (k0_pay17 (k0_pay2 hv) w1 w3) d1 xv tv) fun a => A.dx (R + a) :=
  pay20_is (tile0_f T) T.hg T.hx T.ht

/-- Second tile: the residual stream's cotangent. -/
theorem tile1_dx : Is (n := 256) (k := 1024) (k0_pay49 (F := Ideal) gv (k0_pay38 (k0_pay31 hv w2) (k0_pay33 hv w0) d0) (k0_pay40 (k0_pay29 hv) w3) (k0_pay42 (k0_pay29 hv) w1) d1 xv tv) fun a => A.dx (R + a) :=
  pay49_is (tile1_f T) T.hg T.hx T.ht

/-- First tile: the down projection's cotangent. -/
theorem tile0_df : Is (n := 256) (k := 1024) (k0_pay27 (F := Ideal) (k0_pay21 (k0_pay10 (k0_pay9 hv w0 w2) d0) (k0_pay17 (k0_pay2 hv) w1 w3) d1)
    (k0_pay22 (k0_pay10 (k0_pay9 hv w0 w2) d0) (k0_pay17 (k0_pay2 hv) w1 w3) d1)
    (k0_pay23 gv (k0_pay10 (k0_pay9 hv w0 w2) d0) (k0_pay17 (k0_pay2 hv) w1 w3) d1 xv tv)
    (k0_pay24 gv (k0_pay10 (k0_pay9 hv w0 w2) d0) (k0_pay17 (k0_pay2 hv) w1 w3) d1 xv tv) k0_pay25) fun a => A.df (R + a) :=
  pay27_is (pay21_is (tile0_f T)) (pay22_is (tile0_f T)) (pay23_is (tile0_f T) T.hg T.hx T.ht) (pay24_is (tile0_f T) T.hg T.hx T.ht)

/-- Second tile: the down projection's cotangent. -/
theorem tile1_df : Is (n := 256) (k := 1024) (k0_pay53 (F := Ideal) gv
    (k0_pay47 (k0_pay38 (k0_pay31 hv w2) (k0_pay33 hv w0) d0) (k0_pay40 (k0_pay29 hv) w3) (k0_pay42 (k0_pay29 hv) w1) d1)
    (k0_pay49 gv (k0_pay38 (k0_pay31 hv w2) (k0_pay33 hv w0) d0) (k0_pay40 (k0_pay29 hv) w3) (k0_pay42 (k0_pay29 hv) w1) d1 xv tv)
    (k0_pay50 (k0_pay38 (k0_pay31 hv w2) (k0_pay33 hv w0) d0) (k0_pay40 (k0_pay29 hv) w3) (k0_pay42 (k0_pay29 hv) w1) d1)) fun a => A.df (R + a) :=
  pay53_is (pay50_is (tile1_f T)) (tile1_f T) (tile1_dx T) T.hg

/-- First tile: its rows' part of the gradient in the scale. -/
theorem tile0_dg : Is (n := 1) (k := 1024) (k0_pay26 (F := Ideal) (k0_pay20 gv (k0_pay10 (k0_pay9 hv w0 w2) d0) (k0_pay17 (k0_pay2 hv) w1 w3) d1 xv tv)
    (k0_pay22 (k0_pay10 (k0_pay9 hv w0 w2) d0) (k0_pay17 (k0_pay2 hv) w1 w3) d1)) (rowSum fun a k => A.dx (R + a) k * hat (A.f (R + a)) k) :=
  pay26_is (tile0_dx T) (pay22_is (tile0_f T))

/-- First tile: its rows' part of the loss. -/
theorem tile0_loss : Is (n := 1) (k := 1) (k0_pay28 (F := Ideal) (k0_pay19 gv (k0_pay10 (k0_pay9 hv w0 w2) d0) (k0_pay17 (k0_pay2 hv) w1 w3) d1 xv tv))
    (fun _ _ => tileLoss fun a => A.err (R + a)) :=
  pay28_is (tile0_err T)

/-- Both tiles' parts of the gradient in the scale, the first one's given. -/
theorem tiles_dg {v114 : FVec Ideal S1x1024 .f32} {p : ℕ → ℕ → ℝ} (h : Is (n := 1) (k := 1024) v114 p) :
    Is (n := 1) (k := 1024) (k0_pay54 (F := Ideal) v114 (k0_pay47 (k0_pay38 (k0_pay31 hv w2) (k0_pay33 hv w0) d0) (k0_pay40 (k0_pay29 hv) w3) (k0_pay42 (k0_pay29 hv) w1) d1)
    (k0_pay49 gv (k0_pay38 (k0_pay31 hv w2) (k0_pay33 hv w0) d0) (k0_pay40 (k0_pay29 hv) w3) (k0_pay42 (k0_pay29 hv) w1) d1 xv tv)
    (k0_pay50 (k0_pay38 (k0_pay31 hv w2) (k0_pay33 hv w0) d0) (k0_pay40 (k0_pay29 hv) w3) (k0_pay42 (k0_pay29 hv) w1) d1))
      (fun a k => p a k + rowSum (fun a k => A.dx (R + a) k * hat (A.f (R + a)) k) a k) :=
  pay54_is (pay50_is (tile1_f T)) (tile1_f T) (tile1_dx T) h

/-- Both tiles' parts of the loss, the first one's given. -/
theorem tiles_loss {v123 : FVec Ideal S1x1 .f32} {l : ℝ} (h : Is (n := 1) (k := 1) v123 (fun _ _ => l)) :
    Is (n := 8) (k := 128) (k0_pay56 (F := Ideal) v123 (k0_pay48 gv (k0_pay38 (k0_pay31 hv w2) (k0_pay33 hv w0) d0) (k0_pay40 (k0_pay29 hv) w3) (k0_pay42 (k0_pay29 hv) w1) d1 xv tv))
      (fun _ _ => l + tileLoss fun a => A.err (R + a)) :=
  pay56_is h (tile1_err T)

end

section
variable {m : (ℓ : Loc nD τ sig) → Buf (Elt Ideal) ℓ} {c : Dev nD} {A : Loss.Args} (G : Given m c A) (t : Fin cfg0.N)
include G

/-- The fourth shard, its columns counted from the other half's first. -/
theorem shard3 : Is3 (n := 1024) (k := 1408) (iblk m c 4 t) fun k j => A.wgu k (2816 + (1408 + j)) := fun k j =>
  (blk_shard3 G t k j).trans (congrArg (fun n => ((A.wgu k.val n : ℝ) : EReal)) (by omega))

/-- The down projection's first rows. -/
theorem down0 : Is (n := 1408) (k := 1024) (View.ld (Val := Elt Ideal) (iblk m c 5 t) (Rect.unit ![0, 0] ![1408, 1024] inb_S2816x1024_S1408x1024_0_0)) A.wd := by
  intro a k
  pointwise []
  exact blk_wd G t ⟨a.val, by omega⟩ k

/-- The down projection's other rows. -/
theorem down1 : Is (n := 1408) (k := 1024) (View.ld (Val := Elt Ideal) (iblk m c 5 t) (Rect.unit ![1408, 0] ![1408, 1024] inb_S2816x1024_S1408x1024_1408_0)) fun j => A.wd (1408 + j) := by
  intro a k
  pointwise []
  exact blk_wd G t ⟨1408 + a, by omega⟩ k

/-- What the first tile of grid point `t` loads. -/
theorem loads0 : Tile A (512 * t.val)
    (View.ld (Val := Elt Ideal) (iblk m c 0 t) (Rect.unit ![0, 0] ![256, 1024] inb_S512x1024_S256x1024_0_0))
    (iblk m c 1 t) (iblk m c 2 t) (iblk m c 3 t) (iblk m c 4 t)
    (View.ld (Val := Elt Ideal) (iblk m c 5 t) (Rect.unit ![0, 0] ![1408, 1024] inb_S2816x1024_S1408x1024_0_0))
    (View.ld (Val := Elt Ideal) (iblk m c 5 t) (Rect.unit ![1408, 0] ![1408, 1024] inb_S2816x1024_S1408x1024_1408_0))
    (View.ld (Val := Elt Ideal) (iblk m c 6 t) (Rect.unit ![0, 0] ![256, 1024] inb_S512x1024_S256x1024_0_0))
    (View.ld (Val := Elt Ideal) (iblk m c 8 t) (Rect.unit ![0, 0] ![256, 1024] inb_S512x1024_S256x1024_0_0))
    (iblk m c 7 t) := by
  refine ⟨?_, blk_shard0 G t, blk_shard1 G t, blk_shard2 G t, shard3 G t, down0 G t, down1 G t, ?_, ?_, blk_g G t⟩
  · intro a k
    pointwise []
    refine (blk_h G t ⟨a.val, by omega⟩ k).trans ?_
    simp only [Nat.add_assoc, Nat.zero_add]
  · intro a k
    pointwise []
    refine (blk_x G t ⟨a.val, by omega⟩ k).trans ?_
    simp only [Nat.add_assoc, Nat.zero_add]
  · intro a k
    pointwise []
    refine (blk_target G t ⟨a.val, by omega⟩ k).trans ?_
    simp only [Nat.add_assoc, Nat.zero_add]

/-- What the second tile of grid point `t` loads. -/
theorem loads1 : Tile A (512 * t.val + 256)
    (View.ld (Val := Elt Ideal) (iblk m c 0 t) (Rect.unit ![256, 0] ![256, 1024] inb_S512x1024_S256x1024_256_0))
    (iblk m c 1 t) (iblk m c 2 t) (iblk m c 3 t) (iblk m c 4 t)
    (View.ld (Val := Elt Ideal) (iblk m c 5 t) (Rect.unit ![0, 0] ![1408, 1024] inb_S2816x1024_S1408x1024_0_0))
    (View.ld (Val := Elt Ideal) (iblk m c 5 t) (Rect.unit ![1408, 0] ![1408, 1024] inb_S2816x1024_S1408x1024_1408_0))
    (View.ld (Val := Elt Ideal) (iblk m c 6 t) (Rect.unit ![256, 0] ![256, 1024] inb_S512x1024_S256x1024_256_0))
    (View.ld (Val := Elt Ideal) (iblk m c 8 t) (Rect.unit ![256, 0] ![256, 1024] inb_S512x1024_S256x1024_256_0))
    (iblk m c 7 t) := by
  refine ⟨?_, blk_shard0 G t, blk_shard1 G t, blk_shard2 G t, shard3 G t, down0 G t, down1 G t, ?_, ?_, blk_g G t⟩
  · intro a k
    pointwise []
    refine (blk_h G t ⟨256 + a, by omega⟩ k).trans ?_
    simp only [Nat.add_assoc, Nat.zero_add]
  · intro a k
    pointwise []
    refine (blk_x G t ⟨256 + a, by omega⟩ k).trans ?_
    simp only [Nat.add_assoc, Nat.zero_add]
  · intro a k
    pointwise []
    refine (blk_target G t ⟨256 + a, by omega⟩ k).trans ?_
    simp only [Nat.add_assoc, Nat.zero_add]
end

end Cert.Loss.Kernel

end
-- ==== Proof.LossOuts.lean ====
/- What a grid point of the forward and loss kernel leaves in its output blocks, and the arrays that the kernel leaves: its rows of the
   four arrays that have a row for each token, and the scale's gradient and the loss, which the points add up one after the other. -/
module

public import proofs.«01_k».proof.Proof.LossTile
public import proofs.«01_k».proof.Proof.Sums

@[expose] public section

set_option maxRecDepth 16384

noncomputable section

namespace Cert.Loss.Kernel

open Idealize.ShloMosaic Idealize.ShloMosaic.TcCoe Idealize.SL.Sem
open Cert.Kernel5Ideal Cert.Kernel5Ideal.Gen Cert.Ffn
open Cert.Ffn.Kernel (Is Is3 rowSum sum_tiles)

variable {m : (ℓ : Loc nD τ sig) → Buf (Elt Ideal) ℓ} {c : Dev nD} {A : Loss.Args}

/-- A grid point is the first or a later one. -/
theorem first_or_later (t : Fin cfg0.N) : (t.val % 8 = 0 ∧ ¬1 ≤ t.val) ∨ (¬t.val % 8 = 0 ∧ 1 ≤ t.val) := by
  have hN : t.val < 8 := lt_of_lt_of_eq t.isLt N_0
  omega

/-- The two derivatives of the gated activation, a plane for each. -/
def planes (A : Loss.Args) (p i j : ℕ) : ℝ := if p = 0 then A.d0 i j else A.d1 i j

/-- Its rows of the residual stream's cotangent. -/
theorem out11 (G : Given m c A) (t : Fin cfg0.N) (y : S512x1024.Idx) :
    (outsAt0 m c t.val t.isLt).2.2.1 y = ((A.dx (512 * t.val + (y 0).val) (y 1).val : ℝ) : EReal) := by
  rcases first_or_later t with ⟨k0, k1⟩ | ⟨k0, k1⟩
  all_goals
    first
      | rw [outsAt0_A m c t k0 k1 k0 k1]
      | rw [outsAt0_B m c t k0 k1 k0 k1]
    frame_out
    canon_tiles x h
    case piece0 =>
      idx_vars x
      exact (tile1_dx (loads1 G t) _ _).trans (by simp only [h0, h1, Nat.add_assoc])
    case piece1 =>
      idx_vars x
      exact (tile0_dx (loads0 G t) _ _).trans (by simp only [h0, h1, Nat.zero_add])

/-- Its rows of the down projection's cotangent. -/
theorem out12 (G : Given m c A) (t : Fin cfg0.N) (y : S512x1024.Idx) :
    (outsAt0 m c t.val t.isLt).2.2.2.1 y = ((A.df (512 * t.val + (y 0).val) (y 1).val : ℝ) : EReal) := by
  rcases first_or_later t with ⟨k0, k1⟩ | ⟨k0, k1⟩
  all_goals
    first
      | rw [outsAt0_A m c t k0 k1 k0 k1]
      | rw [outsAt0_B m c t k0 k1 k0 k1]
    frame_out
    canon_tiles x h
    case piece0 =>
      idx_vars x
      exact (tile1_df (loads1 G t) _ _).trans (by simp only [h0, h1, Nat.add_assoc])
    case piece1 =>
      idx_vars x
      exact (tile0_df (loads0 G t) _ _).trans (by simp only [h0, h1, Nat.zero_add])

/-- Its rows of the gated activation. -/
theorem out10 (G : Given m c A) (t : Fin cfg0.N) (y : S512x2816.Idx) :
    (outsAt0 m c t.val t.isLt).2.1 y = ((A.act (512 * t.val + (y 0).val) (y 1).val : ℝ) : EReal) := by
  rcases first_or_later t with ⟨k0, k1⟩ | ⟨k0, k1⟩
  all_goals
    first
      | rw [outsAt0_A m c t k0 k1 k0 k1]
      | rw [outsAt0_B m c t k0 k1 k0 k1]
    frame_out
    canon_tiles x h
    case piece0 =>
      idx_vars x
      exact (tile1_act1 (loads1 G t) _ _).trans (by simp only [h0, h1, Nat.add_assoc])
    case piece1 =>
      idx_vars x
      exact (tile1_act0 (loads1 G t) _ _).trans (by simp only [h0, h1, Nat.add_assoc, Nat.zero_add])
    case piece2 =>
      idx_vars x
      exact (tile0_act1 (loads0 G t) _ _).trans (by simp only [h0, h1, Nat.zero_add])
    case piece3 =>
      idx_vars x
      exact (tile0_act0 (loads0 G t) _ _).trans (by simp only [h0, h1, Nat.zero_add])

/-- Its rows of the two derivatives. -/
theorem out9 (G : Given m c A) (t : Fin cfg0.N) (y : S2x512x2816.Idx) :
    (outsAt0 m c t.val t.isLt).1 y = ((planes A (y 0).val (512 * t.val + (y 1).val) (y 2).val : ℝ) : EReal) := by
  have d0 : ∀ i j, planes A 0 i j = A.d0 i j := fun i j => if_pos rfl
  have d1 : ∀ i j, planes A 1 i j = A.d1 i j := fun i j => if_neg Nat.one_ne_zero
  rcases first_or_later t with ⟨k0, k1⟩ | ⟨k0, k1⟩
  all_goals
    first
      | rw [outsAt0_A m c t k0 k1 k0 k1]
      | rw [outsAt0_B m c t k0 k1 k0 k1]
    frame_out
    canon_tiles x h
    all_goals
      idx_vars x
      obtain rfl : x0 = 0 := Subsingleton.elim _ _
      simp only [Fin.val_zero, Nat.add_zero] at h0
      rw [h0, h1, h2]
      simp only [d0, d1]
    case piece0 => exact (tile1_u1 (loads1 G t) _ _).trans (by simp only [Nat.add_assoc])
    case piece1 => exact (tile1_s1 (loads1 G t) _ _).trans (by simp only [Nat.add_assoc])
    case piece2 => exact (tile1_u0 (loads1 G t) _ _).trans (by simp only [Nat.add_assoc, Nat.zero_add])
    case piece3 => exact (tile1_s0 (loads1 G t) _ _).trans (by simp only [Nat.add_assoc, Nat.zero_add])
    case piece4 => exact (tile0_u1 (loads0 G t) _ _).trans (by simp only [Nat.zero_add])
    case piece5 => exact (tile0_s1 (loads0 G t) _ _).trans (by simp only [Nat.zero_add])
    case piece6 => exact (tile0_u0 (loads0 G t) _ _).trans (by simp only [Nat.zero_add])
    case piece7 => exact (tile0_s0 (loads0 G t) _ _).trans (by simp only [Nat.zero_add])

/-- The last grid point. -/
abbrev lastPoint : Fin cfg0.N := ⟨7, by have : cfg0.N = 8 := N_0; omega⟩

/-- The scale's gradient after the last point. -/
theorem sum_dg (G : Given m c A) (k : Fin 1024) :
    (outsAt0 m c lastPoint.val lastPoint.isLt).2.2.2.2.1 (ix2 0 k) = ((A.dg k.val : ℝ) : EReal) := by
  have part : ∀ (t : Fin cfg0.N) (a : Fin 1) (k : Fin 1024), _ := fun t a k => tiles_dg (loads1 G t) (tile0_dg (loads0 G t)) a k
  rw [Pipeline.eq_sum_fin_of_reset_step_apply_last (fun n h => (outsAt0 m c n h).2.2.2.2.1) 8 (fun _ => 0)
    (fun p j => ((((∑ a : Fin 256, A.dx (512 * p + a) (j 1).val * hat (A.f (512 * p + a)) (j 1).val) + ∑ a : Fin 256, A.dx (512 * p + 256 + a) (j 1).val * hat (A.f (512 * p + 256 + a)) (j 1).val : ℝ)) : EReal)) ?_ ?_ (le_of_eq N_0) lastPoint rfl (ix2 0 k), zero_add, coe_sum]
  · exact congrArg _ (sum_tiles fun i => A.dx i k.val * hat (A.f i) k.val)
  · intro t k0 j
    have hN : t.val < 8 := lt_of_lt_of_eq t.isLt N_0
    have k1 : ¬1 ≤ t.val := by omega
    rw [zero_add, outsAt0_A m c t k0 k1 k0 k1]
    frame_out
    idx_vars j
    exact part t j0 j1
  · intro t k0 j
    have hN : t.val < 8 := lt_of_lt_of_eq t.isLt N_0
    have k1 : 1 ≤ t.val := by omega
    rw [outsAt0_B m c t k0 k1 k0 k1]
    frame_out
    idx_vars j
    refine (pay55_at ..).trans ?_
    exact congrArg _ (part t j0 j1)

/-- A tile's part of the loss, row by row. -/
theorem tileLoss_rows (A : Loss.Args) (R : ℕ) : tileLoss (fun a => A.err (R + a)) = ∑ a : Fin 256, A.sq (R + a) * (1 / 2048) := by
  rw [← Finset.sum_mul]
  rfl

/-- The loss after the last point, in every place of the block. -/
theorem sum_loss (G : Given m c A) (a : Fin 8) (k : Fin 128) :
    (outsAt0 m c lastPoint.val lastPoint.isLt).2.2.2.2.2 (ix2 a k) = ((A.total : ℝ) : EReal) := by
  have part : ∀ (t : Fin cfg0.N) (a : Fin 8) (k : Fin 128), _ := fun t a k => tiles_loss (loads1 G t) (tile0_loss (loads0 G t)) a k
  simp only [tileLoss_rows] at part
  rw [Pipeline.eq_sum_fin_of_reset_step_apply_last (fun n h => (outsAt0 m c n h).2.2.2.2.2) 8 (fun _ => 0)
    (fun p j => ((((∑ a : Fin 256, A.sq (512 * p + a) * (1 / 2048)) + ∑ a : Fin 256, A.sq (512 * p + 256 + a) * (1 / 2048) : ℝ)) : EReal)) ?_ ?_ (le_of_eq N_0) lastPoint rfl (ix2 a k), zero_add, coe_sum]
  · exact congrArg _ (sum_tiles fun i => A.sq i * (1 / 2048))
  · intro t k0 j
    have hN : t.val < 8 := lt_of_lt_of_eq t.isLt N_0
    have k1 : ¬1 ≤ t.val := by omega
    rw [zero_add, outsAt0_A m c t k0 k1 k0 k1]
    frame_out
    idx_vars j
    exact part t j0 j1
  · intro t k0 j
    have hN : t.val < 8 := lt_of_lt_of_eq t.isLt N_0
    have k1 : 1 ≤ t.val := by omega
    rw [outsAt0_B m c t k0 k1 k0 k1]
    frame_out
    idx_vars j
    refine (pay1_at ..).trans ?_
    exact congrArg _ (part t j0 j1)

/-- The two derivatives of the gated activation. -/
theorem arr9 (G : Given m c A) : (dats m 0 c).arrAt 9 cfg0.N = fun i : S2x4096x2816.Idx => ((planes A (i 0).val (i 1).val (i 2).val : ℝ) : EReal) :=
  (dats m 0 c).arrAt_eq_of_covers 9 _ (by decide +kernel) fun t hf y => by
    blk_simp
    rw [after0_9, out9 G t]
    simp [idx_val t, Nat.mul_comm]

/-- The gated activation. -/
theorem arr10 (G : Given m c A) : (dats m 0 c).arrAt 10 cfg0.N = fun i : S4096x2816.Idx => ((A.act (i 0).val (i 1).val : ℝ) : EReal) :=
  (dats m 0 c).arrAt_eq_of_covers 10 _ (by decide +kernel) fun t hf y => by
    blk_simp
    rw [after0_10, out10 G t]
    simp [idx_val t, Nat.mul_comm]

/-- The residual stream's cotangent. -/
theorem arr11 (G : Given m c A) : (dats m 0 c).arrAt 11 cfg0.N = fun i : S4096x1024.Idx => ((A.dx (i 0).val (i 1).val : ℝ) : EReal) :=
  (dats m 0 c).arrAt_eq_of_covers 11 _ (by decide +kernel) fun t hf y => by
    blk_simp
    rw [after0_11, out11 G t]
    simp [idx_val t, Nat.mul_comm]

/-- The down projection's cotangent. -/
theorem arr12 (G : Given m c A) : (dats m 0 c).arrAt 12 cfg0.N = fun i : S4096x1024.Idx => ((A.df (i 0).val (i 1).val : ℝ) : EReal) :=
  (dats m 0 c).arrAt_eq_of_covers 12 _ (by decide +kernel) fun t hf y => by
    blk_simp
    rw [after0_12, out12 G t]
    simp [idx_val t, Nat.mul_comm]

/-- The scale's gradient. -/
theorem arr13 (G : Given m c A) : (dats m 0 c).arrAt 13 cfg0.N = fun i : S1x1024.Idx => ((A.dg (i 1).val : ℝ) : EReal) :=
  (dats m 0 c).arrAt_eq_of_after_last 13 t0_7 (by decide +kernel) _ fun j => by
    blk_simp
    rw [after0_13]
    idx_vars j
    obtain rfl : j0 = 0 := Subsingleton.elim _ _
    exact sum_dg G j1

/-- The loss. -/
theorem arr14 (G : Given m c A) : (dats m 0 c).arrAt 14 cfg0.N = fun _ : S8x128.Idx => ((A.total : ℝ) : EReal) :=
  (dats m 0 c).arrAt_eq_of_after_last 14 t0_7 (by decide +kernel) _ fun j => by
    blk_simp
    rw [after0_14]
    idx_vars j
    exact sum_loss G j0 j1

end Cert.Loss.Kernel

end
-- ==== Proof.LossRefVals.lean ====
/- What the forward and loss reference computes, stage by stage, on arguments that are real: the forward lines, the two derivatives of
   the gated activation, the loss and its gradient, read at an index and shown equal to the real formulas. -/
module

public import proofs.«01_k».proof.Proof.Gen.Reference5Ideal.Read
public import proofs.«01_k».proof.Proof.LossReals

@[expose] public section

noncomputable section

namespace Cert.Loss.Reference

open Cert.Reference5Ideal Cert.Reference5Ideal.Gen Cert.Reference5Ideal.Read Idealize.ShloMosaic Idealize.ShloMosaic.TcCoe Cert.Ffn

/-- The six argument arrays hold these real numbers. -/
structure Holds (A : Loss.Args) (x0 : (⟨S4096x1024, .f32⟩ : BufTy).Contents (Elt Ideal)) (x1 : (⟨S1024x5632, .f32⟩ : BufTy).Contents (Elt Ideal)) (x2 : (⟨S2816x1024, .f32⟩ : BufTy).Contents (Elt Ideal))
    (x3 : (⟨S4096x1024, .f32⟩ : BufTy).Contents (Elt Ideal)) (x4 : (⟨S1x1024, .f32⟩ : BufTy).Contents (Elt Ideal)) (x5 : (⟨S4096x1024, .f32⟩ : BufTy).Contents (Elt Ideal)) : Prop where
  h_at : ∀ i, x0 i = ((A.h (i 0).val (i 1).val : ℝ) : EReal)
  wgu_at : ∀ i, x1 i = ((A.wgu (i 0).val (i 1).val : ℝ) : EReal)
  wd_at : ∀ i, x2 i = ((A.wd (i 0).val (i 1).val : ℝ) : EReal)
  x_at : ∀ i, x3 i = ((A.x (i 0).val (i 1).val : ℝ) : EReal)
  g_at : ∀ i, x4 i = ((A.g (i 1).val : ℝ) : EReal)
  target_at : ∀ i, x5 i = ((A.target (i 0).val (i 1).val : ℝ) : EReal)

variable {A : Loss.Args} {x0 : (⟨S4096x1024, .f32⟩ : BufTy).Contents (Elt Ideal)} {x1 : (⟨S1024x5632, .f32⟩ : BufTy).Contents (Elt Ideal)} {x2 : (⟨S2816x1024, .f32⟩ : BufTy).Contents (Elt Ideal)}
    {x3 : (⟨S4096x1024, .f32⟩ : BufTy).Contents (Elt Ideal)} {x4 : (⟨S1x1024, .f32⟩ : BufTy).Contents (Elt Ideal)} {x5 : (⟨S4096x1024, .f32⟩ : BufTy).Contents (Elt Ideal)}

/-- The up projection. -/
theorem v0_at (H : Holds A x0 x1 x2 x3 x4 x5) (i : S4096x5632.Idx) : val_main_v0 (F := Ideal) x0 x1 i = ((A.gu (i 0).val (i 1).val : ℝ) : EReal) := by
  rw [val_main_v0_apply]
  simp only [H.h_at, H.wgu_at, ← EReal.coe_mul, coe_sum]
  rfl

/-- The gate. -/
theorem v1_at (H : Holds A x0 x1 x2 x3 x4 x5) (i : S4096x2816.Idx) : val_main_v1 (F := Ideal) x0 x1 i = ((A.gate (i 0).val (i 1).val : ℝ) : EReal) := by
  rw [val_main_v1_apply, v0_at H]
  rfl

/-- The other half of the up projection. -/
theorem v3_at (H : Holds A x0 x1 x2 x3 x4 x5) (i : S4096x2816.Idx) : val_main_v3 (F := Ideal) x0 x1 i = ((A.up (i 0).val (i 1).val : ℝ) : EReal) := by
  rw [val_main_v3_apply, v0_at H]
  rfl

/-- The logistic function of the gate. -/
theorem v2_2_at (H : Holds A x0 x1 x2 x3 x4 x5) (i : S4096x2816.Idx) : val_main_v2_2 (F := Ideal) x0 x1 i = ((sg (A.gate (i 0).val (i 1).val) : ℝ) : EReal) := by
  rw [val_main_v2_2_apply, val_main_call0_v4_apply, val_main_call0_cst_0_apply, val_main_call0_v3_apply, val_main_call0_v2_apply, val_main_call0_cst_apply, val_main_call0_v1_apply, val_main_call0_v0_apply, v1_at H, Ideal.ofBits_def, word_one]
  simp only [Ideal.hostNegf_def, Ideal.negf_def, Ideal.hostUnary_exp_def, Ideal.addf_def, Ideal.hostDivf_def, EReal.coe_one]
  exact logistic _

/-- The derivative of the logistic function. -/
theorem v2_1_at (H : Holds A x0 x1 x2 x3 x4 x5) (i : S4096x2816.Idx) :
    val_main_v2_1 (F := Ideal) x0 x1 i = ((sg (A.gate (i 0).val (i 1).val) * (1 - sg (A.gate (i 0).val (i 1).val)) : ℝ) : EReal) := by
  rw [val_main_v2_1_apply, val_main_call0_v7_apply, val_main_call0_v6_apply, val_main_call0_cst_1_apply, v2_2_at H, Ideal.ofBits_def, word_one, Ideal.subf_def, Ideal.mulf_def, ← EReal.coe_sub, ← EReal.coe_mul]

/-- The gate times its logistic function. -/
theorem v2_0_at (H : Holds A x0 x1 x2 x3 x4 x5) (i : S4096x2816.Idx) : val_main_v2_0 (F := Ideal) x0 x1 i = ((A.d1 (i 0).val (i 1).val : ℝ) : EReal) := by
  rw [val_main_v2_0_apply, v1_at H, v2_2_at H, Ideal.mulf_def, ← EReal.coe_mul]
  rfl

/-- The gated activation. -/
theorem v4_at (H : Holds A x0 x1 x2 x3 x4 x5) (i : S4096x2816.Idx) : val_main_v4 (F := Ideal) x0 x1 i = ((A.act (i 0).val (i 1).val : ℝ) : EReal) := by
  rw [val_main_v4_apply, v2_0_at H, v3_at H, Ideal.mulf_def, ← EReal.coe_mul]
  rfl

/-- The derivative in the other half: the cotangent is one everywhere. -/
theorem v6_at (H : Holds A x0 x1 x2 x3 x4 x5) (i : S4096x2816.Idx) : val_main_v6 (F := Ideal) x0 x1 i = ((A.d1 (i 0).val (i 1).val : ℝ) : EReal) := by
  rw [val_main_v6_apply, v2_0_at H, val_main_v5_apply, val_main_cst_apply, Ideal.mulf_def, Ideal.ofBits_def, word_one, ← EReal.coe_mul, mul_one]

/-- The derivative in the gate. -/
theorem v9_at (H : Holds A x0 x1 x2 x3 x4 x5) (i : S4096x2816.Idx) : val_main_v9 (F := Ideal) x0 x1 i = ((A.d0 (i 0).val (i 1).val : ℝ) : EReal) := by
  rw [val_main_v9_apply, val_main_call1_v2_apply, val_main_call1_v1_apply, val_main_call1_v0_apply, val_main_v7_apply, v1_at H, v2_1_at H, v2_2_at H, v3_at H, val_main_v5_apply, val_main_cst_apply]
  simp only [Ideal.mulf_def, Ideal.addf_def, Ideal.ofBits_def, word_one, ← EReal.coe_mul, ← EReal.coe_add]
  refine congrArg _ ?_
  unfold Args.d0 slope
  ring

/-- The two derivatives side by side. -/
theorem v11_at (H : Holds A x0 x1 x2 x3 x4 x5) (i : S4096x5632.Idx) :
    val_main_v11 (F := Ideal) x0 x1 i = ((if (i 1).val < 2816 then A.d0 (i 0).val (i 1).val else A.d1 (i 0).val ((i 1).val - 2816) : ℝ) : EReal) := by
  rw [val_main_v11_apply]
  unfold val_main_v8 val_main_v10
  obtain ⟨a, b, rfl⟩ : ∃ (a : Fin 4096) (b : Fin 5632), i = ix2 a b := ⟨i 0, i 1, by funext q; match q with | ⟨0, _⟩ => rfl | ⟨1, _⟩ => rfl⟩
  pointwise []
  show _ = ((if b.val < 2816 then A.d0 a.val b.val else A.d1 a.val (b.val - 2816) : ℝ) : EReal)
  have hb := b.isLt
  by_cases h : b.val < 2816
  · rw [dif_neg (by omega), dif_pos h, if_pos h, val_main_cst_0_apply, v9_at H, Ideal.ofBits_def, word_zero, ← EReal.coe_add, zero_add]
    rfl
  · rw [dif_pos ⟨by omega, by omega⟩, dif_neg h, if_neg h, val_main_cst_1_apply, v6_at H, Ideal.ofBits_def, word_zero, ← EReal.coe_add, add_zero]
    rfl

/-- The two derivatives, stacked. -/
theorem v68_at (H : Holds A x0 x1 x2 x3 x4 x5) (i : S2x4096x2816.Idx) :
    val_main_v68 (F := Ideal) x0 x1 i = ((if (i 0).val = 0 then A.d0 (i 1).val (i 2).val else A.d1 (i 1).val (i 2).val : ℝ) : EReal) := by
  rw [val_main_v68_apply, Ideal.truncf_def]
  unfold val_main_v67
  obtain ⟨s, a, b, rfl⟩ : ∃ (s : Fin 2) (a : Fin 4096) (b : Fin 2816), i = ix3 s a b := ⟨i 0, i 1, i 2, by funext q; match q with | ⟨0, _⟩ => rfl | ⟨1, _⟩ => rfl | ⟨2, _⟩ => rfl⟩
  pointwise []
  show _ = ((if s.val = 0 then A.d0 a.val b.val else A.d1 a.val b.val : ℝ) : EReal)
  have hs := s.isLt
  have hb := b.isLt
  by_cases h : s.val < 1
  · rw [dif_pos h, val_main_v65_apply, val_main_v63_apply, v11_at H, if_pos (by omega : s.val = 0)]
    exact congrArg _ (if_pos hb)
  · rw [dif_neg h, val_main_v66_apply, val_main_v64_apply, v11_at H, if_neg (by omega : ¬s.val = 0)]
    refine congrArg _ ((if_neg (by show ¬2816 + b.val < 2816; omega)).trans ?_)
    show A.d1 a.val (2816 + b.val - 2816) = A.d1 a.val b.val
    rw [Nat.add_sub_cancel_left]

/-- The gated activation, rounded. -/
theorem v69_at (H : Holds A x0 x1 x2 x3 x4 x5) (i : S4096x2816.Idx) : val_main_v69 (F := Ideal) x0 x1 i = ((A.act (i 0).val (i 1).val : ℝ) : EReal) := by
  rw [val_main_v69_apply, v4_at H, Ideal.truncf_def]

/-- The down projection. -/
theorem v12_at (H : Holds A x0 x1 x2 x3 x4 x5) (i : S4096x1024.Idx) : val_main_v12 (F := Ideal) x0 x1 x2 i = ((A.f (i 0).val (i 1).val : ℝ) : EReal) := by
  rw [val_main_v12_apply]
  simp only [v4_at H, H.wd_at, ← EReal.coe_mul, coe_sum]
  rfl

/-- A row's mean square plus the small number. -/
theorem v19_at (H : Holds A x0 x1 x2 x3 x4 x5) (i : S4096x1.Idx) : val_main_v19 (F := Ideal) x0 x1 x2 i = ((ms (A.f (i 0).val) : ℝ) : EReal) := by
  rw [val_main_v19_apply, val_main_v17_apply, val_main_v15_apply, val_main_v14_apply, val_main_cst_2_apply, val_main_v16_apply, val_main_cst_3_apply, val_main_v18_apply, val_main_cst_4_apply]
  simp only [val_main_v13_apply, v12_at H, Ideal.mulf_def, Ideal.addf_def, Ideal.hostDivf_def, Ideal.ofBits_def, word_zero, word_rows, word_eps, ← EReal.coe_mul, coe_sum]
  rw [← EReal.coe_add, Ideal.div_coe (by norm_num), ← EReal.coe_mul, ← EReal.coe_add]
  refine congrArg _ ?_
  unfold ms
  rw [zero_add, mul_one_div]

/-- A row's reciprocal root mean square. -/
theorem v20_at (H : Holds A x0 x1 x2 x3 x4 x5) (i : S4096x1.Idx) : val_main_v20 (F := Ideal) x0 x1 x2 i = ((rinv (A.f (i 0).val) : ℝ) : EReal) := by
  rw [val_main_v20_apply, v19_at H, Ideal.hostUnary_rsqrt_def, Ideal.rsqrt_coe, if_neg (not_lt.mpr (ms_pos _).le), if_neg (ms_pos _).ne']
  rfl

/-- The derivative of the reciprocal root in the mean square. -/
theorem v23_at (H : Holds A x0 x1 x2 x3 x4 x5) (i : S4096x1.Idx) :
    val_main_v23 (F := Ideal) x0 x1 x2 i = ((-(1 / 2) * (rinv (A.f (i 0).val) / ms (A.f (i 0).val)) : ℝ) : EReal) := by
  rw [val_main_v23_apply, val_main_v22_apply, val_main_cst_5_apply, val_main_v21_apply, v20_at H, v19_at H, Ideal.hostDivf_def, Ideal.div_coe (ms_pos _).ne', Ideal.mulf_def, Ideal.ofBits_def, word_half, ← EReal.coe_mul, ← EReal.coe_mul, mul_one_div]

/-- The normalised row. -/
theorem v25_at (H : Holds A x0 x1 x2 x3 x4 x5) (i : S4096x1024.Idx) : val_main_v25 (F := Ideal) x0 x1 x2 i = ((hat (A.f (i 0).val) (i 1).val : ℝ) : EReal) := by
  rw [val_main_v25_apply, val_main_v24_apply, v12_at H, v20_at H, Ideal.mulf_def, ← EReal.coe_mul]
  rfl

/-- How far the output is from the target. -/
theorem v29_at (H : Holds A x0 x1 x2 x3 x4 x5) (i : S4096x1024.Idx) : val_main_v29 (F := Ideal) x0 x1 x2 x3 x4 x5 i = ((A.err (i 0).val (i 1).val : ℝ) : EReal) := by
  rw [val_main_v29_apply, val_main_v28_apply, val_main_v27_apply, val_main_v26_apply, v25_at H, H.x_at, H.g_at, H.target_at, Ideal.mulf_def, Ideal.addf_def, Ideal.subf_def, ← EReal.coe_mul, ← EReal.coe_add, ← EReal.coe_sub]
  rfl

/-- A row's mean squared distance. -/
theorem v35_at (H : Holds A x0 x1 x2 x3 x4 x5) (i : S4096.Idx) : val_main_v35 (F := Ideal) x0 x1 x2 x3 x4 x5 i = ((A.sq (i 0).val * (1 / 1024) : ℝ) : EReal) := by
  rw [val_main_v35_apply, val_main_v33_apply, val_main_cst_7_apply, val_main_v34_apply, val_main_cst_8_apply]
  simp only [val_main_v30_apply, v29_at H, Ideal.mulf_def, Ideal.hostDivf_def, Ideal.ofBits_def, word_zero, word_rows, ← EReal.coe_mul, coe_sum]
  rw [← EReal.coe_add, Ideal.div_coe (by norm_num), ← EReal.coe_mul, zero_add]
  rfl

/-- The loss. -/
theorem v71_at (H : Holds A x0 x1 x2 x3 x4 x5) (i : S8x128.Idx) : val_main_v71 (F := Ideal) x0 x1 x2 x3 x4 x5 i = ((A.total : ℝ) : EReal) := by
  rw [val_main_v71_apply, val_main_v37_apply, val_main_cst_10_apply, val_main_v36_apply, val_main_cst_9_apply, sum_idx1]
  simp only [v35_at H, Ideal.mulf_def, Ideal.ofBits_def, word_zero, word_pos_half, coe_sum]
  rw [← EReal.coe_add, ← EReal.coe_mul, zero_add, Finset.mul_sum]
  refine congrArg _ (Finset.sum_congr rfl fun r _ => ?_)
  show 1 / 2 * (A.sq r.val * (1 / 1024)) = A.sq r.val * (1 / 2048)
  ring

/-- The residual stream's cotangent. -/
theorem v43_at (H : Holds A x0 x1 x2 x3 x4 x5) (i : S4096x1024.Idx) : val_main_v43 (F := Ideal) x0 x1 x2 x3 x4 x5 i = ((A.dx (i 0).val (i 1).val : ℝ) : EReal) := by
  rw [val_main_v43_apply, val_main_v42_apply, val_main_v41_apply, val_main_v39_apply, val_main_v38_apply, val_main_cst_11_apply, val_main_cst_12_apply, val_main_v40_apply, val_main_cst_13_apply, val_main_v32_apply, val_main_v31_apply, val_main_cst_6_apply, v29_at H]
  simp only [Ideal.mulf_def, Ideal.hostDivf_def, Ideal.ofBits_def, word_one, word_two, word_rows, word_pos_half, ← EReal.coe_mul]
  rw [Ideal.div_coe (by norm_num), ← EReal.coe_mul, ← EReal.coe_mul]
  refine congrArg _ ?_
  unfold Args.dx
  ring

/-- The gradient in the scale. -/
theorem v46_at (H : Holds A x0 x1 x2 x3 x4 x5) (i : S1x1024.Idx) : val_main_v46 (F := Ideal) x0 x1 x2 x3 x4 x5 i = ((A.dg (i 1).val : ℝ) : EReal) := by
  rw [val_main_v46_apply, val_main_v45_apply, val_main_cst_14_apply]
  simp only [val_main_v44_apply, v25_at H, v43_at H, Ideal.mulf_def, Ideal.ofBits_def, word_zero, ← EReal.coe_mul, coe_sum]
  rw [← EReal.coe_add, zero_add]
  refine congrArg _ ?_
  unfold Args.dg
  have h0 : (i 0).val = 0 := by have h : (i 0).val < 1 := (i 0).isLt; omega
  simp only [h0, Nat.zero_mul, Nat.zero_add]
  exact Finset.sum_congr rfl fun k _ => mul_comm (hat _ _) (A.dx _ _)

/-- The cotangent times the scale. -/
theorem v48_at (H : Holds A x0 x1 x2 x3 x4 x5) (i : S4096x1024.Idx) :
    val_main_v48 (F := Ideal) x0 x1 x2 x3 x4 x5 i = ((A.dx (i 0).val (i 1).val * A.g (i 1).val : ℝ) : EReal) := by
  rw [val_main_v48_apply, val_main_v47_apply, v43_at H, H.g_at, Ideal.mulf_def, ← EReal.coe_mul]

/-- The part through the mean square, per row. -/
theorem v58_at (H : Holds A x0 x1 x2 x3 x4 x5) (i : S4096x1024.Idx) :
    val_main_v58 (F := Ideal) x0 x1 x2 x3 x4 x5 i = (((∑ j : Fin 1024, A.f (i 0).val j * (A.dx (i 0).val j * A.g j)) * (-(1 / 2) * (rinv (A.f (i 0).val) / ms (A.f (i 0).val))) / 1024 : ℝ) : EReal) := by
  rw [val_main_v58_apply, val_main_v57_apply, val_main_cst_17_apply]
  simp only [val_main_v56_apply, val_main_v55_apply, val_main_cst_16_apply, val_main_v54_apply, val_main_v51_apply, val_main_v50_apply, val_main_cst_15_apply, val_main_v49_apply, v48_at H, v23_at H, v12_at H, Ideal.mulf_def, Ideal.ofBits_def, Ideal.hostDivf_def, word_zero, word_rows, ← EReal.coe_mul, coe_sum, ← EReal.coe_add, Ideal.div_coe (show (1024 : ℝ) ≠ 0 by norm_num), zero_add, mul_one_div, Finset.univ_unique, Finset.sum_singleton, Fin.default_eq_zero, Fin.isValue, Fin.val_zero, Nat.mul_one, Nat.add_zero]

/-- The down projection's cotangent. -/
theorem v70_at (H : Holds A x0 x1 x2 x3 x4 x5) (i : S4096x1024.Idx) : val_main_v70 (F := Ideal) x0 x1 x2 x3 x4 x5 i = ((A.df (i 0).val (i 1).val : ℝ) : EReal) := by
  rw [val_main_v70_apply, Ideal.truncf_def, val_main_v62_apply, val_main_v61_apply, val_main_v60_apply, val_main_v59_apply, val_main_v53_apply, val_main_v52_apply, v48_at H, v58_at H, v20_at H, v12_at H, Args.df, normBack_eq]
  simp only [Ideal.mulf_def, Ideal.addf_def, ← EReal.coe_mul, ← EReal.coe_add]

end Cert.Loss.Reference

end
-- ==== Proof.LossEquation.lean ====
/- The forward and loss call's equation: on finite arguments the idealized kernel and the idealized reference leave the same six arrays. -/
module

public import proofs.«01_k».proof.Defs
public import proofs.«01_k».proof.Proof.LossOuts
public import proofs.«01_k».proof.Proof.LossRefVals
public import proofs.«01_k».proof.Proof.Finite
public import proofs.«01_k».proof.Proof.Gen.Pre_finite5
public import proofs.«01_k».proof.Proof.Gen.Reference5Ideal
public import proofs.«01_k».proof.Proof.Gen.Reference5Ideal.Run

@[expose] public section

set_option maxRecDepth 16384

noncomputable section

namespace Cert.Loss

open Idealize.ShloMosaic Idealize.SL.Sem
open Cert.Ffn.Finite (real_of_all reals reals_at)

/-- The reference runs to the end and leaves its arguments and its counters alone: it declares no semaphore. -/
theorem frame_reference : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

section
open Cert.Pre_finite5
variable (x0 : FVec Ideal S4096x1024 .f32) (x1 : FVec Ideal S1024x5632 .f32) (x2 : FVec Ideal S2816x1024 .f32) (x3 : FVec Ideal S4096x1024 .f32)
  (x4 : FVec Ideal S1x1024 .f32) (x5 : FVec Ideal S4096x1024 .f32)

/-- The real arrays that the arguments hold. -/
def args : Args where
  h := reals x0
  wgu := reals x1
  wd := reals x2
  x := reals x3
  g := reals x4 0
  target := reals x5

/-- What the precondition says: the arguments hold the reals read off them. -/
theorem holds_of_finite (h : Cert.Pre_finite5.fn (F := Ideal) x0 x1 x2 x3 x4 x5 = fun _ => 1#1) : Reference.Holds (args x0 x1 x2 x3 x4 x5) x0 x1 x2 x3 x4 x5 := by
  have e := congrFun h (fun q => q.elim0)
  simp only [Cert.Pre_finite5.fn, Cert.Pre_finite5.fn_part1, andi] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  constructor
  · intro i; idx_vars i; exact reals_at x0 (real_of_all _ _ _ _ _ e0) _ _
  · intro i; idx_vars i; exact reals_at x1 (real_of_all _ _ _ _ _ e1) _ _
  · intro i; idx_vars i; exact reals_at x2 (real_of_all _ _ _ _ _ e2) _ _
  · intro i; idx_vars i; exact reals_at x3 (real_of_all _ _ _ _ _ e3) _ _
  · intro i; idx_vars i; obtain rfl : i0 = 0 := Subsingleton.elim _ _; exact reals_at x4 (real_of_all _ _ _ _ _ e4) _ _
  · intro i; idx_vars i; exact reals_at x5 (real_of_all _ _ _ _ _ e5) _ _
end

section
open Cert.Kernel5Ideal
variable (m : (ℓ : Loc nD τ sig) → Buf (Elt Ideal) ℓ) (c : Dev nD)

/-- The real arrays that a device's arguments hold. -/
abbrev argsOf : Args :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable {m} (hp : Cert.Pre_Kernel5Ideal_finite5 m)
include hp

/-- Under the precondition, the reference's reading of them. -/
theorem holds_of_pre : Reference.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) :=
  holds_of_finite _ _ _ _ _ _ (hp c)

/-- Under the precondition, the kernel's reading of them. -/
theorem given_of_pre : Kernel.Given m c (argsOf m c) where
  h_is a k := (holds_of_pre c hp).h_at (ix2 a k)
  wgu_is a k := (holds_of_pre c hp).wgu_at (ix2 a k)
  wd_is a k := (holds_of_pre c hp).wd_at (ix2 a k)
  x_is a k := (holds_of_pre c hp).x_at (ix2 a k)
  g_is a k := (holds_of_pre c hp).g_at (ix2 a k)
  target_is a k := (holds_of_pre c hp).target_at (ix2 a k)
end

/-- Both programs leave the real formulas' arrays. -/
theorem equation : Cert.algebraic_Kernel5Ideal_Reference5Ideal_pre_finite5 := by
  intro m ρ m' ρ' hp hagree
  refine ⟨fun c i => ((Kernel.planes (argsOf m c) (i 0).val (i 1).val (i 2).val : ℝ) : EReal),
    fun c i => (((argsOf m c).act (i 0).val (i 1).val : ℝ) : EReal), fun c i => (((argsOf m c).dx (i 0).val (i 1).val : ℝ) : EReal),
    fun c i => (((argsOf m c).df (i 0).val (i 1).val : ℝ) : EReal), fun c i => (((argsOf m c).dg (i 1).val : ℝ) : EReal),
    fun c _ => (((argsOf m c).total : ℝ) : EReal), ?_, ?_⟩
  · refine (θ_run Cert.Kernel5Ideal.defs _ _).mono (fun r h c => ?_) (Cert.Kernel5Ideal.Value.run_blocks (F := Ideal) m ρ)
    have G := given_of_pre c hp
    obtain ⟨h0, h1, h2, h3, h4, h5, hk⟩ := h c
    exact ⟨h0.trans (Kernel.arr9 G), h1.trans (Kernel.arr10 G), h2.trans (Kernel.arr11 G), h3.trans (Kernel.arr12 G), h4.trans (Kernel.arr13 G),
      h5.trans (Kernel.arr14 G), hk⟩
  · refine (θ_run Cert.Reference5Ideal.defs _ _).mono (fun r h c => ?_) (Cert.Reference5Ideal.Value.run (F := Ideal) m' ρ')
    have H := holds_of_pre c hp
    obtain ⟨a0, a1, a2, a3, a4, a5⟩ := hagree c
    obtain ⟨h0, h1, h2, h3, h4, h5, hk⟩ := h c
    rw [Cert.Reference5Ideal.Read.val_main_v68_eq, a0, a1] at h0
    rw [Cert.Reference5Ideal.Read.val_main_v69_eq, a0, a1] at h1
    rw [Cert.Reference5Ideal.Read.val_main_v43_eq, a0, a1, a2, a3, a4, a5] at h2
    rw [Cert.Reference5Ideal.Read.val_main_v70_eq, a0, a1, a2, a3, a4, a5] at h3
    rw [Cert.Reference5Ideal.Read.val_main_v46_eq, a0, a1, a2, a3, a4, a5] at h4
    rw [Cert.Reference5Ideal.Read.val_main_v71_eq, a0, a1, a2, a3, a4, a5] at h5
    exact ⟨h0.trans (funext (Reference.v68_at H)), h1.trans (funext (Reference.v69_at H)), h2.trans (funext (Reference.v43_at H)),
      h3.trans (funext (Reference.v70_at H)), h4.trans (funext (Reference.v46_at H)), h5.trans (funext (Reference.v71_at H)), hk⟩

end Cert.Loss

end
-- ==== Proof.FfnUp.lean ====
/- The first layer's up projection with its gated activation: what each staged block of the kernel holds, what a grid point's two tiles
   of 256 rows compute, and the two arrays that the kernel leaves. The real formulas are those of the second layer's forward kernel. -/
module

public import proofs.«01_k».proof.Proof.Gen.Kernel6Ideal.Value
public import proofs.«01_k».proof.Proof.LossOuts

@[expose] public section

set_option maxRecDepth 16384

noncomputable section

namespace Cert.FfnUp.Kernel

open Idealize.ShloMosaic Idealize.ShloMosaic.TcCoe Idealize.SL.Sem
open Cert.Kernel6Ideal Cert.Kernel6Ideal.Gen Cert.Ffn
open Cert.Ffn.Kernel (Is Is3)
open Cert.Loss (proj)
open Cert.Loss.Kernel (gated slopes silus planes)

/-- The two argument arrays hold these real numbers. -/
structure Given (m : (ℓ : Loc nD τ sig) → Buf (Elt Ideal) ℓ) (c : Dev nD) (A : Loss.Args) : Prop where
  h_is : Is (m ((c : Thread nD τ).loc main_arg0)) A.h
  wgu_is : Is (m ((c : Thread nD τ).loc main_arg1)) A.wgu

/-- Where each window's block lies, for all sixteen grid points. -/
theorem idx_val : ∀ t : Fin cfg0.N, win0_0.index t = ![t.val % 8, 0] ∧ win0_1.index t = ![t.val / 8, 0, 0] ∧ win0_2.index t = ![t.val / 8 + 2, 0, 0]
    ∧ win0_3.index t = ![0, t.val % 8, t.val / 8] ∧ win0_4.index t = ![t.val % 8, t.val / 8] :=
  (by decide +kernel : ∀ t : Fin grid0.N, _)

section blocks
variable {m : (ℓ : Loc nD τ sig) → Buf (Elt Ideal) ℓ} {c : Dev nD} {A : Loss.Args}

/-- The rows, converted. -/
theorem V_h (G : Given m c A) : Is (V m c main_v3) A.h := fun a k => by
  entry_read
  pointwise []
  exact G.h_is a k

/-- The up projection's weight in four column shards. -/
theorem V_wgu (G : Given m c A) (s : Fin 4) (k : Fin 1024) (j : Fin 1408) :
    (V m c main_v2 : FVec Ideal S4x1024x1408 .bf16) (ix3 s k j) = ((A.wgu k.val (s.val * 1408 + j.val) : ℝ) : EReal) := by
  entry_read
  pointwise []
  exact G.wgu_is k _

/-- The rows of this point. -/
theorem blk_h (G : Given m c A) (t : Fin cfg0.N) : Is (n := 512) (k := 1024) (iblk m c 0 t) fun a => A.h (512 * (t.val % 8) + a) := fun a k => by
  refine Eq.trans ?_ (V_h G ⟨512 * (t.val % 8) + a.val, by omega⟩ k)
  blk_point [iblk, V, idx_val t]

/-- The gate's column shard of this point. -/
theorem blk_gate (G : Given m c A) (t : Fin cfg0.N) : Is3 (n := 1024) (k := 1408) (iblk m c 1 t) fun k j => A.wgu k (t.val / 8 * 1408 + j) := fun k j => by
  have hN : t.val < 16 := lt_of_lt_of_eq t.isLt N_0
  refine Eq.trans ?_ (V_wgu G ⟨t.val / 8, by omega⟩ k j)
  blk_point [iblk, idx_val t]

/-- The other half's column shard of this point. -/
theorem blk_up (G : Given m c A) (t : Fin cfg0.N) : Is3 (n := 1024) (k := 1408) (iblk m c 2 t) fun k j => A.wgu k (2816 + (t.val / 8 * 1408 + j)) := fun k j => by
  have hN : t.val < 16 := lt_of_lt_of_eq t.isLt N_0
  refine Eq.trans ?_ ((V_wgu G ⟨t.val / 8 + 2, by omega⟩ k j).trans (congrArg (fun n => ((A.wgu k.val n : ℝ) : EReal)) ?_))
  · blk_point [iblk, idx_val t]
  · show (t.val / 8 + 2) * 1408 + j.val = 2816 + (t.val / 8 * 1408 + j.val)
    omega
end blocks

section tiles
variable {h w w' : ℕ → ℕ → ℝ} {v0 : FVec Ideal S512x1024 .bf16} {v3 v7 : FVec Ideal S1x1024x1408 .bf16} (h0 : Is (n := 512) (k := 1024) v0 h)
  (h3 : Is3 (n := 1024) (k := 1408) v3 w) (h7 : Is3 (n := 1024) (k := 1408) v7 w')
include h0

/-- The rows as the second tile reads them. -/
theorem pay8_is : Is (n := 512) (k := 1024) (k0_pay8 (F := Ideal) v0) h := by
  intro a k
  pointwise [k0_pay8]
  simp only [h0 _ _]

include h3

/-- First tile: the gate times its logistic function, as stored. -/
theorem pay14_is : Is3 (n := 256) (k := 1408) (k0_pay14 (F := Ideal) v0 v3) (silus h w) := by
  intro a j
  pointwise [k0_pay14, k0_pay12, k0_pay11, k0_pay9, k0_pay8]
  simp only [h0 _ _, h3 _ _, ← EReal.coe_mul, coe_sum, zero_sub, Loss.logistic]
  rfl

/-- Second tile: the same. -/
theorem pay6_is : Is3 (n := 256) (k := 1408) (k0_pay6 (F := Ideal) v0 v3) (silus (fun a => h (256 + a)) w) := by
  intro a j
  pointwise [k0_pay6, k0_pay4, k0_pay3, k0_pay1]
  simp only [h0 _ _, h3 _ _, ← EReal.coe_mul, coe_sum, zero_sub, Loss.logistic]
  rfl

include h7

/-- First tile: the derivative in the gate, as stored. -/
theorem pay13_is : Is3 (n := 256) (k := 1408) (k0_pay13 (F := Ideal) v0 v3 v7) (slopes h w w') := by
  intro a j
  pointwise [k0_pay13, k0_pay12, k0_pay11, k0_pay10, k0_pay9, k0_pay8]
  simp only [h0 _ _, h3 _ _, h7 _ _, ← EReal.coe_mul, coe_sum, zero_sub, Loss.logistic]
  simp only [← EReal.coe_one, ← EReal.coe_sub, ← EReal.coe_add, ← EReal.coe_mul]
  rfl

/-- Second tile: the same. -/
theorem pay5_is : Is3 (n := 256) (k := 1408) (k0_pay5 (F := Ideal) v0 v3 v7) (slopes (fun a => h (256 + a)) w w') := by
  intro a j
  pointwise [k0_pay5, k0_pay4, k0_pay3, k0_pay2, k0_pay1]
  simp only [h0 _ _, h3 _ _, h7 _ _, ← EReal.coe_mul, coe_sum, zero_sub, Loss.logistic]
  simp only [← EReal.coe_one, ← EReal.coe_sub, ← EReal.coe_add, ← EReal.coe_mul]
  rfl

/-- First tile: the gated activation. -/
theorem pay15_is : Is (n := 256) (k := 1408) (k0_pay15 (F := Ideal) v0 v3 v7) (gated h w w') := by
  intro a j
  pointwise [k0_pay15, k0_pay12, k0_pay11, k0_pay10, k0_pay9, k0_pay8]
  simp only [h0 _ _, h3 _ _, h7 _ _, ← EReal.coe_mul, coe_sum, zero_sub, Loss.logistic]
  rfl

/-- Second tile: the same. -/
theorem pay7_is : Is (n := 256) (k := 1408) (k0_pay7 (F := Ideal) v0 v3 v7) (gated (fun a => h (256 + a)) w w') := by
  intro a j
  pointwise [k0_pay7, k0_pay4, k0_pay3, k0_pay2, k0_pay1]
  simp only [h0 _ _, h3 _ _, h7 _ _, ← EReal.coe_mul, coe_sum, zero_sub, Loss.logistic]
  rfl
end tiles

variable {m : (ℓ : Loc nD τ sig) → Buf (Elt Ideal) ℓ} {c : Dev nD} {A : Loss.Args}

/-- A point's rows and columns of the two derivatives. -/
theorem out3 (G : Given m c A) (t : Fin cfg0.N) (y : S2x512x1408.Idx) :
    out0_3 (iblk m c 0 t) (iblk m c 1 t) (iblk m c 2 t) y
      = ((planes A (y 0).val (512 * (t.val % 8) + (y 1).val) (t.val / 8 * 1408 + (y 2).val) : ℝ) : EReal) := by
  have d0 : ∀ i j, planes A 0 i j = A.d0 i j := fun i j => if_pos rfl
  have d1 : ∀ i j, planes A 1 i j = A.d1 i j := fun i j => if_neg Nat.one_ne_zero
  unfold out0_3 k0_pay16
  frame_out
  canon_tiles x h
  all_goals
    idx_vars x
    obtain rfl : x0 = 0 := Subsingleton.elim _ _
    simp only [Fin.val_zero, Nat.add_zero] at h0
    rw [h0, h1, h2]
    simp only [d0, d1]
  case piece0 => exact (pay6_is (pay8_is (blk_h G t)) (blk_gate G t) _ _)
  case piece1 => exact (pay5_is (pay8_is (blk_h G t)) (blk_gate G t) (blk_up G t) _ _)
  case piece2 => exact (pay14_is (blk_h G t) (blk_gate G t) _ _)
  case piece3 => exact (pay13_is (blk_h G t) (blk_gate G t) (blk_up G t) _ _)

/-- A point's rows and columns of the gated activation. -/
theorem out4 (G : Given m c A) (t : Fin cfg0.N) (y : S512x1408.Idx) :
    out0_4 (iblk m c 0 t) (iblk m c 1 t) (iblk m c 2 t) y
      = ((A.act (512 * (t.val % 8) + (y 0).val) (t.val / 8 * 1408 + (y 1).val) : ℝ) : EReal) := by
  unfold out0_4 k0_pay16
  frame_out
  canon_tiles x h
  case piece0 =>
    idx_vars x
    exact (pay7_is (pay8_is (blk_h G t)) (blk_gate G t) (blk_up G t) _ _).trans (by simp only [h0, h1, Nat.zero_add]; rfl)
  case piece1 =>
    idx_vars x
    exact (pay15_is (blk_h G t) (blk_gate G t) (blk_up G t) _ _).trans (by simp only [h0, h1, Nat.zero_add]; rfl)

/-- The two derivatives. -/
theorem arr3 (G : Given m c A) : (dats m 0 c).arrAt 3 cfg0.N = fun i : S2x4096x2816.Idx => ((planes A (i 0).val (i 1).val (i 2).val : ℝ) : EReal) :=
  (dats m 0 c).arrAt_eq_of_covers 3 _ (by decide +kernel) fun t hf y => by
    blk_simp
    rw [after0_3, out3 G t]
    simp [idx_val t, Nat.mul_comm]

/-- The gated activation. -/
theorem arr4 (G : Given m c A) : (dats m 0 c).arrAt 4 cfg0.N = fun i : S4096x2816.Idx => ((A.act (i 0).val (i 1).val : ℝ) : EReal) :=
  (dats m 0 c).arrAt_eq_of_covers 4 _ (by decide +kernel) fun t hf y => by
    blk_simp
    rw [after0_4, out4 G t]
    simp [idx_val t, Nat.mul_comm]

end Cert.FfnUp.Kernel

end
-- ==== Proof.FfnUpEquation.lean ====
/- The first layer's up projection: the reference's arrays are those of the second layer's forward reference, and kernel and reference
   leave the same arrays. -/
module

public import proofs.«01_k».proof.Defs
public import proofs.«01_k».proof.Proof.FfnUp
public import proofs.«01_k».proof.Proof.LossRefVals
public import proofs.«01_k».proof.Proof.Finite
public import proofs.«01_k».proof.Proof.Gen.Reference6Ideal.Read
public import proofs.«01_k».proof.Proof.Gen.Pre_finite6

@[expose] public section

set_option maxRecDepth 16384

noncomputable section

namespace Cert.FfnUp

open Idealize.ShloMosaic Idealize.ShloMosaic.TcCoe Idealize.SL.Sem
open Cert.Ffn.Finite (real_of_all reals reals_at)

/-- The reference runs to the end and leaves its arguments and its counters alone: it declares no semaphore. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

section
open Cert.Kernel6Ideal
variable (x0 : FVec Ideal S4096x1024 .f32) (x1 : FVec Ideal S1024x5632 .f32)

/-- The two derivatives, stacked, are the second layer's formula. -/
theorem v17_eq : Cert.Reference6Ideal.Read.val_main_v17 (F := Ideal) x0 x1 = Cert.Reference5Ideal.Read.val_main_v68 (F := Ideal) x0 x1 := rfl

/-- The gated activation is the second layer's formula. -/
theorem v18_eq : Cert.Reference6Ideal.Read.val_main_v18 (F := Ideal) x0 x1 = Cert.Reference5Ideal.Read.val_main_v69 (F := Ideal) x0 x1 := rfl

/-- The real arrays that the two arguments hold; the other places of the second layer's formulas are zero. -/
def args : Loss.Args where
  h := reals x0
  wgu := reals x1
  wd _ _ := 0
  x _ _ := 0
  g _ := 0
  target _ _ := 0

/-- What the precondition says: the arguments hold the reals read off them. -/
theorem holds_of_finite (h : Cert.Pre_finite6.fn (F := Ideal) x0 x1 = fun _ => 1#1) :
    Loss.Reference.Holds (args x0 x1) x0 x1 (fun _ => ((0 : ℝ) : EReal)) (fun _ => ((0 : ℝ) : EReal)) (fun _ => ((0 : ℝ) : EReal)) (fun _ => ((0 : ℝ) : EReal)) := by
  have e := congrFun h (fun q => q.elim0)
  simp only [Cert.Pre_finite6.fn, andi] at e
  obtain ⟨e0, e1⟩ := IntOp.andi_eq_one.1 e
  constructor
  · intro i; idx_vars i; exact reals_at x0 (real_of_all _ _ _ _ _ e0) _ _
  · intro i; idx_vars i; exact reals_at x1 (real_of_all _ _ _ _ _ e1) _ _
  all_goals exact fun _ => rfl

variable (m : (ℓ : Loc nD τ sig) → Buf (Elt Ideal) ℓ) (c : Dev nD)

/-- The real arrays that a device's arguments hold. -/
abbrev argsOf : Loss.Args := args (m ((c.tc : Thread nD τ).loc main_arg0)) (m ((c.tc : Thread nD τ).loc main_arg1))

variable {m} (hp : Cert.Pre_Kernel6Ideal_finite6 m)
include hp

/-- Under the precondition, the kernel's reading of them. -/
theorem given_of_pre : Kernel.Given m c (argsOf m c) where
  h_is a k := (holds_of_finite _ _ (hp c)).h_at (ix2 a k)
  wgu_is a k := (holds_of_finite _ _ (hp c)).wgu_at (ix2 a k)
end

/-- Both programs leave the real formulas' arrays. -/
theorem equation : Cert.algebraic_Kernel6Ideal_Reference6Ideal_pre_finite6 := by
  intro m ρ m' ρ' hp hagree
  refine ⟨fun c i => ((Loss.Kernel.planes (argsOf m c) (i 0).val (i 1).val (i 2).val : ℝ) : EReal),
    fun c i => (((argsOf m c).act (i 0).val (i 1).val : ℝ) : EReal), ?_, ?_⟩
  · refine (θ_run Cert.Kernel6Ideal.defs _ _).mono (fun r h c => ?_) (Cert.Kernel6Ideal.Value.run_blocks (F := Ideal) m ρ)
    have G := given_of_pre c hp
    obtain ⟨h0, h1, hk⟩ := h c
    exact ⟨h0.trans (Kernel.arr3 G), h1.trans (Kernel.arr4 G), hk⟩
  · refine (θ_run Cert.Reference6Ideal.defs _ _).mono (fun r h c => ?_) (Cert.Reference6Ideal.Value.run (F := Ideal) m' ρ')
    have H := holds_of_finite _ _ (hp c)
    obtain ⟨a0, a1⟩ := hagree c
    obtain ⟨h0, h1, hk⟩ := h c
    rw [Cert.Reference6Ideal.Read.val_main_v17_eq, a0, a1, v17_eq] at h0
    rw [Cert.Reference6Ideal.Read.val_main_v18_eq, a0, a1, v18_eq] at h1
    exact ⟨h0.trans (funext (Loss.Reference.v68_at H)), h1.trans (funext (Loss.Reference.v69_at H)), hk⟩

end Cert.FfnUp

end
-- ==== Proof.DownNorm.lean ====
/- The first layer's down projection with its residual and the two normalisations, in extended reals and for any arguments: what a grid
   point's two tiles of 256 rows compute, the arrays that the kernel leaves, the reference's arrays, and that they are the same. -/
module

public import proofs.«01_k».proof.Defs
public import proofs.«01_k».proof.Proof.Gen.Kernel7Ideal.Value
public import proofs.«01_k».proof.Proof.Gen.Reference7Ideal.Read
public import proofs.«01_k».proof.Proof.Words
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Ffn

namespace Cert.DownNorm

/-- A row through the down projection. -/
def down (a : Fin 2816 → EReal) (w : Fin 2816 → Fin 1024 → EReal) (k : Fin 1024) : EReal := ∑ j : Fin 2816, a j * w j k

/-- A row's reciprocal root mean square. -/
def rms (y : Fin 1024 → EReal) : EReal := Ideal.rsqrt (Ideal.div (∑ k : Fin 1024, y k * y k) ((1024 : ℝ) : EReal) + ((eps : ℝ) : EReal))

/-- A row normalised and scaled. -/
def normed (y g : Fin 1024 → EReal) (k : Fin 1024) : EReal := y k * rms y * g k

/-- The residual stream's row after the projection's row is normalised and added. -/
def stream (y x g : Fin 1024 → EReal) (k : Fin 1024) : EReal := x k + normed y g k

section kernel
open Cert.Kernel7Ideal Cert.Kernel7Ideal.Gen

/-- What a tile loads: its rows of the activation and of the residual stream, the weight, a bias of zeros, and the first scale. -/
structure Tile (a : Fin 256 → Fin 2816 → EReal) (w : Fin 2816 → Fin 1024 → EReal) (x : Fin 256 → Fin 1024 → EReal) (g : Fin 1024 → EReal)
    (v0 : FVec Ideal S256x2816 .bf16) (v2 : FVec Ideal S2816x1024 .bf16) (v5 : FVec Ideal S1x1024 .f32) (v11 : FVec Ideal S256x1024 .f32)
    (v22 : FVec Ideal S1x1024 .f32) : Prop where
  a_at : ∀ (r : Fin 256) (j : Fin 2816), v0 (ix2 r j) = a r j
  w_at : ∀ (j : Fin 2816) (k : Fin 1024), v2 (ix2 j k) = w j k
  b_at : ∀ k : Fin 1024, v5 (ix2 0 k) = 0
  x_at : ∀ (r : Fin 256) (k : Fin 1024), v11 (ix2 r k) = x r k
  g_at : ∀ k : Fin 1024, v22 (ix2 0 k) = g k

section tile
variable {a : Fin 256 → Fin 2816 → EReal} {w : Fin 2816 → Fin 1024 → EReal} {x : Fin 256 → Fin 1024 → EReal} {g g' : Fin 1024 → EReal}
  {v0 : FVec Ideal S256x2816 .bf16} {v2 : FVec Ideal S2816x1024 .bf16} {v5 : FVec Ideal S1x1024 .f32} {v11 : FVec Ideal S256x1024 .f32}
  {v22 v37 : FVec Ideal S1x1024 .f32} (T : Tile a w x g v0 v2 v5 v11 v22)
include T

/-- The down projection: the bias adds nothing. -/
theorem pay2_at (r : Fin 256) (k : Fin 1024) : k0_pay2 (F := Ideal) v0 v2 v5 (ix2 r k) = down (a r) w k := by
  pointwise [k0_pay2]
  simp only [T.a_at, T.w_at, T.b_at, add_zero]
  rfl

/-- The same, rounded. -/
theorem pay3_at (r : Fin 256) (k : Fin 1024) : k0_pay3 (F := Ideal) v0 v2 v5 (ix2 r k) = down (a r) w k := by
  pointwise [k0_pay3]
  exact pay2_at T r k

/-- The residual stream. -/
theorem pay4_at (r : Fin 256) (k : Fin 1024) : k0_pay4 (F := Ideal) v0 v2 v5 v11 v22 (ix2 r k) = stream (down (a r) w) (x r) g k := by
  pointwise [k0_pay4]
  simp only [pay2_at T, T.x_at, T.g_at, word_rows, word_eps]
  rfl

/-- Its reciprocal root mean square, in every column. -/
theorem pay5_at (r : Fin 256) (k : Fin 1024) : k0_pay5 (F := Ideal) v0 v2 v5 v11 v22 (ix2 r k) = rms (stream (down (a r) w) (x r) g) := by
  pointwise [k0_pay5]
  simp only [pay4_at T, word_rows, word_eps]
  rfl

/-- The residual stream normalised and scaled. -/
theorem pay6_at (hg : ∀ k : Fin 1024, v37 (ix2 0 k) = g' k) (r : Fin 256) (k : Fin 1024) :
    k0_pay6 (F := Ideal) (k0_pay4 v0 v2 v5 v11 v22) (k0_pay5 v0 v2 v5 v11 v22) v37 (ix2 r k) = normed (stream (down (a r) w) (x r) g) g' k := by
  pointwise [k0_pay6]
  simp only [pay4_at T, pay5_at T, hg]
  rfl
end tile

/-- The second tile's rounded projection is the first tile's text. -/
theorem pay8_eq : k0_pay8 (F := Ideal) = k0_pay3 := rfl

/-- So is its residual stream. -/
theorem pay9_eq : k0_pay9 (F := Ideal) = k0_pay4 := rfl

/-- So is its normalised stream. -/
theorem pay1_eq (v0 : FVec Ideal S256x2816 .bf16) (v2 : FVec Ideal S2816x1024 .bf16) (v5 : FVec Ideal S1x1024 .f32) (v11 : FVec Ideal S256x1024 .f32)
    (v22 v37 : FVec Ideal S1x1024 .f32) : k0_pay1 (F := Ideal) (k0_pay9 v0 v2 v5 v11 v22) (k0_pay10 v0 v2 v5 v11 v22) v37
      = k0_pay6 (k0_pay4 v0 v2 v5 v11 v22) (k0_pay5 v0 v2 v5 v11 v22) v37 := rfl

/-- Where each window's block lies, for all eight grid points. -/
theorem idx_val : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The activation. -/
abbrev acts : FVec Ideal S4096x2816 .f32 := m ((c : Thread nD τ).loc main_arg0)

/-- The down projection's weight. -/
abbrev weight : FVec Ideal S2816x1024 .f32 := m ((c : Thread nD τ).loc main_arg1)

/-- The residual stream. -/
abbrev resid : FVec Ideal S4096x1024 .f32 := m ((c : Thread nD τ).loc main_arg2)

/-- The first scale. -/
abbrev scale : FVec Ideal S1x1024 .f32 := m ((c : Thread nD τ).loc main_arg3)

/-- The second scale. -/
abbrev scale' : FVec Ideal S1x1024 .f32 := m ((c : Thread nD τ).loc main_arg4)

/-- Row `i` of the projection. -/
def proj (x0 : FVec Ideal S4096x2816 .f32) (x1 : FVec Ideal S2816x1024 .f32) (i : Fin 4096) : Fin 1024 → EReal :=
  down (fun j => x0 (ix2 i j)) fun j k => x1 (ix2 j k)

/-- Row `i` of the new residual stream. -/
def sum (x0 : FVec Ideal S4096x2816 .f32) (x1 : FVec Ideal S2816x1024 .f32) (x2 : FVec Ideal S4096x1024 .f32) (x3 : FVec Ideal S1x1024 .f32) (i : Fin 4096) :
    Fin 1024 → EReal :=
  stream (proj x0 x1 i) (fun k => x2 (ix2 i k)) fun k => x3 (ix2 0 k)

/-- Row `i` of the new stream, normalised and scaled. -/
def next (x0 : FVec Ideal S4096x2816 .f32) (x1 : FVec Ideal S2816x1024 .f32) (x2 : FVec Ideal S4096x1024 .f32) (x3 x4 : FVec Ideal S1x1024 .f32) (i : Fin 4096) :
    Fin 1024 → EReal :=
  normed (sum x0 x1 x2 x3 i) fun k => x4 (ix2 0 k)

variable {m c}

/-- The activation, converted. -/
theorem V_acts (s : Fin 4096) (j : Fin 2816) : (V m c main_v1 : FVec Ideal S4096x2816 .bf16) (ix2 s j) = acts m c (ix2 s j) := by
  entry_read
  pointwise []

/-- The weight, converted. -/
theorem V_weight (j : Fin 2816) (k : Fin 1024) : (V m c main_v2 : FVec Ideal S2816x1024 .bf16) (ix2 j k) = weight m c (ix2 j k) := by
  entry_read
  pointwise []

/-- The bias. -/
theorem V_bias (k : Fin 1024) : (V m c main_v0 : FVec Ideal S1x1024 .f32) (ix2 0 k) = (0 : EReal) := by
  entry_read
  pointwise []

/-- Row `r` of grid point `t`'s block, as a row of the whole array. -/
abbrev row (t : Fin cfg0.N) (r : Fin 512) : Fin 4096 := ⟨512 * t.val + r.val, by have : t.val < 8 := lt_of_lt_of_eq t.isLt N_0; omega⟩

/-- A point's rows of the activation. -/
theorem blk_acts (t : Fin cfg0.N) (r : Fin 512) (j : Fin 2816) : (iblk m c 0 t : FVec Ideal S512x2816 .bf16) (ix2 r j) = acts m c (ix2 (row t r) j) := by
  refine Eq.trans ?_ (V_acts _ j)
  blk_point [iblk, V, idx_val t]

/-- All of the weight. -/
theorem blk_weight (t : Fin cfg0.N) (j : Fin 2816) (k : Fin 1024) : (iblk m c 1 t : FVec Ideal S2816x1024 .bf16) (ix2 j k) = weight m c (ix2 j k) := by
  refine Eq.trans ?_ (V_weight j k)
  blk_point [iblk, V, idx_val t]

/-- A point's rows of the residual stream. -/
theorem blk_resid (t : Fin cfg0.N) (r : Fin 512) (k : Fin 1024) : (iblk m c 2 t : FVec Ideal S512x1024 .f32) (ix2 r k) = resid m c (ix2 (row t r) k) := by
  blk_point [iblk, V, idx_val t]

/-- The bias. -/
theorem blk_bias (t : Fin cfg0.N) (k : Fin 1024) : (iblk m c 3 t : FVec Ideal S1x1024 .f32) (ix2 0 k) = (0 : EReal) := by
  refine Eq.trans ?_ (V_bias (m := m) (c := c) k)
  blk_point [iblk, V, idx_val t]

/-- The first scale. -/
theorem blk_scale (t : Fin cfg0.N) (k : Fin 1024) : (iblk m c 4 t : FVec Ideal S1x1024 .f32) (ix2 0 k) = scale m c (ix2 0 k) := by
  blk_point [iblk, V, idx_val t]

/-- The second scale. -/
theorem blk_scale' (t : Fin cfg0.N) (k : Fin 1024) : (iblk m c 5 t : FVec Ideal S1x1024 .f32) (ix2 0 k) = scale' m c (ix2 0 k) := by
  blk_point [iblk, V, idx_val t]

/-- What the first tile of a point loads. -/
theorem tile0 (t : Fin cfg0.N) : Tile (fun r j => acts m c (ix2 (row t ⟨r.val, by omega⟩) j)) (fun j k => weight m c (ix2 j k))
    (fun r k => resid m c (ix2 (row t ⟨r.val, by omega⟩) k)) (fun k => scale m c (ix2 0 k))
    (View.ld (Val := Elt Ideal) (iblk m c 0 t) r0_0) (iblk m c 1 t) (iblk m c 3 t) (View.ld (Val := Elt Ideal) (iblk m c 2 t) r0_3) (iblk m c 4 t) := by
  refine ⟨fun r j => ?_, blk_weight t, blk_bias t, fun r k => ?_, blk_scale t⟩
  · pointwise []
    exact blk_acts t ⟨r.val, by omega⟩ j
  · pointwise []
    exact blk_resid t ⟨r.val, by omega⟩ k

/-- What the second tile of a point loads. -/
theorem tile1 (t : Fin cfg0.N) : Tile (fun r j => acts m c (ix2 (row t ⟨256 + r.val, by omega⟩) j)) (fun j k => weight m c (ix2 j k))
    (fun r k => resid m c (ix2 (row t ⟨256 + r.val, by omega⟩) k)) (fun k => scale m c (ix2 0 k))
    (View.ld (Val := Elt Ideal) (iblk m c 0 t) r0_4) (iblk m c 1 t) (iblk m c 3 t) (View.ld (Val := Elt Ideal) (iblk m c 2 t) r0_5) (iblk m c 4 t) := by
  refine ⟨fun r j => ?_, blk_weight t, blk_bias t, fun r k => ?_, blk_scale t⟩
  · pointwise []
    exact blk_acts t ⟨256 + r.val, by omega⟩ j
  · pointwise []
    exact blk_resid t ⟨256 + r.val, by omega⟩ k

/-- A place of a point's block, from the place of a tile. -/
theorem at_row {f : Fin 4096 → Fin 1024 → EReal} (t : Fin cfg0.N) {y : S512x1024.Idx} {r : Fin 512} {k : Fin 1024} (h0 : (y 0).val = r.val) (h1 : (y 1).val = k.val) :
    f (row t r) k = f (row t ⟨(y 0).val, (y 0).isLt⟩) ⟨(y 1).val, (y 1).isLt⟩ :=
  congrArg₂ _ (congrArg (row t) (Fin.ext h0.symm)) (Fin.ext h1.symm)

/-- A point's rows of the new residual stream. -/
theorem out6 (t : Fin cfg0.N) (y : S512x1024.Idx) :
    out0_6 (iblk m c 0 t) (iblk m c 1 t) (iblk m c 2 t) (iblk m c 3 t) (iblk m c 4 t) (iblk m c 5 t) y
      = sum (acts m c) (weight m c) (resid m c) (scale m c) (row t ⟨(y 0).val, (y 0).isLt⟩) ⟨(y 1).val, (y 1).isLt⟩ := by
  unfold out0_6
  frame_out
  canon_tiles x h
  case piece0 =>
    idx_vars x
    rw [pay9_eq]
    exact (pay4_at (tile1 t) x0 x1).trans (at_row (f := sum (acts m c) (weight m c) (resid m c) (scale m c)) t (r := ⟨256 + x0.val, by omega⟩) h0 (by simpa using h1))
  case piece1 =>
    idx_vars x
    exact (pay4_at (tile0 t) x0 x1).trans (at_row (f := sum (acts m c) (weight m c) (resid m c) (scale m c)) t (r := ⟨x0.val, by omega⟩) (by simpa using h0) (by simpa using h1))

/-- A point's rows of the normalised stream. -/
theorem out7 (t : Fin cfg0.N) (y : S512x1024.Idx) :
    out0_7 (iblk m c 0 t) (iblk m c 1 t) (iblk m c 2 t) (iblk m c 3 t) (iblk m c 4 t) (iblk m c 5 t) y
      = next (acts m c) (weight m c) (resid m c) (scale m c) (scale' m c) (row t ⟨(y 0).val, (y 0).isLt⟩) ⟨(y 1).val, (y 1).isLt⟩ := by
  unfold out0_7
  frame_out
  canon_tiles x h
  case piece0 =>
    idx_vars x
    rw [pay1_eq]
    exact (pay6_at (tile1 t) (blk_scale' t) x0 x1).trans (at_row (f := next (acts m c) (weight m c) (resid m c) (scale m c) (scale' m c)) t (r := ⟨256 + x0.val, by omega⟩) h0 (by simpa using h1))
  case piece1 =>
    idx_vars x
    exact (pay6_at (tile0 t) (blk_scale' t) x0 x1).trans (at_row (f := next (acts m c) (weight m c) (resid m c) (scale m c) (scale' m c)) t (r := ⟨x0.val, by omega⟩) (by simpa using h0) (by simpa using h1))

/-- A point's rows of the projection. -/
theorem out8 (t : Fin cfg0.N) (y : S512x1024.Idx) :
    out0_8 (iblk m c 0 t) (iblk m c 1 t) (iblk m c 2 t) (iblk m c 3 t) (iblk m c 4 t) (iblk m c 5 t) y
      = proj (acts m c) (weight m c) (row t ⟨(y 0).val, (y 0).isLt⟩) ⟨(y 1).val, (y 1).isLt⟩ := by
  unfold out0_8
  frame_out
  canon_tiles x h
  case piece0 =>
    idx_vars x
    rw [pay8_eq]
    exact (pay3_at (tile1 t) x0 x1).trans (at_row (f := proj (acts m c) (weight m c)) t (r := ⟨256 + x0.val, by omega⟩) h0 (by simpa using h1))
  case piece1 =>
    idx_vars x
    exact (pay3_at (tile0 t) x0 x1).trans (at_row (f := proj (acts m c) (weight m c)) t (r := ⟨x0.val, by omega⟩) (by simpa using h0) (by simpa using h1))

/-- An array that has a row for each token. -/
def array (f : Fin 4096 → Fin 1024 → EReal) (i : S4096x1024.Idx) : EReal := f ⟨(i 0).val, (i 0).isLt⟩ ⟨(i 1).val, (i 1).isLt⟩

/-- The new residual stream. -/
theorem arr6 : (dats m 0 c).arrAt 6 cfg0.N = array (sum (acts m c) (weight m c) (resid m c) (scale m c)) :=
  (dats m 0 c).arrAt_eq_of_covers 6 _ (by decide +kernel) fun t hf y => by
    blk_simp
    rw [after0_6, out6 t]
    exact congrArg₂ _ (Fin.ext (by simp [idx_val t, Nat.mul_comm])) (Fin.ext (by simp [idx_val t]))

/-- The normalised stream. -/
theorem arr7 : (dats m 0 c).arrAt 7 cfg0.N = array (next (acts m c) (weight m c) (resid m c) (scale m c) (scale' m c)) :=
  (dats m 0 c).arrAt_eq_of_covers 7 _ (by decide +kernel) fun t hf y => by
    blk_simp
    rw [after0_7, out7 t]
    exact congrArg₂ _ (Fin.ext (by simp [idx_val t, Nat.mul_comm])) (Fin.ext (by simp [idx_val t]))

/-- The projection. -/
theorem arr8 : (dats m 0 c).arrAt 8 cfg0.N = array (proj (acts m c) (weight m c)) :=
  (dats m 0 c).arrAt_eq_of_covers 8 _ (by decide +kernel) fun t hf y => by
    blk_simp
    rw [after0_8, out8 t]
    exact congrArg₂ _ (Fin.ext (by simp [idx_val t, Nat.mul_comm])) (Fin.ext (by simp [idx_val t]))
end kernel

/-- The reference runs to the end and leaves its arguments and its counters alone: it declares no semaphore. -/
theorem frame_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

section reference
open Cert.Reference7Ideal Cert.Reference7Ideal.Read
variable (x0 : FVec Ideal S4096x2816 .f32) (x1 : FVec Ideal S2816x1024 .f32) (x2 : FVec Ideal S4096x1024 .f32) (x3 x4 : FVec Ideal S1x1024 .f32)

/-- A place of an array with two axes, by its coordinates. -/
theorem idx_eq {n k : ℕ} {i : (⟨2, ![n, k]⟩ : Shape).Idx} (a : Fin n) (b : Fin k) (h0 : (i 0).val = a.val) (h1 : (i 1).val = b.val) : i = ix2 a b := by
  funext q
  match q with
  | ⟨0, _⟩ => exact Fin.ext h0
  | ⟨1, _⟩ => exact Fin.ext h1

/-- The projection. -/
theorem v0_at (i : S4096x1024.Idx) : val_main_v0 (F := Ideal) x0 x1 i = array (proj x0 x1) i := by
  rw [val_main_v0_apply]
  exact Finset.sum_congr rfl fun j _ => congrArg₂ _ (congrArg x0 (idx_eq _ _ rfl rfl)) (congrArg x1 (idx_eq _ _ rfl rfl))

/-- Its rows' reciprocal root mean squares. -/
theorem v8_at (i : S4096x1.Idx) : val_main_v8 (F := Ideal) x0 x1 i = rms (proj x0 x1 ⟨(i 0).val, (i 0).isLt⟩) := by
  rw [val_main_v8_apply, val_main_v7_apply, val_main_v6_apply, val_main_cst_1_apply, val_main_v5_apply, val_main_v4_apply, val_main_cst_0_apply, val_main_v3_apply, val_main_v2_apply, val_main_cst_apply]
  simp only [val_main_v1_apply, v0_at, Ideal.ofBits_def, word_zero, word_rows, word_eps, EReal.coe_zero, zero_add]
  rfl

/-- The new residual stream. -/
theorem v13_at (i : S4096x1024.Idx) : val_main_v13 (F := Ideal) x0 x1 x2 x3 i = array (sum x0 x1 x2 x3) i := by
  rw [val_main_v13_apply, val_main_v12_apply, val_main_v11_apply, val_main_v10_apply, val_main_v9_apply, v0_at, v8_at]
  exact congrArg₂ (· + ·) (congrArg x2 (idx_eq _ _ rfl rfl)) (congrArg₂ (· * ·) rfl (congrArg x3 (idx_eq _ _ rfl rfl)))

/-- Its rows' reciprocal root mean squares. -/
theorem v21_at (i : S4096x1.Idx) : val_main_v21 (F := Ideal) x0 x1 x2 x3 i = rms (sum x0 x1 x2 x3 ⟨(i 0).val, (i 0).isLt⟩) := by
  rw [val_main_v21_apply, val_main_v20_apply, val_main_v19_apply, val_main_cst_4_apply, val_main_v18_apply, val_main_v17_apply, val_main_cst_3_apply, val_main_v16_apply, val_main_v15_apply, val_main_cst_2_apply]
  simp only [val_main_v14_apply, v13_at, Ideal.ofBits_def, word_zero, word_rows, word_eps, EReal.coe_zero, zero_add]
  rfl

/-- The new stream, normalised and scaled. -/
theorem v26_at (i : S4096x1024.Idx) : val_main_v26 (F := Ideal) x0 x1 x2 x3 x4 i = array (next x0 x1 x2 x3 x4) i := by
  rw [val_main_v26_apply, val_main_v25_apply, val_main_v24_apply, val_main_v23_apply, val_main_v22_apply, v13_at, v21_at]
  exact congrArg₂ (· * ·) rfl (congrArg x4 (idx_eq _ _ rfl rfl))

/-- The projection, rounded. -/
theorem v27_at (i : S4096x1024.Idx) : val_main_v27 (F := Ideal) x0 x1 i = array (proj x0 x1) i := by
  rw [val_main_v27_apply, v0_at]
  rfl
end reference

/-- Both programs leave the new residual stream, the stream normalised and scaled, and the projection. -/
theorem equation : Cert.algebraic_Kernel7Ideal_Reference7Ideal := by
  intro m ρ m' ρ' _ hagree
  refine ⟨fun c => array (sum (acts m c) (weight m c) (resid m c) (scale m c)),
    fun c => array (next (acts m c) (weight m c) (resid m c) (scale m c) (scale' m c)), fun c => array (proj (acts m c) (weight m c)), ?_, ?_⟩
  · refine (θ_run Cert.Kernel7Ideal.defs _ _).mono (fun r h c => ?_) (Cert.Kernel7Ideal.Value.run_blocks (F := Ideal) m ρ)
    obtain ⟨h0, h1, h2, hk⟩ := h c
    exact ⟨h0.trans arr6, h1.trans arr7, h2.trans arr8, hk⟩
  · refine (θ_run Cert.Reference7Ideal.defs _ _).mono (fun r h c => ?_) (Cert.Reference7Ideal.Value.run (F := Ideal) m' ρ')
    obtain ⟨a0, a1, a2, a3, a4⟩ := hagree c
    obtain ⟨h0, h1, h2, hk⟩ := h c
    rw [Cert.Reference7Ideal.Read.val_main_v13_eq, a0, a1, a2, a3] at h0
    rw [Cert.Reference7Ideal.Read.val_main_v26_eq, a0, a1, a2, a3, a4] at h1
    rw [Cert.Reference7Ideal.Read.val_main_v27_eq, a0, a1] at h2
    exact ⟨h0.trans (funext fun i => v13_at _ _ _ _ i), h1.trans (funext fun i => v26_at _ _ _ _ _ i), h2.trans (funext fun i => v27_at _ _ i), hk⟩

end Cert.DownNorm

end
-- ==== Proof.GradMixers.lean ====
/- Four products of the mixers' backward passes: the weight gradients of the gating unit's input and output projections and of the
   attention's projection, and the cotangent of the gating unit's rows. Kernel and reference hold the same sum of products at each
   index, in extended reals and for any arguments; the reference multiplies in the other order and cuts its product afterwards. -/
module

public import proofs.«01_k».proof.Defs
public import proofs.«01_k».proof.Proof.Gen.Kernel8Ideal.Value
public import proofs.«01_k».proof.Proof.Gen.Kernel9Ideal.Value
public import proofs.«01_k».proof.Proof.Gen.Kernel10Ideal.Value
public import proofs.«01_k».proof.Proof.Gen.Kernel11Ideal.Value
public import proofs.«01_k».proof.Proof.Gen.Reference8Ideal.Read
public import proofs.«01_k».proof.Proof.Gen.Reference9Ideal.Read
public import proofs.«01_k».proof.Proof.Gen.Reference10Ideal.Read
public import proofs.«01_k».proof.Proof.Gen.Reference11Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GradMixers

/-- Four shards of `n` columns side by side: the row of a place counted through them. -/
theorem shard_row (n : ℕ) {a b c : ℕ} (hb : b < 4) (hc : c < n) : ((a * 4 + b) * n + c) / (4 * n) = a := by
  have e : (a * 4 + b) * n + c = (b * n + c) + 4 * n * a := by ring
  have l : b * n + c < 4 * n := by nlinarith
  rw [e, Nat.add_mul_div_left _ _ (by omega), Nat.div_eq_of_lt l, Nat.zero_add]

/-- And its column. -/
theorem shard_col (n : ℕ) {a b c : ℕ} (hb : b < 4) (hc : c < n) : ((a * 4 + b) * n + c) % (4 * n) = n * b + c := by
  have e : (a * 4 + b) * n + c = (n * b + c) + 4 * n * a := by ring
  have l : n * b + c < 4 * n := by nlinarith
  rw [e, Nat.add_mul_mod_self_left, Nat.mod_eq_of_lt l]

end Cert.GradMixers

namespace Cert.GradSguIn

section kernel
open Cert.Kernel8Ideal Cert.Kernel8Ideal.Gen

/-- The gradient's value at shard `i 0`, row `i 1` and column `i 2` of it: column `i 1` of the rows times a column of the cotangents. -/
def val (h : FVec Ideal S4096x1024 .f32) (g : FVec Ideal S4096x2048 .f32) (i : S4x1024x512.Idx) : EReal :=
  ∑ s : Fin 4096, h (ix2 s ⟨(i 1).val, (i 1).isLt⟩)
    * g (ix2 s ⟨512 * (i 0).val + (i 2).val, by have h0 : (i 0).val < 4 := (i 0).isLt; have h2 : (i 2).val < 512 := (i 2).isLt; omega⟩)

/-- Where each window's block lies, for all four grid points. -/
theorem idx_val : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

/-- The rows. -/
abbrev rows : FVec Ideal S4096x1024 .f32 := m ((c : Thread nD τ).loc main_arg0)

/-- The cotangents. -/
abbrev cots : FVec Ideal S4096x2048 .f32 := m ((c : Thread nD τ).loc main_arg1)

variable {m c}

/-- The rows, converted. -/
theorem V_rows (s : Fin 4096) (k : Fin 1024) : (V m c main_v0 : FVec Ideal S4096x1024 .bf16) (ix2 s k) = rows m c (ix2 s k) := by
  entry_read
  pointwise []

/-- The cotangents, converted. -/
theorem V_cots (s : Fin 4096) (j : Fin 2048) : (V m c main_v1 : FVec Ideal S4096x2048 .bf16) (ix2 s j) = cots m c (ix2 s j) := by
  entry_read
  pointwise []

/-- All the rows. -/
theorem blk_rows (t : Fin cfg0.N) (s : Fin 4096) (k : Fin 1024) :
    (iblk m c 0 t : FVec Ideal S4096x1024 .bf16) (ix2 s k) = rows m c (ix2 s k) := by
  refine Eq.trans ?_ (V_rows s k)
  blk_point [iblk, V, idx_val t]

/-- A point's columns of the cotangents. -/
theorem blk_cots (t : Fin cfg0.N) (s : Fin 4096) (j : Fin 512) :
    (iblk m c 1 t : FVec Ideal S4096x512 .bf16) (ix2 s j)
      = cots m c (ix2 s ⟨t.val * 512 + j.val, by have : t.val < 4 := lt_of_lt_of_eq t.isLt N_0; omega⟩) := by
  refine Eq.trans ?_ (V_cots s _)
  blk_point [iblk, V, idx_val t]

/-- What a point leaves in its output block. -/
theorem out2 (t : Fin cfg0.N) (a : Fin 1024) (b : Fin 512) :
    out0_2 (iblk m c 0 t) (iblk m c 1 t) (ix3 0 a b)
      = ∑ s : Fin 4096, rows m c (ix2 s a)
          * cots m c (ix2 s ⟨t.val * 512 + b.val, by have : t.val < 4 := lt_of_lt_of_eq t.isLt N_0; omega⟩) := by
  unfold out0_2
  frame_out
  pointwise [k0_pay1]
  simp only [blk_rows, blk_cots]

/-- The array the kernel leaves. -/
theorem arr2 : (dats m 0 c).arrAt 2 cfg0.N = val (rows m c) (cots m c) :=
  (dats m 0 c).arrAt_eq_of_covers 2 _ (by decide +kernel) fun t hf y => by
    blk_simp
    rw [after0_2]
    idx_vars y
    obtain rfl : y0 = 0 := Subsingleton.elim _ _
    refine (out2 t y1 y2).trans (Finset.sum_congr rfl fun s _ => congrArg₂ _ (congrArg _ (congrArg _ (Fin.ext ?_))) (congrArg _ (congrArg _ (Fin.ext ?_))))
    · simp [idx_val t]
    · simp [idx_val t, Nat.mul_comm]
end kernel

/-- The reference runs to the end and leaves its arguments and its counters alone: it declares no semaphore. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

open Cert.Reference8Ideal Cert.Reference8Ideal.Read in
/-- The reference's array. -/
theorem reference_val (x0 : FVec Ideal S4096x1024 .f32) (x1 : FVec Ideal S4096x2048 .f32) : val_main_v6 (F := Ideal) x0 x1 = val x0 x1 := by
  funext i
  rw [val_main_v6_apply, val_main_v5_apply, val_main_v4_apply, val_main_v3_apply, val_main_v2_apply, Ideal.truncf_def]
  refine Finset.sum_congr rfl fun s _ => ?_
  rw [mul_comm]
  have h0 : (i 0).val < 4 := (i 0).isLt
  have h2 : (i 2).val < 512 := (i 2).isLt
  refine congrArg₂ _ (congrArg x0 (funext fun a => ?_)) (congrArg x1 (funext fun a => ?_))
  · match a with
    | ⟨0, _⟩ => rfl
    | ⟨1, _⟩ => exact Fin.ext (GradMixers.shard_row 512 h0 h2)
  · match a with
    | ⟨0, _⟩ => rfl
    | ⟨1, _⟩ => exact Fin.ext (GradMixers.shard_col 512 h0 h2)

/-- Both programs leave the sums of products. -/
theorem equation : Cert.algebraic_Kernel8Ideal_Reference8Ideal := by
  intro m ρ m' ρ' _ hagree
  refine ⟨fun c => val (rows m c) (cots m c), ?_, ?_⟩
  · exact (θ_run Cert.Kernel8Ideal.defs _ _).mono (fun r h c => ⟨(h c).1.trans arr2, (h c).2⟩) (Cert.Kernel8Ideal.Value.run_blocks (F := Ideal) m ρ)
  · refine (θ_run Cert.Reference8Ideal.defs _ _).mono (fun r h c => ⟨?_, (h c).2⟩) (Cert.Reference8Ideal.Value.run (F := Ideal) m' ρ')
    have h0 := (h c).1
    obtain ⟨a0, a1⟩ := hagree c
    rw [Cert.Reference8Ideal.Read.val_main_v6_eq, a0, a1] at h0
    exact h0.trans (reference_val _ _)

end Cert.GradSguIn

namespace Cert.GradQkv

section kernel
open Cert.Kernel11Ideal Cert.Kernel11Ideal.Gen

/-- The gradient's value at shard `i 0`, row `i 1` and column `i 2` of it: column `i 1` of the rows times a column of the cotangents. -/
def val (h : FVec Ideal S4096x1024 .f32) (g : FVec Ideal S4096x1536 .f32) (i : S4x1024x384.Idx) : EReal :=
  ∑ s : Fin 4096, h (ix2 s ⟨(i 1).val, (i 1).isLt⟩)
    * g (ix2 s ⟨384 * (i 0).val + (i 2).val, by have h0 : (i 0).val < 4 := (i 0).isLt; have h2 : (i 2).val < 384 := (i 2).isLt; omega⟩)

/-- Where each window's block lies, for all four grid points. -/
theorem idx_val : ∀ t : Fin cfg0.N, win0_0.index t = ![0, 0] ∧ win0_1.index t = ![0, t.val] ∧ win0_2.index t = ![t.val, 0, 0] :=
  (by decide +kernel : ∀ t : Fin grid0.N, _)

variable (m : (ℓ : Loc nD τ sig) → Buf (Elt Ideal) ℓ) (c : Dev nD)

/-- The rows. -/
abbrev rows : FVec Ideal S4096x1024 .f32 := m ((c : Thread nD τ).loc main_arg0)

/-- The cotangents. -/
abbrev cots : FVec Ideal S4096x1536 .f32 := m ((c : Thread nD τ).loc main_arg1)

variable {m c}

/-- The rows, converted. -/
theorem V_rows (s : Fin 4096) (k : Fin 1024) : (V m c main_v0 : FVec Ideal S4096x1024 .bf16) (ix2 s k) = rows m c (ix2 s k) := by
  entry_read
  pointwise []

/-- The cotangents, converted. -/
theorem V_cots (s : Fin 4096) (j : Fin 1536) : (V m c main_v1 : FVec Ideal S4096x1536 .bf16) (ix2 s j) = cots m c (ix2 s j) := by
  entry_read
  pointwise []

/-- All the rows. -/
theorem blk_rows (t : Fin cfg0.N) (s : Fin 4096) (k : Fin 1024) :
    (iblk m c 0 t : FVec Ideal S4096x1024 .bf16) (ix2 s k) = rows m c (ix2 s k) := by
  refine Eq.trans ?_ (V_rows s k)
  blk_point [iblk, V, idx_val t]

/-- A point's columns of the cotangents. -/
theorem blk_cots (t : Fin cfg0.N) (s : Fin 4096) (j : Fin 384) :
    (iblk m c 1 t : FVec Ideal S4096x384 .bf16) (ix2 s j)
      = cots m c (ix2 s ⟨t.val * 384 + j.val, by have : t.val < 4 := lt_of_lt_of_eq t.isLt N_0; omega⟩) := by
  refine Eq.trans ?_ (V_cots s _)
  blk_point [iblk, V, idx_val t]

/-- What a point leaves in its output block. -/
theorem out2 (t : Fin cfg0.N) (a : Fin 1024) (b : Fin 384) :
    out0_2 (iblk m c 0 t) (iblk m c 1 t) (ix3 0 a b)
      = ∑ s : Fin 4096, rows m c (ix2 s a)
          * cots m c (ix2 s ⟨t.val * 384 + b.val, by have : t.val < 4 := lt_of_lt_of_eq t.isLt N_0; omega⟩) := by
  unfold out0_2
  frame_out
  pointwise [k0_pay1]
  simp only [blk_rows, blk_cots]

/-- The array the kernel leaves. -/
theorem arr2 : (dats m 0 c).arrAt 2 cfg0.N = val (rows m c) (cots m c) :=
  (dats m 0 c).arrAt_eq_of_covers 2 _ (by decide +kernel) fun t hf y => by
    blk_simp
    rw [after0_2]
    idx_vars y
    obtain rfl : y0 = 0 := Subsingleton.elim _ _
    refine (out2 t y1 y2).trans (Finset.sum_congr rfl fun s _ => congrArg₂ _ (congrArg _ (congrArg _ (Fin.ext ?_))) (congrArg _ (congrArg _ (Fin.ext ?_))))
    · simp [idx_val t]
    · simp [idx_val t, Nat.mul_comm]
end kernel

/-- The reference runs to the end and leaves its arguments and its counters alone: it declares no semaphore. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

open Cert.Reference11Ideal Cert.Reference11Ideal.Read in
/-- The reference's array. -/
theorem reference_val (x0 : FVec Ideal S4096x1024 .f32) (x1 : FVec Ideal S4096x1536 .f32) : val_main_v6 (F := Ideal) x0 x1 = val x0 x1 := by
  funext i
  rw [val_main_v6_apply, val_main_v5_apply, val_main_v4_apply, val_main_v3_apply, val_main_v2_apply, Ideal.truncf_def]
  refine Finset.sum_congr rfl fun s _ => ?_
  rw [mul_comm]
  have h0 : (i 0).val < 4 := (i 0).isLt
  have h2 : (i 2).val < 384 := (i 2).isLt
  refine congrArg₂ _ (congrArg x0 (funext fun a => ?_)) (congrArg x1 (funext fun a => ?_))
  · match a with
    | ⟨0, _⟩ => rfl
    | ⟨1, _⟩ => exact Fin.ext (GradMixers.shard_row 384 h0 h2)
  · match a with
    | ⟨0, _⟩ => rfl
    | ⟨1, _⟩ => exact Fin.ext (GradMixers.shard_col 384 h0 h2)

/-- Both programs leave the sums of products. -/
theorem equation : Cert.algebraic_Kernel11Ideal_Reference11Ideal := by
  intro m ρ m' ρ' _ hagree
  refine ⟨fun c => val (rows m c) (cots m c), ?_, ?_⟩
  · exact (θ_run Cert.Kernel11Ideal.defs _ _).mono (fun r h c => ⟨(h c).1.trans arr2, (h c).2⟩) (Cert.Kernel11Ideal.Value.run_blocks (F := Ideal) m ρ)
  · refine (θ_run Cert.Reference11Ideal.defs _ _).mono (fun r h c => ⟨?_, (h c).2⟩) (Cert.Reference11Ideal.Value.run (F := Ideal) m' ρ')
    have h0 := (h c).1
    obtain ⟨a0, a1⟩ := hagree c
    rw [Cert.Reference11Ideal.Read.val_main_v6_eq, a0, a1] at h0
    exact h0.trans (reference_val _ _)

end Cert.GradQkv

namespace Cert.GradSguOut

section kernel
open Cert.Kernel9Ideal Cert.Kernel9Ideal.Gen

/-- The gradient's value at row `i 0` and column `i 1`: column `i 0` of the rows times column `i 1` of the cotangents. -/
def val (h g : FVec Ideal S4096x1024 .f32) (i : S1024x1024.Idx) : EReal :=
  ∑ s : Fin 4096, h (ix2 s ⟨(i 0).val, (i 0).isLt⟩) * g (ix2 s ⟨(i 1).val, (i 1).isLt⟩)

/-- Where each window's block lies, for both grid points. -/
theorem idx_val : ∀ t : Fin cfg0.N, win0_0.index t = ![0, t.val] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The rows. -/
abbrev rows : FVec Ideal S4096x1024 .f32 := m ((c : Thread nD τ).loc main_arg0)

/-- The cotangents. -/
abbrev cots : FVec Ideal S4096x1024 .f32 := m ((c : Thread nD τ).loc main_arg1)

variable {m c}

/-- The rows, converted. -/
theorem V_rows (s : Fin 4096) (k : Fin 1024) : (V m c main_v0 : FVec Ideal S4096x1024 .bf16) (ix2 s k) = rows m c (ix2 s k) := by
  entry_read
  pointwise []

/-- The cotangents, converted. -/
theorem V_cots (s : Fin 4096) (j : Fin 1024) : (V m c main_v1 : FVec Ideal S4096x1024 .bf16) (ix2 s j) = cots m c (ix2 s j) := by
  entry_read
  pointwise []

/-- A point's columns of the rows. -/
theorem blk_rows (t : Fin cfg0.N) (s : Fin 4096) (k : Fin 512) :
    (iblk m c 0 t : FVec Ideal S4096x512 .bf16) (ix2 s k)
      = rows m c (ix2 s ⟨t.val * 512 + k.val, by have : t.val < 2 := lt_of_lt_of_eq t.isLt N_0; omega⟩) := by
  refine Eq.trans ?_ (V_rows s _)
  blk_point [iblk, V, idx_val t]

/-- All the cotangents. -/
theorem blk_cots (t : Fin cfg0.N) (s : Fin 4096) (j : Fin 1024) :
    (iblk m c 1 t : FVec Ideal S4096x1024 .bf16) (ix2 s j) = cots m c (ix2 s j) := by
  refine Eq.trans ?_ (V_cots s j)
  blk_point [iblk, V, idx_val t]

/-- What a point leaves in its output block. -/
theorem out2 (t : Fin cfg0.N) (a : Fin 512) (b : Fin 1024) :
    out0_2 (iblk m c 0 t) (iblk m c 1 t) (ix2 a b)
      = ∑ s : Fin 4096, rows m c (ix2 s ⟨t.val * 512 + a.val, by have : t.val < 2 := lt_of_lt_of_eq t.isLt N_0; omega⟩) * cots m c (ix2 s b) := by
  unfold out0_2
  frame_out
  pointwise [k0_pay1]
  simp only [blk_rows, blk_cots]

/-- The array the kernel leaves. -/
theorem arr2 : (dats m 0 c).arrAt 2 cfg0.N = val (rows m c) (cots m c) :=
  (dats m 0 c).arrAt_eq_of_covers 2 _ (by decide +kernel) fun t hf y => by
    blk_simp
    rw [after0_2]
    idx_vars y
    refine (out2 t y0 y1).trans (Finset.sum_congr rfl fun s _ => congrArg₂ _ (congrArg _ (congrArg _ (Fin.ext ?_))) (congrArg _ (congrArg _ (Fin.ext ?_))))
    · simp [idx_val t, Nat.mul_comm]
    · simp [idx_val t]
end kernel

/-- The reference runs to the end and leaves its arguments and its counters alone: it declares no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

open Cert.Reference9Ideal Cert.Reference9Ideal.Read in
/-- The reference's array. -/
theorem reference_val (x0 x1 : FVec Ideal S4096x1024 .f32) : val_main_v4 (F := Ideal) x0 x1 = val x0 x1 := by
  funext i
  rw [val_main_v4_apply, val_main_v3_apply, val_main_v2_apply, Ideal.truncf_def]
  refine Finset.sum_congr rfl fun s _ => ?_
  rw [mul_comm]
  refine congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- Both programs leave the sums of products. -/
theorem equation : Cert.algebraic_Kernel9Ideal_Reference9Ideal := by
  intro m ρ m' ρ' _ hagree
  refine ⟨fun c => val (rows m c) (cots m c), ?_, ?_⟩
  · exact (θ_run Cert.Kernel9Ideal.defs _ _).mono (fun r h c => ⟨(h c).1.trans arr2, (h c).2⟩) (Cert.Kernel9Ideal.Value.run_blocks (F := Ideal) m ρ)
  · refine (θ_run Cert.Reference9Ideal.defs _ _).mono (fun r h c => ⟨?_, (h c).2⟩) (Cert.Reference9Ideal.Value.run (F := Ideal) m' ρ')
    have h0 := (h c).1
    obtain ⟨a0, a1⟩ := hagree c
    rw [Cert.Reference9Ideal.Read.val_main_v4_eq, a0, a1] at h0
    exact h0.trans (reference_val _ _)

end Cert.GradSguOut

namespace Cert.BackSgu

section kernel
open Cert.Kernel10Ideal Cert.Kernel10Ideal.Gen

/-- The cotangent's value at row `i 0` and column `i 1`: row `i 0` of the output's cotangent times row `i 1` of the weight. -/
def val (g : FVec Ideal S4096x1024 .f32) (w : FVec Ideal S1024x1024 .f32) (i : S4096x1024.Idx) : EReal :=
  ∑ k : Fin 1024, g (ix2 ⟨(i 0).val, (i 0).isLt⟩ k) * w (ix2 ⟨(i 1).val, (i 1).isLt⟩ k)

/-- Where each window's block lies, for all four grid points. -/
theorem idx_val : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The output's cotangents. -/
abbrev cots : FVec Ideal S4096x1024 .f32 := m ((c : Thread nD τ).loc main_arg0)

/-- The weight. -/
abbrev weight : FVec Ideal S1024x1024 .f32 := m ((c : Thread nD τ).loc main_arg1)

variable {m c}

/-- The cotangents, converted. -/
theorem V_cots (s : Fin 4096) (k : Fin 1024) : (V m c main_v0 : FVec Ideal S4096x1024 .bf16) (ix2 s k) = cots m c (ix2 s k) := by
  entry_read
  pointwise []

/-- The weight, converted. -/
theorem V_weight (s : Fin 1024) (j : Fin 1024) : (V m c main_v1 : FVec Ideal S1024x1024 .bf16) (ix2 s j) = weight m c (ix2 s j) := by
  entry_read
  pointwise []

/-- A point's rows of the cotangents. -/
theorem blk_cots (t : Fin cfg0.N) (a : Fin 1024) (k : Fin 1024) :
    (iblk m c 0 t : FVec Ideal S1024x1024 .bf16) (ix2 a k)
      = cots m c (ix2 ⟨t.val * 1024 + a.val, by have : t.val < 4 := lt_of_lt_of_eq t.isLt N_0; omega⟩ k) := by
  refine Eq.trans ?_ (V_cots _ k)
  blk_point [iblk, V, idx_val t]

/-- All of the weight. -/
theorem blk_weight (t : Fin cfg0.N) (s : Fin 1024) (j : Fin 1024) :
    (iblk m c 1 t : FVec Ideal S1024x1024 .bf16) (ix2 s j) = weight m c (ix2 s j) := by
  refine Eq.trans ?_ (V_weight s j)
  blk_point [iblk, V, idx_val t]

/-- What a point leaves in its output block. -/
theorem out2 (t : Fin cfg0.N) (a : Fin 1024) (b : Fin 1024) :
    out0_2 (iblk m c 0 t) (iblk m c 1 t) (ix2 a b)
      = ∑ k : Fin 1024, cots m c (ix2 ⟨t.val * 1024 + a.val, by have : t.val < 4 := lt_of_lt_of_eq t.isLt N_0; omega⟩ k) * weight m c (ix2 b k) := by
  unfold out0_2
  frame_out
  pointwise [k0_pay1]
  simp only [blk_cots, blk_weight]

/-- The array the kernel leaves. -/
theorem arr2 : (dats m 0 c).arrAt 2 cfg0.N = val (cots m c) (weight m c) :=
  (dats m 0 c).arrAt_eq_of_covers 2 _ (by decide +kernel) fun t hf y => by
    blk_simp
    rw [after0_2]
    idx_vars y
    refine (out2 t y0 y1).trans (Finset.sum_congr rfl fun k _ => congrArg₂ _ (congrArg _ (congrArg (fun n => ix2 n k) (Fin.ext ?_))) (congrArg _ (congrArg (fun n => ix2 n k) (Fin.ext ?_))))
    · simp [idx_val t, Nat.mul_comm]
    · simp [idx_val t]
end kernel

/-- The reference runs to the end and leaves its arguments and its counters alone: it declares no semaphore. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

open Cert.Reference10Ideal Cert.Reference10Ideal.Read in
/-- The reference's array. -/
theorem reference_val (x0 : FVec Ideal S4096x1024 .f32) (x1 : FVec Ideal S1024x1024 .f32) : val_main_v2 (F := Ideal) x0 x1 = val x0 x1 := by
  funext i
  rw [val_main_v2_apply]
  refine Finset.sum_congr rfl fun s _ => congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- Both programs leave the sums of products. -/
theorem equation : Cert.algebraic_Kernel10Ideal_Reference10Ideal := by
  intro m ρ m' ρ' _ hagree
  refine ⟨fun c => val (cots m c) (weight m c), ?_, ?_⟩
  · exact (θ_run Cert.Kernel10Ideal.defs _ _).mono (fun r h c => ⟨(h c).1.trans arr2, (h c).2⟩) (Cert.Kernel10Ideal.Value.run_blocks (F := Ideal) m ρ)
  · refine (θ_run Cert.Reference10Ideal.defs _ _).mono (fun r h c => ⟨?_, (h c).2⟩) (Cert.Reference10Ideal.Value.run (F := Ideal) m' ρ')
    have h0 := (h c).1
    obtain ⟨a0, a1⟩ := hagree c
    rw [Cert.Reference10Ideal.Read.val_main_v2_eq, a0, a1] at h0
    exact h0.trans (reference_val _ _)

end Cert.BackSgu

end
-- ==== Proof.NormReals.lean ====
/- Two calls of the backward pass in real numbers: a cotangent taken back through a weight, then through the normalisation in front
   of it, and in one of them through the normalisation behind the block before it as well. -/
module

public import proofs.«01_k».proof.Proof.Reals

@[expose] public section

noncomputable section

namespace Cert.Norm

open Cert.Ffn

/-- The arguments of one normalisation's backward pass as real arrays: the cotangent behind a weight of `n` columns, the weight, the
    cotangent that arrives by the residual stream, the stream, and the normalisation's scale. -/
structure Args (n : ℕ) where
  dz : ℕ → ℕ → ℝ
  w : ℕ → ℕ → ℝ
  dres : ℕ → ℕ → ℝ
  x : ℕ → ℕ → ℝ
  g : ℕ → ℝ

namespace Args

variable {n : ℕ} (A : Args n)

/-- The cotangent of the normalised, scaled row. -/
def dh (i k : ℕ) : ℝ := ∑ j : Fin n, A.dz i j * A.w k j

/-- The residual stream's cotangent: what arrives plus what comes back through the normalisation. -/
def dx (i k : ℕ) : ℝ := A.dres i k + normBack (A.dh i) (A.x i) A.g k

/-- The normalisation's gradient in its scale. -/
def dg (k : ℕ) : ℝ := ∑ i : Fin 4096, A.dh i k * hat (A.x i) k

end Args

/-- The same with a second normalisation: the block's output that it normalises, and its scale. -/
structure PairArgs (n : ℕ) extends Args n where
  mo : ℕ → ℕ → ℝ
  gpost : ℕ → ℝ

namespace PairArgs

variable {n : ℕ} (A : PairArgs n)

/-- The cotangent of the block's output before its normalisation. -/
def dm (i k : ℕ) : ℝ := normBack (A.dx i) (A.mo i) A.gpost k

/-- The second normalisation's gradient in its scale. -/
def dgpost (k : ℕ) : ℝ := ∑ i : Fin 4096, A.dx i k * hat (A.mo i) k

/-- The bias' gradient. -/
def db (k : ℕ) : ℝ := ∑ i : Fin 4096, A.dm i k

end PairArgs

/-- A sum over four shards of `n` columns, added up shard by shard. -/
theorem sum_shards (n N b c : ℕ) (hN : N = n + n + n + n) (hb : b = n + n) (hc : c = n + n + n) (f : ℕ → ℝ) :
    (∑ j : Fin N, f j) = (∑ j : Fin n, f j) + (∑ j : Fin n, f (n + j)) + (∑ j : Fin n, f (b + j)) + ∑ j : Fin n, f (c + j) := by
  subst hN hb hc
  have e : ∀ (n : ℕ) (f : ℕ → ℝ), (∑ j : Fin n, f j) = ∑ j ∈ Finset.range n, f j := fun n f => Fin.sum_univ_eq_sum_range f n
  rw [e _ f, e n f, e n fun j => f (n + j), e n fun j => f (n + n + j), e n fun j => f (n + n + n + j), Finset.sum_range_add, Finset.sum_range_add,
    Finset.sum_range_add]

end Cert.Norm

end
-- ==== Proof.NormPair.lean ====
/- The backward call through the gating unit's input projection and the two normalisations before it: what a tile computes, what the
   blocks hold, and the five arrays that the kernel leaves, for finite arguments. Behind the product it computes the same terms as the
   feed-forward half's backward call, so that call's lemmas about a tile apply. -/
module

public import proofs.«01_k».proof.Proof.Gen.Kernel12Ideal.Value
public import proofs.«01_k».proof.Proof.Sums
public import proofs.«01_k».proof.Proof.NormReals

@[expose] public section

set_option maxRecDepth 16384

noncomputable section

namespace Cert.Norm.Pair

open Idealize.ShloMosaic Idealize.ShloMosaic.TcCoe Idealize.SL.Sem
open Cert.Kernel12Ideal Cert.Kernel12Ideal.Gen Cert.Ffn
open Cert.Ffn.Kernel (Is Is3 rowSum tileDx sum_tiles pay18_is pay19_is pay20_is pay22_is pay23_is pay24_is pay25_is pay26_is pay27_is pay28_is pay29_is
  pay48_is pay51_is pay52_is pay53_is pay54_is pay55_is)

/-- The product of a tile's rows with the weight, four shards of columns added up. -/
theorem pay3_is {z0 z1 z2 z3 : FVec Ideal S256x512 .bf16} {w0 w1 w2 w3 : FVec Ideal S1x1024x512 .bf16} {f0 f1 f2 f3 u0 u1 u2 u3 : ℕ → ℕ → ℝ}
    (hz0 : Is (n := 256) (k := 512) z0 f0) (hz1 : Is (n := 256) (k := 512) z1 f1) (hz2 : Is (n := 256) (k := 512) z2 f2) (hz3 : Is (n := 256) (k := 512) z3 f3)
    (hw0 : Is3 (n := 1024) (k := 512) w0 u0) (hw1 : Is3 (n := 1024) (k := 512) w1 u1) (hw2 : Is3 (n := 1024) (k := 512) w2 u2) (hw3 : Is3 (n := 1024) (k := 512) w3 u3) :
    Is (n := 256) (k := 1024) (k0_pay3 (F := Ideal) z0 w0 z1 w1 z2 w2 z3 w3) fun a k =>
      (∑ j : Fin 512, f0 a j * u0 k j) + (∑ j : Fin 512, f1 a j * u1 k j) + (∑ j : Fin 512, f2 a j * u2 k j) + ∑ j : Fin 512, f3 a j * u3 k j := by
  intro a k
  pointwise [k0_pay3]
  simp only [hz0 _ _, hz1 _ _, hz2 _ _, hz3 _ _, hw0 _ _, hw1 _ _, hw2 _ _, hw3 _ _, ← EReal.coe_mul, ← EReal.coe_add, coe_sum]

/-- What a tile loads: the rows from `R` on, and the weight's shards and the scales. -/
structure Tile (A : PairArgs 2048) (R : ℕ) (z0 z1 z2 z3 : FVec Ideal S256x512 .bf16) (w0 w1 w2 w3 : FVec Ideal S1x1024x512 .bf16)
    (r x : FVec Ideal S256x1024 .f32) (g : FVec Ideal S1x1024 .f32) (mo : FVec Ideal S256x1024 .bf16) (g' : FVec Ideal S1x1024 .f32) : Prop where
  hz0 : Is (n := 256) (k := 512) z0 fun a => A.dz (R + a)
  hz1 : Is (n := 256) (k := 512) z1 fun a j => A.dz (R + a) (512 + j)
  hz2 : Is (n := 256) (k := 512) z2 fun a j => A.dz (R + a) (1024 + j)
  hz3 : Is (n := 256) (k := 512) z3 fun a j => A.dz (R + a) (1536 + j)
  hw0 : Is3 (n := 1024) (k := 512) w0 A.w
  hw1 : Is3 (n := 1024) (k := 512) w1 fun k j => A.w k (512 + j)
  hw2 : Is3 (n := 1024) (k := 512) w2 fun k j => A.w k (1024 + j)
  hw3 : Is3 (n := 1024) (k := 512) w3 fun k j => A.w k (1536 + j)
  hr : Is (n := 256) (k := 1024) r fun a => A.dres (R + a)
  hx : Is (n := 256) (k := 1024) x fun a => A.x (R + a)
  hg : Is (n := 1) (k := 1024) g fun _ => A.g
  hmo : Is (n := 256) (k := 1024) mo fun a => A.mo (R + a)
  hg' : Is (n := 1) (k := 1024) g' fun _ => A.gpost

section
variable {A : PairArgs 2048} {R : ℕ} {z0 z1 z2 z3 : FVec Ideal S256x512 .bf16} {w0 w1 w2 w3 : FVec Ideal S1x1024x512 .bf16}
    {r x : FVec Ideal S256x1024 .f32} {g : FVec Ideal S1x1024 .f32} {mo : FVec Ideal S256x1024 .bf16} {g' : FVec Ideal S1x1024 .f32}
    (T : Tile A R z0 z1 z2 z3 w0 w1 w2 w3 r x g mo g')
include T

/-- The cotangent of a tile's normalised rows. -/
theorem tile_dh : Is (n := 256) (k := 1024) (k0_pay3 (F := Ideal) z0 w0 z1 w1 z2 w2 z3 w3) fun a => A.dh (R + a) := fun a k =>
  (pay3_is T.hz0 T.hz1 T.hz2 T.hz3 T.hw0 T.hw1 T.hw2 T.hw3 a k).trans
    (congrArg _ (sum_shards 512 2048 1024 1536 rfl rfl rfl fun j => A.dz (R + a) j * A.w k j).symm)

/-- First tile: its rows of the residual stream's cotangent. -/
theorem tile0_dx : Is (n := 256) (k := 1024) (k0_pay8 (F := Ideal) (k0_pay3 z0 w0 z1 w1 z2 w2 z3 w3) x g (k0_pay4 x) r) fun a => A.dx (R + a) := by
  have h := pay20_is (tile_dh T) T.hx T.hg T.hr
  exact h

/-- Second tile: the same. -/
theorem tile1_dx : Is (n := 256) (k := 1024) (k0_pay23 (F := Ideal) (k0_pay18 z0 w0 z1 w1 z2 w2) z3 w3 x g r) fun a => A.dx (R + a) := tile0_dx T

/-- First tile: its rows of the block output's cotangent, before rounding. -/
theorem tile0_dm : Is (n := 256) (k := 1024) (k0_pay14 (F := Ideal) (k0_pay10 mo) (k0_pay11 mo) (k0_pay12 (k0_pay3 z0 w0 z1 w1 z2 w2 z3 w3) x g (k0_pay4 x) r g')
    (k0_pay13 (k0_pay3 z0 w0 z1 w1 z2 w2 z3 w3) x g (k0_pay4 x) r mo g')) fun a => A.dm (R + a) := by
  have h := pay26_is (pay22_is T.hmo) (pay23_is T.hmo) (pay24_is (tile_dh T) T.hx T.hg T.hr T.hg') (pay25_is (tile_dh T) T.hx T.hg T.hr T.hmo T.hg')
  exact h

/-- First tile: the same, as it is stored. -/
theorem tile0_dm_stored : Is (n := 256) (k := 1024) (k0_pay16 (F := Ideal) (k0_pay10 mo) (k0_pay11 mo) (k0_pay12 (k0_pay3 z0 w0 z1 w1 z2 w2 z3 w3) x g (k0_pay4 x) r g')
    (k0_pay13 (k0_pay3 z0 w0 z1 w1 z2 w2 z3 w3) x g (k0_pay4 x) r mo g')) fun a => A.dm (R + a) := by
  have h := pay28_is (tile0_dm T)
  exact h

/-- Second tile: the same. -/
theorem tile1_dm_stored : Is (n := 256) (k := 1024) (k0_pay28 (F := Ideal) (k0_pay23 (k0_pay18 z0 w0 z1 w1 z2 w2) z3 w3 x g r) (k0_pay24 mo) g') fun a => A.dm (R + a) := by
  have h := pay52_is (tile1_dx T) (pay48_is T.hmo) T.hg'
  exact h

/-- First tile: its rows' part of the first scale's gradient. -/
theorem tile0_dg : Is (n := 1) (k := 1024) (k0_pay7 (F := Ideal) (k0_pay3 z0 w0 z1 w1 z2 w2 z3 w3) x (k0_pay4 x)) (rowSum fun a k => A.dh (R + a) k * hat (A.x (R + a)) k) := by
  have h := pay19_is (tile_dh T) T.hx
  exact h

/-- Second tile: the same. -/
theorem tile1_dg : Is (n := 1) (k := 1024) (k0_pay22 (F := Ideal) (k0_pay18 z0 w0 z1 w1 z2 w2) z3 w3 x) (rowSum fun a k => A.dh (R + a) k * hat (A.x (R + a)) k) := tile0_dg T

/-- First tile: its rows' part of the second scale's gradient. -/
theorem tile0_dgpost : Is (n := 1) (k := 1024) (k0_pay15 (F := Ideal) (k0_pay8 (k0_pay3 z0 w0 z1 w1 z2 w2 z3 w3) x g (k0_pay4 x) r) (k0_pay11 mo))
    (rowSum fun a k => A.dx (R + a) k * hat (A.mo (R + a)) k) := by
  have h := pay27_is (tile0_dx T) (pay23_is T.hmo)
  exact h

/-- First tile: its rows' part of the bias' gradient. -/
theorem tile0_db : Is (n := 1) (k := 1024) (k0_pay17 (F := Ideal) (k0_pay10 mo) (k0_pay11 mo) (k0_pay12 (k0_pay3 z0 w0 z1 w1 z2 w2 z3 w3) x g (k0_pay4 x) r g')
    (k0_pay13 (k0_pay3 z0 w0 z1 w1 z2 w2 z3 w3) x g (k0_pay4 x) r mo g')) (rowSum fun a k => A.dm (R + a) k) := by
  have h := pay29_is (tile0_dm T)
  exact h
end

variable {m : (ℓ : Loc nD τ sig) → Buf (Elt Ideal) ℓ} {c : Dev nD} {A : PairArgs 2048}

/-- The seven argument arrays hold these real numbers. -/
structure Given (m : (ℓ : Loc nD τ sig) → Buf (Elt Ideal) ℓ) (c : Dev nD) (A : PairArgs 2048) : Prop where
  dz_is : Is (m ((c : Thread nD τ).loc main_arg0)) A.dz
  w_is : Is (m ((c : Thread nD τ).loc main_arg1)) A.w
  dres_is : Is (m ((c : Thread nD τ).loc main_arg2)) A.dres
  x_is : Is (m ((c : Thread nD τ).loc main_arg3)) A.x
  g_is : Is (m ((c : Thread nD τ).loc main_arg4)) fun _ => A.g
  mo_is : Is (m ((c : Thread nD τ).loc main_arg5)) A.mo
  gpost_is : Is (m ((c : Thread nD τ).loc main_arg6)) fun _ => A.gpost

/-- Where each window's block lies, for all eight grid points. -/
theorem idx_val : ∀ t : Fin cfg0.N, win0_0.index t = ![t.val, 0] ∧ win0_1.index t = ![0, 0, 0] ∧ win0_2.index t = ![1, 0, 0] ∧ win0_3.index t = ![2, 0, 0]
    ∧ win0_4.index t = ![3, 0, 0] ∧ win0_5.index t = ![t.val, 0] ∧ win0_6.index t = ![t.val, 0] ∧ win0_7.index t = ![0, 0] ∧ win0_8.index t = ![t.val, 0]
    ∧ win0_9.index t = ![0, 0] ∧ win0_10.index t = ![t.val, 0] ∧ win0_11.index t = ![t.val, 0] ∧ win0_12.index t = ![0, 0]
    ∧ win0_13.index t = ![0, 0] ∧ win0_14.index t = ![0, 0] :=
  (by decide +kernel : ∀ t : Fin grid0.N, _)

/-- The cotangent behind the weight, converted. -/
theorem V_dz (G : Given m c A) : Is (V m c main_v3) A.dz := fun a k => by
  entry_read
  pointwise []
  exact G.dz_is a k

/-- The block's output, converted. -/
theorem V_mo (G : Given m c A) : Is (V m c main_v4) A.mo := fun a k => by
  entry_read
  pointwise []
  exact G.mo_is a k

/-- The weight in four column shards. -/
theorem V_w (G : Given m c A) (s : Fin 4) (k : Fin 1024) (j : Fin 512) :
    (V m c main_v2 : FVec Ideal S4x1024x512 .bf16) (ix3 s k j) = ((A.w k.val (s.val * 512 + j.val) : ℝ) : EReal) := by
  entry_read
  pointwise []
  exact G.w_is k _

/-- Row `a` of grid point `t`'s block, as a row of the whole array. -/
abbrev row (t : Fin cfg0.N) (a : Fin 512) : Fin 4096 :=
  ⟨512 * t.val + a.val, by have := t.isLt; have := a.isLt; have : cfg0.N = 8 := N_0; omega⟩

/-- The cotangent's rows of this point. -/
theorem blk_dz (G : Given m c A) (t : Fin cfg0.N) : Is (n := 512) (k := 2048) (iblk m c 0 t) fun a => A.dz (512 * t.val + a) := fun a k => by
  refine Eq.trans ?_ (V_dz G (row t a) k)
  blk_point [iblk, V, idx_val t]

/-- Column shard 0 of the weight. -/
theorem blk_shard0 (G : Given m c A) (t : Fin cfg0.N) : Is3 (n := 1024) (k := 512) (iblk m c 1 t) A.w := fun k j => by
  refine Eq.trans ?_ ((V_w G 0 k j).trans (by simp only [Fin.val_zero, Nat.zero_mul, Nat.zero_add]))
  blk_point [iblk, idx_val t]

/-- Column shard 1 of the weight. -/
theorem blk_shard1 (G : Given m c A) (t : Fin cfg0.N) : Is3 (n := 1024) (k := 512) (iblk m c 2 t) fun k j => A.w k (512 + j) := fun k j => by
  refine Eq.trans ?_ (V_w G 1 k j)
  blk_point [iblk, idx_val t]

/-- Column shard 2 of the weight. -/
theorem blk_shard2 (G : Given m c A) (t : Fin cfg0.N) : Is3 (n := 1024) (k := 512) (iblk m c 3 t) fun k j => A.w k (1024 + j) := fun k j => by
  refine Eq.trans ?_ (V_w G 2 k j)
  blk_point [iblk, idx_val t]

/-- Column shard 3 of the weight. -/
theorem blk_shard3 (G : Given m c A) (t : Fin cfg0.N) : Is3 (n := 1024) (k := 512) (iblk m c 4 t) fun k j => A.w k (1536 + j) := fun k j => by
  refine Eq.trans ?_ (V_w G 3 k j)
  blk_point [iblk, idx_val t]

/-- The residual stream's incoming cotangent, the rows of this point. -/
theorem blk_dres (G : Given m c A) (t : Fin cfg0.N) : Is (n := 512) (k := 1024) (iblk m c 5 t) fun a => A.dres (512 * t.val + a) := fun a k => by
  refine Eq.trans ?_ (G.dres_is (row t a) k)
  blk_point [iblk, V, idx_val t]

/-- The residual stream, the rows of this point. -/
theorem blk_x (G : Given m c A) (t : Fin cfg0.N) : Is (n := 512) (k := 1024) (iblk m c 6 t) fun a => A.x (512 * t.val + a) := fun a k => by
  refine Eq.trans ?_ (G.x_is (row t a) k)
  blk_point [iblk, V, idx_val t]

/-- The first scale. -/
theorem blk_g (G : Given m c A) (t : Fin cfg0.N) : Is (n := 1) (k := 1024) (iblk m c 7 t) (fun _ => A.g) := fun a k => by
  refine Eq.trans ?_ (G.g_is a k)
  blk_point [iblk, V, idx_val t]

/-- The block's output, the rows of this point. -/
theorem blk_mo (G : Given m c A) (t : Fin cfg0.N) : Is (n := 512) (k := 1024) (iblk m c 8 t) fun a => A.mo (512 * t.val + a) := fun a k => by
  refine Eq.trans ?_ (V_mo G (row t a) k)
  blk_point [iblk, V, idx_val t]

/-- The second scale. -/
theorem blk_gpost (G : Given m c A) (t : Fin cfg0.N) : Is (n := 1) (k := 1024) (iblk m c 9 t) (fun _ => A.gpost) := fun a k => by
  refine Eq.trans ?_ (G.gpost_is a k)
  blk_point [iblk, V, idx_val t]

/-- What a tile of grid point `t` loads, its rows counted from `o` on in the point's blocks. -/
theorem loads (G : Given m c A) (t : Fin cfg0.N) (o : ℕ) (ho : o + 256 ≤ 512) (i0 : ∀ a, (![o, 0] : Fin 2 → ℕ) a + S256x512.size a ≤ S512x2048.size a)
    (i1 : ∀ a, (![o, 512] : Fin 2 → ℕ) a + S256x512.size a ≤ S512x2048.size a) (i2 : ∀ a, (![o, 1024] : Fin 2 → ℕ) a + S256x512.size a ≤ S512x2048.size a)
    (i3 : ∀ a, (![o, 1536] : Fin 2 → ℕ) a + S256x512.size a ≤ S512x2048.size a) (i : ∀ a, (![o, 0] : Fin 2 → ℕ) a + S256x1024.size a ≤ S512x1024.size a) :
    Tile A (512 * t.val + o)
      (View.ld (Val := Elt Ideal) (iblk m c 0 t) (Rect.unit ![o, 0] ![256, 512] i0)) (View.ld (Val := Elt Ideal) (iblk m c 0 t) (Rect.unit ![o, 512] ![256, 512] i1))
      (View.ld (Val := Elt Ideal) (iblk m c 0 t) (Rect.unit ![o, 1024] ![256, 512] i2)) (View.ld (Val := Elt Ideal) (iblk m c 0 t) (Rect.unit ![o, 1536] ![256, 512] i3))
      (iblk m c 1 t) (iblk m c 2 t) (iblk m c 3 t) (iblk m c 4 t)
      (View.ld (Val := Elt Ideal) (iblk m c 5 t) (Rect.unit ![o, 0] ![256, 1024] i)) (View.ld (Val := Elt Ideal) (iblk m c 6 t) (Rect.unit ![o, 0] ![256, 1024] i))
      (iblk m c 7 t) (View.ld (Val := Elt Ideal) (iblk m c 8 t) (Rect.unit ![o, 0] ![256, 1024] i)) (iblk m c 9 t) := by
  refine ⟨fun a k => ?_, fun a k => ?_, fun a k => ?_, fun a k => ?_, blk_shard0 G t, blk_shard1 G t, blk_shard2 G t, blk_shard3 G t, fun a k => ?_, fun a k => ?_,
    blk_g G t, fun a k => ?_, blk_gpost G t⟩ <;> pointwise []
  · exact (blk_dz G t ⟨o + a, by omega⟩ ⟨k, by omega⟩).trans (by simp only [Nat.add_assoc])
  · exact (blk_dz G t ⟨o + a, by omega⟩ ⟨512 + k, by omega⟩).trans (by simp only [Nat.add_assoc])
  · exact (blk_dz G t ⟨o + a, by omega⟩ ⟨1024 + k, by omega⟩).trans (by simp only [Nat.add_assoc])
  · exact (blk_dz G t ⟨o + a, by omega⟩ ⟨1536 + k, by omega⟩).trans (by simp only [Nat.add_assoc])
  · exact (blk_dres G t ⟨o + a, by omega⟩ k).trans (by simp only [Nat.add_assoc])
  · exact (blk_x G t ⟨o + a, by omega⟩ k).trans (by simp only [Nat.add_assoc])
  · exact (blk_mo G t ⟨o + a, by omega⟩ k).trans (by simp only [Nat.add_assoc])

end Cert.Norm.Pair

end
-- ==== Proof.NormSums.lean ====
/- Eight grid points that each add their two tiles' rows to what the point before left hold the sum over all rows at last. -/
module

public import proofs.«01_k».proof.Proof.Sums
public import proofs.«01_k».proof.Proof.NormReals

@[expose] public section

noncomputable section

namespace Cert.Norm

open Idealize.ShloMosaic Cert.Ffn
open Cert.Ffn.Kernel (sum_tiles)

/-- What accumulates over the grid points holds at last the sum over all rows. -/
theorem sum_points {N : ℕ} (hN : N = 8) (last : Fin N) (hl : last.val = 7) (o : (n : ℕ) → n < N → (⟨2, ![1, 1024]⟩ : Shape).Idx → EReal) (f : ℕ → ℕ → ℝ)
    (first : ∀ t : Fin N, t.val % 8 = 0 → ∀ j, o t.val t.isLt j
      = (((∑ a : Fin 256, f (512 * t.val + a) (j 1).val) + ∑ a : Fin 256, f (512 * t.val + 256 + a) (j 1).val : ℝ) : EReal))
    (next : ∀ t : Fin N, ¬t.val % 8 = 0 → ∀ j, o t.val t.isLt j = o (t.val - 1) (by omega) j
      + (((∑ a : Fin 256, f (512 * t.val + a) (j 1).val) + ∑ a : Fin 256, f (512 * t.val + 256 + a) (j 1).val : ℝ) : EReal)) (k : Fin 1024) :
    o last.val last.isLt (ix2 0 k) = ((∑ i : Fin 4096, f i k.val : ℝ) : EReal) := by
  subst hN
  rw [Pipeline.eq_sum_fin_of_reset_step_apply_last o 8 (fun _ => 0)
    (fun p j => (((∑ a : Fin 256, f (512 * p + a) (j 1).val) + ∑ a : Fin 256, f (512 * p + 256 + a) (j 1).val : ℝ) : EReal))
    (fun t k0 j => (first t k0 j).trans (zero_add _).symm) next le_rfl last (by omega) (ix2 0 k), zero_add, coe_sum]
  exact congrArg _ (sum_tiles fun i => f i k.val)

end Cert.Norm

end
-- ==== Proof.NormPairArrays.lean ====
/- The five arrays that the call's kernel leaves, for finite arguments: each grid point's rows of two of them, and three gradients that
   are sums over all rows. -/
module

public import proofs.«01_k».proof.Proof.NormPair
public import proofs.«01_k».proof.Proof.NormSums

@[expose] public section

set_option maxRecDepth 16384

noncomputable section

namespace Cert.Norm.Pair

open Idealize.ShloMosaic Idealize.ShloMosaic.TcCoe Idealize.SL.Sem
open Cert.Kernel12Ideal Cert.Kernel12Ideal.Gen Cert.Ffn
open Cert.Ffn.Kernel (Is Is3 rowSum sum_tiles pay48_is pay53_is pay54_is pay55_is pay56_at pay1_at pay2_at)

variable {m : (ℓ : Loc nD τ sig) → Buf (Elt Ideal) ℓ} {c : Dev nD} {A : PairArgs 2048}

/-- What the first tile loads. -/
def loads0 (G : Given m c A) (t : Fin cfg0.N) := loads G t 0 (by omega) inb_S512x2048_S256x512_0_0 inb_S512x2048_S256x512_0_512
  inb_S512x2048_S256x512_0_1024 inb_S512x2048_S256x512_0_1536 inb_S512x1024_S256x1024_0_0

/-- What the second tile loads. -/
def loads1 (G : Given m c A) (t : Fin cfg0.N) := loads G t 256 (by omega) inb_S512x2048_S256x512_256_0 inb_S512x2048_S256x512_256_512
  inb_S512x2048_S256x512_256_1024 inb_S512x2048_S256x512_256_1536 inb_S512x1024_S256x1024_256_0

/-- A grid point's rows of the residual stream's cotangent. -/
theorem out10 (G : Given m c A) (t : Fin cfg0.N) (y : S512x1024.Idx) :
    (outsAt0 m c t.val t.isLt).1 y = ((A.dx (512 * t.val + (y 0).val) (y 1).val : ℝ) : EReal) := by
  have hN : t.val < 8 := lt_of_lt_of_eq t.isLt N_0
  by_cases k1 : 1 ≤ t.val
  · have k0 : ¬t.val % 8 = 0 := by omega
    rw [outsAt0_B m c t k0 k1 k0 k1 k0 k1]
    frame_out
    canon_tiles x h <;> idx_vars x
    · exact (tile1_dx (loads1 G t) _ _).trans (by simp only [h0, h1, Nat.add_assoc])
    · exact (tile0_dx (loads0 G t) _ _).trans (by simp only [h0, h1, Nat.zero_add, Nat.add_zero])
  · have k0 : t.val % 8 = 0 := by omega
    rw [outsAt0_A m c t k0 k1 k0 k1 k0 k1]
    frame_out
    canon_tiles x h <;> idx_vars x
    · exact (tile1_dx (loads1 G t) _ _).trans (by simp only [h0, h1, Nat.add_assoc])
    · exact (tile0_dx (loads0 G t) _ _).trans (by simp only [h0, h1, Nat.zero_add, Nat.add_zero])

/-- A grid point's rows of the block output's cotangent. -/
theorem out11 (G : Given m c A) (t : Fin cfg0.N) (y : S512x1024.Idx) :
    (outsAt0 m c t.val t.isLt).2.1 y = ((A.dm (512 * t.val + (y 0).val) (y 1).val : ℝ) : EReal) := by
  have hN : t.val < 8 := lt_of_lt_of_eq t.isLt N_0
  by_cases k1 : 1 ≤ t.val
  · have k0 : ¬t.val % 8 = 0 := by omega
    rw [outsAt0_B m c t k0 k1 k0 k1 k0 k1]
    frame_out
    canon_tiles x h <;> idx_vars x
    · exact (tile1_dm_stored (loads1 G t) _ _).trans (by simp only [h0, h1, Nat.add_assoc])
    · exact (tile0_dm_stored (loads0 G t) _ _).trans (by simp only [h0, h1, Nat.zero_add, Nat.add_zero])
  · have k0 : t.val % 8 = 0 := by omega
    rw [outsAt0_A m c t k0 k1 k0 k1 k0 k1]
    frame_out
    canon_tiles x h <;> idx_vars x
    · exact (tile1_dm_stored (loads1 G t) _ _).trans (by simp only [h0, h1, Nat.add_assoc])
    · exact (tile0_dm_stored (loads0 G t) _ _).trans (by simp only [h0, h1, Nat.zero_add, Nat.add_zero])

/-- The last grid point. -/
abbrev lastPoint : Fin cfg0.N := ⟨7, by have : cfg0.N = 8 := N_0; omega⟩

/-- The first scale's gradient after the last point. -/
theorem sum_dg (G : Given m c A) (k : Fin 1024) : (outsAt0 m c lastPoint.val lastPoint.isLt).2.2.1 (ix2 0 k) = ((A.dg k.val : ℝ) : EReal) := by
  have part : ∀ (t : Fin cfg0.N) (a : Fin 1) (k : Fin 1024), _ := fun t a k => pay53_is (tile0_dg (loads0 G t)) (tile1_dg (loads1 G t)) a k
  refine sum_points N_0 lastPoint rfl (fun n h => (outsAt0 m c n h).2.2.1) (fun i k => A.dh i k * hat (A.x i) k) (fun t k0 j => ?_) (fun t k0 j => ?_) k
  · have hN : t.val < 8 := lt_of_lt_of_eq t.isLt N_0
    have k1 : ¬1 ≤ t.val := by omega
    rw [outsAt0_A m c t k0 k1 k0 k1 k0 k1]
    frame_out
    idx_vars j
    exact part t j0 j1
  · have k1 : 1 ≤ t.val := by omega
    rw [outsAt0_B m c t k0 k1 k0 k1 k0 k1]
    frame_out
    idx_vars j
    exact (pay56_at ..).trans (congrArg _ (part t j0 j1))

/-- The second scale's gradient after the last point. -/
theorem sum_dgpost (G : Given m c A) (k : Fin 1024) : (outsAt0 m c lastPoint.val lastPoint.isLt).2.2.2.1 (ix2 0 k) = ((A.dgpost k.val : ℝ) : EReal) := by
  have part : ∀ (t : Fin cfg0.N) (a : Fin 1) (k : Fin 1024), _ := fun t a k => pay54_is (tile0_dgpost (loads0 G t)) (tile1_dx (loads1 G t)) (pay48_is (loads1 G t).hmo) a k
  refine sum_points N_0 lastPoint rfl (fun n h => (outsAt0 m c n h).2.2.2.1) (fun i k => A.dx i k * hat (A.mo i) k) (fun t k0 j => ?_) (fun t k0 j => ?_) k
  · have hN : t.val < 8 := lt_of_lt_of_eq t.isLt N_0
    have k1 : ¬1 ≤ t.val := by omega
    rw [outsAt0_A m c t k0 k1 k0 k1 k0 k1]
    frame_out
    idx_vars j
    exact part t j0 j1
  · have k1 : 1 ≤ t.val := by omega
    rw [outsAt0_B m c t k0 k1 k0 k1 k0 k1]
    frame_out
    idx_vars j
    exact (pay1_at ..).trans (congrArg _ (part t j0 j1))

/-- The bias' gradient after the last point. -/
theorem sum_db (G : Given m c A) (k : Fin 1024) : (outsAt0 m c lastPoint.val lastPoint.isLt).2.2.2.2 (ix2 0 k) = ((A.db k.val : ℝ) : EReal) := by
  have part : ∀ (t : Fin cfg0.N) (a : Fin 1) (k : Fin 1024), _ := fun t a k => pay55_is (tile0_db (loads0 G t)) (tile1_dx (loads1 G t)) (pay48_is (loads1 G t).hmo) (loads1 G t).hg' a k
  refine sum_points N_0 lastPoint rfl (fun n h => (outsAt0 m c n h).2.2.2.2) (fun i k => A.dm i k) (fun t k0 j => ?_) (fun t k0 j => ?_) k
  · have hN : t.val < 8 := lt_of_lt_of_eq t.isLt N_0
    have k1 : ¬1 ≤ t.val := by omega
    rw [outsAt0_A m c t k0 k1 k0 k1 k0 k1]
    frame_out
    idx_vars j
    exact part t j0 j1
  · have k1 : 1 ≤ t.val := by omega
    rw [outsAt0_B m c t k0 k1 k0 k1 k0 k1]
    frame_out
    idx_vars j
    exact (pay2_at ..).trans (congrArg _ (part t j0 j1))

/-- The residual stream's cotangent. -/
theorem arr10 (G : Given m c A) : (dats m 0 c).arrAt 10 cfg0.N = fun i : S4096x1024.Idx => ((A.dx (i 0).val (i 1).val : ℝ) : EReal) :=
  (dats m 0 c).arrAt_eq_of_covers 10 _ (by decide +kernel) fun t hf y => by
    blk_simp
    rw [after0_10, out10 G t]
    simp [idx_val t, Nat.mul_comm]

/-- The block output's cotangent. -/
theorem arr11 (G : Given m c A) : (dats m 0 c).arrAt 11 cfg0.N = fun i : S4096x1024.Idx => ((A.dm (i 0).val (i 1).val : ℝ) : EReal) :=
  (dats m 0 c).arrAt_eq_of_covers 11 _ (by decide +kernel) fun t hf y => by
    blk_simp
    rw [after0_11, out11 G t]
    simp [idx_val t, Nat.mul_comm]

/-- The first scale's gradient. -/
theorem arr12 (G : Given m c A) : (dats m 0 c).arrAt 12 cfg0.N = fun i : S1x1024.Idx => ((A.dg (i 1).val : ℝ) : EReal) :=
  (dats m 0 c).arrAt_eq_of_after_last 12 t0_7 (by decide +kernel) _ fun j => by
    blk_simp
    rw [after0_12]
    idx_vars j
    obtain rfl : j0 = 0 := Subsingleton.elim _ _
    exact sum_dg G j1

/-- The second scale's gradient. -/
theorem arr13 (G : Given m c A) : (dats m 0 c).arrAt 13 cfg0.N = fun i : S1x1024.Idx => ((A.dgpost (i 1).val : ℝ) : EReal) :=
  (dats m 0 c).arrAt_eq_of_after_last 13 t0_7 (by decide +kernel) _ fun j => by
    blk_simp
    rw [after0_13]
    idx_vars j
    obtain rfl : j0 = 0 := Subsingleton.elim _ _
    exact sum_dgpost G j1

/-- The bias' gradient. -/
theorem arr14 (G : Given m c A) : (dats m 0 c).arrAt 14 cfg0.N = fun i : S1x1024.Idx => ((A.db (i 1).val : ℝ) : EReal) :=
  (dats m 0 c).arrAt_eq_of_after_last 14 t0_7 (by decide +kernel) _ fun j => by
    blk_simp
    rw [after0_14]
    idx_vars j
    obtain rfl : j0 = 0 := Subsingleton.elim _ _
    exact sum_db G j1

end Cert.Norm.Pair

end
-- ==== Proof.NormHost.lean ====
/- The normalisation in the references of these calls, for arrays that are real: its forward values, and its derivative applied to any
   cotangent. Both references and both normalisations of the first use these terms. -/
module

public import proofs.«01_k».proof.Proof.Gen.Reference12Ideal.Read
public import proofs.«01_k».proof.Proof.Words

@[expose] public section

noncomputable section

namespace Cert.Norm.Host

open Cert.Reference12Ideal Cert.Reference12Ideal.Gen Cert.Reference12Ideal.Read Idealize.ShloMosaic Idealize.ShloMosaic.TcCoe Cert.Ffn

/-- An array of two axes holds these real numbers. -/
abbrev Real2 {n k : ℕ} (y : FVec Ideal ⟨2, ![n, k]⟩ .f32) (f : ℕ → ℕ → ℝ) : Prop := ∀ i, y i = ((f (i 0).val (i 1).val : ℝ) : EReal)

variable {e x : FVec Ideal S4096x1024 .f32} {g : FVec Ideal S1x1024 .f32} {f u : ℕ → ℕ → ℝ} {s : ℕ → ℝ}

/-- A row's mean square plus the small number. -/
theorem ms_at (hx : Real2 x u) (i : S4096x1.Idx) : val_main_v6 (F := Ideal) x i = ((ms (u (i 0).val) : ℝ) : EReal) := by
  rw [val_main_v6_apply, val_main_v4_apply, val_main_v2_apply, val_main_v1_apply, val_main_cst_apply, val_main_v3_apply, val_main_cst_0_apply, val_main_v5_apply, val_main_cst_1_apply]
  simp only [val_main_v0_apply, hx _, Ideal.mulf_def, Ideal.addf_def, Ideal.hostDivf_def, Ideal.ofBits_def, word_zero, word_rows, word_eps, ← EReal.coe_mul, coe_sum]
  rw [← EReal.coe_add, Ideal.div_coe (by norm_num), ← EReal.coe_mul, ← EReal.coe_add]
  refine congrArg _ ?_
  unfold ms
  rw [zero_add, mul_one_div]

/-- A row's reciprocal root mean square. -/
theorem rinv_at (hx : Real2 x u) (i : S4096x1.Idx) : val_main_v7 (F := Ideal) x i = ((rinv (u (i 0).val) : ℝ) : EReal) := by
  rw [val_main_v7_apply, ms_at hx, Ideal.hostUnary_rsqrt_def, Ideal.rsqrt_coe, if_neg (not_lt.mpr (ms_pos _).le), if_neg (ms_pos _).ne']
  rfl

/-- The derivative of the reciprocal root in the mean square. -/
theorem deriv_at (hx : Real2 x u) (i : S4096x1.Idx) :
    val_main_v10 (F := Ideal) x i = ((-(1 / 2) * (rinv (u (i 0).val) / ms (u (i 0).val)) : ℝ) : EReal) := by
  rw [val_main_v10_apply, val_main_v9_apply, val_main_cst_2_apply, val_main_v8_apply, rinv_at hx, ms_at hx, Ideal.hostDivf_def, Ideal.div_coe (ms_pos _).ne', Ideal.mulf_def, Ideal.ofBits_def, word_half, ← EReal.coe_mul, ← EReal.coe_mul, mul_one_div]

/-- The normalised row. -/
theorem hat_at (hx : Real2 x u) (i : S4096x1024.Idx) : val_main_v12 (F := Ideal) x i = ((hat (u (i 0).val) (i 1).val : ℝ) : EReal) := by
  rw [val_main_v12_apply, val_main_v11_apply, hx, rinv_at hx, Ideal.mulf_def, ← EReal.coe_mul]
  rfl

/-- An array's column sums. -/
def colSum (y : FVec Ideal S4096x1024 .f32) : FVec Ideal S1024 .f32 :=
  Host.reduceAdd y (constant S_ .f32 0x00000000#32) reducesTo_S4096x1024_S1024_d0 h_S_

/-- Column sums of real numbers. -/
theorem colSum_at {y : FVec Ideal S4096x1024 .f32} (hy : Real2 y f) (i : S1024.Idx) : colSum y i = ((∑ a : Fin 4096, f a (i 0).val : ℝ) : EReal) := by
  have h : colSum y i = Ideal.ofBits .f32 0x00000000#32 + ∑ k : Fin 4096, y (idx_main_v18 i k) := by
    unfold colSum
    simp only [Host.reduceAdd, Ideal.hostReduceAdd_def]
    rw [Ideal.hostReduceAdd_single reducesTo_S4096x1024_S1024_d0 (by decide)]
    refine congrArg (_ + ·) (Finset.sum_congr rfl fun k _ => ?_)
    exact congrArg y (funext fun a => Fin.ext (by match a with | ⟨0, _⟩ => rfl | ⟨1, _⟩ => rfl))
  simp only [h, hy _, word_zero, coe_sum]
  rw [← EReal.coe_add, zero_add]

/-- The gradient in the scale: the column sums of the cotangent times the normalised row. -/
theorem scale_at (he : Real2 e f) (hx : Real2 x u) (i : S1024.Idx) :
    colSum (mulf (val_main_v12 (F := Ideal) x) e) i = ((∑ a : Fin 4096, f a (i 0).val * hat (u a) (i 0).val : ℝ) : EReal) :=
  colSum_at (f := fun a k => f a k * hat (u a) k) (fun j => by
    show (val_main_v12 (F := Ideal) x j : EReal) * e j = _
    rw [hat_at hx, he, ← EReal.coe_mul, mul_comm]) i

/-- An array's row sums, as a column. -/
def rowSum (y : FVec Ideal S4096x1024 .f32) : FVec Ideal S4096x1 .f32 :=
  shapeCast _ (Host.reduceAdd y (constant S_ .f32 0x00000000#32) reducesTo_S4096x1024_S4096_d1 h_S_) shapeCasts_S4096_S4096x1

/-- Row sums of real numbers. -/
theorem rowSum_at {y : FVec Ideal S4096x1024 .f32} (hy : Real2 y f) (i : S4096x1.Idx) : rowSum y i = ((∑ j : Fin 1024, f (i 0).val j : ℝ) : EReal) := by
  have h : rowSum y i = Ideal.ofBits .f32 0x00000000#32 + ∑ k : Fin 1024, y (idx_main_v23 (idx_main_v24 i) k) := by
    unfold rowSum
    refine (shapeCast_apply _ shapeCasts_S4096_S4096x1 i (idx_main_v24 i)
      (by rewrite [Shape.rowMajor_val_one, Shape.rowMajor_val_two]; show (i 0).val * 1 + (i 1).val = (i 0).val * 1 + (i 1).val; rfl)).trans ?_
    simp only [Host.reduceAdd, Ideal.hostReduceAdd_def]
    rw [Ideal.hostReduceAdd_single reducesTo_S4096x1024_S4096_d1 (by decide)]
    refine congrArg (_ + ·) (Finset.sum_congr rfl fun k _ => ?_)
    exact congrArg y (funext fun a => Fin.ext (by match a with | ⟨0, _⟩ => rfl | ⟨1, _⟩ => rfl))
  have h0 : (i 0).val * 1 + (i 1).val = (i 0).val := by have h : (i 1).val < 1 := (i 1).isLt; omega
  simp only [h, hy _, word_zero, coe_sum]
  rw [← EReal.coe_add, zero_add]
  simp only [h0]

/-- A column as one number per row, laid out along the rows. -/
def alongRows (y : FVec Ideal S4096x1 .f32) : FVec Ideal S4096x1024 .f32 :=
  broadcastInDim S4096x1024 ![0] bcast_S4096_S4096x1024_0 (Host.reduceAdd y (constant S_ .f32 0x00000000#32) reducesTo_S4096x1_S4096_d1 h_S_)

/-- Laid out, a column's real numbers. -/
theorem alongRows_at {y : FVec Ideal S4096x1 .f32} {r : ℕ → ℝ} (hy : ∀ i, y i = ((r (i 0).val : ℝ) : EReal)) (i : S4096x1024.Idx) :
    alongRows y i = ((r (i 0).val : ℝ) : EReal) := by
  have h : alongRows y i = Ideal.ofBits .f32 0x00000000#32 + ∑ k : Fin 1, y (idx_main_v30 (idx_main_v31 i) k) := by
    unfold alongRows
    refine (broadcastInDim_apply _ bcast_S4096_S4096x1024_0 _ i (idx_main_v31 i) (fun a => match a with
      | ⟨0, _⟩ => by show (i 0).val = if (4096 : Nat) = 1 then 0 else (i 0).val; rw [if_neg (by decide)])).trans ?_
    simp only [Host.reduceAdd, Ideal.hostReduceAdd_def]
    rw [Ideal.hostReduceAdd_single reducesTo_S4096x1_S4096_d1 (by decide)]
    refine congrArg (_ + ·) (Finset.sum_congr rfl fun k _ => ?_)
    exact congrArg y (funext fun a => Fin.ext (by match a with | ⟨0, _⟩ => rfl | ⟨1, _⟩ => rfl))
  simp only [h, hy _, word_zero, coe_sum]
  rw [← EReal.coe_add, zero_add]
  simp only [Finset.univ_unique, Finset.sum_singleton]

/-- The part of a cotangent that comes back through the mean square, laid out along the rows. -/
def backMean (e x : FVec Ideal S4096x1024 .f32) (g : FVec Ideal S1x1024 .f32) : FVec Ideal S4096x1024 .f32 :=
  alongRows (Host.divf (mulf (rowSum (mulf x (mulf e (val_main_v20 (F := Ideal) g)))) (val_main_v10 (F := Ideal) x)) (val_main_v28 (F := Ideal)))

/-- The normalisation's derivative applied to a cotangent. -/
def back (e x : FVec Ideal S4096x1024 .f32) (g : FVec Ideal S1x1024 .f32) : FVec Ideal S4096x1024 .f32 :=
  addf (addf (mulf (mulf e (val_main_v20 (F := Ideal) g)) (val_main_v25 (F := Ideal) x)) (mulf x (backMean e x g))) (mulf (backMean e x g) x)

/-- The cotangent times the scale. -/
theorem scaled_at (he : Real2 e f) (hg : Real2 g fun _ => s) : Real2 (mulf e (val_main_v20 (F := Ideal) g)) fun a k => f a k * s k := fun i => by
  show (e i : EReal) * val_main_v20 (F := Ideal) g i = _
  rw [val_main_v20_apply, hg, he, ← EReal.coe_mul]

/-- The part through the mean square, in real numbers. -/
theorem backMean_at (he : Real2 e f) (hx : Real2 x u) (hg : Real2 g fun _ => s) (i : S4096x1024.Idx) :
    backMean e x g i = (((∑ j : Fin 1024, u (i 0).val j * (f (i 0).val j * s j)) * (-(1 / 2) * (rinv (u (i 0).val) / ms (u (i 0).val))) / 1024 : ℝ) : EReal) :=
  alongRows_at (r := fun a => (∑ j : Fin 1024, u a j * (f a j * s j)) * (-(1 / 2) * (rinv (u a) / ms (u a))) / 1024) (fun j => by
    show Ideal.div ((rowSum _ j : EReal) * val_main_v10 (F := Ideal) x j) (val_main_v28 (F := Ideal) j) = _
    rw [rowSum_at (f := fun a k => u a k * (f a k * s k)) (fun q => by
      show (x q : EReal) * mulf e (val_main_v20 (F := Ideal) g) q = _
      rw [hx, scaled_at he hg, ← EReal.coe_mul]), deriv_at hx, val_main_v28_apply, val_main_cst_5_apply, Ideal.ofBits_def, word_rows, Ideal.div_coe (by norm_num),
      ← EReal.coe_mul, ← EReal.coe_mul, mul_one_div]) i

/-- The derivative, in real numbers. -/
theorem back_at (he : Real2 e f) (hx : Real2 x u) (hg : Real2 g fun _ => s) : Real2 (back e x g) fun a => normBack (f a) (u a) s := fun i => by
  show ((mulf e (val_main_v20 (F := Ideal) g) i : EReal) * val_main_v25 (F := Ideal) x i + x i * backMean e x g i) + backMean e x g i * x i = _
  rw [scaled_at he hg, backMean_at he hx hg, val_main_v25_apply, rinv_at hx, hx]
  show _ = ((normBack (f (i 0).val) (u (i 0).val) s (i 1).val : ℝ) : EReal)
  rw [normBack_eq]
  simp only [← EReal.coe_mul, ← EReal.coe_add]

end Cert.Norm.Host

end
-- ==== Proof.NormPairRef.lean ====
/- What the first of the two references computes, on arguments that are real. -/
module

public import proofs.«01_k».proof.Proof.NormHost
public import proofs.«01_k».proof.Proof.NormReals

@[expose] public section

noncomputable section

namespace Cert.Norm.Pair.Reference

open Cert.Reference12Ideal Cert.Reference12Ideal.Gen Cert.Reference12Ideal.Read Idealize.ShloMosaic Idealize.ShloMosaic.TcCoe Cert.Ffn Cert.Norm.Host

/-- The seven argument arrays hold these real numbers. -/
structure Holds (A : PairArgs 2048) (x0 : FVec Ideal S4096x2048 .f32) (x1 : FVec Ideal S1024x2048 .f32) (x2 x3 : FVec Ideal S4096x1024 .f32)
    (x4 : FVec Ideal S1x1024 .f32) (x5 : FVec Ideal S4096x1024 .f32) (x6 : FVec Ideal S1x1024 .f32) : Prop where
  dz_at : Real2 x0 A.dz
  w_at : Real2 x1 A.w
  dres_at : Real2 x2 A.dres
  x_at : Real2 x3 A.x
  g_at : Real2 x4 fun _ => A.g
  mo_at : Real2 x5 A.mo
  gpost_at : Real2 x6 fun _ => A.gpost

variable {A : PairArgs 2048} {x0 : FVec Ideal S4096x2048 .f32} {x1 : FVec Ideal S1024x2048 .f32} {x2 x3 : FVec Ideal S4096x1024 .f32}
    {x4 : FVec Ideal S1x1024 .f32} {x5 : FVec Ideal S4096x1024 .f32} {x6 : FVec Ideal S1x1024 .f32}

/-- The cotangent of the normalised, scaled row. -/
theorem v16_at (H : Holds A x0 x1 x2 x3 x4 x5 x6) : Real2 (val_main_v16 (F := Ideal) x0 x1) A.dh := fun i => by
  rw [val_main_v16_apply]
  simp only [H.dz_at _, H.w_at _, ← EReal.coe_mul, coe_sum]
  rfl

/-- The first normalisation's gradient in its scale. -/
theorem v19_at (H : Holds A x0 x1 x2 x3 x4 x5 x6) (i : S1x1024.Idx) : val_main_v19 (F := Ideal) x0 x1 x3 i = ((A.dg (i 1).val : ℝ) : EReal) := by
  rw [val_main_v19_apply]
  refine (scale_at (v16_at H) H.x_at (idx_main_v19 i)).trans (congrArg _ ?_)
  have h0 : (i 0).val * 1024 + (i 1).val = (i 1).val := by have h : (i 0).val < 1 := (i 0).isLt; omega
  simp only [h0]
  rfl

/-- The residual stream's cotangent. -/
theorem v36_at (H : Holds A x0 x1 x2 x3 x4 x5 x6) : Real2 (val_main_v36 (F := Ideal) x0 x1 x2 x3 x4) A.dx := fun i => by
  rw [val_main_v36_apply, H.dres_at]
  refine (congrArg (fun z : EReal => ((A.dres (i 0).val (i 1).val : ℝ) : EReal) + z) (back_at (v16_at H) H.x_at H.g_at i)).trans ?_
  rw [← EReal.coe_add]
  rfl

/-- The second normalisation's gradient in its scale. -/
theorem v54_at (H : Holds A x0 x1 x2 x3 x4 x5 x6) (i : S1x1024.Idx) : val_main_v54 (F := Ideal) x0 x1 x2 x3 x4 x5 i = ((A.dgpost (i 1).val : ℝ) : EReal) := by
  rw [val_main_v54_apply]
  refine (scale_at (v36_at H) H.mo_at (idx_main_v54 i)).trans (congrArg _ ?_)
  have h0 : (i 0).val * 1024 + (i 1).val = (i 1).val := by have h : (i 0).val < 1 := (i 0).isLt; omega
  simp only [h0]
  rfl

/-- The cotangent of the block's output. -/
theorem v70_at (H : Holds A x0 x1 x2 x3 x4 x5 x6) : Real2 (val_main_v70 (F := Ideal) x0 x1 x2 x3 x4 x5 x6) A.dm :=
  back_at (v36_at H) H.mo_at H.gpost_at

/-- The same, as the reference hands it on. -/
theorem v71_at (H : Holds A x0 x1 x2 x3 x4 x5 x6) (i : S4096x1024.Idx) :
    val_main_v71 (F := Ideal) x0 x1 x2 x3 x4 x5 x6 i = ((A.dm (i 0).val (i 1).val : ℝ) : EReal) := by
  rw [val_main_v71_apply, v70_at H, Ideal.truncf_def]

/-- The bias' gradient. -/
theorem v73_at (H : Holds A x0 x1 x2 x3 x4 x5 x6) (i : S1x1024.Idx) : val_main_v73 (F := Ideal) x0 x1 x2 x3 x4 x5 x6 i = ((A.db (i 1).val : ℝ) : EReal) := by
  rw [val_main_v73_apply]
  exact colSum_at (v70_at H) (idx_main_v73 i)

end Cert.Norm.Pair.Reference

end
-- ==== Proof.NormPairEquation.lean ====
/- The equation of the first of the two calls: on finite arguments the idealized kernel and the idealized reference leave the same five
   arrays. -/
module

public import proofs.«01_k».proof.Defs
public import proofs.«01_k».proof.Proof.NormPairArrays
public import proofs.«01_k».proof.Proof.NormPairRef
public import proofs.«01_k».proof.Proof.Finite
public import proofs.«01_k».proof.Proof.Gen.Pre_finite12
public import proofs.«01_k».proof.Proof.Gen.Reference12Ideal
public import proofs.«01_k».proof.Proof.Gen.Reference12Ideal.Run

@[expose] public section

set_option maxRecDepth 16384

noncomputable section

namespace Cert.Norm.Pair

open Idealize.ShloMosaic Idealize.SL.Sem
open Cert.Ffn.Finite (real_of_all reals reals_at)

/-- The reference runs to the end and leaves its arguments and its counters alone: it declares no semaphore. -/
theorem frame_reference : Cert.quiescent_Reference12Ideal := fun m ρ _ =>
  (θ_run Cert.Reference12Ideal.defs _ _).mono (fun r h => ⟨fun c => (h c).2.2.2.2.2, sem_eq_zero_of_no_sems (by decide) r.2⟩)
    (Cert.Reference12Ideal.Value.run (F := Ideal) m ρ)

section
open Cert.Pre_finite12
variable (x0 : FVec Ideal S4096x2048 .f32) (x1 : FVec Ideal S1024x2048 .f32) (x2 x3 : FVec Ideal S4096x1024 .f32)
  (x4 : FVec Ideal S1x1024 .f32) (x5 : FVec Ideal S4096x1024 .f32) (x6 : FVec Ideal S1x1024 .f32)

/-- The real arrays that the arguments hold. -/
def args : PairArgs 2048 where
  dz := reals x0
  w := reals x1
  dres := reals x2
  x := reals x3
  g := reals x4 0
  mo := reals x5
  gpost := reals x6 0

/-- What the precondition says: the arguments hold the reals read off them. -/
theorem holds_of_finite (h : Cert.Pre_finite12.fn (F := Ideal) x0 x1 x2 x3 x4 x5 x6 = fun _ => 1#1) :
    Reference.Holds (args x0 x1 x2 x3 x4 x5 x6) x0 x1 x2 x3 x4 x5 x6 := by
  have e := congrFun h (fun q => q.elim0)
  simp only [Cert.Pre_finite12.fn, Cert.Pre_finite12.fn_part1, andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  constructor
  · intro i; idx_vars i; exact reals_at x0 (real_of_all _ _ _ _ _ e0) _ _
  · intro i; idx_vars i; exact reals_at x1 (real_of_all _ _ _ _ _ e1) _ _
  · intro i; idx_vars i; exact reals_at x2 (real_of_all _ _ _ _ _ e2) _ _
  · intro i; idx_vars i; exact reals_at x3 (real_of_all _ _ _ _ _ e3) _ _
  · intro i; idx_vars i; obtain rfl : i0 = 0 := Subsingleton.elim _ _; exact reals_at x4 (real_of_all _ _ _ _ _ e4) _ _
  · intro i; idx_vars i; exact reals_at x5 (real_of_all _ _ _ _ _ e5) _ _
  · intro i; idx_vars i; obtain rfl : i0 = 0 := Subsingleton.elim _ _; exact reals_at x6 (real_of_all _ _ _ _ _ e6) _ _
end

section
open Cert.Kernel12Ideal
variable (m : (ℓ : Loc nD τ sig) → Buf (Elt Ideal) ℓ) (c : Dev nD)

/-- The real arrays that a device's arguments hold. -/
abbrev argsOf : PairArgs 2048 :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

variable {m} (hp : Cert.Pre_Kernel12Ideal_finite12 m)
include hp

/-- Under the precondition, the reference's reading of them. -/
theorem holds_of_pre : Reference.Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) :=
  holds_of_finite _ _ _ _ _ _ _ (hp c)

/-- Under the precondition, the kernel's reading of them. -/
theorem given_of_pre : Given m c (argsOf m c) where
  dz_is a k := (holds_of_pre c hp).dz_at (ix2 a k)
  w_is a k := (holds_of_pre c hp).w_at (ix2 a k)
  dres_is a k := (holds_of_pre c hp).dres_at (ix2 a k)
  x_is a k := (holds_of_pre c hp).x_at (ix2 a k)
  g_is a k := (holds_of_pre c hp).g_at (ix2 a k)
  mo_is a k := (holds_of_pre c hp).mo_at (ix2 a k)
  gpost_is a k := (holds_of_pre c hp).gpost_at (ix2 a k)
end

/-- Both programs leave the real formulas' arrays. -/
theorem equation : Cert.algebraic_Kernel12Ideal_Reference12Ideal_pre_finite12 := by
  intro m ρ m' ρ' hp hagree
  refine ⟨fun c i => (((argsOf m c).dx (i 0).val (i 1).val : ℝ) : EReal), fun c i => (((argsOf m c).dm (i 0).val (i 1).val : ℝ) : EReal),
    fun c i => (((argsOf m c).dg (i 1).val : ℝ) : EReal), fun c i => (((argsOf m c).dgpost (i 1).val : ℝ) : EReal),
    fun c i => (((argsOf m c).db (i 1).val : ℝ) : EReal), ?_, ?_⟩
  · refine (θ_run Cert.Kernel12Ideal.defs _ _).mono (fun r h c => ?_) (Cert.Kernel12Ideal.Value.run_blocks (F := Ideal) m ρ)
    have G := given_of_pre c hp
    obtain ⟨h0, h1, h2, h3, h4, hk⟩ := h c
    exact ⟨h0.trans (arr10 G), h1.trans (arr11 G), h2.trans (arr12 G), h3.trans (arr13 G), h4.trans (arr14 G), hk⟩
  · refine (θ_run Cert.Reference12Ideal.defs _ _).mono (fun r h c => ?_) (Cert.Reference12Ideal.Value.run (F := Ideal) m' ρ')
    have H := holds_of_pre c hp
    obtain ⟨a0, a1, a2, a3, a4, a5, a6⟩ := hagree c
    obtain ⟨h0, h1, h2, h3, h4, hk⟩ := h c
    rw [Cert.Reference12Ideal.Read.val_main_v36_eq, a0, a1, a2, a3, a4] at h0
    rw [Cert.Reference12Ideal.Read.val_main_v71_eq, a0, a1, a2, a3, a4, a5, a6] at h1
    rw [Cert.Reference12Ideal.Read.val_main_v19_eq, a0, a1, a3] at h2
    rw [Cert.Reference12Ideal.Read.val_main_v54_eq, a0, a1, a2, a3, a4, a5] at h3
    rw [Cert.Reference12Ideal.Read.val_main_v73_eq, a0, a1, a2, a3, a4, a5, a6] at h4
    exact ⟨h0.trans (funext (Reference.v36_at H)), h1.trans (funext (Reference.v71_at H)), h2.trans (funext (Reference.v19_at H)),
      h3.trans (funext (Reference.v54_at H)), h4.trans (funext (Reference.v73_at H)), hk⟩

end Cert.Norm.Pair

end
-- ==== Proof.NormLast.lean ====
/- The backward call through the fused query, key and value projection and the normalisation before it: what a tile computes, what the
   blocks hold, and the two arrays that the kernel leaves, for finite arguments. Behind the product it computes the same terms as the
   feed-forward half's backward call, so that call's lemmas about a tile apply. -/
module

public import proofs.«01_k».proof.Proof.Gen.Kernel13Ideal.Value
public import proofs.«01_k».proof.Proof.NormSums

@[expose] public section

set_option maxRecDepth 16384

noncomputable section

namespace Cert.Norm.Last

open Idealize.ShloMosaic Idealize.ShloMosaic.TcCoe Idealize.SL.Sem
open Cert.Kernel13Ideal Cert.Kernel13Ideal.Gen Cert.Ffn
open Cert.Ffn.Kernel (Is Is3 rowSum pay19_is pay20_is pay53_is pay56_at)

/-- The product of a tile's rows with the weight, four shards of columns added up. -/
theorem pay4_is {z0 z1 z2 z3 : FVec Ideal S256x384 .bf16} {w0 w1 w2 w3 : FVec Ideal S1x1024x384 .bf16} {f0 f1 f2 f3 u0 u1 u2 u3 : ℕ → ℕ → ℝ}
    (hz0 : Is (n := 256) (k := 384) z0 f0) (hz1 : Is (n := 256) (k := 384) z1 f1) (hz2 : Is (n := 256) (k := 384) z2 f2) (hz3 : Is (n := 256) (k := 384) z3 f3)
    (hw0 : Is3 (n := 1024) (k := 384) w0 u0) (hw1 : Is3 (n := 1024) (k := 384) w1 u1) (hw2 : Is3 (n := 1024) (k := 384) w2 u2) (hw3 : Is3 (n := 1024) (k := 384) w3 u3) :
    Is (n := 256) (k := 1024) (k0_pay4 (F := Ideal) z0 w0 z1 w1 z2 w2 z3 w3) fun a k =>
      (∑ j : Fin 384, f0 a j * u0 k j) + (∑ j : Fin 384, f1 a j * u1 k j) + (∑ j : Fin 384, f2 a j * u2 k j) + ∑ j : Fin 384, f3 a j * u3 k j := by
  intro a k
  pointwise [k0_pay4]
  simp only [hz0 _ _, hz1 _ _, hz2 _ _, hz3 _ _, hw0 _ _, hw1 _ _, hw2 _ _, hw3 _ _, ← EReal.coe_mul, ← EReal.coe_add, coe_sum]

/-- What a tile loads: the rows from `R` on, and the weight's shards and the scale. -/
structure Tile (A : Args 1536) (R : ℕ) (z0 z1 z2 z3 : FVec Ideal S256x384 .bf16) (w0 w1 w2 w3 : FVec Ideal S1x1024x384 .bf16)
    (r x : FVec Ideal S256x1024 .f32) (g : FVec Ideal S1x1024 .f32) : Prop where
  hz0 : Is (n := 256) (k := 384) z0 fun a => A.dz (R + a)
  hz1 : Is (n := 256) (k := 384) z1 fun a j => A.dz (R + a) (384 + j)
  hz2 : Is (n := 256) (k := 384) z2 fun a j => A.dz (R + a) (768 + j)
  hz3 : Is (n := 256) (k := 384) z3 fun a j => A.dz (R + a) (1152 + j)
  hw0 : Is3 (n := 1024) (k := 384) w0 A.w
  hw1 : Is3 (n := 1024) (k := 384) w1 fun k j => A.w k (384 + j)
  hw2 : Is3 (n := 1024) (k := 384) w2 fun k j => A.w k (768 + j)
  hw3 : Is3 (n := 1024) (k := 384) w3 fun k j => A.w k (1152 + j)
  hr : Is (n := 256) (k := 1024) r fun a => A.dres (R + a)
  hx : Is (n := 256) (k := 1024) x fun a => A.x (R + a)
  hg : Is (n := 1) (k := 1024) g fun _ => A.g

section
variable {A : Args 1536} {R : ℕ} {z0 z1 z2 z3 : FVec Ideal S256x384 .bf16} {w0 w1 w2 w3 : FVec Ideal S1x1024x384 .bf16}
    {r x : FVec Ideal S256x1024 .f32} {g : FVec Ideal S1x1024 .f32} (T : Tile A R z0 z1 z2 z3 w0 w1 w2 w3 r x g)
include T

/-- The cotangent of a tile's normalised rows. -/
theorem tile_dh : Is (n := 256) (k := 1024) (k0_pay4 (F := Ideal) z0 w0 z1 w1 z2 w2 z3 w3) fun a => A.dh (R + a) := fun a k =>
  (pay4_is T.hz0 T.hz1 T.hz2 T.hz3 T.hw0 T.hw1 T.hw2 T.hw3 a k).trans
    (congrArg _ (sum_shards 384 1536 768 1152 rfl rfl rfl fun j => A.dz (R + a) j * A.w k j).symm)

/-- First tile: its rows of the residual stream's cotangent. -/
theorem tile0_dx : Is (n := 256) (k := 1024) (k0_pay10 (F := Ideal) (k0_pay4 z0 w0 z1 w1 z2 w2 z3 w3) x g (k0_pay5 x) k0_pay6 r) fun a => A.dx (R + a) := by
  have h := pay20_is (tile_dh T) T.hx T.hg T.hr
  exact h

/-- Second tile: the same. -/
theorem tile1_dx : Is (n := 256) (k := 1024) (k0_pay1 (F := Ideal) (k0_pay16 (k0_pay11 z0 w0 z1 w1) (k0_pay12 z2) w2 z3 w3 x g) r) fun a => A.dx (R + a) := tile0_dx T

/-- First tile: its rows' part of the scale's gradient. -/
theorem tile0_dg : Is (n := 1) (k := 1024) (k0_pay9 (F := Ideal) (k0_pay4 z0 w0 z1 w1 z2 w2 z3 w3) x (k0_pay5 x) k0_pay6)
    (rowSum fun a k => A.dh (R + a) k * hat (A.x (R + a)) k) := by
  have h := pay19_is (tile_dh T) T.hx
  exact h

/-- Second tile: the same. -/
theorem tile1_dg : Is (n := 1) (k := 1024) (k0_pay17 (F := Ideal) (k0_pay11 z0 w0 z1 w1) (k0_pay12 z2) w2 z3 w3 x)
    (rowSum fun a k => A.dh (R + a) k * hat (A.x (R + a)) k) := tile0_dg T
end

variable {m : (ℓ : Loc nD τ sig) → Buf (Elt Ideal) ℓ} {c : Dev nD} {A : Args 1536}

/-- The five argument arrays hold these real numbers. -/
structure Given (m : (ℓ : Loc nD τ sig) → Buf (Elt Ideal) ℓ) (c : Dev nD) (A : Args 1536) : Prop where
  dz_is : Is (m ((c : Thread nD τ).loc main_arg0)) A.dz
  w_is : Is (m ((c : Thread nD τ).loc main_arg1)) A.w
  dres_is : Is (m ((c : Thread nD τ).loc main_arg2)) A.dres
  x_is : Is (m ((c : Thread nD τ).loc main_arg3)) A.x
  g_is : Is (m ((c : Thread nD τ).loc main_arg4)) fun _ => A.g

/-- Where each window's block lies, for all eight grid points. -/
theorem idx_val : ∀ t : Fin cfg0.N, win0_0.index t = ![t.val, 0] ∧ win0_1.index t = ![0, 0, 0] ∧ win0_2.index t = ![1, 0, 0] ∧ win0_3.index t = ![2, 0, 0]
    ∧ win0_4.index t = ![3, 0, 0] ∧ win0_5.index t = ![t.val, 0] ∧ win0_6.index t = ![t.val, 0] ∧ win0_7.index t = ![0, 0] ∧ win0_8.index t = ![t.val, 0]
    ∧ win0_9.index t = ![0, 0] :=
  (by decide +kernel : ∀ t : Fin grid0.N, _)

/-- The cotangent behind the weight, converted. -/
theorem V_dz (G : Given m c A) : Is (V m c main_v3) A.dz := fun a k => by
  entry_read
  pointwise []
  exact G.dz_is a k

/-- The weight in four column shards. -/
theorem V_w (G : Given m c A) (s : Fin 4) (k : Fin 1024) (j : Fin 384) :
    (V m c main_v2 : FVec Ideal S4x1024x384 .bf16) (ix3 s k j) = ((A.w k.val (s.val * 384 + j.val) : ℝ) : EReal) := by
  entry_read
  pointwise []
  exact G.w_is k _

/-- Row `a` of grid point `t`'s block, as a row of the whole array. -/
abbrev row (t : Fin cfg0.N) (a : Fin 512) : Fin 4096 :=
  ⟨512 * t.val + a.val, by have := t.isLt; have := a.isLt; have : cfg0.N = 8 := N_0; omega⟩

/-- The cotangent's rows of this point. -/
theorem blk_dz (G : Given m c A) (t : Fin cfg0.N) : Is (n := 512) (k := 1536) (iblk m c 0 t) fun a => A.dz (512 * t.val + a) := fun a k => by
  refine Eq.trans ?_ (V_dz G (row t a) k)
  blk_point [iblk, V, idx_val t]

/-- Column shard 0 of the weight. -/
theorem blk_shard0 (G : Given m c A) (t : Fin cfg0.N) : Is3 (n := 1024) (k := 384) (iblk m c 1 t) A.w := fun k j => by
  refine Eq.trans ?_ ((V_w G 0 k j).trans (by simp only [Fin.val_zero, Nat.zero_mul, Nat.zero_add]))
  blk_point [iblk, idx_val t]

/-- Column shard 1 of the weight. -/
theorem blk_shard1 (G : Given m c A) (t : Fin cfg0.N) : Is3 (n := 1024) (k := 384) (iblk m c 2 t) fun k j => A.w k (384 + j) := fun k j => by
  refine Eq.trans ?_ (V_w G 1 k j)
  blk_point [iblk, idx_val t]

/-- Column shard 2 of the weight. -/
theorem blk_shard2 (G : Given m c A) (t : Fin cfg0.N) : Is3 (n := 1024) (k := 384) (iblk m c 3 t) fun k j => A.w k (768 + j) := fun k j => by
  refine Eq.trans ?_ (V_w G 2 k j)
  blk_point [iblk, idx_val t]

/-- Column shard 3 of the weight. -/
theorem blk_shard3 (G : Given m c A) (t : Fin cfg0.N) : Is3 (n := 1024) (k := 384) (iblk m c 4 t) fun k j => A.w k (1152 + j) := fun k j => by
  refine Eq.trans ?_ (V_w G 3 k j)
  blk_point [iblk, idx_val t]

/-- The residual stream's incoming cotangent, the rows of this point. -/
theorem blk_dres (G : Given m c A) (t : Fin cfg0.N) : Is (n := 512) (k := 1024) (iblk m c 5 t) fun a => A.dres (512 * t.val + a) := fun a k => by
  refine Eq.trans ?_ (G.dres_is (row t a) k)
  blk_point [iblk, V, idx_val t]

/-- The residual stream, the rows of this point. -/
theorem blk_x (G : Given m c A) (t : Fin cfg0.N) : Is (n := 512) (k := 1024) (iblk m c 6 t) fun a => A.x (512 * t.val + a) := fun a k => by
  refine Eq.trans ?_ (G.x_is (row t a) k)
  blk_point [iblk, V, idx_val t]

/-- The scale. -/
theorem blk_g (G : Given m c A) (t : Fin cfg0.N) : Is (n := 1) (k := 1024) (iblk m c 7 t) (fun _ => A.g) := fun a k => by
  refine Eq.trans ?_ (G.g_is a k)
  blk_point [iblk, V, idx_val t]

/-- What a tile of grid point `t` loads, its rows counted from `o` on in the point's blocks. -/
theorem loads (G : Given m c A) (t : Fin cfg0.N) (o : ℕ) (ho : o + 256 ≤ 512) (i0 : ∀ a, (![o, 0] : Fin 2 → ℕ) a + S256x384.size a ≤ S512x1536.size a)
    (i1 : ∀ a, (![o, 384] : Fin 2 → ℕ) a + S256x384.size a ≤ S512x1536.size a) (i2 : ∀ a, (![o, 768] : Fin 2 → ℕ) a + S256x384.size a ≤ S512x1536.size a)
    (i3 : ∀ a, (![o, 1152] : Fin 2 → ℕ) a + S256x384.size a ≤ S512x1536.size a) (i : ∀ a, (![o, 0] : Fin 2 → ℕ) a + S256x1024.size a ≤ S512x1024.size a) :
    Tile A (512 * t.val + o)
      (View.ld (Val := Elt Ideal) (iblk m c 0 t) (Rect.unit ![o, 0] ![256, 384] i0)) (View.ld (Val := Elt Ideal) (iblk m c 0 t) (Rect.unit ![o, 384] ![256, 384] i1))
      (View.ld (Val := Elt Ideal) (iblk m c 0 t) (Rect.unit ![o, 768] ![256, 384] i2)) (View.ld (Val := Elt Ideal) (iblk m c 0 t) (Rect.unit ![o, 1152] ![256, 384] i3))
      (iblk m c 1 t) (iblk m c 2 t) (iblk m c 3 t) (iblk m c 4 t)
      (View.ld (Val := Elt Ideal) (iblk m c 5 t) (Rect.unit ![o, 0] ![256, 1024] i)) (View.ld (Val := Elt Ideal) (iblk m c 6 t) (Rect.unit ![o, 0] ![256, 1024] i))
      (iblk m c 7 t) := by
  refine ⟨fun a k => ?_, fun a k => ?_, fun a k => ?_, fun a k => ?_, blk_shard0 G t, blk_shard1 G t, blk_shard2 G t, blk_shard3 G t, fun a k => ?_, fun a k => ?_,
    blk_g G t⟩ <;> pointwise []
  · exact (blk_dz G t ⟨o + a, by omega⟩ ⟨k, by omega⟩).trans (by simp only [Nat.add_assoc])
  · exact (blk_dz G t ⟨o + a, by omega⟩ ⟨384 + k, by omega⟩).trans (by simp only [Nat.add_assoc])
  · exact (blk_dz G t ⟨o + a, by omega⟩ ⟨768 + k, by omega⟩).trans (by simp only [Nat.add_assoc])
  · exact (blk_dz G t ⟨o + a, by omega⟩ ⟨1152 + k, by omega⟩).trans (by simp only [Nat.add_assoc])
  · exact (blk_dres G t ⟨o + a, by omega⟩ k).trans (by simp only [Nat.add_assoc])
  · exact (blk_x G t ⟨o + a, by omega⟩ k).trans (by simp only [Nat.add_assoc])

/-- What the first tile loads. -/
def loads0 (G : Given m c A) (t : Fin cfg0.N) := loads G t 0 (by omega) inb_S512x1536_S256x384_0_0 inb_S512x1536_S256x384_0_384
  inb_S512x1536_S256x384_0_768 inb_S512x1536_S256x384_0_1152 inb_S512x1024_S256x1024_0_0

/-- What the second tile loads. -/
def loads1 (G : Given m c A) (t : Fin cfg0.N) := loads G t 256 (by omega) inb_S512x1536_S256x384_256_0 inb_S512x1536_S256x384_256_384
  inb_S512x1536_S256x384_256_768 inb_S512x1536_S256x384_256_1152 inb_S512x1024_S256x1024_256_0

/-- A grid point's rows of the residual stream's cotangent. -/
theorem out8 (G : Given m c A) (t : Fin cfg0.N) (y : S512x1024.Idx) :
    (outsAt0 m c t.val t.isLt).1 y = ((A.dx (512 * t.val + (y 0).val) (y 1).val : ℝ) : EReal) := by
  have hN : t.val < 8 := lt_of_lt_of_eq t.isLt N_0
  by_cases k1 : 1 ≤ t.val
  · have k0 : ¬t.val % 8 = 0 := by omega
    rw [outsAt0_B m c t k0 k1]
    frame_out
    canon_tiles x h <;> idx_vars x
    · exact (tile1_dx (loads1 G t) _ _).trans (by simp only [h0, h1, Nat.add_assoc])
    · exact (tile0_dx (loads0 G t) _ _).trans (by simp only [h0, h1, Nat.zero_add, Nat.add_zero])
  · have k0 : t.val % 8 = 0 := by omega
    rw [outsAt0_A m c t k0 k1]
    frame_out
    canon_tiles x h <;> idx_vars x
    · exact (tile1_dx (loads1 G t) _ _).trans (by simp only [h0, h1, Nat.add_assoc])
    · exact (tile0_dx (loads0 G t) _ _).trans (by simp only [h0, h1, Nat.zero_add, Nat.add_zero])

/-- The last grid point. -/
abbrev lastPoint : Fin cfg0.N := ⟨7, by have : cfg0.N = 8 := N_0; omega⟩

/-- The scale's gradient after the last point. -/
theorem sum_dg (G : Given m c A) (k : Fin 1024) : (outsAt0 m c lastPoint.val lastPoint.isLt).2 (ix2 0 k) = ((A.dg k.val : ℝ) : EReal) := by
  have part : ∀ (t : Fin cfg0.N) (a : Fin 1) (k : Fin 1024), _ := fun t a k => pay53_is (tile0_dg (loads0 G t)) (tile1_dg (loads1 G t)) a k
  refine sum_points N_0 lastPoint rfl (fun n h => (outsAt0 m c n h).2) (fun i k => A.dh i k * hat (A.x i) k) (fun t k0 j => ?_) (fun t k0 j => ?_) k
  · have hN : t.val < 8 := lt_of_lt_of_eq t.isLt N_0
    have k1 : ¬1 ≤ t.val := by omega
    rw [outsAt0_A m c t k0 k1]
    frame_out
    idx_vars j
    exact part t j0 j1
  · have k1 : 1 ≤ t.val := by omega
    rw [outsAt0_B m c t k0 k1]
    frame_out
    idx_vars j
    exact (pay56_at ..).trans (congrArg _ (part t j0 j1))

/-- The residual stream's cotangent. -/
theorem arr8 (G : Given m c A) : (dats m 0 c).arrAt 8 cfg0.N = fun i : S4096x1024.Idx => ((A.dx (i 0).val (i 1).val : ℝ) : EReal) :=
  (dats m 0 c).arrAt_eq_of_covers 8 _ (by decide +kernel) fun t hf y => by
    blk_simp
    rw [after0_8, out8 G t]
    simp [idx_val t, Nat.mul_comm]

/-- The scale's gradient. -/
theorem arr9 (G : Given m c A) : (dats m 0 c).arrAt 9 cfg0.N = fun i : S1x1024.Idx => ((A.dg (i 1).val : ℝ) : EReal) :=
  (dats m 0 c).arrAt_eq_of_after_last 9 t0_7 (by decide +kernel) _ fun j => by
    blk_simp
    rw [after0_9]
    idx_vars j
    obtain rfl : j0 = 0 := Subsingleton.elim _ _
    exact sum_dg G j1

end Cert.Norm.Last

end
-- ==== Proof.NormLastEquation.lean ====
/- The second of the two calls: what its reference computes on arguments that are real, and its equation. -/
module

public import proofs.«01_k».proof.Defs
public import proofs.«01_k».proof.Proof.NormLast
public import proofs.«01_k».proof.Proof.NormHost
public import proofs.«01_k».proof.Proof.Finite
public import proofs.«01_k».proof.Proof.Gen.Pre_finite13
public import proofs.«01_k».proof.Proof.Gen.Reference13Ideal
public import proofs.«01_k».proof.Proof.Gen.Reference13Ideal.Read

@[expose] public section

set_option maxRecDepth 16384

noncomputable section

namespace Cert.Norm.Last

open Idealize.ShloMosaic Idealize.SL.Sem
open Cert.Ffn Cert.Norm.Host
open Cert.Ffn.Finite (real_of_all reals reals_at)

/-- The reference runs to the end and leaves its arguments and its counters alone: it declares no semaphore. -/
theorem frame_reference : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

section
open Cert.Reference13Ideal Cert.Reference13Ideal.Gen Cert.Reference13Ideal.Read

/-- The five argument arrays hold these real numbers. -/
structure Holds (A : Args 1536) (x0 : FVec Ideal S4096x1536 .f32) (x1 : FVec Ideal S1024x1536 .f32) (x2 x3 : FVec Ideal S4096x1024 .f32)
    (x4 : FVec Ideal S1x1024 .f32) : Prop where
  dz_at : Real2 x0 A.dz
  w_at : Real2 x1 A.w
  dres_at : Real2 x2 A.dres
  x_at : Real2 x3 A.x
  g_at : Real2 x4 fun _ => A.g

variable {A : Args 1536} {x0 : FVec Ideal S4096x1536 .f32} {x1 : FVec Ideal S1024x1536 .f32} {x2 x3 : FVec Ideal S4096x1024 .f32}
    {x4 : FVec Ideal S1x1024 .f32}

/-- The cotangent of the normalised, scaled row. -/
theorem v16_at (H : Holds A x0 x1 x2 x3 x4) : Real2 (val_main_v16 (F := Ideal) x0 x1) A.dh := fun i => by
  rw [val_main_v16_apply]
  simp only [H.dz_at _, H.w_at _, ← EReal.coe_mul, coe_sum]
  rfl

/-- The normalisation's gradient in its scale. -/
theorem v19_at (H : Holds A x0 x1 x2 x3 x4) (i : S1x1024.Idx) : val_main_v19 (F := Ideal) x0 x1 x3 i = ((A.dg (i 1).val : ℝ) : EReal) := by
  rw [val_main_v19_apply]
  refine (scale_at (v16_at H) H.x_at (idx_main_v19 i)).trans (congrArg _ ?_)
  have h0 : (i 0).val * 1024 + (i 1).val = (i 1).val := by have h : (i 0).val < 1 := (i 0).isLt; omega
  simp only [h0]
  rfl

/-- The residual stream's cotangent. -/
theorem v36_at (H : Holds A x0 x1 x2 x3 x4) : Real2 (val_main_v36 (F := Ideal) x0 x1 x2 x3 x4) A.dx := fun i => by
  rw [val_main_v36_apply, H.dres_at]
  refine (congrArg (fun z : EReal => ((A.dres (i 0).val (i 1).val : ℝ) : EReal) + z) (back_at (v16_at H) H.x_at H.g_at i)).trans ?_
  rw [← EReal.coe_add]
  rfl
end

section
open Cert.Pre_finite13
variable (x0 : FVec Ideal S4096x1536 .f32) (x1 : FVec Ideal S1024x1536 .f32) (x2 x3 : FVec Ideal S4096x1024 .f32) (x4 : FVec Ideal S1x1024 .f32)

/-- The real arrays that the arguments hold. -/
def args : Args 1536 where
  dz := reals x0
  w := reals x1
  dres := reals x2
  x := reals x3
  g := reals x4 0

/-- What the precondition says: the arguments hold the reals read off them. -/
theorem holds_of_finite (h : Cert.Pre_finite13.fn (F := Ideal) x0 x1 x2 x3 x4 = fun _ => 1#1) : Holds (args x0 x1 x2 x3 x4) x0 x1 x2 x3 x4 := by
  have e := congrFun h (fun q => q.elim0)
  simp only [Cert.Pre_finite13.fn, Cert.Pre_finite13.fn_part1, andi] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  constructor
  · intro i; idx_vars i; exact reals_at x0 (real_of_all _ _ _ _ _ e0) _ _
  · intro i; idx_vars i; exact reals_at x1 (real_of_all _ _ _ _ _ e1) _ _
  · intro i; idx_vars i; exact reals_at x2 (real_of_all _ _ _ _ _ e2) _ _
  · intro i; idx_vars i; exact reals_at x3 (real_of_all _ _ _ _ _ e3) _ _
  · intro i; idx_vars i; obtain rfl : i0 = 0 := Subsingleton.elim _ _; exact reals_at x4 (real_of_all _ _ _ _ _ e4) _ _
end

section
open Cert.Kernel13Ideal
variable (m : (ℓ : Loc nD τ sig) → Buf (Elt Ideal) ℓ) (c : Dev nD)

/-- The real arrays that a device's arguments hold. -/
abbrev argsOf : Args 1536 :=
  args (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

variable {m} (hp : Cert.Pre_Kernel13Ideal_finite13 m)
include hp

/-- Under the precondition, the reference's reading of them. -/
theorem holds_of_pre : Holds (argsOf m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) :=
  holds_of_finite _ _ _ _ _ (hp c)

/-- Under the precondition, the kernel's reading of them. -/
theorem given_of_pre : Given m c (argsOf m c) where
  dz_is a k := (holds_of_pre c hp).dz_at (ix2 a k)
  w_is a k := (holds_of_pre c hp).w_at (ix2 a k)
  dres_is a k := (holds_of_pre c hp).dres_at (ix2 a k)
  x_is a k := (holds_of_pre c hp).x_at (ix2 a k)
  g_is a k := (holds_of_pre c hp).g_at (ix2 a k)
end

/-- Both programs leave the real formulas' arrays. -/
theorem equation : Cert.algebraic_Kernel13Ideal_Reference13Ideal_pre_finite13 := by
  intro m ρ m' ρ' hp hagree
  refine ⟨fun c i => (((argsOf m c).dx (i 0).val (i 1).val : ℝ) : EReal), fun c i => (((argsOf m c).dg (i 1).val : ℝ) : EReal), ?_, ?_⟩
  · refine (θ_run Cert.Kernel13Ideal.defs _ _).mono (fun r h c => ?_) (Cert.Kernel13Ideal.Value.run_blocks (F := Ideal) m ρ)
    have G := given_of_pre c hp
    obtain ⟨h0, h1, hk⟩ := h c
    exact ⟨h0.trans (arr8 G), h1.trans (arr9 G), hk⟩
  · refine (θ_run Cert.Reference13Ideal.defs _ _).mono (fun r h c => ?_) (Cert.Reference13Ideal.Value.run (F := Ideal) m' ρ')
    have H := holds_of_pre c hp
    obtain ⟨a0, a1, a2, a3, a4⟩ := hagree c
    obtain ⟨h0, h1, hk⟩ := h c
    rw [Cert.Reference13Ideal.Read.val_main_v36_eq, a0, a1, a2, a3, a4] at h0
    rw [Cert.Reference13Ideal.Read.val_main_v19_eq, a0, a1, a3] at h1
    exact ⟨h0.trans (funext (v36_at H)), h1.trans (funext (v19_at H)), hk⟩

end Cert.Norm.Last

end
-- ==== Proof.BackAttn.lean ====
/- The cotangent of the attention's output: the cotangent of its output projection times the transposed weight. It is the gating unit's
   product of `GradMixers` with a rounding behind it, and both programs leave the sums of products that are named there, in extended
   reals and for any arguments. -/
module

public import proofs.«01_k».proof.Defs
public import proofs.«01_k».proof.Proof.Gen.Kernel14Ideal.Value
public import proofs.«01_k».proof.Proof.Gen.Reference14Ideal.Read
public import proofs.«01_k».proof.Proof.GradMixers
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.BackSgu (val)

namespace Cert.BackAttn

section kernel
open Cert.Kernel14Ideal Cert.Kernel14Ideal.Gen

/-- Where each window's block lies, for all four grid points. -/
theorem idx_val : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The output's cotangents. -/
abbrev cots : FVec Ideal S4096x1024 .f32 := m ((c : Thread nD τ).loc main_arg0)

/-- The weight. -/
abbrev weight : FVec Ideal S1024x1024 .f32 := m ((c : Thread nD τ).loc main_arg1)

variable {m c}

/-- The cotangents, converted. -/
theorem V_cots (s : Fin 4096) (k : Fin 1024) : (V m c main_v0 : FVec Ideal S4096x1024 .bf16) (ix2 s k) = cots m c (ix2 s k) := by
  entry_read
  pointwise []

/-- The weight, converted. -/
theorem V_weight (s : Fin 1024) (j : Fin 1024) : (V m c main_v1 : FVec Ideal S1024x1024 .bf16) (ix2 s j) = weight m c (ix2 s j) := by
  entry_read
  pointwise []

/-- A point's rows of the cotangents. -/
theorem blk_cots (t : Fin cfg0.N) (a : Fin 1024) (k : Fin 1024) :
    (iblk m c 0 t : FVec Ideal S1024x1024 .bf16) (ix2 a k)
      = cots m c (ix2 ⟨t.val * 1024 + a.val, by have : t.val < 4 := lt_of_lt_of_eq t.isLt N_0; omega⟩ k) := by
  refine Eq.trans ?_ (V_cots _ k)
  blk_point [iblk, V, idx_val t]

/-- All of the weight. -/
theorem blk_weight (t : Fin cfg0.N) (s : Fin 1024) (j : Fin 1024) :
    (iblk m c 1 t : FVec Ideal S1024x1024 .bf16) (ix2 s j) = weight m c (ix2 s j) := by
  refine Eq.trans ?_ (V_weight s j)
  blk_point [iblk, V, idx_val t]

/-- What a point leaves in its output block. -/
theorem out2 (t : Fin cfg0.N) (a : Fin 1024) (b : Fin 1024) :
    out0_2 (iblk m c 0 t) (iblk m c 1 t) (ix2 a b)
      = ∑ k : Fin 1024, cots m c (ix2 ⟨t.val * 1024 + a.val, by have : t.val < 4 := lt_of_lt_of_eq t.isLt N_0; omega⟩ k) * weight m c (ix2 b k) := by
  unfold out0_2
  frame_out
  pointwise [k0_pay1]
  simp only [blk_cots, blk_weight]

/-- The array the kernel leaves. -/
theorem arr2 : (dats m 0 c).arrAt 2 cfg0.N = val (cots m c) (weight m c) :=
  (dats m 0 c).arrAt_eq_of_covers 2 _ (by decide +kernel) fun t hf y => by
    blk_simp
    rw [after0_2]
    idx_vars y
    refine (out2 t y0 y1).trans (Finset.sum_congr rfl fun k _ => congrArg₂ _ (congrArg _ (congrArg (fun n => ix2 n k) (Fin.ext ?_))) (congrArg _ (congrArg (fun n => ix2 n k) (Fin.ext ?_))))
    · simp [idx_val t, Nat.mul_comm]
    · simp [idx_val t]
end kernel

/-- The reference runs to the end and leaves its arguments and its counters alone: it declares no semaphore. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

open Cert.Reference14Ideal Cert.Reference14Ideal.Read in
/-- The reference's array. -/
theorem reference_val (x0 : FVec Ideal S4096x1024 .f32) (x1 : FVec Ideal S1024x1024 .f32) : val_main_v3 (F := Ideal) x0 x1 = val x0 x1 := by
  funext i
  rw [val_main_v3_apply, val_main_v2_apply]
  refine Finset.sum_congr rfl fun s _ => congrArg₂ _ (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- Both programs leave the sums of products. -/
theorem equation : Cert.algebraic_Kernel14Ideal_Reference14Ideal := by
  intro m ρ m' ρ' _ hagree
  refine ⟨fun c => val (cots m c) (weight m c), ?_, ?_⟩
  · exact (θ_run Cert.Kernel14Ideal.defs _ _).mono (fun r h c => ⟨(h c).1.trans arr2, (h c).2⟩) (Cert.Kernel14Ideal.Value.run_blocks (F := Ideal) m ρ)
  · refine (θ_run Cert.Reference14Ideal.defs _ _).mono (fun r h c => ⟨?_, (h c).2⟩) (Cert.Reference14Ideal.Value.run (F := Ideal) m' ρ')
    have h0 := (h c).1
    obtain ⟨a0, a1⟩ := hagree c
    rw [Cert.Reference14Ideal.Read.val_main_v3_eq, a0, a1] at h0
    exact h0.trans (reference_val _ _)

end Cert.BackAttn

end
-- ==== Proof.OutNorm.lean ====
/- The attention's output projection with its residual and the two normalisations, in extended reals and for any arguments. Behind its
   product, which has a bias and fewer terms, it is the first layer's down projection of `DownNorm`, whose formulas of a row are used:
   what a grid point's two tiles of 256 rows compute, the arrays that the kernel leaves, the reference's arrays, and that they are the same. -/
module

public import proofs.«01_k».proof.Defs
public import proofs.«01_k».proof.Proof.Gen.Kernel15Ideal.Value
public import proofs.«01_k».proof.Proof.Gen.Reference15Ideal.Read
public import proofs.«01_k».proof.Proof.Words
public import proofs.«01_k».proof.Proof.DownNorm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Ffn
open Cert.DownNorm (rms normed stream array idx_eq)

namespace Cert.OutNorm

/-- A row through the output projection, with its bias. -/
def out (a : Fin 1024 → EReal) (w : Fin 1024 → Fin 1024 → EReal) (b : Fin 1024 → EReal) (k : Fin 1024) : EReal := (∑ j : Fin 1024, a j * w j k) + b k

section kernel
open Cert.Kernel15Ideal Cert.Kernel15Ideal.Gen

/-- What a tile loads: its rows of the attention's output and of the residual stream, the weight, the bias, and the first scale. -/
structure Tile (a : Fin 256 → Fin 1024 → EReal) (w : Fin 1024 → Fin 1024 → EReal) (x : Fin 256 → Fin 1024 → EReal) (b g : Fin 1024 → EReal)
    (v0 : FVec Ideal S256x1024 .bf16) (v2 : FVec Ideal S1024x1024 .bf16) (v5 : FVec Ideal S1x1024 .f32) (v11 : FVec Ideal S256x1024 .f32)
    (v22 : FVec Ideal S1x1024 .f32) : Prop where
  a_at : ∀ (r : Fin 256) (j : Fin 1024), v0 (ix2 r j) = a r j
  w_at : ∀ (j : Fin 1024) (k : Fin 1024), v2 (ix2 j k) = w j k
  b_at : ∀ k : Fin 1024, v5 (ix2 0 k) = b k
  x_at : ∀ (r : Fin 256) (k : Fin 1024), v11 (ix2 r k) = x r k
  g_at : ∀ k : Fin 1024, v22 (ix2 0 k) = g k

section tile
variable {a : Fin 256 → Fin 1024 → EReal} {w : Fin 1024 → Fin 1024 → EReal} {x : Fin 256 → Fin 1024 → EReal} {b g g' : Fin 1024 → EReal}
  {v0 : FVec Ideal S256x1024 .bf16} {v2 : FVec Ideal S1024x1024 .bf16} {v5 : FVec Ideal S1x1024 .f32} {v11 : FVec Ideal S256x1024 .f32}
  {v22 v37 : FVec Ideal S1x1024 .f32} (T : Tile a w x b g v0 v2 v5 v11 v22)
include T

/-- The output projection. -/
theorem pay2_at (r : Fin 256) (k : Fin 1024) : k0_pay2 (F := Ideal) v0 v2 v5 (ix2 r k) = out (a r) w b k := by
  pointwise [k0_pay2]
  simp only [T.a_at, T.w_at, T.b_at]
  rfl

/-- The same, rounded. -/
theorem pay3_at (r : Fin 256) (k : Fin 1024) : k0_pay3 (F := Ideal) v0 v2 v5 (ix2 r k) = out (a r) w b k := by
  pointwise [k0_pay3]
  exact pay2_at T r k

/-- The residual stream. -/
theorem pay4_at (r : Fin 256) (k : Fin 1024) : k0_pay4 (F := Ideal) v0 v2 v5 v11 v22 (ix2 r k) = stream (out (a r) w b) (x r) g k := by
  pointwise [k0_pay4]
  simp only [pay2_at T, T.x_at, T.g_at, word_rows, word_eps]
  rfl

/-- The residual stream normalised. -/
theorem pay5_at (r : Fin 256) (k : Fin 1024) : k0_pay5 (F := Ideal) v0 v2 v5 v11 v22 (ix2 r k)
    = stream (out (a r) w b) (x r) g k * rms (stream (out (a r) w b) (x r) g) := by
  pointwise [k0_pay5]
  simp only [pay4_at T, word_rows, word_eps]
  rfl

/-- The residual stream normalised and scaled. -/
theorem pay6_at (hg : ∀ k : Fin 1024, v37 (ix2 0 k) = g' k) (r : Fin 256) (k : Fin 1024) :
    k0_pay6 (F := Ideal) (k0_pay5 v0 v2 v5 v11 v22) v37 (ix2 r k) = normed (stream (out (a r) w b) (x r) g) g' k := by
  pointwise [k0_pay6]
  simp only [pay5_at T, hg]
  rfl
end tile

/-- The second tile's rounded projection is the first tile's text. -/
theorem pay8_eq : k0_pay8 (F := Ideal) = k0_pay3 := rfl

/-- So is its residual stream. -/
theorem pay9_eq : k0_pay9 (F := Ideal) = k0_pay4 := rfl

/-- So is its normalised stream. -/
theorem pay1_eq (v0 : FVec Ideal S256x1024 .bf16) (v2 : FVec Ideal S1024x1024 .bf16) (v5 : FVec Ideal S1x1024 .f32) (v11 : FVec Ideal S256x1024 .f32)
    (v22 v37 : FVec Ideal S1x1024 .f32) : k0_pay1 (F := Ideal) (k0_pay9 v0 v2 v5 v11 v22) (k0_pay10 v0 v2 v5 v11 v22) v37
      = k0_pay6 (k0_pay5 v0 v2 v5 v11 v22) v37 := rfl

/-- Where each window's block lies, for all eight grid points. -/
theorem idx_val : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

variable (m : (ℓ : Loc nD τ sig) → Buf (Elt Ideal) ℓ) (c : Dev nD)

/-- The attention's output. -/
abbrev acts : FVec Ideal S4096x1024 .f32 := m ((c : Thread nD τ).loc main_arg0)

/-- The projection's weight. -/
abbrev weight : FVec Ideal S1024x1024 .f32 := m ((c : Thread nD τ).loc main_arg1)

/-- The residual stream. -/
abbrev resid : FVec Ideal S4096x1024 .f32 := m ((c : Thread nD τ).loc main_arg2)

/-- The projection's bias. -/
abbrev bias : FVec Ideal S1x1024 .f32 := m ((c : Thread nD τ).loc main_arg3)

/-- The first scale. -/
abbrev scale : FVec Ideal S1x1024 .f32 := m ((c : Thread nD τ).loc main_arg4)

/-- The second scale. -/
abbrev scale' : FVec Ideal S1x1024 .f32 := m ((c : Thread nD τ).loc main_arg5)

/-- Row `i` of the projection. -/
def proj (x0 : FVec Ideal S4096x1024 .f32) (x1 : FVec Ideal S1024x1024 .f32) (x3 : FVec Ideal S1x1024 .f32) (i : Fin 4096) : Fin 1024 → EReal :=
  out (fun j => x0 (ix2 i j)) (fun j k => x1 (ix2 j k)) fun k => x3 (ix2 0 k)

/-- Row `i` of the new residual stream. -/
def sum (x0 : FVec Ideal S4096x1024 .f32) (x1 : FVec Ideal S1024x1024 .f32) (x2 : FVec Ideal S4096x1024 .f32) (x3 x4 : FVec Ideal S1x1024 .f32) (i : Fin 4096) :
    Fin 1024 → EReal :=
  stream (proj x0 x1 x3 i) (fun k => x2 (ix2 i k)) fun k => x4 (ix2 0 k)

/-- Row `i` of the new stream, normalised and scaled. -/
def next (x0 : FVec Ideal S4096x1024 .f32) (x1 : FVec Ideal S1024x1024 .f32) (x2 : FVec Ideal S4096x1024 .f32) (x3 x4 x5 : FVec Ideal S1x1024 .f32) (i : Fin 4096) :
    Fin 1024 → EReal :=
  normed (sum x0 x1 x2 x3 x4 i) fun k => x5 (ix2 0 k)

variable {m c}

/-- The attention's output, converted. -/
theorem V_acts (s : Fin 4096) (j : Fin 1024) : (V m c main_v0 : FVec Ideal S4096x1024 .bf16) (ix2 s j) = acts m c (ix2 s j) := by
  entry_read
  pointwise []

/-- The weight, converted. -/
theorem V_weight (j : Fin 1024) (k : Fin 1024) : (V m c main_v1 : FVec Ideal S1024x1024 .bf16) (ix2 j k) = weight m c (ix2 j k) := by
  entry_read
  pointwise []

/-- Row `r` of grid point `t`'s block, as a row of the whole array. -/
abbrev row (t : Fin cfg0.N) (r : Fin 512) : Fin 4096 := ⟨512 * t.val + r.val, by have : t.val < 8 := lt_of_lt_of_eq t.isLt N_0; omega⟩

/-- A point's rows of the attention's output. -/
theorem blk_acts (t : Fin cfg0.N) (r : Fin 512) (j : Fin 1024) : (iblk m c 0 t : FVec Ideal S512x1024 .bf16) (ix2 r j) = acts m c (ix2 (row t r) j) := by
  refine Eq.trans ?_ (V_acts _ j)
  blk_point [iblk, V, idx_val t]

/-- All of the weight. -/
theorem blk_weight (t : Fin cfg0.N) (j : Fin 1024) (k : Fin 1024) : (iblk m c 1 t : FVec Ideal S1024x1024 .bf16) (ix2 j k) = weight m c (ix2 j k) := by
  refine Eq.trans ?_ (V_weight j k)
  blk_point [iblk, V, idx_val t]

/-- A point's rows of the residual stream. -/
theorem blk_resid (t : Fin cfg0.N) (r : Fin 512) (k : Fin 1024) : (iblk m c 2 t : FVec Ideal S512x1024 .f32) (ix2 r k) = resid m c (ix2 (row t r) k) := by
  blk_point [iblk, V, idx_val t]

/-- The bias. -/
theorem blk_bias (t : Fin cfg0.N) (k : Fin 1024) : (iblk m c 3 t : FVec Ideal S1x1024 .f32) (ix2 0 k) = bias m c (ix2 0 k) := by
  blk_point [iblk, V, idx_val t]

/-- The first scale. -/
theorem blk_scale (t : Fin cfg0.N) (k : Fin 1024) : (iblk m c 4 t : FVec Ideal S1x1024 .f32) (ix2 0 k) = scale m c (ix2 0 k) := by
  blk_point [iblk, V, idx_val t]

/-- The second scale. -/
theorem blk_scale' (t : Fin cfg0.N) (k : Fin 1024) : (iblk m c 5 t : FVec Ideal S1x1024 .f32) (ix2 0 k) = scale' m c (ix2 0 k) := by
  blk_point [iblk, V, idx_val t]

/-- What the first tile of a point loads. -/
theorem tile0 (t : Fin cfg0.N) : Tile (fun r j => acts m c (ix2 (row t ⟨r.val, by omega⟩) j)) (fun j k => weight m c (ix2 j k))
    (fun r k => resid m c (ix2 (row t ⟨r.val, by omega⟩) k)) (fun k => bias m c (ix2 0 k)) (fun k => scale m c (ix2 0 k))
    (View.ld (Val := Elt Ideal) (iblk m c 0 t) r0_0) (iblk m c 1 t) (iblk m c 3 t) (View.ld (Val := Elt Ideal) (iblk m c 2 t) r0_0) (iblk m c 4 t) := by
  refine ⟨fun r j => ?_, blk_weight t, blk_bias t, fun r k => ?_, blk_scale t⟩
  · pointwise []
    exact blk_acts t ⟨r.val, by omega⟩ j
  · pointwise []
    exact blk_resid t ⟨r.val, by omega⟩ k

/-- What the second tile of a point loads. -/
theorem tile1 (t : Fin cfg0.N) : Tile (fun r j => acts m c (ix2 (row t ⟨256 + r.val, by omega⟩) j)) (fun j k => weight m c (ix2 j k))
    (fun r k => resid m c (ix2 (row t ⟨256 + r.val, by omega⟩) k)) (fun k => bias m c (ix2 0 k)) (fun k => scale m c (ix2 0 k))
    (View.ld (Val := Elt Ideal) (iblk m c 0 t) r0_3) (iblk m c 1 t) (iblk m c 3 t) (View.ld (Val := Elt Ideal) (iblk m c 2 t) r0_3) (iblk m c 4 t) := by
  refine ⟨fun r j => ?_, blk_weight t, blk_bias t, fun r k => ?_, blk_scale t⟩
  · pointwise []
    exact blk_acts t ⟨256 + r.val, by omega⟩ j
  · pointwise []
    exact blk_resid t ⟨256 + r.val, by omega⟩ k

/-- A place of a point's block, from the place of a tile. -/
theorem at_row {f : Fin 4096 → Fin 1024 → EReal} (t : Fin cfg0.N) {y : S512x1024.Idx} {r : Fin 512} {k : Fin 1024} (h0 : (y 0).val = r.val) (h1 : (y 1).val = k.val) :
    f (row t r) k = f (row t ⟨(y 0).val, (y 0).isLt⟩) ⟨(y 1).val, (y 1).isLt⟩ :=
  congrArg₂ _ (congrArg (row t) (Fin.ext h0.symm)) (Fin.ext h1.symm)

/-- A point's rows of the new residual stream. -/
theorem out6 (t : Fin cfg0.N) (y : S512x1024.Idx) :
    out0_6 (iblk m c 0 t) (iblk m c 1 t) (iblk m c 2 t) (iblk m c 3 t) (iblk m c 4 t) (iblk m c 5 t) y
      = sum (acts m c) (weight m c) (resid m c) (bias m c) (scale m c) (row t ⟨(y 0).val, (y 0).isLt⟩) ⟨(y 1).val, (y 1).isLt⟩ := by
  unfold out0_6
  frame_out
  canon_tiles x h
  case piece0 =>
    idx_vars x
    rw [pay9_eq]
    exact (pay4_at (tile1 t) x0 x1).trans (at_row (f := sum (acts m c) (weight m c) (resid m c) (bias m c) (scale m c)) t (r := ⟨256 + x0.val, by omega⟩) h0 (by simpa using h1))
  case piece1 =>
    idx_vars x
    exact (pay4_at (tile0 t) x0 x1).trans (at_row (f := sum (acts m c) (weight m c) (resid m c) (bias m c) (scale m c)) t (r := ⟨x0.val, by omega⟩) (by simpa using h0) (by simpa using h1))

/-- A point's rows of the normalised stream. -/
theorem out7 (t : Fin cfg0.N) (y : S512x1024.Idx) :
    out0_7 (iblk m c 0 t) (iblk m c 1 t) (iblk m c 2 t) (iblk m c 3 t) (iblk m c 4 t) (iblk m c 5 t) y
      = next (acts m c) (weight m c) (resid m c) (bias m c) (scale m c) (scale' m c) (row t ⟨(y 0).val, (y 0).isLt⟩) ⟨(y 1).val, (y 1).isLt⟩ := by
  unfold out0_7
  frame_out
  canon_tiles x h
  case piece0 =>
    idx_vars x
    rw [pay1_eq]
    exact (pay6_at (tile1 t) (blk_scale' t) x0 x1).trans (at_row (f := next (acts m c) (weight m c) (resid m c) (bias m c) (scale m c) (scale' m c)) t (r := ⟨256 + x0.val, by omega⟩) h0 (by simpa using h1))
  case piece1 =>
    idx_vars x
    exact (pay6_at (tile0 t) (blk_scale' t) x0 x1).trans (at_row (f := next (acts m c) (weight m c) (resid m c) (bias m c) (scale m c) (scale' m c)) t (r := ⟨x0.val, by omega⟩) (by simpa using h0) (by simpa using h1))

/-- A point's rows of the projection. -/
theorem out8 (t : Fin cfg0.N) (y : S512x1024.Idx) :
    out0_8 (iblk m c 0 t) (iblk m c 1 t) (iblk m c 2 t) (iblk m c 3 t) (iblk m c 4 t) (iblk m c 5 t) y
      = proj (acts m c) (weight m c) (bias m c) (row t ⟨(y 0).val, (y 0).isLt⟩) ⟨(y 1).val, (y 1).isLt⟩ := by
  unfold out0_8
  frame_out
  canon_tiles x h
  case piece0 =>
    idx_vars x
    rw [pay8_eq]
    exact (pay3_at (tile1 t) x0 x1).trans (at_row (f := proj (acts m c) (weight m c) (bias m c)) t (r := ⟨256 + x0.val, by omega⟩) h0 (by simpa using h1))
  case piece1 =>
    idx_vars x
    exact (pay3_at (tile0 t) x0 x1).trans (at_row (f := proj (acts m c) (weight m c) (bias m c)) t (r := ⟨x0.val, by omega⟩) (by simpa using h0) (by simpa using h1))

/-- The new residual stream. -/
theorem arr6 : (dats m 0 c).arrAt 6 cfg0.N = array (sum (acts m c) (weight m c) (resid m c) (bias m c) (scale m c)) :=
  (dats m 0 c).arrAt_eq_of_covers 6 _ (by decide +kernel) fun t hf y => by
    blk_simp
    rw [after0_6, out6 t]
    exact congrArg₂ _ (Fin.ext (by simp [idx_val t, Nat.mul_comm])) (Fin.ext (by simp [idx_val t]))

/-- The normalised stream. -/
theorem arr7 : (dats m 0 c).arrAt 7 cfg0.N = array (next (acts m c) (weight m c) (resid m c) (bias m c) (scale m c) (scale' m c)) :=
  (dats m 0 c).arrAt_eq_of_covers 7 _ (by decide +kernel) fun t hf y => by
    blk_simp
    rw [after0_7, out7 t]
    exact congrArg₂ _ (Fin.ext (by simp [idx_val t, Nat.mul_comm])) (Fin.ext (by simp [idx_val t]))

/-- The projection. -/
theorem arr8 : (dats m 0 c).arrAt 8 cfg0.N = array (proj (acts m c) (weight m c) (bias m c)) :=
  (dats m 0 c).arrAt_eq_of_covers 8 _ (by decide +kernel) fun t hf y => by
    blk_simp
    rw [after0_8, out8 t]
    exact congrArg₂ _ (Fin.ext (by simp [idx_val t, Nat.mul_comm])) (Fin.ext (by simp [idx_val t]))
end kernel

/-- The reference runs to the end and leaves its arguments and its counters alone: it declares no semaphore. -/
theorem frame_reference : Cert.quiescent_Reference15Ideal := fun m ρ _ =>
  (θ_run Cert.Reference15Ideal.defs _ _).mono (fun r h => ⟨fun c => (h c).2.2.2, sem_eq_zero_of_no_sems (by decide) r.2⟩)
    (Cert.Reference15Ideal.Value.run (F := Ideal) m ρ)

section reference
open Cert.Reference15Ideal Cert.Reference15Ideal.Read
variable (x0 : FVec Ideal S4096x1024 .f32) (x1 : FVec Ideal S1024x1024 .f32) (x2 : FVec Ideal S4096x1024 .f32) (x3 x4 x5 : FVec Ideal S1x1024 .f32)

/-- The projection. -/
theorem v2_at (i : S4096x1024.Idx) : val_main_v2 (F := Ideal) x0 x1 x3 i = array (proj x0 x1 x3) i := by
  rw [val_main_v2_apply, val_main_v0_apply, val_main_v1_apply]
  exact congrArg₂ (· + ·) (Finset.sum_congr rfl fun j _ => congrArg₂ _ (congrArg x0 (idx_eq _ _ rfl rfl)) (congrArg x1 (idx_eq _ _ rfl rfl)))
    (congrArg x3 (idx_eq _ _ rfl rfl))

/-- Its rows' reciprocal root mean squares. -/
theorem v10_at (i : S4096x1.Idx) : val_main_v10 (F := Ideal) x0 x1 x3 i = rms (proj x0 x1 x3 ⟨(i 0).val, (i 0).isLt⟩) := by
  rw [val_main_v10_apply, val_main_v9_apply, val_main_v8_apply, val_main_cst_1_apply, val_main_v7_apply, val_main_v6_apply, val_main_cst_0_apply, val_main_v5_apply, val_main_v4_apply, val_main_cst_apply]
  simp only [val_main_v3_apply, v2_at, Ideal.ofBits_def, word_zero, word_rows, word_eps, EReal.coe_zero, zero_add]
  rfl

/-- The new residual stream. -/
theorem v15_at (i : S4096x1024.Idx) : val_main_v15 (F := Ideal) x0 x1 x2 x3 x4 i = array (sum x0 x1 x2 x3 x4) i := by
  rw [val_main_v15_apply, val_main_v14_apply, val_main_v13_apply, val_main_v12_apply, val_main_v11_apply, v2_at, v10_at]
  exact congrArg₂ (· + ·) (congrArg x2 (idx_eq _ _ rfl rfl)) (congrArg₂ (· * ·) rfl (congrArg x4 (idx_eq _ _ rfl rfl)))

/-- Its rows' reciprocal root mean squares. -/
theorem v23_at (i : S4096x1.Idx) : val_main_v23 (F := Ideal) x0 x1 x2 x3 x4 i = rms (sum x0 x1 x2 x3 x4 ⟨(i 0).val, (i 0).isLt⟩) := by
  rw [val_main_v23_apply, val_main_v22_apply, val_main_v21_apply, val_main_cst_4_apply, val_main_v20_apply, val_main_v19_apply, val_main_cst_3_apply, val_main_v18_apply, val_main_v17_apply, val_main_cst_2_apply]
  simp only [val_main_v16_apply, v15_at, Ideal.ofBits_def, word_zero, word_rows, word_eps, EReal.coe_zero, zero_add]
  rfl

/-- The new stream, normalised and scaled. -/
theorem v28_at (i : S4096x1024.Idx) : val_main_v28 (F := Ideal) x0 x1 x2 x3 x4 x5 i = array (next x0 x1 x2 x3 x4 x5) i := by
  rw [val_main_v28_apply, val_main_v27_apply, val_main_v26_apply, val_main_v25_apply, val_main_v24_apply, v15_at, v23_at]
  exact congrArg₂ (· * ·) rfl (congrArg x5 (idx_eq _ _ rfl rfl))

/-- The projection, rounded. -/
theorem v29_at (i : S4096x1024.Idx) : val_main_v29 (F := Ideal) x0 x1 x3 i = array (proj x0 x1 x3) i := by
  rw [val_main_v29_apply, v2_at]
  rfl
end reference

/-- Both programs leave the new residual stream, the stream normalised and scaled, and the projection. -/
theorem equation : Cert.algebraic_Kernel15Ideal_Reference15Ideal := by
  intro m ρ m' ρ' _ hagree
  refine ⟨fun c => array (sum (acts m c) (weight m c) (resid m c) (bias m c) (scale m c)),
    fun c => array (next (acts m c) (weight m c) (resid m c) (bias m c) (scale m c) (scale' m c)), fun c => array (proj (acts m c) (weight m c) (bias m c)), ?_, ?_⟩
  · refine (θ_run Cert.Kernel15Ideal.defs _ _).mono (fun r h c => ?_) (Cert.Kernel15Ideal.Value.run_blocks (F := Ideal) m ρ)
    obtain ⟨h0, h1, h2, hk⟩ := h c
    exact ⟨h0.trans arr6, h1.trans arr7, h2.trans arr8, hk⟩
  · refine (θ_run Cert.Reference15Ideal.defs _ _).mono (fun r h c => ?_) (Cert.Reference15Ideal.Value.run (F := Ideal) m' ρ')
    obtain ⟨a0, a1, a2, a3, a4, a5⟩ := hagree c
    obtain ⟨h0, h1, h2, hk⟩ := h c
    rw [Cert.Reference15Ideal.Read.val_main_v15_eq, a0, a1, a2, a3, a4] at h0
    rw [Cert.Reference15Ideal.Read.val_main_v28_eq, a0, a1, a2, a3, a4, a5] at h1
    rw [Cert.Reference15Ideal.Read.val_main_v29_eq, a0, a1, a3] at h2
    exact ⟨h0.trans (funext fun i => v15_at _ _ _ _ _ i), h1.trans (funext fun i => v28_at _ _ _ _ _ _ i), h2.trans (funext fun i => v29_at _ _ _ i), hk⟩

end Cert.OutNorm

end
-- ==== Proof.AttnForward.lean ====
/- The attention's forward call: what every grid point reads, and the array the kernel leaves. The probabilities are the ones that the
   call of the attention's gradient works out again, by the same operations, so its lemmas about them apply here. -/
module

public import proofs.«01_k».proof.Proof.AttnTiles
public import proofs.«01_k».proof.Proof.Gen.Kernel16Ideal.Value

@[expose] public section

set_option maxRecDepth 16384

noncomputable section

namespace Cert.Attn

/-- One output of key head `h` of block `b`: the probabilities' mean of the values in the band. -/
def Args.out (A : Args) (b h r d : ℕ) : ℝ := ∑ p : Fin 256, A.vb b h p d * A.pr b h p r

namespace Kernel

open Idealize.ShloMosaic Idealize.ShloMosaic.TcCoe Idealize.SL.Sem
open Cert.Kernel2Ideal
open Cert.Ffn (coe_sum)
open Cert.Ffn.Kernel (Is)

/-- A key head's outputs, from its probabilities over the band and its values. -/
theorem out_is {A : Args} {b h : ℕ} {Q : FVec Ideal S512x64 .bf16} {K : FVec Ideal S256x64 .bf16} {sk : FVec Ideal S1x1x512 .f32}
    {G : FVec Ideal S512x64 .bf16} {W : FVec Ideal S256x64 .bf16} (H : Head A b h Q K sk G W) :
    Is (Cert.Kernel2Ideal.Gen.k0_pay167 (F := Ideal) W (probBand b Q K sk)) (A.out b h) := fun r d => by
  pointwise [Cert.Kernel2Ideal.Gen.k0_pay167]
  simp only [H.v_is _ _, probBand_is H _ _, ← EReal.coe_mul, coe_sum]
  rfl

end Kernel

namespace Forward

open Idealize.ShloMosaic Idealize.ShloMosaic.TcCoe Idealize.SL.Sem
open Cert.Kernel16Ideal Cert.Kernel16Ideal.Gen
open Cert.Ffn.Kernel (Is)
open Cert.Attn.Kernel (Head out_is stack_is band_is cols1024 cols256 inb_cols1024 inb_cols256 inb_sink rows0 rows1 rows2 rows3)

/-- Where each window's block lies, for all 32 grid points. -/
theorem idx_val : ∀ t : Fin cfg0.N, win0_0.index t = ![t.val, 0] ∧ win0_1.index t = ![t.val, 4] ∧ win0_2.index t = ![t.val - 1, 4]
    ∧ win0_3.index t = ![t.val, 5] ∧ win0_4.index t = ![t.val - 1, 5] ∧ win0_5.index t = ![0, 0, 0] ∧ win0_6.index t = ![t.val, 0]
    ∧ (grid0.coords t 0).val = t.val :=
  (by decide +kernel : ∀ t : Fin grid0.N, _)

variable (m : (ℓ : Loc nD τ sig) → Buf (Elt Ideal) ℓ) (c : Dev nD)

/-- The four argument arrays hold these real numbers; the forward pass has no cotangent, and the formulas' is zero. -/
structure Given (A : Args) : Prop where
  q_is : Is (m ((c : Thread nD τ).loc main_arg0)) A.q
  k_is : Is (m ((c : Thread nD τ).loc main_arg1)) A.k
  v_is : Is (m ((c : Thread nD τ).loc main_arg2)) A.v
  sink_is : ∀ i : Fin 16, (m ((c : Thread nD τ).loc main_arg3) : FVec Ideal S16 .f32) (ix1 i) = ((A.sink i.val : ℝ) : EReal)
  g_zero : ∀ i j, A.g i j = 0

variable {m c} {A : Args}

/-- Queries, keys and values side by side, converted. -/
theorem V_qkv (G : Given m c A) (a : Fin 4096) (j : Fin 1536) : (V m c main_v1 : FVec Ideal S4096x1536 .bf16) (ix2 a j)
    = (((if j.val < 1024 then A.q a j else if j.val - 1024 < 256 then A.k a (j.val - 1024) else A.v a (j.val - 1024 - 256)) : ℝ) : EReal) := by
  entry_read
  pointwise []
  by_cases h1 : j.val < 1024
  · rw [dif_pos h1, if_pos h1]
    exact G.q_is a _
  · rw [dif_neg h1, if_neg h1]
    by_cases h2 : j.val - 1024 < 256
    · rw [dif_pos h2, if_pos h2]
      exact G.k_is a _
    · rw [dif_neg h2, if_neg h2]
      exact G.v_is a _

/-- The sinks, one for each row of a block. -/
theorem V_sink (G : Given m c A) (h : Fin 4) (x : Fin 8) (r : Fin 512) : (V m c main_v6 : FVec Ideal S4x8x512 .f32) (ix3 h x r)
    = ((A.sk h.val r.val : ℝ) : EReal) := by
  entry_read
  pointwise []
  refine (G.sink_is ⟨h.val * 4 + r.val / 128, by omega⟩).trans ?_
  rw [Args.sk, mul_comm 4 h.val]

/-- Row `a` of grid point `t`'s block, as a row of the whole array. -/
abbrev row (t : Fin cfg0.N) (a : Fin 128) : Fin 4096 :=
  ⟨128 * t.val + a.val, by have := t.isLt; have := a.isLt; have : cfg0.N = 32 := N_0; omega⟩

/-- Row `a` of the block before grid point `t`'s. -/
abbrev rowBefore (t : Fin cfg0.N) (a : Fin 128) : Fin 4096 :=
  ⟨128 * (t.val - 1) + a.val, by have := t.isLt; have := a.isLt; have : cfg0.N = 32 := N_0; omega⟩

/-- This point's queries. -/
theorem blk_q (G : Given m c A) (t : Fin cfg0.N) : Is (n := 128) (k := 1024) (X0_0 m c t) fun a => A.q (128 * t.val + a) := fun a j => by
  refine Eq.trans ?_ ((V_qkv G (row t a) ⟨j.val, by omega⟩).trans (by rw [if_pos j.isLt]))
  rw [X0_0, Pipeline.Window.fill, dif_pos (moved0_0 t _)]
  blk_point [iblk, V, idx_val t]

/-- This point's keys. -/
theorem blk_k (G : Given m c A) (t : Fin cfg0.N) : Is (n := 128) (k := 256) (iblk m c 1 t) fun a => A.k (128 * t.val + a) := fun a j => by
  refine Eq.trans ?_ ((V_qkv G (row t a) ⟨1024 + j.val, by omega⟩).trans (by simp))
  blk_point [iblk, V, idx_val t]

/-- The keys of the block before. -/
theorem blk_kp (G : Given m c A) (t : Fin cfg0.N) : Is (n := 128) (k := 256) (iblk m c 2 t) fun a => A.k (128 * (t.val - 1) + a) := fun a j => by
  refine Eq.trans ?_ ((V_qkv G (rowBefore t a) ⟨1024 + j.val, by omega⟩).trans (by simp))
  blk_point [iblk, V, idx_val t]

/-- This point's values. -/
theorem blk_v (G : Given m c A) (t : Fin cfg0.N) : Is (n := 128) (k := 256) (iblk m c 3 t) fun a => A.v (128 * t.val + a) := fun a j => by
  refine Eq.trans ?_ ((V_qkv G (row t a) ⟨1280 + j.val, by omega⟩).trans (by
    rw [if_neg (show ¬1280 + j.val < 1024 by omega), if_neg (show ¬1280 + j.val - 1024 < 256 by omega)]
    simp only [show 1280 + j.val - 1024 - 256 = j.val by omega]))
  blk_point [iblk, V, idx_val t]

/-- The values of the block before. -/
theorem blk_vp (G : Given m c A) (t : Fin cfg0.N) : Is (n := 128) (k := 256) (iblk m c 4 t) fun a => A.v (128 * (t.val - 1) + a) := fun a j => by
  refine Eq.trans ?_ ((V_qkv G (rowBefore t a) ⟨1280 + j.val, by omega⟩).trans (by
    rw [if_neg (show ¬1280 + j.val < 1024 by omega), if_neg (show ¬1280 + j.val - 1024 < 256 by omega)]
    simp only [show 1280 + j.val - 1024 - 256 = j.val by omega]))
  blk_point [iblk, V, idx_val t]

/-- The sinks. -/
theorem blk_sink (G : Given m c A) (t : Fin cfg0.N) (h : Fin 4) (x : Fin 8) (r : Fin 512) :
    (iblk m c 5 t : FVec Ideal S4x8x512 .f32) (ix3 h x r) = ((A.sk h.val r.val : ℝ) : EReal) := by
  refine Eq.trans ?_ (V_sink G h x r)
  blk_point [iblk, V, idx_val t]

/-- The key head's query heads' queries, below each other. -/
def queries (m : (ℓ : Loc nD τ sig) → Buf (Elt Ideal) ℓ) (c : Dev nD) (t : Fin cfg0.N) (h : Fin 4) : FVec Ideal S512x64 .bf16 :=
  Cert.Kernel2Ideal.Gen.k0_pay38 (View.ld (Val := Elt Ideal) (X0_0 m c t) (Rect.unit ![0, 64 * (4 * h.val + (0 : Fin 4).val)] ![128, 64] (inb_cols1024 h 0)))
    (View.ld (Val := Elt Ideal) (X0_0 m c t) (Rect.unit ![0, 64 * (4 * h.val + (1 : Fin 4).val)] ![128, 64] (inb_cols1024 h 1)))
    (View.ld (Val := Elt Ideal) (X0_0 m c t) (Rect.unit ![0, 64 * (4 * h.val + (2 : Fin 4).val)] ![128, 64] (inb_cols1024 h 2)))
    (View.ld (Val := Elt Ideal) (X0_0 m c t) (Rect.unit ![0, 64 * (4 * h.val + (3 : Fin 4).val)] ![128, 64] (inb_cols1024 h 3)))

/-- The band of keys. -/
def keys (m : (ℓ : Loc nD τ sig) → Buf (Elt Ideal) ℓ) (c : Dev nD) (t : Fin cfg0.N) (h : Fin 4) : FVec Ideal S256x64 .bf16 :=
  Cert.Kernel2Ideal.Gen.k0_pay51 (View.ld (Val := Elt Ideal) (iblk m c 2 t) (Rect.unit ![0, 64 * h.val] ![128, 64] (inb_cols256 h)))
    (View.ld (Val := Elt Ideal) (iblk m c 1 t) (Rect.unit ![0, 64 * h.val] ![128, 64] (inb_cols256 h)))

/-- The band of values. -/
def values (m : (ℓ : Loc nD τ sig) → Buf (Elt Ideal) ℓ) (c : Dev nD) (t : Fin cfg0.N) (h : Fin 4) : FVec Ideal S256x64 .bf16 :=
  Cert.Kernel2Ideal.Gen.k0_pay51 (View.ld (Val := Elt Ideal) (iblk m c 4 t) (Rect.unit ![0, 64 * h.val] ![128, 64] (inb_cols256 h)))
    (View.ld (Val := Elt Ideal) (iblk m c 3 t) (Rect.unit ![0, 64 * h.val] ![128, 64] (inb_cols256 h)))

/-- The rows' sinks. -/
def sinks (m : (ℓ : Loc nD τ sig) → Buf (Elt Ideal) ℓ) (c : Dev nD) (t : Fin cfg0.N) (h : Fin 4) : FVec Ideal S1x1x512 .f32 :=
  View.ld (Val := Elt Ideal) (iblk m c 5 t) (Rect.unit ![h.val, 0, 0] ![1, 1, 512] (inb_sink h))

/-- The block a grid point works on. -/
abbrev blockOf (t : Fin cfg0.N) : ℕ := (grid0.coords t 0).val

theorem blockOf_eq (t : Fin cfg0.N) : blockOf t = t.val := by simp [blockOf, idx_val t]

/-- What a grid point works on for a key head, with no cotangent. -/
theorem head_is (G : Given m c A) (t : Fin cfg0.N) (h : Fin 4) :
    Head A (blockOf t) h.val (queries m c t h) (keys m c t h) (sinks m c t h) (fun _ => 0) (values m c t h) := by
  rw [blockOf_eq]
  refine ⟨lt_of_lt_of_eq t.isLt N_0, ?_, ?_, ?_, ?_, ?_⟩
  · exact stack_is (cols1024 (blk_q G t) _ _) (cols1024 (blk_q G t) _ _) (cols1024 (blk_q G t) _ _) (cols1024 (blk_q G t) _ _)
  · exact band_is (cols256 (blk_kp G t) _ _) (cols256 (blk_k G t) _ _)
  · intro r
    rw [sinks]
    pointwise []
    exact blk_sink G t h 0 r
  · intro r d
    rw [Args.gb, rows, G.g_zero]
    rfl
  · exact band_is (cols256 (blk_vp G t) _ _) (cols256 (blk_v G t) _ _)

/-- Column `64 * (4 * h + e) + d` is column `d` of key head `h`'s query head `e`. -/
theorem place_out (A : Args) (b : ℕ) {h e d p q i : ℕ} (hp : p = 64 * (4 * h + e) + d) (he : e < 4) (hd : d < 64) (hq : q = i) :
    ((A.out b h (128 * e + i) d : ℝ) : EReal) = ((A.out b (p / 256) (128 * (p % 256 / 64) + q) (p % 64) : ℝ) : EReal) := by
  rw [hq, show p / 256 = h by omega, show p % 256 / 64 = e by omega, show p % 64 = d by omega]

/-- What a grid point leaves in its result tile. -/
theorem out6 (G : Given m c A) (t : Fin cfg0.N) (y : S128x1024.Idx) :
    outsAt0 m c t y = ((A.out (blockOf t) ((y 1).val / 256) (128 * ((y 1).val % 256 / 64) + (y 0).val) ((y 1).val % 64) : ℝ) : EReal) := by
  rw [outsAt0]
  frame_out
  canon_tiles x h
  all_goals idx_vars x
  case piece0 => exact (rows3 (out_is (head_is G t 3)) _ _).trans (place_out A _ (h := 3) (e := 3) h1 (by decide) x1_lt h0)
  case piece1 => exact (rows2 (out_is (head_is G t 3)) _ _).trans (place_out A _ (h := 3) (e := 2) h1 (by decide) x1_lt h0)
  case piece2 => exact (rows1 (out_is (head_is G t 3)) _ _).trans (place_out A _ (h := 3) (e := 1) h1 (by decide) x1_lt h0)
  case piece3 => exact (rows0 (out_is (head_is G t 3)) _ _).trans (place_out A _ (h := 3) (e := 0) h1 (by decide) x1_lt h0)
  case piece4 => exact (rows3 (out_is (head_is G t 2)) _ _).trans (place_out A _ (h := 2) (e := 3) h1 (by decide) x1_lt h0)
  case piece5 => exact (rows2 (out_is (head_is G t 2)) _ _).trans (place_out A _ (h := 2) (e := 2) h1 (by decide) x1_lt h0)
  case piece6 => exact (rows1 (out_is (head_is G t 2)) _ _).trans (place_out A _ (h := 2) (e := 1) h1 (by decide) x1_lt h0)
  case piece7 => exact (rows0 (out_is (head_is G t 2)) _ _).trans (place_out A _ (h := 2) (e := 0) h1 (by decide) x1_lt h0)
  case piece8 => exact (rows3 (out_is (head_is G t 1)) _ _).trans (place_out A _ (h := 1) (e := 3) h1 (by decide) x1_lt h0)
  case piece9 => exact (rows2 (out_is (head_is G t 1)) _ _).trans (place_out A _ (h := 1) (e := 2) h1 (by decide) x1_lt h0)
  case piece10 => exact (rows1 (out_is (head_is G t 1)) _ _).trans (place_out A _ (h := 1) (e := 1) h1 (by decide) x1_lt h0)
  case piece11 => exact (rows0 (out_is (head_is G t 1)) _ _).trans (place_out A _ (h := 1) (e := 0) h1 (by decide) x1_lt h0)
  case piece12 => exact (rows3 (out_is (head_is G t 0)) _ _).trans (place_out A _ (h := 0) (e := 3) h1 (by decide) x1_lt h0)
  case piece13 => exact (rows2 (out_is (head_is G t 0)) _ _).trans (place_out A _ (h := 0) (e := 2) h1 (by decide) x1_lt h0)
  case piece14 => exact (rows1 (out_is (head_is G t 0)) _ _).trans (place_out A _ (h := 0) (e := 1) h1 (by decide) x1_lt h0)
  case piece15 => exact (rows0 (out_is (head_is G t 0)) _ _).trans (place_out A _ (h := 0) (e := 0) (by omega) (by decide) x1_lt h0)

/-- The attention's output. -/
theorem arr6 (G : Given m c A) : (dats m 0 c).arrAt 6 cfg0.N
    = fun i : S4096x1024.Idx => ((A.out ((i 0).val / 128) ((i 1).val / 256) (128 * ((i 1).val % 256 / 64) + (i 0).val % 128) ((i 1).val % 64) : ℝ) : EReal) :=
  (dats m 0 c).arrAt_eq_of_covers 6 _ (by decide +kernel) fun t hf y => by
    blk_simp
    have hy : (y 0).val < 128 := (y 0).isLt
    rw [after0_6, out6 G t, blockOf_eq, show win0_6.index t 0 = t.val by simp [idx_val t], show win0_6.index t 1 = 0 by simp [idx_val t],
      show (t.val * 128 + (y 0).val) / 128 = t.val by omega, show (t.val * 128 + (y 0).val) % 128 = (y 0).val by omega, Nat.zero_mul, Nat.zero_add]

end Forward

end Cert.Attn

end
-- ==== Proof.AttnForwardEquation.lean ====
/- The equation of the attention's forward call: on finite arguments the idealized kernel and the idealized reference leave the same
   array. The reference's scores, probabilities and bands are the ones of the gradient's reference. -/
module

public import proofs.«01_k».proof.Defs
public import proofs.«01_k».proof.Proof.AttnForward
public import proofs.«01_k».proof.Proof.AttnRefGrads
public import proofs.«01_k».proof.Proof.AttnRefOuts
public import proofs.«01_k».proof.Proof.Finite
public import proofs.«01_k».proof.Proof.Gen.Pre_finite16
public import proofs.«01_k».proof.Proof.Gen.Reference16Ideal
public import proofs.«01_k».proof.Proof.Gen.Reference16Ideal.Run
public import proofs.«01_k».proof.Proof.Gen.Reference16Ideal.Read

@[expose] public section

set_option maxRecDepth 16384

noncomputable section

namespace Cert.Attn

/-- The outputs, over the padded band: outside the window the probabilities are zero. -/
theorem Args.sum_out (A : Args) (b h r d : ℕ) : ∑ p : Fin 256, padded b h A.v p d * A.pr b h p r = A.out b h r d := by
  refine Finset.sum_congr rfl fun p _ => ?_
  by_cases g : ok b p r
  · rw [padded_eq b h g]; rfl
  · rw [Args.pr, prob_eq_zero _ _ _ g, mul_zero, mul_zero]

namespace Forward

section Reference

open Cert.Reference16Ideal Cert.Reference16Ideal.Gen Cert.Reference16Ideal.Read Idealize.ShloMosaic Idealize.ShloMosaic.TcCoe
open Cert.Ffn (coe_sum)
open Cert.Attn.Reference (Holds Ready coe_congr)

variable (x0 : (⟨S4096x1024, .f32⟩ : BufTy).Contents (Elt Ideal)) (x1 x2 : (⟨S4096x256, .f32⟩ : BufTy).Contents (Elt Ideal))
  (x3 : (⟨S16, .f32⟩ : BufTy).Contents (Elt Ideal))

/-- The bands of values are the gradient's. -/
theorem v10_eq : val_main_v10 (F := Ideal) x2 = Cert.Reference2Ideal.Read.val_main_v11 (F := Ideal) x2 := rfl

/-- The probabilities are the gradient's. -/
theorem v63_eq : val_main_v63 (F := Ideal) x0 x1 x3 = Cert.Reference2Ideal.Read.val_main_v87 (F := Ideal) x0 x1 x3 := rfl

variable {A : Args} {x0 x1 x2 x3} {x4 : (⟨S4096x1024, .f32⟩ : BufTy).Contents (Elt Ideal)} {μ : Fin 32 → Fin 4 → Fin 4 → Fin 128 → ℝ}
  (R : Ready A x0 x1 x2 x3 x4 μ)

include R

/-- The outputs, by block, key head, column, group and position. -/
theorem v64_at (n : Fin 32) (h : Fin 4) (d : Fin 64) (e : Fin 4) (q : Fin 128) :
    (val_main_v64 (F := Ideal) x0 x1 x2 x3 (ix6 0 n h d e q) : EReal) = ((A.out n.val h.val (128 * e.val + q.val) d.val : ℝ) : EReal) := by
  pointwise [val_main_v64]
  simp only [v10_eq, v63_eq, Cert.Attn.Reference.v87_at R, Cert.Attn.Reference.v11_at R.holds, ← EReal.coe_mul, coe_sum]
  exact coe_congr (A.sum_out n.val h.val (128 * e.val + q.val) d.val)

/-- The attention's output. -/
theorem v67_at (i : S4096x1024.Idx) : (val_main_v67 (F := Ideal) x0 x1 x2 x3 i : EReal)
    = ((A.out ((i 0).val / 128) ((i 1).val / 256) (128 * ((i 1).val % 256 / 64) + (i 0).val % 128) ((i 1).val % 64) : ℝ) : EReal) := by
  idx_vars i
  pointwise [val_main_v67, val_main_v66, val_main_v65]
  rw [v64_at R]
  exact coe_congr (by simp only [show i1.val / 64 % 4 = i1.val % 256 / 64 by omega])

end Reference

open Idealize.ShloMosaic Idealize.SL.Sem
open Cert.Ffn.Finite (reals reals_at real_of_all)

/-- The reference runs to the end and leaves its arguments and its counters alone: it declares no semaphore. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

section Finite

open Cert.Pre_finite16

variable (x0 : FVec Ideal S4096x1024 .f32) (x1 x2 : FVec Ideal S4096x256 .f32) (x3 : FVec Ideal S16 .f32)

/-- The real arrays that the arguments hold; no cotangent. -/
def realArgs : Args where
  q := reals x0
  k := reals x1
  v := reals x2
  sink i := if h : i < 16 then (x3 (ix1 ⟨i, h⟩)).toReal else 0
  g _ _ := 0

/-- What the precondition says: each argument holds real numbers. -/
theorem holds_of_finite (h : Cert.Pre_finite16.fn (F := Ideal) x0 x1 x2 x3 = fun _ => 1#1) :
    Cert.Attn.Reference.Holds (realArgs x0 x1 x2 x3) x0 x1 x2 x3 fun _ => (0 : EReal) := by
  have e := congrFun h (fun q => q.elim0)
  simp only [Cert.Pre_finite16.fn, Cert.Pre_finite16.fn_part1, andi] at e
  obtain ⟨e, e3⟩ := IntOp.andi_eq_one.1 e
  obtain ⟨e, e2⟩ := IntOp.andi_eq_one.1 e
  obtain ⟨e0, e1⟩ := IntOp.andi_eq_one.1 e
  refine ⟨fun i => ?_, fun i => ?_, fun i => ?_, fun i => ?_, fun i => rfl⟩
  · idx_vars i; exact reals_at x0 (real_of_all _ _ _ _ _ e0) _ _
  · idx_vars i; exact reals_at x1 (real_of_all _ _ _ _ _ e1) _ _
  · idx_vars i; exact reals_at x2 (real_of_all _ _ _ _ _ e2) _ _
  · idx_vars i
    refine (real_of_all _ _ _ _ _ e3 (ix1 i0)).trans (Cert.Attn.Reference.coe_congr ?_)
    show EReal.toReal (x3 (ix1 i0)) = if h : i0.val < 16 then (x3 (ix1 ⟨i0.val, h⟩)).toReal else 0
    rw [dif_pos i0.isLt]

end Finite

section
open Cert.Kernel16Ideal
variable (m : (ℓ : Loc nD τ sig) → Buf (Elt Ideal) ℓ) (c : Dev nD)

/-- The real arrays that a device's arguments hold. -/
abbrev argsOf : Args :=
  realArgs (m ((c.tc : Thread nD τ).loc main_arg0)) (m ((c.tc : Thread nD τ).loc main_arg1)) (m ((c.tc : Thread nD τ).loc main_arg2))
    (m ((c.tc : Thread nD τ).loc main_arg3))

variable {m} (hp : Cert.Pre_Kernel16Ideal_finite16 m)
include hp

/-- Under the precondition, the reference's reading of them. -/
theorem holds_of_pre : Cert.Attn.Reference.Holds (argsOf m c) (m ((c.tc : Thread nD τ).loc main_arg0)) (m ((c.tc : Thread nD τ).loc main_arg1))
    (m ((c.tc : Thread nD τ).loc main_arg2)) (m ((c.tc : Thread nD τ).loc main_arg3)) fun _ => (0 : EReal) :=
  holds_of_finite _ _ _ _ (hp c)

/-- Under the precondition, the kernel's reading of them. -/
theorem given_of_pre : Given m c (argsOf m c) where
  q_is a k := (holds_of_pre c hp).q_at (ix2 a k)
  k_is a k := (holds_of_pre c hp).k_at (ix2 a k)
  v_is a k := (holds_of_pre c hp).v_at (ix2 a k)
  sink_is i := (holds_of_pre c hp).s_at (ix1 i)
  g_zero _ _ := rfl
end

/-- Both programs leave the real formula's array. -/
theorem equation : Cert.algebraic_Kernel16Ideal_Reference16Ideal_pre_finite16 := by
  intro m ρ m' ρ' hp hagree
  refine ⟨fun c i => (((argsOf m c).out ((i 0).val / 128) ((i 1).val / 256) (128 * ((i 1).val % 256 / 64) + (i 0).val % 128) ((i 1).val % 64) : ℝ) : EReal),
    ?_, ?_⟩
  · refine (θ_run Cert.Kernel16Ideal.defs _ _).mono (fun r h c => ?_) (Cert.Kernel16Ideal.Value.run_blocks (F := Ideal) m ρ)
    exact ⟨(h c).1.trans (arr6 (given_of_pre c hp)), (h c).2⟩
  · refine (θ_run Cert.Reference16Ideal.defs _ _).mono (fun r h c => ?_) (Cert.Reference16Ideal.Value.run (F := Ideal) m' ρ')
    have H := holds_of_pre c hp
    obtain ⟨μ, hμ⟩ := Cert.Attn.Reference.v58_at H
    have R : Cert.Attn.Reference.Ready _ _ _ _ _ _ μ := ⟨H, hμ⟩
    obtain ⟨a0, a1, a2, a3⟩ := hagree c
    obtain ⟨h0, hk⟩ := h c
    rw [Cert.Reference16Ideal.Read.val_main_v67_eq, a0, a1, a2, a3] at h0
    exact ⟨h0.trans (funext (v67_at R)), hk⟩

end Forward

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite2
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal.Frame
public import proofs.«01_k».proof.Proof.Gen.Pre_finite5
public import proofs.«01_k».proof.Proof.Gen.Pre_finite6
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite12
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Pre_finite13
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite16
public import proofs.«01_k».proof.Proof.Gen.Kernel16
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Equation
public import proofs.«01_k».proof.Proof.AttnEquation
public import proofs.«01_k».proof.Proof.GradEquations
public import proofs.«01_k».proof.Proof.LossEquation
public import proofs.«01_k».proof.Proof.FfnUpEquation
public import proofs.«01_k».proof.Proof.DownNorm
public import proofs.«01_k».proof.Proof.GradMixers
public import proofs.«01_k».proof.Proof.NormPairEquation
public import proofs.«01_k».proof.Proof.NormLastEquation
public import proofs.«01_k».proof.Proof.BackAttn
public import proofs.«01_k».proof.Proof.OutNorm
public import proofs.«01_k».proof.Proof.AttnForwardEquation
public import Idealize.ShloMosaic.Adequacy
public import Idealize.ShloMosaic.Init

@[expose] public section

noncomputable section

namespace Cert.Proof

open Idealize.ShloMosaic Idealize.SL.Sem Cert.Kernel

/-- Everything claimed, of sixteen calls: the feed-forward gradient, the attention's and its forward pass, two weight gradients of the feed-forward block, the
    forward pass with the loss, the first layer's two projections, five products of the mixers' backward passes, the attention's
    output projection with the norms behind it, and the two calls that take a cotangent back through a mixer's input projection and the norms before it. Each program runs to the end with its
    arguments and counters as they were, the attention's mask constant is the only one read as a name, and a kernel's results are its
    reference's, for seven of the sixteen on finite arguments and for the others on all. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Pre_finite.Gen.facts, Cert.Pre_finite2.Gen.facts, Cert.Pre_finite5.Gen.facts, Cert.Pre_finite6.Gen.facts,
    Cert.Pre_finite12.Gen.facts, Cert.Pre_finite13.Gen.facts, Cert.Pre_finite16.Gen.facts,
    fun m ρ _ => Cert.Kernel.Gen.frame m ρ, fun m ρ _ => Cert.KernelIdeal.Gen.frame m ρ, fun m ρ _ => Cert.KernelIdeal.Gen.frame m ρ,
    Cert.Ffn.frame_reference, fun m ρ _ => Cert.Ffn.frame_reference m ρ trivial,
    fun m ρ _ => Cert.Kernel2.Gen.frame m ρ, fun m ρ _ => Cert.Kernel2Ideal.Gen.frame m ρ, fun m ρ _ => Cert.Kernel2Ideal.Gen.frame m ρ,
    Cert.Attn.frame_reference, fun m ρ _ => Cert.Attn.frame_reference m ρ trivial,
    fun m ρ _ => Cert.Kernel3.Gen.frame m ρ, fun m ρ _ => Cert.Kernel3Ideal.Gen.frame m ρ, Cert.GradUp.frame_reference,
    fun m ρ _ => Cert.Kernel4.Gen.frame m ρ, fun m ρ _ => Cert.Kernel4Ideal.Gen.frame m ρ, Cert.GradDown.frame_reference,
    fun m ρ _ => Cert.Kernel5.Gen.frame m ρ, fun m ρ _ => Cert.Kernel5Ideal.Gen.frame m ρ, fun m ρ _ => Cert.Kernel5Ideal.Gen.frame m ρ,
    Cert.Loss.frame_reference, fun m ρ _ => Cert.Loss.frame_reference m ρ trivial,
    fun m ρ _ => Cert.Kernel6.Gen.frame m ρ, fun m ρ _ => Cert.Kernel6Ideal.Gen.frame m ρ, fun m ρ _ => Cert.Kernel6Ideal.Gen.frame m ρ,
    Cert.FfnUp.frame_reference, fun m ρ _ => Cert.FfnUp.frame_reference m ρ trivial,
    fun m ρ _ => Cert.Kernel7.Gen.frame m ρ, fun m ρ _ => Cert.Kernel7Ideal.Gen.frame m ρ, Cert.DownNorm.frame_reference,
    fun m ρ _ => Cert.Kernel8.Gen.frame m ρ, fun m ρ _ => Cert.Kernel8Ideal.Gen.frame m ρ, Cert.GradSguIn.frame_reference,
    fun m ρ _ => Cert.Kernel9.Gen.frame m ρ, fun m ρ _ => Cert.Kernel9Ideal.Gen.frame m ρ, Cert.GradSguOut.frame_reference,
    fun m ρ _ => Cert.Kernel10.Gen.frame m ρ, fun m ρ _ => Cert.Kernel10Ideal.Gen.frame m ρ, Cert.BackSgu.frame_reference,
    fun m ρ _ => Cert.Kernel11.Gen.frame m ρ, fun m ρ _ => Cert.Kernel11Ideal.Gen.frame m ρ, Cert.GradQkv.frame_reference,
    fun m ρ _ => Cert.Kernel12.Gen.frame m ρ, fun m ρ _ => Cert.Kernel12Ideal.Gen.frame m ρ, fun m ρ _ => Cert.Kernel12Ideal.Gen.frame m ρ,
    Cert.Norm.Pair.frame_reference, fun m ρ _ => Cert.Norm.Pair.frame_reference m ρ trivial,
    fun m ρ _ => Cert.Kernel13.Gen.frame m ρ, fun m ρ _ => Cert.Kernel13Ideal.Gen.frame m ρ, fun m ρ _ => Cert.Kernel13Ideal.Gen.frame m ρ,
    Cert.Norm.Last.frame_reference, fun m ρ _ => Cert.Norm.Last.frame_reference m ρ trivial,
    fun m ρ _ => Cert.Kernel14.Gen.frame m ρ, fun m ρ _ => Cert.Kernel14Ideal.Gen.frame m ρ, Cert.BackAttn.frame_reference,
    fun m ρ _ => Cert.Kernel15.Gen.frame m ρ, fun m ρ _ => Cert.Kernel15Ideal.Gen.frame m ρ, Cert.OutNorm.frame_reference,
    fun m ρ _ => Cert.Kernel16.Gen.frame m ρ, fun m ρ _ => Cert.Kernel16Ideal.Gen.frame m ρ, fun m ρ _ => Cert.Kernel16Ideal.Gen.frame m ρ,
    Cert.Attn.Forward.frame_reference, fun m ρ _ => Cert.Attn.Forward.frame_reference m ρ trivial,
    trivial, Cert.Ffn.equation, IdealRules.named_const.statement Cert.Kernel2Ideal.κ "mask" .f32 0xF149F2CA#32 ⊥ rfl, Cert.Attn.equation,
    trivial, Cert.GradUp.equation, trivial, Cert.GradDown.equation, trivial, Cert.Loss.equation,
    trivial, Cert.FfnUp.equation, trivial, Cert.DownNorm.equation, trivial, Cert.GradSguIn.equation, trivial, Cert.GradSguOut.equation,
    trivial, Cert.BackSgu.equation, trivial, Cert.GradQkv.equation,
    trivial, Cert.Norm.Pair.equation, trivial, Cert.Norm.Last.equation, trivial, Cert.BackAttn.equation, trivial, Cert.OutNorm.equation,
    IdealRules.named_const.statement Cert.Kernel16Ideal.κ "mask" .f32 0xF149F2CA#32 ⊥ rfl, Cert.Attn.Forward.equation⟩

end Cert.Proof

end
